-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v11_0)) (v1 : (c : Dev Cert.InProjIdeal.nD) → Buf (Elt Ideal) ((c.tc : Thread Cert.InProjIdeal.nD Cert.InProjIdeal.τ).loc Cert.InProjIdeal.main_v11_1)) (v2 : (c : Dev Cert.InProjIdeal.nD) → Buf (Elt Ideal) ((c.tc : Thread Cert.InProjIdeal.nD Cert.InProjIdeal.τ).loc Cert.InProjIdeal.main_v11_2)) (v3 : (c : Dev Cert.InProjIdeal.nD) → Buf (Elt Ideal) ((c.tc : Thread Cert.InProjIdeal.nD Cert.InProjIdeal.τ).loc Cert.InProjIdeal.main_v11_3)) (v4 : (c : Dev Cert.InProjIdeal.nD) → Buf (Elt Ideal) ((c.tc : Thread Cert.InProjIdeal.nD Cert.InProjIdeal.τ).loc Cert.InProjIdeal.main_v11_4)) (v5 : (c : Dev Cert.InProjIdeal.nD) → Buf (Elt Ideal) ((c.tc : Thread Cert.InProjIdeal.nD Cert.InProjIdeal.τ).loc Cert.InProjIdeal.main_v11_5)) (v6 : (c : Dev Cert.InProjIdeal.nD) → Buf (Elt Ideal) ((c.tc : Thread Cert.InProjIdeal.nD Cert.InProjIdeal.τ).loc Cert.InProjIdeal.main_v11_6)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v11_0) = v0 c
          ∧ r.2.mem ((c.tc : Thread Cert.InProjIdeal.nD Cert.InProjIdeal.τ).loc Cert.InProjIdeal.main_v11_1) = v1 c
          ∧ r.2.mem ((c.tc : Thread Cert.InProjIdeal.nD Cert.InProjIdeal.τ).loc Cert.InProjIdeal.main_v11_2) = v2 c
          ∧ r.2.mem ((c.tc : Thread Cert.InProjIdeal.nD Cert.InProjIdeal.τ).loc Cert.InProjIdeal.main_v11_3) = v3 c
          ∧ r.2.mem ((c.tc : Thread Cert.InProjIdeal.nD Cert.InProjIdeal.τ).loc Cert.InProjIdeal.main_v11_4) = v4 c
          ∧ r.2.mem ((c.tc : Thread Cert.InProjIdeal.nD Cert.InProjIdeal.τ).loc Cert.InProjIdeal.main_v11_5) = v5 c
          ∧ r.2.mem ((c.tc : Thread Cert.InProjIdeal.nD Cert.InProjIdeal.τ).loc Cert.InProjIdeal.main_v11_6) = v6 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v72) = v0 c
          ∧ r.2.mem ((c.tc : Thread Cert.InProjRefIdeal.nD Cert.InProjRefIdeal.τ).loc Cert.InProjRefIdeal.main_v73) = v1 c
          ∧ r.2.mem ((c.tc : Thread Cert.InProjRefIdeal.nD Cert.InProjRefIdeal.τ).loc Cert.InProjRefIdeal.main_v74) = v2 c
          ∧ r.2.mem ((c.tc : Thread Cert.InProjRefIdeal.nD Cert.InProjRefIdeal.τ).loc Cert.InProjRefIdeal.main_v69) = v3 c
          ∧ r.2.mem ((c.tc : Thread Cert.InProjRefIdeal.nD Cert.InProjRefIdeal.τ).loc Cert.InProjRefIdeal.main_v76) = v4 c
          ∧ r.2.mem ((c.tc : Thread Cert.InProjRefIdeal.nD Cert.InProjRefIdeal.τ).loc Cert.InProjRefIdeal.main_v77) = v5 c
          ∧ r.2.mem ((c.tc : Thread Cert.InProjRefIdeal.nD Cert.InProjRefIdeal.τ).loc Cert.InProjRefIdeal.main_v79) = v6 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_Attn_AttnIdeal : Prop :=
  IdealRules.named_const.Statement Cert.AttnIdeal.κ "mask" .f32 0xF149F2CA#32 ⊥

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v130)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v130) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v149) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hAttn : Cert.Attn.Facts) (hAttnIdeal : Cert.AttnIdeal.Facts) (hAttnRefIdeal : Cert.AttnRefIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_InProj (hInProj := hInProj)
    ∧ quiescent_InProjIdeal (hInProjIdeal := hInProjIdeal)
    ∧ quiescent_InProjRefIdeal (hInProjRefIdeal := hInProjRefIdeal)
    ∧ quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ preserves_Kernel_KernelIdeal
    ∧ algebraic_KernelIdeal_ReferenceIdeal (hKernelIdeal := hKernelIdeal) (hReferenceIdeal := hReferenceIdeal)
    ∧ preserves_InProj_InProjIdeal
    ∧ algebraic_InProjIdeal_InProjRefIdeal (hInProjIdeal := hInProjIdeal) (hInProjRefIdeal := hInProjRefIdeal)
    ∧ preserves_Attn_AttnIdeal
    ∧ algebraic_AttnIdeal_AttnRefIdeal_pre_finite (hAttnIdeal := hAttnIdeal) (hAttnRefIdeal := hAttnRefIdeal) (hPre_finite := hPre_finite)
-- ==== Pre_finite.lean ====
abbrev S16x2048x1536 : Shape := ⟨3, ![16, 2048, 1536]⟩
abbrev S32x8 : Shape := ⟨2, ![32, 8]⟩
abbrev S16x2048x1024 : Shape := ⟨3, ![16, 2048, 1024]⟩
abbrev S_ : Shape := ⟨0, ![]⟩

class Facts : Prop where
  slices_S16x2048x1536_S16x2048x1024_0_0_0 : S16x2048x1536.Slices ![0, 0, 0] S16x2048x1024
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S32x8 : S_.BroadcastsInDim S32x8 (![] : Fin 0 → Fin S32x8.rank)
  reducesTo_S32x8_S_d0_1 : S32x8.ReducesTo [0, 1] S_

variable [Facts]

def fn {F : FTy → Type} [FloatOps F] (main_arg0 : FVec F S16x2048x1536 .f32) (main_arg1 : FVec F S32x8 .f32) : IVec S_ 1 :=
  let main_v0 : FVec F S16x2048x1024 .f32 := (extractStridedSlice S16x2048x1024 ![0, 0, 0] · slices_S16x2048x1536_S16x2048x1024_0_0_0) main_arg0
  let main_v1 : FVec F S16x2048x1024 .f32 := Host.absf main_v0
  let main_cst : FVec F S_ .f32 := constant S_ .f32 0x7F800000#32
  let main_v2 : FVec F S16x2048x1024 .f32 := broadcastInDim S16x2048x1024 ![] bcast_S_S16x2048x1024 main_cst
  let main_v3 : IVec S16x2048x1024 1 := cmpf .olt main_v1 main_v2
  let main_c : IVec S_ 1 := constantI S_ 1 1#1
  let main_v4 : IVec S_ 1 := (fun x v => Host.reduce IntOp.andi x v reducesTo_S16x2048x1024_S_d0_1_2 h_S_) main_v3 main_c
  let main_v5 : FVec F S32x8 .f32 := Host.absf main_arg1
  let main_cst_0 : FVec F S_ .f32 := constant S_ .f32 0x7F800000#32
  let main_v6 : FVec F S32x8 .f32 := broadcastInDim S32x8 ![] bcast_S_S32x8 main_cst_0
  let main_v7 : IVec S32x8 1 := cmpf .olt main_v5 main_v6
  let main_c_1 : IVec S_ 1 := constantI S_ 1 1#1
  let main_v8 : IVec S_ 1 := (fun x v => Host.reduce IntOp.andi x v reducesTo_S32x8_S_d0_1 h_S_) main_v7 main_c_1
  let main_v9 : IVec S_ 1 := andi main_v4 main_v8
  main_v9
-- ==== Kernel.lean ====
abbrev S4x65536x256 : Shape := ⟨3, ![4, 65536, 256]⟩
abbrev S16x32x128 : Shape := ⟨3, ![16, 32, 128]⟩
abbrev S16x1024x2816 : Shape := ⟨3, ![16, 1024, 2816]⟩
abbrev S16x2816x1024 : Shape := ⟨3, ![16, 2816, 1024]⟩
abbrev S16x4096x1024 : Shape := ⟨3, ![16, 4096, 1024]⟩
abbrev S4x2048x256 : Shape := ⟨3, ![4, 2048, 256]⟩
abbrev S1x16x128 : Shape := ⟨3, ![1, 16, 128]⟩
abbrev S1x1024x256 : Shape := ⟨3, ![1, 1024, 256]⟩
abbrev S1x256x1024 : Shape := ⟨3, ![1, 256, 1024]⟩
abbrev S1x2048x1024 : Shape := ⟨3, ![1, 2048, 1024]⟩
abbrev S2048x1024 : Shape := ⟨2, ![2048, 1024]⟩
abbrev S1x2048x256 : Shape := ⟨3, ![1, 2048, 256]⟩
abbrev S2048x256 : Shape := ⟨2, ![2048, 256]⟩
abbrev S1024x256 : Shape := ⟨2, ![1024, 256]⟩
abbrev S256x1024 : Shape := ⟨2, ![256, 1024]⟩
abbrev S1x1x128 : Shape := ⟨3, ![1, 1, 128]⟩
abbrev S1x128 : Shape := ⟨2, ![1, 128]⟩
abbrev S128x128 : Shape := ⟨2, ![128, 128]⟩
abbrev S128x1024 : Shape := ⟨2, ![128, 1024]⟩
abbrev S1x128x1024 : Shape := ⟨3, ![1, 128, 1024]⟩

abbrev nBuf : Space → Nat
  | .hbm => 6
  | .vmem => 14
  | .smem => 0
  | _ => 0

abbrev bufTy : (tb : Table) → Fin (tcTables nBuf tb) → BufTy
  | .hbm, ⟨0, _⟩ => ⟨S4x65536x256, .f32⟩
  | .hbm, ⟨1, _⟩ => ⟨S16x32x128, .f32⟩
  | .hbm, ⟨2, _⟩ => ⟨S16x1024x2816, .f32⟩
  | .hbm, ⟨3, _⟩ => ⟨S16x1024x2816, .f32⟩
  | .hbm, ⟨4, _⟩ => ⟨S16x2816x1024, .f32⟩
  | .hbm, ⟨5, _⟩ => ⟨S16x4096x1024, .bf16⟩
  | .local _ .vmem, ⟨0, _⟩ => ⟨S4x2048x256, .f32⟩
  | .local _ .vmem, ⟨1, _⟩ => ⟨S4x2048x256, .f32⟩
  | .local _ .vmem, ⟨2, _⟩ => ⟨S1x16x128, .f32⟩
  | .local _ .vmem, ⟨3, _⟩ => ⟨S1x16x128, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x256x1024, .f32⟩
  | .local _ .vmem, ⟨9, _⟩ => ⟨S1x256x1024, .f32⟩
  | .local _ .vmem, ⟨10, _⟩ => ⟨S1x2048x1024, .bf16⟩
  | .local _ .vmem, ⟨11, _⟩ => ⟨S1x2048x1024, .bf16⟩
  | .local _ .vmem, ⟨12, _⟩ => ⟨S2048x1024, .bf16⟩
  | .local _ .vmem, ⟨13, _⟩ => ⟨S2048x1024, .f32⟩
  | _, _ => ⟨S4x65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 2, 11], ![false, false, false]⟩

def k0_cond2 (i : grid0.Coords) : BitVec 1 :=
  let arg2 : BitVec 32 := BitVec.ofNat 32 (i 2).val
  let c10_i32 : BitVec 32 := 10#32
  let v25 : BitVec 1 := Scalar.cmpi .eq arg2 c10_i32
  let v26 : BitVec 32 := Scalar.extui v25
  let c0_i32_17 : BitVec 32 := 0#32
  let v27 : BitVec 1 := Scalar.cmpi .ne v26 c0_i32_17
  v27

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S4x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceIdeal.lean ====
abbrev S4x65536x256 : Shape := ⟨3, ![4, 65536, 256]⟩
abbrev S16x32x128 : Shape := ⟨3, ![16, 32, 128]⟩
abbrev S16x1024x2816 : Shape := ⟨3, ![16, 1024, 2816]⟩
abbrev S16x2816x1024 : Shape := ⟨3, ![16, 2816, 1024]⟩
abbrev S1x65536x256 : Shape := ⟨3, ![1, 65536, 256]⟩
abbrev S65536x256 : Shape := ⟨2, ![65536, 256]⟩
abbrev S65536x1024 : Shape := ⟨2, ![65536, 1024]⟩
abbrev S16x4096x1024 : Shape := ⟨3, ![16, 4096, 1024]⟩
abbrev S16x4096x2816 : Shape := ⟨3, ![16, 4096, 2816]⟩
abbrev S_ : Shape := ⟨0, ![]⟩
abbrev S16x4096 : Shape := ⟨2, ![16, 4096]⟩
abbrev S16x4096x1 : Shape := ⟨3, ![16, 4096, 1]⟩

abbrev nBuf : Space → Nat
  | .hbm => 33
  | .vmem => 0
  | .smem => 0
  | _ => 0

abbrev bufTy : (tb : Table) → Fin (tcTables nBuf tb) → BufTy
  | .hbm, ⟨0, _⟩ => ⟨S4x65536x256, .f32⟩
  | .hbm, ⟨1, _⟩ => ⟨S16x32x128, .f32⟩
  | .hbm, ⟨2, _⟩ => ⟨S16x1024x2816, .f32⟩
  | .hbm, ⟨3, _⟩ => ⟨S16x1024x2816, .f32⟩
  | .hbm, ⟨4, _⟩ => ⟨S16x2816x1024, .f32⟩
  | .hbm, ⟨5, _⟩ => ⟨S1x65536x256, .f32⟩
  | .hbm, ⟨6, _⟩ => ⟨S65536x256, .f32⟩
  | .hbm, ⟨7, _⟩ => ⟨S1x65536x256, .f32⟩
  | .hbm, ⟨8, _⟩ => ⟨S65536x256, .f32⟩
  | .hbm, ⟨9, _⟩ => ⟨S1x65536x256, .f32⟩
  | .hbm, ⟨10, _⟩ => ⟨S65536x256, .f32⟩
  | .hbm, ⟨11, _⟩ => ⟨S1x65536x256, .f32⟩
  | .hbm, ⟨12, _⟩ => ⟨S65536x256, .f32⟩
  | .hbm, ⟨13, _⟩ => ⟨S65536x1024, .f32⟩
  | .hbm, ⟨14, _⟩ => ⟨S16x4096x1024, .f32⟩
  | .hbm, ⟨15, _⟩ => ⟨S16x4096x2816, .f32⟩
  | .hbm, ⟨16, _⟩ => ⟨S16x4096x2816, .f32⟩
  | .hbm, ⟨17, _⟩ => ⟨S16x4096x2816, .f32⟩
  | .hbm, ⟨18, _⟩ => ⟨S16x4096x2816, .f32⟩
  | .hbm, ⟨19, _⟩ => ⟨S_, .f32⟩
  | .hbm, ⟨20, _⟩ => ⟨S16x4096x2816, .f32⟩
  | .hbm, ⟨21, _⟩ => ⟨S16x4096x2816, .f32⟩
  | .hbm, ⟨22, _⟩ => ⟨S_, .f32⟩
  | .hbm, ⟨23, _⟩ => ⟨S16x4096x2816, .f32⟩
  | .hbm, ⟨24, _⟩ => ⟨S16x4096x2816, .f32⟩
  | .hbm, ⟨25, _⟩ => ⟨S16x4096x2816, .f32⟩
  | .hbm, ⟨26, _⟩ => ⟨S16x4096x2816, .f32⟩
  | .hbm, ⟨27, _⟩ => ⟨S16x4096x1024, .f32⟩
  | .hbm, ⟨28, _⟩ => ⟨S16x4096, .f32⟩
  | .hbm, ⟨29, _⟩ => ⟨S16x4096x1, .f32⟩
  | .hbm, ⟨30, _⟩ => ⟨S16x4096x1024, .f32⟩
  | .hbm, ⟨31, _⟩ => ⟨S16x4096x1024, .f32⟩
  | .hbm, ⟨32, _⟩ => ⟨S16x4096x1024, .bf16⟩
  | _, _ => ⟨S4x65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]
-- ==== InProj.lean ====
abbrev S16x2048x1024 : Shape := ⟨3, ![16, 2048, 1024]⟩
abbrev S1x1024 : Shape := ⟨2, ![1, 1024]⟩
abbrev S1x1024x3600 : Shape := ⟨3, ![1, 1024, 3600]⟩
abbrev S1x3x1536 : Shape := ⟨3, ![1, 3, 1536]⟩
abbrev S32768x1024 : Shape := ⟨2, ![32768, 1024]⟩
abbrev S1024 : Shape := ⟨1, ![1024]⟩
abbrev S1024x3600 : Shape := ⟨2, ![1024, 3600]⟩
abbrev S3x1536 : Shape := ⟨2, ![3, 1536]⟩
abbrev S1024x1536 : Shape := ⟨2, ![1024, 1536]⟩
abbrev S1024x512 : Shape := ⟨2, ![1024, 512]⟩
abbrev S1024x16 : Shape := ⟨2, ![1024, 16]⟩
abbrev S_ : Shape := ⟨0, ![]⟩
abbrev S1024x128 : Shape := ⟨2, ![1024, 128]⟩
abbrev S32768x512 : Shape := ⟨2, ![32768, 512]⟩
abbrev S512x512x64 : Shape := ⟨3, ![512, 512, 64]⟩
abbrev S32768x128 : Shape := ⟨2, ![32768, 128]⟩
abbrev S32768x1536 : Shape := ⟨2, ![32768, 1536]⟩
abbrev S512x1024 : Shape := ⟨2, ![512, 1024]⟩
abbrev S8x1024 : Shape := ⟨2, ![8, 1024]⟩
abbrev S512x512 : Shape := ⟨2, ![512, 512]⟩
abbrev S8x512x64 : Shape := ⟨3, ![8, 512, 64]⟩
abbrev S512x128 : Shape := ⟨2, ![512, 128]⟩
abbrev S512x1536 : Shape := ⟨2, ![512, 1536]⟩
abbrev S528x1024 : Shape := ⟨2, ![528, 1024]⟩
abbrev S528 : Shape := ⟨1, ![528]⟩
abbrev S528x1 : Shape := ⟨2, ![528, 1]⟩
abbrev S528x1536 : Shape := ⟨2, ![528, 1536]⟩
abbrev S512x1 : Shape := ⟨2, ![512, 1]⟩
abbrev S1x1536 : Shape := ⟨2, ![1, 1536]⟩
abbrev S512 : Shape := ⟨1, ![512]⟩
abbrev S64x128 : Shape := ⟨2, ![64, 128]⟩
abbrev S128x64 : Shape := ⟨2, ![128, 64]⟩
abbrev S1x128x64 : Shape := ⟨3, ![1, 128, 64]⟩

abbrev nBuf : Space → Nat
  | .hbm => 24
  | .vmem => 26
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x3600, .f32⟩
  | .hbm, ⟨3, _⟩ => ⟨S1x3x1536, .f32⟩
  | .hbm, ⟨4, _⟩ => ⟨S32768x1024, .f32⟩
  | .hbm, ⟨5, _⟩ => ⟨S1024, .f32⟩
  | .hbm, ⟨6, _⟩ => ⟨S1x1024, .f32⟩
  | .hbm, ⟨7, _⟩ => ⟨S1024x3600, .f32⟩
  | .hbm, ⟨8, _⟩ => ⟨S3x1536, .f32⟩
  | .hbm, ⟨9, _⟩ => ⟨S1024x3600, .bf16⟩
  | .hbm, ⟨10, _⟩ => ⟨S1024x1536, .bf16⟩
  | .hbm, ⟨11, _⟩ => ⟨S1024x512, .bf16⟩
  | .hbm, ⟨12, _⟩ => ⟨S1024x16, .bf16⟩
  | .hbm, ⟨13, _⟩ => ⟨S_, .i32⟩
  | .hbm, ⟨14, _⟩ => ⟨S_, .bf16⟩
  | .hbm, ⟨15, _⟩ => ⟨S1024x128, .bf16⟩
  | .hbm, ⟨16, _⟩ => ⟨S1024x1536, .bf16⟩
  | .hbm, ⟨17, _⟩ => ⟨S32768x512, .bf16⟩
  | .hbm, ⟨18, _⟩ => ⟨S32768x512, .bf16⟩
  | .hbm, ⟨19, _⟩ => ⟨S32768x512, .bf16⟩
  | .hbm, ⟨20, _⟩ => ⟨S512x512x64, .bf16⟩
  | .hbm, ⟨21, _⟩ => ⟨S32768x512, .f32⟩
  | .hbm, ⟨22, _⟩ => ⟨S32768x128, .f32⟩
  | .hbm, ⟨23, _⟩ => ⟨S32768x1536, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1024x1536, .bf16⟩
  | .local _ .vmem, ⟨8, _⟩ => ⟨S1024x512, .bf16⟩
  | .local _ .vmem, ⟨9, _⟩ => ⟨S1024x128, .bf16⟩
  | .local _ .vmem, ⟨10, _⟩ => ⟨S1024x1536, .bf16⟩
  | .local _ .vmem, ⟨11, _⟩ => ⟨S3x1536, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S8x512x64, .bf16⟩
  | .local _ .vmem, ⟨19, _⟩ => ⟨S8x512x64, .bf16⟩
  | .local _ .vmem, ⟨20, _⟩ => ⟨S512x512, .f32⟩
  | .local _ .vmem, ⟨21, _⟩ => ⟨S512x512, .f32⟩
  | .local _ .vmem, ⟨22, _⟩ => ⟨S512x128, .f32⟩
  | .local _ .vmem, ⟨23, _⟩ => ⟨S512x128, .f32⟩
  | .local _ .vmem, ⟨24, _⟩ => ⟨S512x1536, .f32⟩
  | .local _ .vmem, ⟨25, _⟩ => ⟨S512x1536, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v11_4 : Ref sig .tc := ⟨.hbm, 21, rfl⟩
abbrev main_v11_5 : Ref sig .tc := ⟨.hbm, 22, rfl⟩
abbrev main_v11_6 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x512x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1536 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== InProjRefIdeal.lean ====
abbrev S16x2048x1024 : Shape := ⟨3, ![16, 2048, 1024]⟩
abbrev S1x1024 : Shape := ⟨2, ![1, 1024]⟩
abbrev S1x1024x3600 : Shape := ⟨3, ![1, 1024, 3600]⟩
abbrev S1x3x1536 : Shape := ⟨3, ![1, 3, 1536]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x3600 : Shape := ⟨2, ![1024, 3600]⟩
abbrev S16x2048x3600 : Shape := ⟨3, ![16, 2048, 3600]⟩
abbrev S16x2048x1536 : Shape := ⟨3, ![16, 2048, 1536]⟩
abbrev S3x1536 : Shape := ⟨2, ![3, 1536]⟩
abbrev S16x1x1536 : Shape := ⟨3, ![16, 1, 1536]⟩
abbrev S16x2047x1536 : Shape := ⟨3, ![16, 2047, 1536]⟩
abbrev S1x1536 : Shape := ⟨2, ![1, 1536]⟩
abbrev S1536 : Shape := ⟨1, ![1536]⟩
abbrev S1x1x1536 : Shape := ⟨3, ![1, 1, 1536]⟩
abbrev S16x2048x512 : Shape := ⟨3, ![16, 2048, 512]⟩
abbrev S16x2048x4x128 : Shape := ⟨4, ![16, 2048, 4, 128]⟩
abbrev S16x2048x4 : Shape := ⟨3, ![16, 2048, 4]⟩
abbrev S16x2048x4x1 : Shape := ⟨4, ![16, 2048, 4, 1]⟩
abbrev S512x64x512 : Shape := ⟨3, ![512, 64, 512]⟩
abbrev S512x512x64 : Shape := ⟨3, ![512, 512, 64]⟩
abbrev S16x2048x16 : Shape := ⟨3, ![16, 2048, 16]⟩
abbrev S16x2048x128 : Shape := ⟨3, ![16, 2048, 128]⟩
abbrev S32768x512 : Shape := ⟨2, ![32768, 512]⟩
abbrev S32768x128 : Shape := ⟨2, ![32768, 128]⟩
abbrev S32768x1536 : Shape := ⟨2, ![32768, 1536]⟩

abbrev nBuf : Space → Nat
  | .hbm => 103
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x3600, .f32⟩
  | .hbm, ⟨3, _⟩ => ⟨S1x3x1536, .f32⟩
  | .hbm, ⟨4, _⟩ => ⟨S1024, .f32⟩
  | .hbm, ⟨5, _⟩ => ⟨S16x2048x1024, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x1024, .f32⟩
  | .hbm, ⟨17, _⟩ => ⟨S16x2048x1024, .f32⟩
  | .hbm, ⟨18, _⟩ => ⟨S1x1x1024, .f32⟩
  | .hbm, ⟨19, _⟩ => ⟨S16x2048x1024, .f32⟩
  | .hbm, ⟨20, _⟩ => ⟨S16x2048x1024, .f32⟩
  | .hbm, ⟨21, _⟩ => ⟨S1024x3600, .f32⟩
  | .hbm, ⟨22, _⟩ => ⟨S16x2048x3600, .f32⟩
  | .hbm, ⟨23, _⟩ => ⟨S16x2048x1536, .f32⟩
  | .hbm, ⟨24, _⟩ => ⟨S3x1536, .f32⟩
  | .hbm, ⟨25, _⟩ => ⟨S16x1x1536, .f32⟩
  | .hbm, ⟨26, _⟩ => ⟨S_, .f32⟩
  | .hbm, ⟨27, _⟩ => ⟨S16x1x1536, .f32⟩
  | .hbm, ⟨28, _⟩ => ⟨S16x2047x1536, .f32⟩
  | .hbm, ⟨29, _⟩ => ⟨S16x2048x1536, .f32⟩
  | .hbm, ⟨30, _⟩ => ⟨S16x2047x1536, .f32⟩
  | .hbm, ⟨31, _⟩ => ⟨S16x2048x1536, .f32⟩
  | .hbm, ⟨32, _⟩ => ⟨S1x1536, .f32⟩
  | .hbm, ⟨33, _⟩ => ⟨S1536, .f32⟩
  | .hbm, ⟨34, _⟩ => ⟨S1x1x1536, .f32⟩
  | .hbm, ⟨35, _⟩ => ⟨S16x2048x1536, .f32⟩
  | .hbm, ⟨36, _⟩ => ⟨S16x2048x1536, .f32⟩
  | .hbm, ⟨37, _⟩ => ⟨S1x1536, .f32⟩
  | .hbm, ⟨38, _⟩ => ⟨S1536, .f32⟩
  | .hbm, ⟨39, _⟩ => ⟨S1x1x1536, .f32⟩
  | .hbm, ⟨40, _⟩ => ⟨S16x2048x1536, .f32⟩
  | .hbm, ⟨41, _⟩ => ⟨S16x2048x1536, .f32⟩
  | .hbm, ⟨42, _⟩ => ⟨S16x2048x1536, .f32⟩
  | .hbm, ⟨43, _⟩ => ⟨S1x1536, .f32⟩
  | .hbm, ⟨44, _⟩ => ⟨S1536, .f32⟩
  | .hbm, ⟨45, _⟩ => ⟨S1x1x1536, .f32⟩
  | .hbm, ⟨46, _⟩ => ⟨S16x2048x1536, .f32⟩
  | .hbm, ⟨47, _⟩ => ⟨S16x2048x1536, .f32⟩
  | .hbm, ⟨48, _⟩ => ⟨S16x2048x1536, .f32⟩
  | .hbm, ⟨49, _⟩ => ⟨S16x2048x1536, .f32⟩
  | .hbm, ⟨50, _⟩ => ⟨S16x2048x1536, .f32⟩
  | .hbm, ⟨51, _⟩ => ⟨S_, .f32⟩
  | .hbm, ⟨52, _⟩ => ⟨S16x2048x1536, .f32⟩
  | .hbm, ⟨53, _⟩ => ⟨S16x2048x1536, .f32⟩
  | .hbm, ⟨54, _⟩ => ⟨S_, .f32⟩
  | .hbm, ⟨55, _⟩ => ⟨S16x2048x1536, .f32⟩
  | .hbm, ⟨56, _⟩ => ⟨S16x2048x1536, .f32⟩
  | .hbm, ⟨57, _⟩ => ⟨S16x2048x1536, .f32⟩
  | .hbm, ⟨58, _⟩ => ⟨S16x2048x512, .f32⟩
  | .hbm, ⟨59, _⟩ => ⟨S16x2048x4x128, .f32⟩
  | .hbm, ⟨60, _⟩ => ⟨S16x2048x4x128, .f32⟩
  | .hbm, ⟨61, _⟩ => ⟨S_, .f32⟩
  | .hbm, ⟨62, _⟩ => ⟨S16x2048x4, .f32⟩
  | .hbm, ⟨63, _⟩ => ⟨S16x2048x4x1, .f32⟩
  | .hbm, ⟨64, _⟩ => ⟨S_, .f32⟩
  | .hbm, ⟨65, _⟩ => ⟨S16x2048x4x1, .f32⟩
  | .hbm, ⟨66, _⟩ => ⟨S16x2048x4x1, .f32⟩
  | .hbm, ⟨67, _⟩ => ⟨S16x2048x4x1, .f32⟩
  | .hbm, ⟨68, _⟩ => ⟨S16x2048x4x128, .f32⟩
  | .hbm, ⟨69, _⟩ => ⟨S16x2048x4x128, .f32⟩
  | .hbm, ⟨70, _⟩ => ⟨S_, .f32⟩
  | .hbm, ⟨71, _⟩ => ⟨S16x2048x4x128, .f32⟩
  | .hbm, ⟨72, _⟩ => ⟨S16x2048x4x128, .f32⟩
  | .hbm, ⟨73, _⟩ => ⟨S16x2048x4x128, .bf16⟩
  | .hbm, ⟨74, _⟩ => ⟨S16x2048x512, .f32⟩
  | .hbm, ⟨75, _⟩ => ⟨S16x2048x4x128, .f32⟩
  | .hbm, ⟨76, _⟩ => ⟨S16x2048x4x128, .f32⟩
  | .hbm, ⟨77, _⟩ => ⟨S_, .f32⟩
  | .hbm, ⟨78, _⟩ => ⟨S16x2048x4, .f32⟩
  | .hbm, ⟨79, _⟩ => ⟨S16x2048x4x1, .f32⟩
  | .hbm, ⟨80, _⟩ => ⟨S_, .f32⟩
  | .hbm, ⟨81, _⟩ => ⟨S16x2048x4x1, .f32⟩
  | .hbm, ⟨82, _⟩ => ⟨S16x2048x4x1, .f32⟩
  | .hbm, ⟨83, _⟩ => ⟨S16x2048x4x1, .f32⟩
  | .hbm, ⟨84, _⟩ => ⟨S16x2048x4x128, .f32⟩
  | .hbm, ⟨85, _⟩ => ⟨S16x2048x4x128, .f32⟩
  | .hbm, ⟨86, _⟩ => ⟨S16x2048x4x128, .bf16⟩
  | .hbm, ⟨87, _⟩ => ⟨S16x2048x512, .f32⟩
  | .hbm, ⟨88, _⟩ => ⟨S16x2048x512, .bf16⟩
  | .hbm, ⟨89, _⟩ => ⟨S512x64x512, .bf16⟩
  | .hbm, ⟨90, _⟩ => ⟨S512x512x64, .bf16⟩
  | .hbm, ⟨91, _⟩ => ⟨S16x2048x16, .f32⟩
  | .hbm, ⟨92, _⟩ => ⟨S_, .i32⟩
  | .hbm, ⟨93, _⟩ => ⟨S_, .f32⟩
  | .hbm, ⟨94, _⟩ => ⟨S16x2048x128, .f32⟩
  | .hbm, ⟨95, _⟩ => ⟨S32768x512, .bf16⟩
  | .hbm, ⟨96, _⟩ => ⟨S32768x512, .bf16⟩
  | .hbm, ⟨97, _⟩ => ⟨S32768x512, .bf16⟩
  | .hbm, ⟨98, _⟩ => ⟨S16x2048x512, .f32⟩
  | .hbm, ⟨99, _⟩ => ⟨S32768x512, .f32⟩
  | .hbm, ⟨100, _⟩ => ⟨S32768x128, .f32⟩
  | .hbm, ⟨101, _⟩ => ⟨S16x2048x1536, .f32⟩
  | .hbm, ⟨102, _⟩ => ⟨S32768x1536, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_3 : Ref sig .tc := ⟨.hbm, 61, rfl⟩
abbrev main_v45 : Ref sig .tc := ⟨.hbm, 62, rfl⟩
abbrev main_v46 : Ref sig .tc := ⟨.hbm, 63, rfl⟩
abbrev main_cst_4 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_5 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_6 : Ref sig .tc := ⟨.hbm, 77, rfl⟩
abbrev main_v58 : Ref sig .tc := ⟨.hbm, 78, rfl⟩
abbrev main_v59 : Ref sig .tc := ⟨.hbm, 79, rfl⟩
abbrev main_cst_7 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_c : Ref sig .tc := ⟨.hbm, 92, rfl⟩
abbrev main_call1_v0 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩

abbrev nD : Nat := 1
abbrev τ : Topo := Topo.v7x

variable {F : FTy → Type} [FloatOps F]
-- ==== Attn.lean ====
abbrev S16x2048x1536 : Shape := ⟨3, ![16, 2048, 1536]⟩
abbrev S32x8 : Shape := ⟨2, ![32, 8]⟩
abbrev S256 : Shape := ⟨1, ![256]⟩
abbrev S_ : Shape := ⟨0, ![]⟩
abbrev S1x256 : Shape := ⟨2, ![1, 256]⟩
abbrev S128 : Shape := ⟨1, ![128]⟩
abbrev S128x1 : Shape := ⟨2, ![128, 1]⟩
abbrev S128x256 : Shape := ⟨2, ![128, 256]⟩
abbrev S128x256x1 : Shape := ⟨3, ![128, 256, 1]⟩
abbrev S32 : Shape := ⟨1, ![32]⟩
abbrev S1x1x32 : Shape := ⟨3, ![1, 1, 32]⟩
abbrev S128x256x32 : Shape := ⟨3, ![128, 256, 32]⟩
abbrev S8x128x256 : Shape := ⟨3, ![8, 128, 256]⟩
abbrev S1x128x256 : Shape := ⟨3, ![1, 128, 256]⟩
abbrev S1x8x128x256 : Shape := ⟨4, ![1, 8, 128, 256]⟩
abbrev S3x8x128x256 : Shape := ⟨4, ![3, 8, 128, 256]⟩
abbrev S16x2048x512 : Shape := ⟨3, ![16, 2048, 512]⟩
abbrev S1x2048x128 : Shape := ⟨3, ![1, 2048, 128]⟩
abbrev S1x1024x128 : Shape := ⟨3, ![1, 1024, 128]⟩
abbrev S3x2x128x256 : Shape := ⟨4, ![3, 2, 128, 256]⟩
abbrev S2048x128 : Shape := ⟨2, ![2048, 128]⟩
abbrev S4096x128 : Shape := ⟨2, ![4096, 128]⟩
abbrev S3x2048x128 : Shape := ⟨3, ![3, 2048, 128]⟩
abbrev S128x128 : Shape := ⟨2, ![128, 128]⟩
abbrev S256x128 : Shape := ⟨2, ![256, 128]⟩
abbrev S1024x128 : Shape := ⟨2, ![1024, 128]⟩
abbrev S256x256 : Shape := ⟨2, ![256, 256]⟩
abbrev S1x1x128x256 : Shape := ⟨4, ![1, 1, 128, 256]⟩
abbrev S1x128x128 : Shape := ⟨3, ![1, 128, 128]⟩
abbrev S1x512x128 : Shape := ⟨3, ![1, 512, 128]⟩
abbrev S512x128 : Shape := ⟨2, ![512, 128]⟩
abbrev S1x256x128 : Shape := ⟨3, ![1, 256, 128]⟩

abbrev nBuf : Space → Nat
  | .hbm => 188
  | .vmem => 30
  | .smem => 0
  | _ => 0

abbrev hbmTy0_0 (i : Nat) : BufTy := match i % 128 with
  | 0 => ⟨S16x2048x1536, .f32⟩
  | 1 => ⟨S32x8, .f32⟩
  | 2 => ⟨S256, .i32⟩
  | 3 => ⟨S_, .i32⟩
  | 4 => ⟨S256, .i32⟩
  | 5 => ⟨S256, .i32⟩
  | 6 => ⟨S1x256, .i32⟩
  | 7 => ⟨S128, .i32⟩
  | 8 => ⟨S128x1, .i32⟩
  | 9 => ⟨S128x256, .i32⟩
  | 10 => ⟨S128x256, .i32⟩
  | 11 => ⟨S128x256, .i32⟩
  | 12 => ⟨S_, .i32⟩
  | 13 => ⟨S128x256, .i32⟩
  | 14 => ⟨S128x256, .i32⟩
  | 15 => ⟨S_, .i32⟩
  | 16 => ⟨S128x256, .i32⟩
  | 17 => ⟨S128x256, .i1⟩
  | 18 => ⟨S_, .i32⟩
  | 19 => ⟨S_, .i32⟩
  | 20 => ⟨S128x256, .i32⟩
  | 21 => ⟨S128x256, .i32⟩
  | 22 => ⟨S128x256, .i32⟩
  | 23 => ⟨S128x256, .i32⟩
  | 24 => ⟨S_, .i32⟩
  | 25 => ⟨S128x256, .i32⟩
  | 26 => ⟨S128x256, .i32⟩
  | 27 => ⟨S128x256, .f32⟩
  | 28 => ⟨S_, .f32⟩
  | 29 => ⟨S128x256, .f32⟩
  | 30 => ⟨S128x256, .f32⟩
  | 31 => ⟨S128x256, .f32⟩
  | 32 => ⟨S_, .f32⟩
  | 33 => ⟨S128x256, .f32⟩
  | 34 => ⟨S128x256, .f32⟩
  | 35 => ⟨S_, .f32⟩
  | 36 => ⟨S128x256, .f32⟩
  | 37 => ⟨S128x256, .f32⟩
  | 38 => ⟨S128x256, .i32⟩
  | 39 => ⟨S_, .i32⟩
  | 40 => ⟨S128x256, .i32⟩
  | 41 => ⟨S128x256, .i32⟩
  | 42 => ⟨S_, .i32⟩
  | 43 => ⟨S128x256, .i32⟩
  | 44 => ⟨S128x256, .i32⟩
  | 45 => ⟨S_, .i32⟩
  | 46 => ⟨S128x256, .i32⟩
  | 47 => ⟨S128x256, .i1⟩
  | 48 => ⟨S128x256, .i32⟩
  | 49 => ⟨S128x256, .i32⟩
  | 50 => ⟨S128x256, .i32⟩
  | 51 => ⟨S128x256x1, .i32⟩
  | 52 => ⟨S32, .i32⟩
  | 53 => ⟨S1x1x32, .i32⟩
  | 54 => ⟨S128x256x32, .i32⟩
  | 55 => ⟨S128x256x32, .i32⟩
  | 56 => ⟨S128x256x32, .i1⟩
  | 57 => ⟨S128x256x32, .f32⟩
  | 58 => ⟨S8x128x256, .f32⟩
  | 59 => ⟨S128x256, .i32⟩
  | 60 => ⟨S_, .i32⟩
  | 61 => ⟨S128x256, .i32⟩
  | 62 => ⟨S128x256, .i1⟩
  | 63 => ⟨S1x128x256, .i1⟩
  | 64 => ⟨S_, .f32⟩
  | 65 => ⟨S_, .f32⟩
  | 66 => ⟨S8x128x256, .i1⟩
  | 67 => ⟨S8x128x256, .f32⟩
  | 68 => ⟨S8x128x256, .f32⟩
  | 69 => ⟨S_, .i32⟩
  | 70 => ⟨S128x256, .i32⟩
  | 71 => ⟨S128x256, .i32⟩
  | 72 => ⟨S_, .i32⟩
  | 73 => ⟨S128x256, .i32⟩
  | 74 => ⟨S128x256, .i1⟩
  | 75 => ⟨S_, .i32⟩
  | 76 => ⟨S_, .i32⟩
  | 77 => ⟨S128x256, .i32⟩
  | 78 => ⟨S128x256, .i32⟩
  | 79 => ⟨S128x256, .i32⟩
  | 80 => ⟨S128x256, .i32⟩
  | 81 => ⟨S_, .i32⟩
  | 82 => ⟨S128x256, .i32⟩
  | 83 => ⟨S128x256, .i32⟩
  | 84 => ⟨S128x256, .f32⟩
  | 85 => ⟨S_, .f32⟩
  | 86 => ⟨S128x256, .f32⟩
  | 87 => ⟨S128x256, .f32⟩
  | 88 => ⟨S128x256, .f32⟩
  | 89 => ⟨S_, .f32⟩
  | 90 => ⟨S128x256, .f32⟩
  | 91 => ⟨S128x256, .f32⟩
  | 92 => ⟨S_, .f32⟩
  | 93 => ⟨S128x256, .f32⟩
  | 94 => ⟨S128x256, .f32⟩
  | 95 => ⟨S128x256, .i32⟩
  | 96 => ⟨S_, .i32⟩
  | 97 => ⟨S128x256, .i32⟩
  | 98 => ⟨S128x256, .i32⟩
  | 99 => ⟨S_, .i32⟩
  | 100 => ⟨S128x256, .i32⟩
  | 101 => ⟨S128x256, .i32⟩
  | 102 => ⟨S_, .i32⟩
  | 103 => ⟨S128x256, .i32⟩
  | 104 => ⟨S128x256, .i1⟩
  | 105 => ⟨S128x256, .i32⟩
  | 106 => ⟨S128x256, .i32⟩
  | 107 => ⟨S128x256, .i32⟩
  | 108 => ⟨S128x256x1, .i32⟩
  | 109 => ⟨S32, .i32⟩
  | 110 => ⟨S1x1x32, .i32⟩
  | 111 => ⟨S128x256x32, .i32⟩
  | 112 => ⟨S128x256x32, .i32⟩
  | 113 => ⟨S128x256x32, .i1⟩
  | 114 => ⟨S128x256x32, .f32⟩
  | 115 => ⟨S8x128x256, .f32⟩
  | 116 => ⟨S128x256, .i32⟩
  | 117 => ⟨S_, .i32⟩
  | 118 => ⟨S128x256, .i32⟩
  | 119 => ⟨S128x256, .i1⟩
  | 120 => ⟨S1x128x256, .i1⟩
  | 121 => ⟨S_, .f32⟩
  | 122 => ⟨S_, .f32⟩
  | 123 => ⟨S8x128x256, .i1⟩
  | 124 => ⟨S8x128x256, .f32⟩
  | 125 => ⟨S8x128x256, .f32⟩
  | 126 => ⟨S_, .i32⟩
  | 127 => ⟨S128x256, .i32⟩
  | _ => ⟨S16x2048x1536, .f32⟩

abbrev hbmTy0_1 (i : Nat) : BufTy := match i % 128 with
  | 0 => ⟨S128x256, .i32⟩
  | 1 => ⟨S_, .i32⟩
  | 2 => ⟨S128x256, .i32⟩
  | 3 => ⟨S128x256, .i1⟩
  | 4 => ⟨S_, .i32⟩
  | 5 => ⟨S_, .i32⟩
  | 6 => ⟨S128x256, .i32⟩
  | 7 => ⟨S128x256, .i32⟩
  | 8 => ⟨S128x256, .i32⟩
  | 9 => ⟨S128x256, .i32⟩
  | 10 => ⟨S_, .i32⟩
  | 11 => ⟨S128x256, .i32⟩
  | 12 => ⟨S128x256, .i32⟩
  | 13 => ⟨S128x256, .f32⟩
  | 14 => ⟨S_, .f32⟩
  | 15 => ⟨S128x256, .f32⟩
  | 16 => ⟨S128x256, .f32⟩
  | 17 => ⟨S128x256, .f32⟩
  | 18 => ⟨S_, .f32⟩
  | 19 => ⟨S128x256, .f32⟩
  | 20 => ⟨S128x256, .f32⟩
  | 21 => ⟨S_, .f32⟩
  | 22 => ⟨S128x256, .f32⟩
  | 23 => ⟨S128x256, .f32⟩
  | 24 => ⟨S128x256, .i32⟩
  | 25 => ⟨S_, .i32⟩
  | 26 => ⟨S128x256, .i32⟩
  | 27 => ⟨S128x256, .i32⟩
  | 28 => ⟨S_, .i32⟩
  | 29 => ⟨S128x256, .i32⟩
  | 30 => ⟨S128x256, .i32⟩
  | 31 => ⟨S_, .i32⟩
  | 32 => ⟨S128x256, .i32⟩
  | 33 => ⟨S128x256, .i1⟩
  | 34 => ⟨S128x256, .i32⟩
  | 35 => ⟨S128x256, .i32⟩
  | 36 => ⟨S128x256, .i32⟩
  | 37 => ⟨S128x256x1, .i32⟩
  | 38 => ⟨S32, .i32⟩
  | 39 => ⟨S1x1x32, .i32⟩
  | 40 => ⟨S128x256x32, .i32⟩
  | 41 => ⟨S128x256x32, .i32⟩
  | 42 => ⟨S128x256x32, .i1⟩
  | 43 => ⟨S128x256x32, .f32⟩
  | 44 => ⟨S8x128x256, .f32⟩
  | 45 => ⟨S128x256, .i32⟩
  | 46 => ⟨S_, .i32⟩
  | 47 => ⟨S128x256, .i32⟩
  | 48 => ⟨S128x256, .i1⟩
  | 49 => ⟨S1x128x256, .i1⟩
  | 50 => ⟨S_, .f32⟩
  | 51 => ⟨S_, .f32⟩
  | 52 => ⟨S8x128x256, .i1⟩
  | 53 => ⟨S8x128x256, .f32⟩
  | 54 => ⟨S8x128x256, .f32⟩
  | 55 => ⟨S1x8x128x256, .f32⟩
  | 56 => ⟨S1x8x128x256, .f32⟩
  | 57 => ⟨S1x8x128x256, .f32⟩
  | 58 => ⟨S3x8x128x256, .f32⟩
  | 59 => ⟨S16x2048x512, .bf16⟩
  | _ => ⟨S16x2048x1536, .f32⟩

abbrev hbmTy (i : Nat) : BufTy := match i / 128 with
  | 0 => hbmTy0_0 i
  | 1 => hbmTy0_1 i
  | _ => ⟨S16x2048x1536, .f32⟩

abbrev bufTy : (tb : Table) → Fin (tcTables nBuf tb) → BufTy
  | .hbm, ⟨i, _⟩ => hbmTy i
  | .local _ .vmem, ⟨0, _⟩ => ⟨S1x2048x128, .f32⟩
  | .local _ .vmem, ⟨1, _⟩ => ⟨S1x2048x128, .f32⟩
  | .local _ .vmem, ⟨2, _⟩ => ⟨S1x1024x128, .f32⟩
  | .local _ .vmem, ⟨3, _⟩ => ⟨S1x1024x128, .f32⟩
  | .local _ .vmem, ⟨4, _⟩ => ⟨S1x2048x128, .f32⟩
  | .local _ .vmem, ⟨5, _⟩ => ⟨S1x2048x128, .f32⟩
  | .local _ .vmem, ⟨6, _⟩ => ⟨S1x1024x128, .f32⟩
  | .local _ .vmem, ⟨7, _⟩ => ⟨S1x1024x128, .f32⟩
  | .local _ .vmem, ⟨8, _⟩ => ⟨S1x1024x128, .f32⟩
  | .local _ .vmem, ⟨9, _⟩ => ⟨S1x1024x128, .f32⟩
  | .local _ .vmem, ⟨10, _⟩ => ⟨S1x2048x128, .f32⟩
  | .local _ .vmem, ⟨11, _⟩ => ⟨S1x2048x128, .f32⟩
  | .local _ .vmem, ⟨12, _⟩ => ⟨S1x1024x128, .f32⟩
  | .local _ .vmem, ⟨13, _⟩ => ⟨S1x1024x128, .f32⟩
  | .local _ .vmem, ⟨14, _⟩ => ⟨S3x2x128x256, .f32⟩
  | .local _ .vmem, ⟨15, _⟩ => ⟨S3x2x128x256, .f32⟩
  | .local _ .vmem, ⟨16, _⟩ => ⟨S1x2048x128, .bf16⟩
  | .local _ .vmem, ⟨17, _⟩ => ⟨S1x2048x128, .bf16⟩
  | .local _ .vmem, ⟨18, _⟩ => ⟨S2048x128, .f32⟩
  | .local _ .vmem, ⟨19, _⟩ => ⟨S2048x128, .f32⟩
  | .local _ .vmem, ⟨20, _⟩ => ⟨S4096x128, .f32⟩
  | .local _ .vmem, ⟨21, _⟩ => ⟨S4096x128, .f32⟩
  | .local _ .vmem, ⟨22, _⟩ => ⟨S4096x128, .bf16⟩
  | .local _ .vmem, ⟨23, _⟩ => ⟨S4096x128, .bf16⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S3x2048x128, .f32⟩
  | .local _ .vmem, ⟨28, _⟩ => ⟨S3x2048x128, .f32⟩
  | .local _ .vmem, ⟨29, _⟩ => ⟨S3x2048x128, .f32⟩
  | _, _ => ⟨S16x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_c_2 : Ref sig .tc := ⟨.hbm, 18, rfl⟩
abbrev main_c_3 : Ref sig .tc := ⟨.hbm, 19, rfl⟩
abbrev main_call0_v0 : Ref sig .tc := ⟨.hbm, 20, rfl⟩
abbrev main_call0_v1 : Ref sig .tc := ⟨.hbm, 21, rfl⟩
abbrev main_v13 : Ref sig .tc := ⟨.hbm, 22, rfl⟩
abbrev main_v14 : Ref sig .tc := ⟨.hbm, 23, rfl⟩
abbrev main_c_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_7 : Ref sig .tc := ⟨.hbm, 39, rfl⟩
abbrev main_v26 : Ref sig .tc := ⟨.hbm, 40, rfl⟩
abbrev main_v27 : Ref sig .tc := ⟨.hbm, 41, rfl⟩
abbrev main_c_8 : Ref sig .tc := ⟨.hbm, 42, rfl⟩
abbrev main_v28 : Ref sig .tc := ⟨.hbm, 43, rfl⟩
abbrev main_v29 : Ref sig .tc := ⟨.hbm, 44, rfl⟩
abbrev main_c_9 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_11 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v47 : Ref sig .tc := ⟨.hbm, 68, rfl⟩
abbrev main_c_12 : Ref sig .tc := ⟨.hbm, 69, rfl⟩
abbrev main_v48 : Ref sig .tc := ⟨.hbm, 70, rfl⟩
abbrev main_v49 : Ref sig .tc := ⟨.hbm, 71, rfl⟩
abbrev main_c_13 : Ref sig .tc := ⟨.hbm, 72, rfl⟩
abbrev main_v50 : Ref sig .tc := ⟨.hbm, 73, rfl⟩
abbrev main_v51 : Ref sig .tc := ⟨.hbm, 74, rfl⟩
abbrev main_c_14 : Ref sig .tc := ⟨.hbm, 75, rfl⟩
abbrev main_c_15 : Ref sig .tc := ⟨.hbm, 76, rfl⟩
abbrev main_call3_v0 : Ref sig .tc := ⟨.hbm, 77, rfl⟩
abbrev main_call3_v1 : Ref sig .tc := ⟨.hbm, 78, rfl⟩
abbrev main_v52 : Ref sig .tc := ⟨.hbm, 79, rfl⟩
abbrev main_v53 : Ref sig .tc := ⟨.hbm, 80, rfl⟩
abbrev main_c_16 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_17 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_18 : Ref sig .tc := ⟨.hbm, 89, rfl⟩
abbrev main_v60 : Ref sig .tc := ⟨.hbm, 90, rfl⟩
abbrev main_v61 : Ref sig .tc := ⟨.hbm, 91, rfl⟩
abbrev main_cst_19 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_c_20 : Ref sig .tc := ⟨.hbm, 96, rfl⟩
abbrev main_v65 : Ref sig .tc := ⟨.hbm, 97, rfl⟩
abbrev main_v66 : Ref sig .tc := ⟨.hbm, 98, rfl⟩
abbrev main_c_21 : Ref sig .tc := ⟨.hbm, 99, rfl⟩
abbrev main_v67 : Ref sig .tc := ⟨.hbm, 100, rfl⟩
abbrev main_v68 : Ref sig .tc := ⟨.hbm, 101, rfl⟩
abbrev main_c_22 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_c_23 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_24 : Ref sig .tc := ⟨.hbm, 121, rfl⟩
abbrev main_call5_v0 : Ref sig .tc := ⟨.hbm, 122, rfl⟩
abbrev main_call5_v1 : Ref sig .tc := ⟨.hbm, 123, rfl⟩
abbrev main_call5_v2 : Ref sig .tc := ⟨.hbm, 124, rfl⟩
abbrev main_v86 : Ref sig .tc := ⟨.hbm, 125, rfl⟩
abbrev main_c_25 : Ref sig .tc := ⟨.hbm, 126, rfl⟩
abbrev main_v87 : Ref sig .tc := ⟨.hbm, 127, rfl⟩
abbrev main_v88 : Ref sig .tc := ⟨.hbm, 128, rfl⟩
abbrev main_c_26 : Ref sig .tc := ⟨.hbm, 129, rfl⟩
abbrev main_v89 : Ref sig .tc := ⟨.hbm, 130, rfl⟩
abbrev main_v90 : Ref sig .tc := ⟨.hbm, 131, rfl⟩
abbrev main_c_27 : Ref sig .tc := ⟨.hbm, 132, rfl⟩
abbrev main_c_28 : Ref sig .tc := ⟨.hbm, 133, rfl⟩
abbrev main_call6_v0 : Ref sig .tc := ⟨.hbm, 134, rfl⟩
abbrev main_call6_v1 : Ref sig .tc := ⟨.hbm, 135, rfl⟩
abbrev main_v91 : Ref sig .tc := ⟨.hbm, 136, rfl⟩
abbrev main_v92 : Ref sig .tc := ⟨.hbm, 137, rfl⟩
abbrev main_c_29 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_cst_30 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_cst_31 : Ref sig .tc := ⟨.hbm, 146, rfl⟩
abbrev main_v99 : Ref sig .tc := ⟨.hbm, 147, rfl⟩
abbrev main_v100 : Ref sig .tc := ⟨.hbm, 148, rfl⟩
abbrev main_cst_32 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_c_33 : Ref sig .tc := ⟨.hbm, 153, rfl⟩
abbrev main_v104 : Ref sig .tc := ⟨.hbm, 154, rfl⟩
abbrev main_v105 : Ref sig .tc := ⟨.hbm, 155, rfl⟩
abbrev main_c_34 : Ref sig .tc := ⟨.hbm, 156, rfl⟩
abbrev main_v106 : Ref sig .tc := ⟨.hbm, 157, rfl⟩
abbrev main_v107 : Ref sig .tc := ⟨.hbm, 158, rfl⟩
abbrev main_c_35 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_c_36 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_cst_37 : Ref sig .tc := ⟨.hbm, 178, rfl⟩
abbrev main_call8_v0 : Ref sig .tc := ⟨.hbm, 179, rfl⟩
abbrev main_call8_v1 : Ref sig .tc := ⟨.hbm, 180, rfl⟩
abbrev main_call8_v2 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_scratch9 : Ref sig .tc := ⟨.vmem, 27, rfl⟩
abbrev cc0_scratch10 : Ref sig .tc := ⟨.vmem, 28, rfl⟩
abbrev cc0_scratch11 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![16, 1, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg2
  let c0_i32_0 : BitVec 32 := 0#32
  ![arg0.toNat, v2.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  ![arg0.toNat, arg1.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c2_i32 : BitVec 32 := 2#32
  let v1 : BitVec 32 := Scalar.muli v0 c2_i32
  let c1_i32_0 : BitVec 32 := 1#32
  let v2 : BitVec 32 := Scalar.minsi v1 c1_i32_0
  let c4_i32 : BitVec 32 := 4#32
  let v3 : BitVec 32 := Scalar.addi c4_i32 arg2
  let c0_i32 : BitVec 32 := 0#32
  ![arg0.toNat, v2.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi c8_i32 arg2
  let c0_i32_0 : BitVec 32 := 0#32
  ![arg0.toNat, v2.toNat, v3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c0_i32 : BitVec 32 := 0#32
  ![arg0.toNat, arg1.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c2_i32 : BitVec 32 := 2#32
  let v1 : BitVec 32 := Scalar.muli v0 c2_i32
  let c1_i32_0 : BitVec 32 := 1#32
  let v2 : BitVec 32 := Scalar.minsi v1 c1_i32_0
  let c8_i32 : BitVec 32 := 8#32
  let v3 : BitVec 32 := Scalar.addi c8_i32 arg2
  let c0_i32 : BitVec 32 := 0#32
  ![arg0.toNat, v2.toNat, v3.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg2.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S3x2x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AttnIdeal.lean ====
variable {F : FTy → Type} [FloatOps F] [Named F]
def κ : String → Option EReal := fun
  | "mask" => some ⊥
  | _ => none
-- ==== AttnRefIdeal.lean ====
abbrev S16x2048x1536 : Shape := ⟨3, ![16, 2048, 1536]⟩
abbrev S32x8 : Shape := ⟨2, ![32, 8]⟩
abbrev S16x2048x512 : Shape := ⟨3, ![16, 2048, 512]⟩
abbrev S16x2048x8x64 : Shape := ⟨4, ![16, 2048, 8, 64]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S2048x2048x1 : Shape := ⟨3, ![2048, 2048, 1]⟩
abbrev S32 : Shape := ⟨1, ![32]⟩
abbrev S1x1x32 : Shape := ⟨3, ![1, 1, 32]⟩
abbrev S2048x2048x32 : Shape := ⟨3, ![2048, 2048, 32]⟩
abbrev S8x2048x2048 : Shape := ⟨3, ![8, 2048, 2048]⟩
abbrev S16x8x2048x2048 : Shape := ⟨4, ![16, 8, 2048, 2048]⟩
abbrev S1x8x2048x2048 : Shape := ⟨4, ![1, 8, 2048, 2048]⟩
abbrev S16x8x2048 : Shape := ⟨3, ![16, 8, 2048]⟩
abbrev S16x8x2048x1 : Shape := ⟨4, ![16, 8, 2048, 1]⟩
abbrev S16x8x2048x64 : Shape := ⟨4, ![16, 8, 2048, 64]⟩
abbrev S1x16x8x2048 : Shape := ⟨4, ![1, 16, 8, 2048]⟩
abbrev S3x16x8x2048 : Shape := ⟨4, ![3, 16, 8, 2048]⟩
abbrev S3x16x8x2048x1 : Shape := ⟨5, ![3, 16, 8, 2048, 1]⟩
abbrev S1x16x8x2048x64 : Shape := ⟨5, ![1, 16, 8, 2048, 64]⟩
abbrev S3x16x8x2048x64 : Shape := ⟨5, ![3, 16, 8, 2048, 64]⟩

abbrev nBuf : Space → Nat
  | .hbm => 184
  | .vmem => 0
  | .smem => 0
  | _ => 0

abbrev hbmTy0_0 (i : Nat) : BufTy := match i % 128 with
  | 0 => ⟨S16x2048x1536, .f32⟩
  | 1 => ⟨S32x8, .f32⟩
  | 2 => ⟨S16x2048x512, .f32⟩
  | 3 => ⟨S16x2048x8x64, .f32⟩
  | 4 => ⟨S16x2048x512, .f32⟩
  | 5 => ⟨S16x2048x8x64, .f32⟩
  | 6 => ⟨S16x2048x512, .f32⟩
  | 7 => ⟨S16x2048x8x64, .f32⟩
  | 8 => ⟨S2048, .i32⟩
  | 9 => ⟨S1x2048, .i32⟩
  | 10 => ⟨S2048, .i32⟩
  | 11 => ⟨S2048x1, .i32⟩
  | 12 => ⟨S2048x2048, .i32⟩
  | 13 => ⟨S2048x2048, .i32⟩
  | 14 => ⟨S2048x2048, .i32⟩
  | 15 => ⟨S_, .i32⟩
  | 16 => ⟨S2048x2048, .i32⟩
  | 17 => ⟨S2048x2048, .i1⟩
  | 18 => ⟨S2048x2048, .i32⟩
  | 19 => ⟨S_, .i32⟩
  | 20 => ⟨S2048x2048, .i32⟩
  | 21 => ⟨S2048x2048, .i32⟩
  | 22 => ⟨S2048x2048, .i32⟩
  | 23 => ⟨S_, .i32⟩
  | 24 => ⟨S2048x2048, .i32⟩
  | 25 => ⟨S2048x2048, .i32⟩
  | 26 => ⟨S2048x2048, .f32⟩
  | 27 => ⟨S_, .f32⟩
  | 28 => ⟨S2048x2048, .f32⟩
  | 29 => ⟨S2048x2048, .f32⟩
  | 30 => ⟨S2048x2048, .f32⟩
  | 31 => ⟨S_, .f32⟩
  | 32 => ⟨S2048x2048, .f32⟩
  | 33 => ⟨S2048x2048, .f32⟩
  | 34 => ⟨S_, .f32⟩
  | 35 => ⟨S2048x2048, .f32⟩
  | 36 => ⟨S2048x2048, .f32⟩
  | 37 => ⟨S2048x2048, .i32⟩
  | 38 => ⟨S_, .i32⟩
  | 39 => ⟨S2048x2048, .i32⟩
  | 40 => ⟨S2048x2048, .i32⟩
  | 41 => ⟨S_, .i32⟩
  | 42 => ⟨S2048x2048, .i32⟩
  | 43 => ⟨S2048x2048, .i32⟩
  | 44 => ⟨S_, .i32⟩
  | 45 => ⟨S2048x2048, .i32⟩
  | 46 => ⟨S2048x2048, .i1⟩
  | 47 => ⟨S2048x2048, .i32⟩
  | 48 => ⟨S2048x2048, .i32⟩
  | 49 => ⟨S2048x2048x1, .i32⟩
  | 50 => ⟨S32, .i32⟩
  | 51 => ⟨S1x1x32, .i32⟩
  | 52 => ⟨S2048x2048x32, .i32⟩
  | 53 => ⟨S2048x2048x32, .i32⟩
  | 54 => ⟨S2048x2048x32, .i1⟩
  | 55 => ⟨S2048x2048x32, .f32⟩
  | 56 => ⟨S8x2048x2048, .f32⟩
  | 57 => ⟨S16x8x2048x2048, .f32⟩
  | 58 => ⟨S_, .f32⟩
  | 59 => ⟨S16x8x2048x2048, .f32⟩
  | 60 => ⟨S16x8x2048x2048, .f32⟩
  | 61 => ⟨S1x8x2048x2048, .f32⟩
  | 62 => ⟨S16x8x2048x2048, .f32⟩
  | 63 => ⟨S16x8x2048x2048, .f32⟩
  | 64 => ⟨S_, .i32⟩
  | 65 => ⟨S2048x2048, .i32⟩
  | 66 => ⟨S2048x2048, .i32⟩
  | 67 => ⟨S_, .i32⟩
  | 68 => ⟨S2048x2048, .i32⟩
  | 69 => ⟨S2048x2048, .i1⟩
  | 70 => ⟨S2048x2048, .i32⟩
  | 71 => ⟨S_, .i32⟩
  | 72 => ⟨S2048x2048, .i32⟩
  | 73 => ⟨S2048x2048, .i1⟩
  | 74 => ⟨S2048x2048, .i1⟩
  | 75 => ⟨S16x8x2048x2048, .i1⟩
  | 76 => ⟨S_, .f32⟩
  | 77 => ⟨S16x8x2048x2048, .f32⟩
  | 78 => ⟨S16x8x2048x2048, .f32⟩
  | 79 => ⟨S_, .f32⟩
  | 80 => ⟨S16x8x2048, .f32⟩
  | 81 => ⟨S16x8x2048x1, .f32⟩
  | 82 => ⟨S16x8x2048x2048, .f32⟩
  | 83 => ⟨S16x8x2048x2048, .f32⟩
  | 84 => ⟨S16x8x2048x2048, .f32⟩
  | 85 => ⟨S_, .f32⟩
  | 86 => ⟨S16x8x2048, .f32⟩
  | 87 => ⟨S16x8x2048x1, .f32⟩
  | 88 => ⟨S16x8x2048x2048, .f32⟩
  | 89 => ⟨S16x8x2048x2048, .f32⟩
  | 90 => ⟨S16x8x2048x64, .f32⟩
  | 91 => ⟨S16x8x2048x1, .f32⟩
  | 92 => ⟨S16x8x2048x1, .f32⟩
  | 93 => ⟨S16x8x2048, .f32⟩
  | 94 => ⟨S_, .i32⟩
  | 95 => ⟨S2048x2048, .i32⟩
  | 96 => ⟨S2048x2048, .i32⟩
  | 97 => ⟨S_, .i32⟩
  | 98 => ⟨S2048x2048, .i32⟩
  | 99 => ⟨S2048x2048, .i1⟩
  | 100 => ⟨S2048x2048, .i32⟩
  | 101 => ⟨S_, .i32⟩
  | 102 => ⟨S2048x2048, .i32⟩
  | 103 => ⟨S2048x2048, .i1⟩
  | 104 => ⟨S2048x2048, .i1⟩
  | 105 => ⟨S16x8x2048x2048, .i1⟩
  | 106 => ⟨S_, .f32⟩
  | 107 => ⟨S16x8x2048x2048, .f32⟩
  | 108 => ⟨S16x8x2048x2048, .f32⟩
  | 109 => ⟨S_, .f32⟩
  | 110 => ⟨S16x8x2048, .f32⟩
  | 111 => ⟨S16x8x2048x1, .f32⟩
  | 112 => ⟨S16x8x2048x2048, .f32⟩
  | 113 => ⟨S16x8x2048x2048, .f32⟩
  | 114 => ⟨S16x8x2048x2048, .f32⟩
  | 115 => ⟨S_, .f32⟩
  | 116 => ⟨S16x8x2048, .f32⟩
  | 117 => ⟨S16x8x2048x1, .f32⟩
  | 118 => ⟨S16x8x2048x2048, .f32⟩
  | 119 => ⟨S16x8x2048x2048, .f32⟩
  | 120 => ⟨S16x8x2048x64, .f32⟩
  | 121 => ⟨S16x8x2048x1, .f32⟩
  | 122 => ⟨S16x8x2048x1, .f32⟩
  | 123 => ⟨S16x8x2048, .f32⟩
  | 124 => ⟨S_, .i32⟩
  | 125 => ⟨S2048x2048, .i32⟩
  | 126 => ⟨S2048x2048, .i32⟩
  | 127 => ⟨S_, .i32⟩
  | _ => ⟨S16x2048x1536, .f32⟩

abbrev hbmTy0_1 (i : Nat) : BufTy := match i % 128 with
  | 0 => ⟨S2048x2048, .i32⟩
  | 1 => ⟨S2048x2048, .i1⟩
  | 2 => ⟨S2048x2048, .i32⟩
  | 3 => ⟨S_, .i32⟩
  | 4 => ⟨S2048x2048, .i32⟩
  | 5 => ⟨S2048x2048, .i1⟩
  | 6 => ⟨S2048x2048, .i1⟩
  | 7 => ⟨S16x8x2048x2048, .i1⟩
  | 8 => ⟨S_, .f32⟩
  | 9 => ⟨S16x8x2048x2048, .f32⟩
  | 10 => ⟨S16x8x2048x2048, .f32⟩
  | 11 => ⟨S_, .f32⟩
  | 12 => ⟨S16x8x2048, .f32⟩
  | 13 => ⟨S16x8x2048x1, .f32⟩
  | 14 => ⟨S16x8x2048x2048, .f32⟩
  | 15 => ⟨S16x8x2048x2048, .f32⟩
  | 16 => ⟨S16x8x2048x2048, .f32⟩
  | 17 => ⟨S_, .f32⟩
  | 18 => ⟨S16x8x2048, .f32⟩
  | 19 => ⟨S16x8x2048x1, .f32⟩
  | 20 => ⟨S16x8x2048x2048, .f32⟩
  | 21 => ⟨S16x8x2048x2048, .f32⟩
  | 22 => ⟨S16x8x2048x64, .f32⟩
  | 23 => ⟨S16x8x2048x1, .f32⟩
  | 24 => ⟨S16x8x2048x1, .f32⟩
  | 25 => ⟨S16x8x2048, .f32⟩
  | 26 => ⟨S1x16x8x2048, .f32⟩
  | 27 => ⟨S1x16x8x2048, .f32⟩
  | 28 => ⟨S1x16x8x2048, .f32⟩
  | 29 => ⟨S3x16x8x2048, .f32⟩
  | 30 => ⟨S_, .f32⟩
  | 31 => ⟨S16x8x2048, .f32⟩
  | 32 => ⟨S_, .f32⟩
  | 33 => ⟨S16x8x2048, .f32⟩
  | 34 => ⟨S16x8x2048, .f32⟩
  | 35 => ⟨S1x16x8x2048, .f32⟩
  | 36 => ⟨S3x16x8x2048, .f32⟩
  | 37 => ⟨S3x16x8x2048, .f32⟩
  | 38 => ⟨S3x16x8x2048, .f32⟩
  | 39 => ⟨S_, .f32⟩
  | 40 => ⟨S16x8x2048, .f32⟩
  | 41 => ⟨S1x16x8x2048, .f32⟩
  | 42 => ⟨S3x16x8x2048, .f32⟩
  | 43 => ⟨S3x16x8x2048, .f32⟩
  | 44 => ⟨S3x16x8x2048x1, .f32⟩
  | 45 => ⟨S1x16x8x2048x64, .f32⟩
  | 46 => ⟨S1x16x8x2048x64, .f32⟩
  | 47 => ⟨S1x16x8x2048x64, .f32⟩
  | 48 => ⟨S3x16x8x2048x64, .f32⟩
  | 49 => ⟨S3x16x8x2048x64, .f32⟩
  | 50 => ⟨S3x16x8x2048x64, .f32⟩
  | 51 => ⟨S_, .f32⟩
  | 52 => ⟨S16x8x2048x64, .f32⟩
  | 53 => ⟨S16x2048x8x64, .f32⟩
  | 54 => ⟨S16x2048x512, .f32⟩
  | 55 => ⟨S16x2048x512, .bf16⟩
  | _ => ⟨S16x2048x1536, .f32⟩

abbrev hbmTy (i : Nat) : BufTy := match i / 128 with
  | 0 => hbmTy0_0 i
  | 1 => hbmTy0_1 i
  | _ => ⟨S16x2048x1536, .f32⟩

abbrev bufTy : (tb : Table) → Fin (tcTables nBuf tb) → BufTy
  | .hbm, ⟨i, _⟩ => hbmTy i
  | _, _ => ⟨S16x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c_1 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_4 : Ref sig .tc := ⟨.hbm, 38, rfl⟩
abbrev main_v30 : Ref sig .tc := ⟨.hbm, 39, rfl⟩
abbrev main_v31 : Ref sig .tc := ⟨.hbm, 40, rfl⟩
abbrev main_c_5 : Ref sig .tc := ⟨.hbm, 41, rfl⟩
abbrev main_v32 : Ref sig .tc := ⟨.hbm, 42, rfl⟩
abbrev main_v33 : Ref sig .tc := ⟨.hbm, 43, rfl⟩
abbrev main_c_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_c_8 : Ref sig .tc := ⟨.hbm, 64, rfl⟩
abbrev main_v52 : Ref sig .tc := ⟨.hbm, 65, rfl⟩
abbrev main_v53 : Ref sig .tc := ⟨.hbm, 66, rfl⟩
abbrev main_c_9 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_c_10 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_11 : Ref sig .tc := ⟨.hbm, 76, rfl⟩
abbrev main_v61 : Ref sig .tc := ⟨.hbm, 77, rfl⟩
abbrev main_v62 : Ref sig .tc := ⟨.hbm, 78, rfl⟩
abbrev main_cst_12 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_13 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_c_14 : Ref sig .tc := ⟨.hbm, 94, rfl⟩
abbrev main_v76 : Ref sig .tc := ⟨.hbm, 95, rfl⟩
abbrev main_v77 : Ref sig .tc := ⟨.hbm, 96, rfl⟩
abbrev main_c_15 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_c_16 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_cst_17 : Ref sig .tc := ⟨.hbm, 106, rfl⟩
abbrev main_v85 : Ref sig .tc := ⟨.hbm, 107, rfl⟩
abbrev main_v86 : Ref sig .tc := ⟨.hbm, 108, rfl⟩
abbrev main_cst_18 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_cst_19 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_c_20 : Ref sig .tc := ⟨.hbm, 124, rfl⟩
abbrev main_v100 : Ref sig .tc := ⟨.hbm, 125, rfl⟩
abbrev main_v101 : Ref sig .tc := ⟨.hbm, 126, rfl⟩
abbrev main_c_21 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_c_22 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_cst_23 : Ref sig .tc := ⟨.hbm, 136, rfl⟩
abbrev main_v109 : Ref sig .tc := ⟨.hbm, 137, rfl⟩
abbrev main_v110 : Ref sig .tc := ⟨.hbm, 138, rfl⟩
abbrev main_cst_24 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_cst_25 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_cst_26 : Ref sig .tc := ⟨.hbm, 158, rfl⟩
abbrev main_v128 : Ref sig .tc := ⟨.hbm, 159, rfl⟩
abbrev main_cst_27 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_cst_28 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_cst_29 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩

abbrev nD : Nat := 1
abbrev τ : Topo := Topo.v7x

variable {F : FTy → Type} [FloatOps F]
-- ==== Proof.InSpec.lean ====
/-
  The input projection as a formula over the argument arrays: a token's row is normalized and projected; the columns of
  the DeltaNet heads pass a convolution of width 3 along the sequence and silu; queries and keys are normalized head by head.
  Tokens are counted flat: token `R` is position `R % 2048` of sequence `R / 2048`.
-/
module

public import Idealize.ShloMosaic.Lib.Pointwise

@[expose] public section

noncomputable section

namespace Cert.Inp

open Idealize.ShloMosaic Idealize.ShloMosaic.Pointwise
open scoped BigOperators

abbrev SX : Shape := ⟨3, ![16, 2048, 1024]⟩
abbrev SG : Shape := ⟨2, ![1, 1024]⟩
abbrev SW : Shape := ⟨3, ![1, 1024, 3600]⟩
abbrev SC : Shape := ⟨3, ![1, 3, 1536]⟩

/-- A row times the reciprocal root of its mean square, times the gains. -/
def normed (x g : Fin 1024 → EReal) (d : Fin 1024) : EReal :=
  x d * Ideal.rsqrt (Ideal.div (∑ k : Fin 1024, x k * x k) (Ideal.ofBits .f32 0x44800000#32) + Ideal.ofBits .f32 0x358637BD#32) * g d

/-- silu of a convolution's three taps. -/
def tap (w0 w1 w2 a b c : EReal) : EReal := (w0 * a + w1 * b + w2 * c) * Ideal.logistic (w0 * a + w1 * b + w2 * c)

/-- A head's column times the reciprocal root of the head's square sum. -/
def unit (x : Fin 128 → EReal) (k : Fin 128) : EReal :=
  x k * Ideal.rsqrt ((∑ l : Fin 128, x l * x l) + Ideal.ofBits .f32 0x358637BD#32)

variable (X : FVec Ideal SX .f32) (G : FVec Ideal SG .f32) (W : FVec Ideal SW .f32) (C : FVec Ideal SC .f32)

/-- Token `R`'s row. -/
def row (R : Fin 32768) (d : Fin 1024) : EReal := X (ix3 ⟨R.val / 2048, by omega⟩ ⟨R.val % 2048, by omega⟩ d)

/-- The projection of token `R`, column `p`. -/
def proj (R : Fin 32768) (p : Fin 3600) : EReal :=
  ∑ d : Fin 1024, normed (row X R) (fun d => G (ix2 0 d)) d * W (ix3 0 d p)

/-- The sixteen gate columns, padded with zero columns to 128. -/
def gates (R : Fin 32768) (p : Fin 128) : EReal :=
  ∑ d : Fin 1024, normed (row X R) (fun d => G (ix2 0 d)) d * (if h : p.val < 16 then W (ix3 0 d ⟨2048 + p.val, by omega⟩) else 0)

/-- The projection of the token before, zero at a sequence's first. -/
def before (R : Fin 32768) (p : Fin 3600) : EReal := if R.val % 2048 = 0 then 0 else proj X G W ⟨R.val - 1, by omega⟩ p

/-- The projection of the token after, zero at a sequence's last. -/
def after (R : Fin 32768) (p : Fin 3600) : EReal :=
  if h : R.val % 2048 = 2047 then 0 else proj X G W ⟨R.val + 1, by omega⟩ p

/-- The convolved column with silu. -/
def act (R : Fin 32768) (p : Fin 1536) : EReal :=
  tap (C (ix3 0 0 p)) (C (ix3 0 1 p)) (C (ix3 0 2 p))
    (before X G W R ⟨p.val, by omega⟩) (proj X G W R ⟨p.val, by omega⟩) (after X G W R ⟨p.val, by omega⟩)

/-- Column `c` of the queries' or keys' heads (`o` is where they begin), normalized in its head. -/
def head (o : Fin 1025) (R : Fin 32768) (c : Fin 512) : EReal :=
  unit (fun l => act X G W C R ⟨o.val + (c.val / 128 * 128 + l.val), by omega⟩) ⟨c.val % 128, by omega⟩

end Cert.Inp

end
-- ==== Proof.InStep.lean ====
/-
  What one grid step of the input projection computes, read at an index.
-/
module

public import proofs.«01_k».proof.Proof.Gen.InProjIdeal.Value
public import proofs.«01_k».proof.Proof.InSpec
public import Idealize.ShloMosaic.Lib.Pipeline.ValueKit

@[expose] public section

set_option maxRecDepth 16384

noncomputable section

namespace Cert.InProjIdeal.Inp

open Cert.InProjIdeal Cert.InProjIdeal.Gen Idealize.ShloMosaic Idealize.ShloMosaic.TcCoe Idealize.SL.Sem
open Idealize.ShloMosaic.Pointwise
open scoped BigOperators
open Cert.Inp (normed tap unit)

/-- Row `i` of the tile with the eight rows before it and the eight after it. -/
def wide (p : FVec Ideal S8x1024 .f32) (x : FVec Ideal S512x1024 .f32) (n : FVec Ideal S8x1024 .f32) (i : Fin 528) (d : Fin 1024) : EReal :=
  if h : i.val < 8 then p (ix2 ⟨i.val, h⟩ d) else if h' : i.val - 8 < 512 then x (ix2 ⟨i.val - 8, h'⟩ d) else n (ix2 ⟨i.val - 8 - 512, by omega⟩ d)

theorem pay4_apply (p : FVec Ideal S8x1024 .f32) (x : FVec Ideal S512x1024 .f32) (n : FVec Ideal S8x1024 .f32) (g : FVec Ideal S1x1024 .f32)
    (i : Fin 528) (d : Fin 1024) :
    k0_pay4 (F := Ideal) p x n g (ix2 i d) = normed (wide p x n i) (fun d => g (ix2 0 d)) d := by
  pointwise [k0_pay4, normed, wide]

theorem pay5_apply (p : FVec Ideal S8x1024 .f32) (x : FVec Ideal S512x1024 .f32) (n : FVec Ideal S8x1024 .f32) (g : FVec Ideal S1x1024 .f32)
    (r : Fin 512) (d : Fin 1024) :
    k0_pay5 (F := Ideal) p x n g (ix2 r d) = k0_pay4 (F := Ideal) p x n g (ix2 ⟨8 + r.val, by omega⟩ d) := by
  pointwise [k0_pay5]

theorem pay6_apply (p : FVec Ideal S8x1024 .f32) (x : FVec Ideal S512x1024 .f32) (n : FVec Ideal S8x1024 .f32) (g : FVec Ideal S1x1024 .f32)
    (w : FVec Ideal S1024x512 .bf16) (r : Fin 512) (d : Fin 512) :
    k0_pay6 (F := Ideal) p x n g w (ix2 r d) = ∑ k : Fin 1024, k0_pay5 (F := Ideal) p x n g (ix2 r k) * w (ix2 k d) := by
  pointwise [k0_pay6]

theorem pay7_apply (h : FVec Ideal S512x1024 .bf16) (w : FVec Ideal S1024x128 .bf16) (r : Fin 512) (d : Fin 128) :
    k0_pay7 (F := Ideal) h w (ix2 r d) = ∑ k : Fin 1024, h (ix2 r k) * w (ix2 k d) := by
  pointwise [k0_pay7]

theorem pay8_apply (h : FVec Ideal S512x1024 .bf16) (w : FVec Ideal S1024x1536 .bf16) (r : Fin 512) (d : Fin 1536) :
    k0_pay8 (F := Ideal) h w (ix2 r d) = ∑ k : Fin 1024, h (ix2 r k) * w (ix2 k d) := by
  pointwise [k0_pay8]

theorem pay9_apply (h : FVec Ideal S528x1024 .f32) (w : FVec Ideal S1024x1536 .bf16) (r : Fin 528) (d : Fin 1536) :
    k0_pay9 (F := Ideal) h w (ix2 r d) = ∑ k : Fin 1024, h (ix2 r k) * w (ix2 k d) := by
  pointwise [k0_pay9]

/-- A choice on two words' comparisons with constants. -/
theorem sel_apply (r : Fin 512) (k : Fin 4) (a b : EReal) (n1 : Fin 512) (n2 : Fin 4) :
    Scalar.select (IntOp.andi (IntOp.cmpi .eq (BitVec.ofNat 32 r.val) (BitVec.ofNat 32 n1.val))
      (Scalar.cmpi .eq (BitVec.ofNat 32 k.val) (BitVec.ofNat 32 n2.val))) a b = if r.val = n1.val ∧ k.val = n2.val then a else b := by
  word_cmp

theorem pay10_apply (s : Fin 4) (h : FVec Ideal S528x1024 .f32) (w : FVec Ideal S1024x1536 .bf16) (r : Fin 512) (d : Fin 1536) :
    k0_pay10 (F := Ideal) (BitVec.ofNat 32 s.val) h w (ix2 r d) = if r.val = 0 ∧ s.val = 0 then 0 else k0_pay9 (F := Ideal) h w (ix2 ⟨7 + r.val, by omega⟩ d) := by
  pointwise [k0_pay10]
  refine (sel_apply r s _ _ 0 0).trans (if_congr Iff.rfl rfl ?_)
  blk_ext

theorem pay11_apply (s : Fin 4) (h : FVec Ideal S528x1024 .f32) (w : FVec Ideal S1024x1536 .bf16) (r : Fin 512) (d : Fin 1536) :
    k0_pay11 (F := Ideal) (BitVec.ofNat 32 s.val) h w (ix2 r d) = if r.val = 511 ∧ s.val = 3 then 0 else k0_pay9 (F := Ideal) h w (ix2 ⟨9 + r.val, by omega⟩ d) := by
  pointwise [k0_pay11]
  refine (sel_apply r s _ _ 511 3).trans (if_congr Iff.rfl rfl ?_)
  blk_ext

theorem pay12_apply (p : FVec Ideal S528x1536 .f32) (a b : FVec Ideal S512x1536 .f32) (w0 w1 w2 : FVec Ideal S1x1536 .f32) (r : Fin 512) (d : Fin 1536) :
    k0_pay12 (F := Ideal) p a b w0 w1 w2 (ix2 r d)
      = tap (w0 (ix2 0 d)) (w1 (ix2 0 d)) (w2 (ix2 0 d)) (a (ix2 r d)) (p (ix2 ⟨8 + r.val, by omega⟩ d)) (b (ix2 r d)) := by
  pointwise [k0_pay12, tap]

end Cert.InProjIdeal.Inp

end
-- ==== Proof.InBlocks.lean ====
/-
  What the windows of the input projection hold at a grid point: rows of the tokens, the gains, the weight columns.
-/
module

public import proofs.«01_k».proof.Proof.InStep
public import Idealize.ShloMosaic.Lib.Claim

@[expose] public section

set_option maxRecDepth 16384

noncomputable section

namespace Cert.InProjIdeal.Inp

open Cert.InProjIdeal Cert.InProjIdeal.Gen Idealize.ShloMosaic Idealize.ShloMosaic.TcCoe Idealize.SL.Sem
open Idealize.ShloMosaic.Pointwise
open scoped BigOperators
open Cert.Inp (normed tap unit row)

variable (m : (ℓ : Loc nD τ sig) → Buf (Elt Ideal) ℓ)

abbrev aX (c : Dev nD) : FVec Ideal Cert.Inp.SX .f32 := m ((c : Thread nD τ).loc main_arg0)
abbrev aG (c : Dev nD) : FVec Ideal Cert.Inp.SG .f32 := m ((c : Thread nD τ).loc main_arg1)
abbrev aW (c : Dev nD) : FVec Ideal Cert.Inp.SW .f32 := m ((c : Thread nD τ).loc main_arg2)
abbrev aC (c : Dev nD) : FVec Ideal Cert.Inp.SC .f32 := m ((c : Thread nD τ).loc main_arg3)

theorem V0_apply (c : Dev nD) (R : Fin 32768) (d : Fin 1024) :
    (show FVec Ideal S32768x1024 .f32 from V m c main_v0) (ix2 R d) = row (aX m c) R d := by
  simp only [V, List.flatten_cons, List.flatten_nil, List.append_nil, List.cons_append, List.nil_append]; entry_read; pointwise [row]
theorem V2_apply (c : Dev nD) (d : Fin 1024) :
    (show FVec Ideal S1x1024 .f32 from V m c main_v2) (ix2 0 d) = aG m c (ix2 0 d) := by
  simp only [V, List.flatten_cons, List.flatten_nil, List.append_nil, List.cons_append, List.nil_append]; entry_read; pointwise
theorem V4_apply (c : Dev nD) (k : Fin 3) (d : Fin 1536) :
    (show FVec Ideal S3x1536 .f32 from V m c main_v4) (ix2 k d) = aC m c (ix3 0 k d) := by
  simp only [V, List.flatten_cons, List.flatten_nil, List.append_nil, List.cons_append, List.nil_append]; entry_read; pointwise
theorem V6_apply (c : Dev nD) (d : Fin 1024) (p : Fin 1536) :
    (show FVec Ideal S1024x1536 .bf16 from V m c main_v6) (ix2 d p) = aW m c (ix3 0 d ⟨p.val, by omega⟩) := by
  simp only [V, List.flatten_cons, List.flatten_nil, List.append_nil, List.cons_append, List.nil_append]; entry_read; pointwise
theorem V7_apply (c : Dev nD) (d : Fin 1024) (p : Fin 512) :
    (show FVec Ideal S1024x512 .bf16 from V m c main_v7) (ix2 d p) = aW m c (ix3 0 d ⟨1536 + p.val, by omega⟩) := by
  simp only [V, List.flatten_cons, List.flatten_nil, List.append_nil, List.cons_append, List.nil_append]; entry_read; pointwise
theorem V9_apply (c : Dev nD) (d : Fin 1024) (p : Fin 128) :
    (show FVec Ideal S1024x128 .bf16 from V m c main_v9) (ix2 d p)
      = if h : p.val < 16 then aW m c (ix3 0 d ⟨2048 + p.val, by omega⟩) else 0 := by
  simp only [V, List.flatten_cons, List.flatten_nil, List.append_nil, List.cons_append, List.nil_append]; entry_read
  show pad S1024x128 ![0, 0] ![0, 112] ![0, 0]
        (extractStridedSlice S1024x16 ![0, 2048]
          (truncf FTy.bf16 (shapeCast S1024x3600 (aW m c) shapeCasts_S1x1024x3600_S1024x3600) bitsLt_bf16_f32)
          slices_S1024x3600_S1024x16_0_2048)
        (sitofp FTy.bf16 (constantI S_ 32 0#32)) pads_S1024x16_S1024x128_000_01120 h_S_ (ix2 d p) = _
  have z : (FloatOps.sitofp (F := Ideal) FTy.bf16 0#32 : EReal) = 0 := by
    show ((((0#32).toInt : ℤ) : ℝ) : EReal) = 0
    norm_num
  pointwise
  rw [z]
theorem V10_apply (c : Dev nD) (d : Fin 1024) (p : Fin 1536) :
    (show FVec Ideal S1024x1536 .bf16 from V m c main_v10) (ix2 d p) = aW m c (ix3 0 d ⟨2064 + p.val, by omega⟩) := by
  simp only [V, List.flatten_cons, List.flatten_nil, List.append_nil, List.cons_append, List.nil_append]; entry_read; pointwise

theorem idx : ∀ t : Fin cfg0.N, win0_0.index t = ![t.val, 0] ∧ win0_1.index t = ![t.val * 64 - 1, 0]
    ∧ win0_2.index t = ![min (t.val * 64 + 64) 4095, 0] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![t.val, 0] ∧ win0_10.index t = ![t.val, 0] ∧ win0_11.index t = ![t.val, 0]
    ∧ win0_12.index t = ![t.val, 0, 0] ∧ win0_13.index t = ![t.val, 0] ∧ win0_14.index t = ![t.val, 0]
    ∧ win0_15.index t = ![t.val, 0] :=
  (by decide +kernel : ∀ t : Fin grid0.N, _)

theorem N64 (t : Fin cfg0.N) : t.val < 64 := lt_of_lt_of_eq t.isLt N_0

theorem iblk0_apply (c : Dev nD) (t : Fin cfg0.N) (r : Fin 512) (d : Fin 1024) :
    (show FVec Ideal S512x1024 .f32 from iblk m c 0 t) (ix2 r d) = row (aX m c) ⟨512 * t.val + r.val, by have := N64 t; omega⟩ d := by
  have := N64 t
  obtain ⟨i0, -⟩ := idx t
  refine Eq.trans ?_ (V0_apply m c ⟨512 * t.val + r.val, by omega⟩ d)
  blk_ext [iblk, i0]

theorem iblk1_apply (c : Dev nD) (t : Fin cfg0.N) (R : Fin 32768) (h : R.val + 1 = 512 * t.val) (d : Fin 1024) :
    (show FVec Ideal S8x1024 .f32 from iblk m c 1 t) (ix2 7 d) = row (aX m c) R d := by
  have := N64 t
  obtain ⟨-, i1, -⟩ := idx t
  refine Eq.trans ?_ (V0_apply m c R d)
  blk_ext [iblk, i1]

theorem iblk2_apply (c : Dev nD) (t : Fin cfg0.N) (R : Fin 32768) (h : R.val = 512 * t.val + 512) (d : Fin 1024) :
    (show FVec Ideal S8x1024 .f32 from iblk m c 2 t) (ix2 0 d) = row (aX m c) R d := by
  have := N64 t
  obtain ⟨-, -, i2, -⟩ := idx t
  refine Eq.trans ?_ (V0_apply m c R d)
  blk_ext [iblk, i2]

theorem iblk3_apply (c : Dev nD) (t : Fin cfg0.N) (d : Fin 1024) :
    (show FVec Ideal S1x1024 .f32 from iblk m c 3 t) (ix2 0 d) = aG m c (ix2 0 d) := by
  obtain ⟨-, -, -, i3, -⟩ := idx t
  refine Eq.trans ?_ (V2_apply m c d)
  blk_ext [iblk, i3]

theorem iblk4_apply (c : Dev nD) (t : Fin cfg0.N) (d : Fin 1024) (p : Fin 1536) :
    (show FVec Ideal S1024x1536 .bf16 from iblk m c 4 t) (ix2 d p) = aW m c (ix3 0 d ⟨p.val, by omega⟩) := by
  obtain ⟨-, -, -, -, i4, -⟩ := idx t
  refine Eq.trans ?_ (V6_apply m c d p)
  blk_ext [iblk, i4]

theorem iblk5_apply (c : Dev nD) (t : Fin cfg0.N) (d : Fin 1024) (p : Fin 512) :
    (show FVec Ideal S1024x512 .bf16 from iblk m c 5 t) (ix2 d p) = aW m c (ix3 0 d ⟨1536 + p.val, by omega⟩) := by
  obtain ⟨-, -, -, -, -, i5, -⟩ := idx t
  refine Eq.trans ?_ (V7_apply m c d p)
  blk_ext [iblk, i5]

theorem iblk6_apply (c : Dev nD) (t : Fin cfg0.N) (d : Fin 1024) (p : Fin 128) :
    (show FVec Ideal S1024x128 .bf16 from iblk m c 6 t) (ix2 d p)
      = if h : p.val < 16 then aW m c (ix3 0 d ⟨2048 + p.val, by omega⟩) else 0 := by
  obtain ⟨-, -, -, -, -, -, i6, -⟩ := idx t
  refine Eq.trans ?_ (V9_apply m c d p)
  blk_ext [iblk, i6]

theorem iblk7_apply (c : Dev nD) (t : Fin cfg0.N) (d : Fin 1024) (p : Fin 1536) :
    (show FVec Ideal S1024x1536 .bf16 from iblk m c 7 t) (ix2 d p) = aW m c (ix3 0 d ⟨2064 + p.val, by omega⟩) := by
  obtain ⟨-, -, -, -, -, -, -, i7, -⟩ := idx t
  refine Eq.trans ?_ (V10_apply m c d p)
  blk_ext [iblk, i7]

theorem iblk8_apply (c : Dev nD) (t : Fin cfg0.N) (k : Fin 3) (d : Fin 1536) :
    (show FVec Ideal S3x1536 .f32 from iblk m c 8 t) (ix2 k d) = aC m c (ix3 0 k d) := by
  obtain ⟨-, -, -, -, -, -, -, -, i8, -⟩ := idx t
  refine Eq.trans ?_ (V4_apply m c k d)
  blk_ext [iblk, i8]

/-- A row of the tile or a neighbouring row is a token's row. -/
theorem wide_apply (c : Dev nD) (t : Fin cfg0.N) (i : Fin 528) (R : Fin 32768) (h7 : 7 ≤ i.val) (h520 : i.val ≤ 520)
    (hR : R.val + 8 = 512 * t.val + i.val) (d : Fin 1024) :
    wide (iblk m c 1 t) (iblk m c 0 t) (iblk m c 2 t) i d = row (aX m c) R d := by
  unfold wide
  by_cases h1 : i.val < 8
  · rw [dif_pos h1]
    have e : (⟨i.val, h1⟩ : Fin 8) = 7 := Fin.ext (by simp only [Fin.isValue]; omega)
    rw [e]
    exact iblk1_apply m c t R (by omega) d
  · rw [dif_neg h1]
    by_cases h2 : i.val - 8 < 512
    · rw [dif_pos h2]
      refine (iblk0_apply m c t ⟨i.val - 8, h2⟩ d).trans ?_
      congr 1
      exact Fin.ext (by dsimp only; omega)
    · rw [dif_neg h2]
      have e : (⟨i.val - 8 - 512, by omega⟩ : Fin 8) = 0 := Fin.ext (by simp only [Fin.isValue]; omega)
      rw [e]
      exact iblk2_apply m c t R (by omega) d

/-- The tile's place in its sequence, as the kernel computes it. -/
theorem tile : ∀ t : Fin cfg0.N, Scalar.select (Scalar.andi (Scalar.xori (Scalar.cmpi .slt (Scalar.remsi (BitVec.ofNat 32 (grid0.coords t 0).val) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (BitVec.ofNat 32 (grid0.coords t 0).val) (Scalar.select (Scalar.cmpi .eq 4#32 0#32) 1#32 4#32)) 0#32)) (Scalar.addi (Scalar.remsi (BitVec.ofNat 32 (grid0.coords t 0).val) (Scalar.select (Scalar.cmpi .eq 4#32 0#32) 1#32 4#32)) (Scalar.select (Scalar.cmpi .eq 4#32 0#32) 1#32 4#32)) (Scalar.remsi (BitVec.ofNat 32 (grid0.coords t 0).val) (Scalar.select (Scalar.cmpi .eq 4#32 0#32) 1#32 4#32))
      = BitVec.ofNat 32 (t.val % 4) :=
  (by decide +kernel : ∀ t : Fin grid0.N, _)

end Cert.InProjIdeal.Inp

end
-- ==== Proof.InHeads.lean ====
/-
  The stored pieces of the input projection's tiles: each head's columns normalized in the head, and the keys' chunks of
  64 rows transposed.
-/
module

public import proofs.«01_k».proof.Proof.InStep

@[expose] public section

set_option maxRecDepth 16384

noncomputable section

namespace Cert.InProjIdeal.Inp

open Cert.InProjIdeal Cert.InProjIdeal.Gen Idealize.ShloMosaic Idealize.ShloMosaic.TcCoe Idealize.SL.Sem
open Idealize.ShloMosaic.Pointwise
open scoped BigOperators
open Cert.Inp (normed tap unit row)

theorem pay13_apply (p : FVec Ideal S528x1536 .f32) (a b : FVec Ideal S512x1536 .f32) (w0 w1 w2 : FVec Ideal S1x1536 .f32) (r : Fin 512) (k : Fin 128) :
    k0_pay13 (F := Ideal) p a b w0 w1 w2 (ix2 r k)
      = unit (fun l => k0_pay12 (F := Ideal) p a b w0 w1 w2 (ix2 r ⟨0 + l.val, by omega⟩)) k * Ideal.ofBits .f32 0x3DB504F3#32 := by
  pointwise [k0_pay13, unit]
  exact (mul_assoc _ _ _).symm

theorem pay14_apply (p : FVec Ideal S528x1536 .f32) (a b : FVec Ideal S512x1536 .f32) (w0 w1 w2 : FVec Ideal S1x1536 .f32) (r : Fin 512) (k : Fin 128) :
    k0_pay14 (F := Ideal) p a b w0 w1 w2 (ix2 r k)
      = unit (fun l => k0_pay12 (F := Ideal) p a b w0 w1 w2 (ix2 r ⟨512 + l.val, by omega⟩)) k := by
  pointwise [k0_pay14, unit]

theorem pay24_apply (v : FVec Ideal S512x1536 .f32) (r : Fin 512) (k : Fin 128) :
    k0_pay24 (F := Ideal) v (ix2 r k) = unit (fun l => v (ix2 r ⟨128 + l.val, by omega⟩)) k * Ideal.ofBits .f32 0x3DB504F3#32 := by
  pointwise [k0_pay24, unit]
  exact (mul_assoc _ _ _).symm

theorem pay25_apply (v : FVec Ideal S512x1536 .f32) (r : Fin 512) (k : Fin 128) :
    k0_pay25 (F := Ideal) v (ix2 r k) = unit (fun l => v (ix2 r ⟨640 + l.val, by omega⟩)) k := by
  pointwise [k0_pay25, unit]

theorem pay37_apply (v : FVec Ideal S512x1536 .f32) (r : Fin 512) (k : Fin 128) :
    k0_pay37 (F := Ideal) v (ix2 r k) = unit (fun l => v (ix2 r ⟨256 + l.val, by omega⟩)) k * Ideal.ofBits .f32 0x3DB504F3#32 := by
  pointwise [k0_pay37, unit]
  exact (mul_assoc _ _ _).symm

theorem pay38_apply (v : FVec Ideal S512x1536 .f32) (r : Fin 512) (k : Fin 128) :
    k0_pay38 (F := Ideal) v (ix2 r k) = unit (fun l => v (ix2 r ⟨768 + l.val, by omega⟩)) k := by
  pointwise [k0_pay38, unit]

theorem pay50_apply (v : FVec Ideal S512x1536 .f32) (r : Fin 512) (k : Fin 128) :
    k0_pay50 (F := Ideal) v (ix2 r k) = unit (fun l => v (ix2 r ⟨384 + l.val, by omega⟩)) k * Ideal.ofBits .f32 0x3DB504F3#32 := by
  pointwise [k0_pay50, unit]
  exact (mul_assoc _ _ _).symm

theorem pay51_apply (v : FVec Ideal S512x1536 .f32) (r : Fin 512) (k : Fin 128) :
    k0_pay51 (F := Ideal) v (ix2 r k) = unit (fun l => v (ix2 r ⟨896 + l.val, by omega⟩)) k := by
  pointwise [k0_pay51, unit]

theorem pay15_apply (p : FVec Ideal S528x1536 .f32) (a b : FVec Ideal S512x1536 .f32) (w0 w1 w2 : FVec Ideal S1x1536 .f32) (r : Fin 512) (k : Fin 128) :
    k0_pay15 (F := Ideal) p a b w0 w1 w2 (ix2 r k) = k0_pay14 (F := Ideal) p a b w0 w1 w2 (ix2 r k) := by
  pointwise [k0_pay15]

theorem pay26_apply (v : FVec Ideal S512x1536 .f32) (r : Fin 512) (k : Fin 128) :
    k0_pay26 (F := Ideal) v (ix2 r k) = k0_pay25 (F := Ideal) v (ix2 r k) := by
  pointwise [k0_pay26]

theorem pay39_apply (v : FVec Ideal S512x1536 .f32) (r : Fin 512) (k : Fin 128) :
    k0_pay39 (F := Ideal) v (ix2 r k) = k0_pay38 (F := Ideal) v (ix2 r k) := by
  pointwise [k0_pay39]

theorem pay52_apply (v : FVec Ideal S512x1536 .f32) (r : Fin 512) (k : Fin 128) :
    k0_pay52 (F := Ideal) v (ix2 r k) = k0_pay51 (F := Ideal) v (ix2 r k) := by
  pointwise [k0_pay52]

theorem pay3_apply (v : FVec Ideal S512x1536 .f32) (r d : Fin 512) :
    k0_pay3 (F := Ideal) v (ix2 r d) = v (ix2 r ⟨1024 + d.val, by omega⟩) := by
  pointwise [k0_pay3]

theorem pay16_apply (y : FVec Ideal S512x128 .f32) (k : Fin 128) (l : Fin 64) :
    k0_pay16 (F := Ideal) y (ix3 0 k l) = y (ix2 ⟨l.val, by omega⟩ k) := by
  pointwise [k0_pay16]

theorem pay17_apply (y : FVec Ideal S512x128 .f32) (k : Fin 128) (l : Fin 64) :
    k0_pay17 (F := Ideal) y (ix3 0 k l) = y (ix2 ⟨64 + l.val, by omega⟩ k) := by
  pointwise [k0_pay17]

theorem pay18_apply (y : FVec Ideal S512x128 .f32) (k : Fin 128) (l : Fin 64) :
    k0_pay18 (F := Ideal) y (ix3 0 k l) = y (ix2 ⟨128 + l.val, by omega⟩ k) := by
  pointwise [k0_pay18]

theorem pay19_apply (y : FVec Ideal S512x128 .f32) (k : Fin 128) (l : Fin 64) :
    k0_pay19 (F := Ideal) y (ix3 0 k l) = y (ix2 ⟨192 + l.val, by omega⟩ k) := by
  pointwise [k0_pay19]

theorem pay20_apply (y : FVec Ideal S512x128 .f32) (k : Fin 128) (l : Fin 64) :
    k0_pay20 (F := Ideal) y (ix3 0 k l) = y (ix2 ⟨256 + l.val, by omega⟩ k) := by
  pointwise [k0_pay20]

theorem pay21_apply (y : FVec Ideal S512x128 .f32) (k : Fin 128) (l : Fin 64) :
    k0_pay21 (F := Ideal) y (ix3 0 k l) = y (ix2 ⟨320 + l.val, by omega⟩ k) := by
  pointwise [k0_pay21]

theorem pay22_apply (y : FVec Ideal S512x128 .f32) (k : Fin 128) (l : Fin 64) :
    k0_pay22 (F := Ideal) y (ix3 0 k l) = y (ix2 ⟨384 + l.val, by omega⟩ k) := by
  pointwise [k0_pay22]

theorem pay23_apply (y : FVec Ideal S512x128 .f32) (k : Fin 128) (l : Fin 64) :
    k0_pay23 (F := Ideal) y (ix3 0 k l) = y (ix2 ⟨448 + l.val, by omega⟩ k) := by
  pointwise [k0_pay23]

theorem pay28_apply (v : FVec Ideal S512x1536 .f32) (k : Fin 128) (l : Fin 64) :
    k0_pay28 (F := Ideal) (k0_pay27 (F := Ideal) v) (ix3 0 k l) = k0_pay25 (F := Ideal) v (ix2 ⟨l.val, by omega⟩ k) := by
  pointwise [k0_pay28, k0_pay27]

theorem pay29_apply (y : FVec Ideal S512x128 .f32) (k : Fin 128) (l : Fin 64) :
    k0_pay29 (F := Ideal) y (ix3 0 k l) = y (ix2 ⟨64 + l.val, by omega⟩ k) := by
  pointwise [k0_pay29]

theorem pay30_apply (y : FVec Ideal S512x128 .f32) (k : Fin 128) (l : Fin 64) :
    k0_pay30 (F := Ideal) y (ix3 0 k l) = y (ix2 ⟨128 + l.val, by omega⟩ k) := by
  pointwise [k0_pay30]

theorem pay31_apply (y : FVec Ideal S512x128 .f32) (k : Fin 128) (l : Fin 64) :
    k0_pay31 (F := Ideal) y (ix3 0 k l) = y (ix2 ⟨192 + l.val, by omega⟩ k) := by
  pointwise [k0_pay31]

theorem pay32_apply (y : FVec Ideal S512x128 .f32) (k : Fin 128) (l : Fin 64) :
    k0_pay32 (F := Ideal) y (ix3 0 k l) = y (ix2 ⟨256 + l.val, by omega⟩ k) := by
  pointwise [k0_pay32]

theorem pay33_apply (y : FVec Ideal S512x128 .f32) (k : Fin 128) (l : Fin 64) :
    k0_pay33 (F := Ideal) y (ix3 0 k l) = y (ix2 ⟨320 + l.val, by omega⟩ k) := by
  pointwise [k0_pay33]

theorem pay35_apply (y : FVec Ideal S512x128 .f32) (k : Fin 128) (l : Fin 64) :
    k0_pay35 (F := Ideal) (k0_pay34 (F := Ideal) y) (ix3 0 k l) = y (ix2 ⟨384 + l.val, by omega⟩ k) := by
  pointwise [k0_pay35, k0_pay34]

theorem pay36_apply (y : FVec Ideal S512x128 .f32) (k : Fin 128) (l : Fin 64) :
    k0_pay36 (F := Ideal) y (ix3 0 k l) = y (ix2 ⟨448 + l.val, by omega⟩ k) := by
  pointwise [k0_pay36]

theorem pay41_apply (v : FVec Ideal S512x1536 .f32) (k : Fin 128) (l : Fin 64) :
    k0_pay41 (F := Ideal) (k0_pay40 (F := Ideal) v) (ix3 0 k l) = k0_pay38 (F := Ideal) v (ix2 ⟨l.val, by omega⟩ k) := by
  pointwise [k0_pay41, k0_pay40]

theorem pay42_apply (y : FVec Ideal S512x128 .f32) (k : Fin 128) (l : Fin 64) :
    k0_pay42 (F := Ideal) y (ix3 0 k l) = y (ix2 ⟨64 + l.val, by omega⟩ k) := by
  pointwise [k0_pay42]

theorem pay43_apply (y : FVec Ideal S512x128 .f32) (k : Fin 128) (l : Fin 64) :
    k0_pay43 (F := Ideal) y (ix3 0 k l) = y (ix2 ⟨128 + l.val, by omega⟩ k) := by
  pointwise [k0_pay43]

theorem pay44_apply (y : FVec Ideal S512x128 .f32) (k : Fin 128) (l : Fin 64) :
    k0_pay44 (F := Ideal) y (ix3 0 k l) = y (ix2 ⟨192 + l.val, by omega⟩ k) := by
  pointwise [k0_pay44]

theorem pay45_apply (y : FVec Ideal S512x128 .f32) (k : Fin 128) (l : Fin 64) :
    k0_pay45 (F := Ideal) y (ix3 0 k l) = y (ix2 ⟨256 + l.val, by omega⟩ k) := by
  pointwise [k0_pay45]

theorem pay46_apply (y : FVec Ideal S512x128 .f32) (k : Fin 128) (l : Fin 64) :
    k0_pay46 (F := Ideal) y (ix3 0 k l) = y (ix2 ⟨320 + l.val, by omega⟩ k) := by
  pointwise [k0_pay46]

theorem pay48_apply (y : FVec Ideal S512x128 .f32) (k : Fin 128) (l : Fin 64) :
    k0_pay48 (F := Ideal) (k0_pay47 (F := Ideal) y) (ix3 0 k l) = y (ix2 ⟨384 + l.val, by omega⟩ k) := by
  pointwise [k0_pay48, k0_pay47]

theorem pay49_apply (y : FVec Ideal S512x128 .f32) (k : Fin 128) (l : Fin 64) :
    k0_pay49 (F := Ideal) y (ix3 0 k l) = y (ix2 ⟨448 + l.val, by omega⟩ k) := by
  pointwise [k0_pay49]

theorem pay54_apply (v : FVec Ideal S512x1536 .f32) (k : Fin 128) (l : Fin 64) :
    k0_pay54 (F := Ideal) (k0_pay53 (F := Ideal) v) (ix3 0 k l) = k0_pay51 (F := Ideal) v (ix2 ⟨l.val, by omega⟩ k) := by
  pointwise [k0_pay54, k0_pay53]

theorem pay55_apply (y : FVec Ideal S512x128 .f32) (k : Fin 128) (l : Fin 64) :
    k0_pay55 (F := Ideal) y (ix3 0 k l) = y (ix2 ⟨64 + l.val, by omega⟩ k) := by
  pointwise [k0_pay55]

theorem pay56_apply (y : FVec Ideal S512x128 .f32) (k : Fin 128) (l : Fin 64) :
    k0_pay56 (F := Ideal) y (ix3 0 k l) = y (ix2 ⟨128 + l.val, by omega⟩ k) := by
  pointwise [k0_pay56]

theorem pay57_apply (y : FVec Ideal S512x128 .f32) (k : Fin 128) (l : Fin 64) :
    k0_pay57 (F := Ideal) y (ix3 0 k l) = y (ix2 ⟨192 + l.val, by omega⟩ k) := by
  pointwise [k0_pay57]

theorem pay58_apply (y : FVec Ideal S512x128 .f32) (k : Fin 128) (l : Fin 64) :
    k0_pay58 (F := Ideal) y (ix3 0 k l) = y (ix2 ⟨256 + l.val, by omega⟩ k) := by
  pointwise [k0_pay58]

theorem pay59_apply (y : FVec Ideal S512x128 .f32) (k : Fin 128) (l : Fin 64) :
    k0_pay59 (F := Ideal) y (ix3 0 k l) = y (ix2 ⟨320 + l.val, by omega⟩ k) := by
  pointwise [k0_pay59]

theorem pay1_apply (y : FVec Ideal S512x128 .f32) (k : Fin 128) (l : Fin 64) :
    k0_pay1 (F := Ideal) (k0_pay60 (F := Ideal) y) (ix3 0 k l) = y (ix2 ⟨384 + l.val, by omega⟩ k) := by
  pointwise [k0_pay1, k0_pay60]

theorem pay2_apply (y : FVec Ideal S512x128 .f32) (k : Fin 128) (l : Fin 64) :
    k0_pay2 (F := Ideal) y (ix3 0 k l) = y (ix2 ⟨448 + l.val, by omega⟩ k) := by
  pointwise [k0_pay2]

end Cert.InProjIdeal.Inp

end
-- ==== Proof.InFold.lean ====
/-
  The seven result arrays of the input projection, block by block the formulas of `InSpec`.
-/
module

public import proofs.«01_k».proof.Proof.InBlocks
public import proofs.«01_k».proof.Proof.InHeads

@[expose] public section

set_option maxRecDepth 16384

noncomputable section

namespace Cert.InProjIdeal.Inp

open Cert.InProjIdeal Cert.InProjIdeal.Gen Idealize.ShloMosaic Idealize.ShloMosaic.TcCoe Idealize.SL.Sem
open Idealize.ShloMosaic.Pointwise
open scoped BigOperators
open Cert.Inp (normed tap unit row proj before after act head)

variable (m : (ℓ : Loc nD τ sig) → Buf (Elt Ideal) ℓ)

/-! The loads: whole windows, and one tap of the convolution. -/

theorem ld0 (X : S8x1024.Idx → Elt Ideal .f32) : View.ld (Val := Elt Ideal) (e' := .f32) X r0_0 = X := View.ld_unit_lit _ X (by decide)
theorem ld1 (X : S512x1024.Idx → Elt Ideal .f32) : View.ld (Val := Elt Ideal) (e' := .f32) X r0_1 = X := View.ld_unit_lit _ X (by decide)
theorem ld2 (X : S1x1024.Idx → Elt Ideal .f32) : View.ld (Val := Elt Ideal) (e' := .f32) X r0_2 = X := View.ld_unit_lit _ X (by decide)
theorem ld3 (X : S1024x512.Idx → Elt Ideal .bf16) : View.ld (Val := Elt Ideal) (e' := .bf16) X r0_3 = X := View.ld_unit_lit _ X (by decide)
theorem ld5 (X : S1024x128.Idx → Elt Ideal .bf16) : View.ld (Val := Elt Ideal) (e' := .bf16) X r0_5 = X := View.ld_unit_lit _ X (by decide)
theorem ld7 (X : S1024x1536.Idx → Elt Ideal .bf16) : View.ld (Val := Elt Ideal) (e' := .bf16) X r0_7 = X := View.ld_unit_lit _ X (by decide)
theorem ld9 (X : S3x1536.Idx → Elt Ideal .f32) (p : Fin 1536) : (show FVec Ideal S1x1536 .f32 from View.ld (Val := Elt Ideal) (e' := .f32) X r0_9) (ix2 0 p) = X (ix2 0 p) :=
  View.ld_unit_apply_of X _ _ _ (ix2 0 p) (ix2 0 p) (fun a => by fin_cases a <;> simp)
theorem ld10 (X : S3x1536.Idx → Elt Ideal .f32) (p : Fin 1536) : (show FVec Ideal S1x1536 .f32 from View.ld (Val := Elt Ideal) (e' := .f32) X r0_10) (ix2 0 p) = X (ix2 1 p) :=
  View.ld_unit_apply_of X _ _ _ (ix2 0 p) (ix2 1 p) (fun a => by fin_cases a <;> simp)
theorem ld11 (X : S3x1536.Idx → Elt Ideal .f32) (p : Fin 1536) : (show FVec Ideal S1x1536 .f32 from View.ld (Val := Elt Ideal) (e' := .f32) X r0_11) (ix2 0 p) = X (ix2 2 p) :=
  View.ld_unit_apply_of X _ _ _ (ix2 0 p) (ix2 2 p) (fun a => by fin_cases a <;> simp)

/-- A body value of the grid point `t`. -/
abbrev at_ {α : Type} (f : grid0.Coords → Vec Ideal S512x1024 .f32 → Vec Ideal S8x1024 .f32 → Vec Ideal S8x1024 .f32 → Vec Ideal S1x1024 .f32
    → Vec Ideal S1024x1536 .bf16 → Vec Ideal S1024x512 .bf16 → Vec Ideal S1024x128 .bf16 → Vec Ideal S1024x1536 .bf16 → Vec Ideal S3x1536 .f32 → α)
    (c : Dev nD) (t : Fin cfg0.N) : α :=
  f (grid0.coords t) (iblk m c 0 t) (iblk m c 1 t) (iblk m c 2 t) (iblk m c 3 t) (iblk m c 4 t) (iblk m c 5 t) (iblk m c 6 t) (iblk m c 7 t) (iblk m c 8 t)

theorem y61_apply (c : Dev nD) (t : Fin cfg0.N) (i : Fin 528) (R : Fin 32768) (h7 : 7 ≤ i.val) (h520 : i.val ≤ 520)
    (hR : R.val + 8 = 512 * t.val + i.val) (d : Fin 1024) :
    at_ m (k0_pay61 (F := Ideal)) c t (ix2 i d) = normed (row (aX m c) R) (fun d => aG m c (ix2 0 d)) d := by
  unfold at_ k0_pay61
  rw [ld0, ld0, ld1, ld2]
  refine (pay4_apply _ _ _ _ i d).trans ?_
  refine congrFun (congrArg₂ normed (funext fun k => ?_) (funext fun k => ?_)) d
  · refine Eq.trans ?_ (wide_apply m c t i R h7 h520 hR k)
    rfl
  · exact iblk3_apply m c t k

theorem y62_apply (c : Dev nD) (t : Fin cfg0.N) (r : Fin 512) (R : Fin 32768) (hR : R.val = 512 * t.val + r.val) (d : Fin 1024) :
    at_ m (k0_pay62 (F := Ideal)) c t (ix2 r d) = normed (row (aX m c) R) (fun d => aG m c (ix2 0 d)) d := by
  unfold at_ k0_pay62
  rw [ld0, ld0, ld1, ld2]
  refine (pay5_apply _ _ _ _ r d).trans ?_
  refine Eq.trans ?_ (y61_apply m c t ⟨8 + r.val, by omega⟩ R (by dsimp only; omega) (by dsimp only; omega) (by dsimp only; omega) d)
  unfold at_ k0_pay61
  rw [ld0, ld0, ld1, ld2]

theorem y63_apply (c : Dev nD) (t : Fin cfg0.N) (i : Fin 528) (R : Fin 32768) (h7 : 7 ≤ i.val) (h520 : i.val ≤ 520)
    (hR : R.val + 8 = 512 * t.val + i.val) (p : Fin 1536) :
    at_ m (k0_pay63 (F := Ideal)) c t (ix2 i p) = proj (aX m c) (aG m c) (aW m c) R ⟨p.val, by omega⟩ := by
  unfold at_ k0_pay63
  rw [ld7]
  refine (pay9_apply _ _ i p).trans (Finset.sum_congr rfl fun k _ => congrArg₂ (· * ·) (y61_apply m c t i R h7 h520 hR k) ?_)
  exact iblk4_apply m c t k p

theorem y64_apply (c : Dev nD) (t : Fin cfg0.N) (r : Fin 512) (R : Fin 32768) (hR : R.val = 512 * t.val + r.val) (p : Fin 1536) :
    at_ m (k0_pay64 (F := Ideal)) c t (ix2 r p) = before (aX m c) (aG m c) (aW m c) R ⟨p.val, by omega⟩ := by
  unfold at_ k0_pay64
  dsimp only
  rw [tile t]
  refine (pay10_apply ⟨t.val % 4, by omega⟩ _ _ r p).trans ?_
  unfold before
  by_cases h : R.val % 2048 = 0
  · rw [if_pos h, if_pos ⟨by omega, by dsimp only; omega⟩]
  · rw [if_neg h, if_neg (by dsimp only; omega)]
    exact y63_apply m c t ⟨7 + r.val, by omega⟩ ⟨R.val - 1, by omega⟩ (by dsimp only; omega) (by dsimp only; omega) (by dsimp only; omega) p

theorem y65_apply (c : Dev nD) (t : Fin cfg0.N) (r : Fin 512) (R : Fin 32768) (hR : R.val = 512 * t.val + r.val) (p : Fin 1536) :
    at_ m (k0_pay65 (F := Ideal)) c t (ix2 r p) = after (aX m c) (aG m c) (aW m c) R ⟨p.val, by omega⟩ := by
  unfold at_ k0_pay65
  dsimp only
  rw [tile t]
  refine (pay11_apply ⟨t.val % 4, by omega⟩ _ _ r p).trans ?_
  unfold after
  by_cases h : R.val % 2048 = 2047
  · rw [dif_pos h, if_pos ⟨by omega, by dsimp only; omega⟩]
  · rw [dif_neg h, if_neg (by dsimp only; omega)]
    exact y63_apply m c t ⟨9 + r.val, by omega⟩ ⟨R.val + 1, by omega⟩ (by dsimp only; omega) (by dsimp only; omega) (by dsimp only; omega) p

theorem tap_congr {a b c d e f a' b' c' d' e' f' : EReal} (ha : a = a') (hb : b = b') (hc : c = c') (hd : d = d') (he : e = e') (hf : f = f') :
    tap a b c d e f = tap a' b' c' d' e' f' := by
  rw [ha, hb, hc, hd, he, hf]

theorem y66_apply (c : Dev nD) (t : Fin cfg0.N) (r : Fin 512) (R : Fin 32768) (hR : R.val = 512 * t.val + r.val) (p : Fin 1536) :
    at_ m (k0_pay66 (F := Ideal)) c t (ix2 r p) = act (aX m c) (aG m c) (aW m c) (aC m c) R p := by
  unfold at_ k0_pay66
  refine (pay12_apply _ _ _ _ _ _ r p).trans ?_
  unfold act
  refine tap_congr ?_ ?_ ?_ (y64_apply m c t r R hR p)
    (y63_apply m c t ⟨8 + r.val, by omega⟩ R (by dsimp only; omega) (by dsimp only; omega) (by dsimp only; omega) p) (y65_apply m c t r R hR p)
  · exact (ld9 _ p).trans (iblk8_apply m c t 0 p)
  · exact (ld10 _ p).trans (iblk8_apply m c t 1 p)
  · exact (ld11 _ p).trans (iblk8_apply m c t 2 p)

/-- A head's row in the tile is the head of the token. -/
theorem unit_head (c : Dev nD) (t : Fin cfg0.N) (r : Fin 512) (R : Fin 32768) (hR : R.val = 512 * t.val + r.val) (o : Fin 1025)
    (k : Fin 128) (n : Fin 512) (h : ℕ) (hn : n.val = 128 * h + k.val) (f : Fin 128 → Fin 1536)
    (hf : ∀ l, (f l).val = o.val + 128 * h + l.val) :
    unit (fun l => at_ m (k0_pay66 (F := Ideal)) c t (ix2 r (f l))) k = head (aX m c) (aG m c) (aW m c) (aC m c) o R n := by
  unfold head
  have ek : k = ⟨n.val % 128, by omega⟩ := Fin.ext (by dsimp only; omega)
  rw [← ek]
  refine congrFun (congrArg unit (funext fun l => ?_)) k
  refine (y66_apply m c t r R hR (f l)).trans ?_
  congr 1
  exact Fin.ext (by have := hf l; dsimp only; omega)

end Cert.InProjIdeal.Inp

end
-- ==== Proof.InStores.lean ====
/-
  What one grid point stores to each of the seven result windows.
-/
module

public import proofs.«01_k».proof.Proof.InFold

@[expose] public section

set_option maxRecDepth 16384

noncomputable section

namespace Cert.InProjIdeal.Inp

open Cert.InProjIdeal Cert.InProjIdeal.Gen Idealize.ShloMosaic Idealize.ShloMosaic.TcCoe Idealize.SL.Sem
open Idealize.ShloMosaic.Pointwise
open scoped BigOperators
open Cert.Inp (normed tap unit row proj before after act head)

variable (m : (ℓ : Loc nD τ sig) → Buf (Elt Ideal) ℓ)

theorem out9_apply (c : Dev nD) (t : Fin cfg0.N) (y : S512x512.Idx) (R : Fin 32768) (eR : R.val = 512 * t.val + (y 0).val) :
    at_ m (out0_9 (F := Ideal)) c t y = head (aX m c) (aG m c) (aW m c) (aC m c) 0 R (y 1) * Ideal.ofBits .f32 0x3DB504F3#32 := by
  unfold at_
  canon_tiles x h
  · obtain ⟨r, k, q0, q1, rfl⟩ : ∃ r k, (x 0).val = r.val ∧ (x 1).val = k.val ∧ x = ix2 r k := ⟨x 0, x 1, rfl, rfl, eq_ix2 x⟩
    exact (pay50_apply _ r k).trans (congrArg (· * _) (unit_head m c t r R (by omega) 0 k (y 1) 3 (by omega) (fun l => ⟨384 + l.val, by omega⟩) (fun l => by simp)))
  · obtain ⟨r, k, q0, q1, rfl⟩ : ∃ r k, (x 0).val = r.val ∧ (x 1).val = k.val ∧ x = ix2 r k := ⟨x 0, x 1, rfl, rfl, eq_ix2 x⟩
    exact (pay37_apply _ r k).trans (congrArg (· * _) (unit_head m c t r R (by omega) 0 k (y 1) 2 (by omega) (fun l => ⟨256 + l.val, by omega⟩) (fun l => by simp)))
  · obtain ⟨r, k, q0, q1, rfl⟩ : ∃ r k, (x 0).val = r.val ∧ (x 1).val = k.val ∧ x = ix2 r k := ⟨x 0, x 1, rfl, rfl, eq_ix2 x⟩
    exact (pay24_apply _ r k).trans (congrArg (· * _) (unit_head m c t r R (by omega) 0 k (y 1) 1 (by omega) (fun l => ⟨128 + l.val, by omega⟩) (fun l => by simp)))
  · obtain ⟨r, k, q0, q1, rfl⟩ : ∃ r k, (x 0).val = r.val ∧ (x 1).val = k.val ∧ x = ix2 r k := ⟨x 0, x 1, rfl, rfl, eq_ix2 x⟩
    exact (pay13_apply _ _ _ _ _ _ r k).trans (congrArg (· * _) (unit_head m c t r R (by omega) 0 k (y 1) 0 (by omega) (fun l => ⟨0 + l.val, by omega⟩) (fun l => by simp)))

theorem out10_apply (c : Dev nD) (t : Fin cfg0.N) (y : S512x512.Idx) (R : Fin 32768) (eR : R.val = 512 * t.val + (y 0).val) :
    at_ m (out0_10 (F := Ideal)) c t y = head (aX m c) (aG m c) (aW m c) (aC m c) 512 R (y 1) := by
  unfold at_
  canon_tiles x h
  · obtain ⟨r, k, q0, q1, rfl⟩ : ∃ r k, (x 0).val = r.val ∧ (x 1).val = k.val ∧ x = ix2 r k := ⟨x 0, x 1, rfl, rfl, eq_ix2 x⟩
    exact (pay52_apply _ r k).trans ((pay51_apply _ r k).trans (unit_head m c t r R (by omega) 512 k (y 1) 3 (by omega) (fun l => ⟨896 + l.val, by omega⟩) (fun l => by simp)))
  · obtain ⟨r, k, q0, q1, rfl⟩ : ∃ r k, (x 0).val = r.val ∧ (x 1).val = k.val ∧ x = ix2 r k := ⟨x 0, x 1, rfl, rfl, eq_ix2 x⟩
    exact (pay39_apply _ r k).trans ((pay38_apply _ r k).trans (unit_head m c t r R (by omega) 512 k (y 1) 2 (by omega) (fun l => ⟨768 + l.val, by omega⟩) (fun l => by simp)))
  · obtain ⟨r, k, q0, q1, rfl⟩ : ∃ r k, (x 0).val = r.val ∧ (x 1).val = k.val ∧ x = ix2 r k := ⟨x 0, x 1, rfl, rfl, eq_ix2 x⟩
    exact (pay26_apply _ r k).trans ((pay25_apply _ r k).trans (unit_head m c t r R (by omega) 512 k (y 1) 1 (by omega) (fun l => ⟨640 + l.val, by omega⟩) (fun l => by simp)))
  · obtain ⟨r, k, q0, q1, rfl⟩ : ∃ r k, (x 0).val = r.val ∧ (x 1).val = k.val ∧ x = ix2 r k := ⟨x 0, x 1, rfl, rfl, eq_ix2 x⟩
    exact (pay15_apply _ _ _ _ _ _ r k).trans ((pay14_apply _ _ _ _ _ _ r k).trans (unit_head m c t r R (by omega) 512 k (y 1) 0 (by omega) (fun l => ⟨512 + l.val, by omega⟩) (fun l => by simp)))

theorem out11_apply (c : Dev nD) (t : Fin cfg0.N) (y : S512x512.Idx) (R : Fin 32768) (eR : R.val = 512 * t.val + (y 0).val) :
    at_ m (out0_11 (F := Ideal)) c t y = act (aX m c) (aG m c) (aW m c) (aC m c) R ⟨1024 + (y 1).val, by have := (y 1).isLt; change (y 1).val < 512 at this; omega⟩ := by
  unfold at_
  canon_tiles x h
  obtain ⟨r, k, q0, q1, rfl⟩ : ∃ r k, (x 0).val = r.val ∧ (x 1).val = k.val ∧ x = ix2 r k := ⟨x 0, x 1, rfl, rfl, eq_ix2 x⟩
  refine (pay3_apply _ r k).trans ((y66_apply m c t r R (by omega) _).trans ?_)
  congr 1
  exact Fin.ext (by dsimp only; omega)

theorem y67_apply (c : Dev nD) (t : Fin cfg0.N) (r : Fin 512) (R : Fin 32768) (hR : R.val = 512 * t.val + r.val) (k : Fin 128) (n : Fin 512)
    (hn : n.val = 0 + k.val) :
    at_ m (k0_pay67 (F := Ideal)) c t (ix2 r k) = head (aX m c) (aG m c) (aW m c) (aC m c) 512 R n := by
  unfold at_ k0_pay67
  exact (pay14_apply _ _ _ _ _ _ r k).trans (unit_head m c t r R hR 512 k n 0 (by omega) (fun l => ⟨512 + l.val, by omega⟩) (fun l => by simp))

theorem y68_apply (c : Dev nD) (t : Fin cfg0.N) (r : Fin 512) (R : Fin 32768) (hR : R.val = 512 * t.val + r.val) (k : Fin 128) (n : Fin 512)
    (hn : n.val = 128 + k.val) :
    at_ m (k0_pay68 (F := Ideal)) c t (ix2 r k) = head (aX m c) (aG m c) (aW m c) (aC m c) 512 R n := by
  unfold at_ k0_pay68
  exact (pay25_apply _ r k).trans (unit_head m c t r R hR 512 k n 1 (by omega) (fun l => ⟨640 + l.val, by omega⟩) (fun l => by simp))

theorem y69_apply (c : Dev nD) (t : Fin cfg0.N) (r : Fin 512) (R : Fin 32768) (hR : R.val = 512 * t.val + r.val) (k : Fin 128) (n : Fin 512)
    (hn : n.val = 256 + k.val) :
    at_ m (k0_pay69 (F := Ideal)) c t (ix2 r k) = head (aX m c) (aG m c) (aW m c) (aC m c) 512 R n := by
  unfold at_ k0_pay69
  exact (pay38_apply _ r k).trans (unit_head m c t r R hR 512 k n 2 (by omega) (fun l => ⟨768 + l.val, by omega⟩) (fun l => by simp))

theorem y70_apply (c : Dev nD) (t : Fin cfg0.N) (r : Fin 512) (R : Fin 32768) (hR : R.val = 512 * t.val + r.val) (k : Fin 128) (n : Fin 512)
    (hn : n.val = 384 + k.val) :
    at_ m (k0_pay70 (F := Ideal)) c t (ix2 r k) = head (aX m c) (aG m c) (aW m c) (aC m c) 512 R n := by
  unfold at_ k0_pay70
  exact (pay51_apply _ r k).trans (unit_head m c t r R hR 512 k n 3 (by omega) (fun l => ⟨896 + l.val, by omega⟩) (fun l => by simp))

theorem out12_apply (c : Dev nD) (t : Fin cfg0.N) (y : S8x512x64.Idx) (R : Fin 32768) (eR : R.val = 512 * t.val + 64 * (y 0).val + (y 2).val) :
    at_ m (out0_12 (F := Ideal)) c t y = head (aX m c) (aG m c) (aW m c) (aC m c) 512 R (y 1) := by
  unfold at_
  canon_tiles x h
  · obtain ⟨z, k, l, q0, q1, q2, rfl⟩ : ∃ (z : Fin 1) (k : Fin 128) (l : Fin 64), (x 0).val = z.val ∧ (x 1).val = k.val ∧ (x 2).val = l.val ∧ x = ix3 z k l := ⟨x 0, x 1, x 2, rfl, rfl, rfl, eq_ix3 x⟩
    obtain rfl : z = 0 := Subsingleton.elim _ _
    exact (pay2_apply _ k l).trans (y70_apply m c t ⟨448 + l.val, by omega⟩ R (by dsimp only; omega) k (y 1) (by omega))
  · obtain ⟨z, k, l, q0, q1, q2, rfl⟩ : ∃ (z : Fin 1) (k : Fin 128) (l : Fin 64), (x 0).val = z.val ∧ (x 1).val = k.val ∧ (x 2).val = l.val ∧ x = ix3 z k l := ⟨x 0, x 1, x 2, rfl, rfl, rfl, eq_ix3 x⟩
    obtain rfl : z = 0 := Subsingleton.elim _ _
    exact (pay1_apply _ k l).trans (y70_apply m c t ⟨384 + l.val, by omega⟩ R (by dsimp only; omega) k (y 1) (by omega))
  · obtain ⟨z, k, l, q0, q1, q2, rfl⟩ : ∃ (z : Fin 1) (k : Fin 128) (l : Fin 64), (x 0).val = z.val ∧ (x 1).val = k.val ∧ (x 2).val = l.val ∧ x = ix3 z k l := ⟨x 0, x 1, x 2, rfl, rfl, rfl, eq_ix3 x⟩
    obtain rfl : z = 0 := Subsingleton.elim _ _
    exact (pay59_apply _ k l).trans (y70_apply m c t ⟨320 + l.val, by omega⟩ R (by dsimp only; omega) k (y 1) (by omega))
  · obtain ⟨z, k, l, q0, q1, q2, rfl⟩ : ∃ (z : Fin 1) (k : Fin 128) (l : Fin 64), (x 0).val = z.val ∧ (x 1).val = k.val ∧ (x 2).val = l.val ∧ x = ix3 z k l := ⟨x 0, x 1, x 2, rfl, rfl, rfl, eq_ix3 x⟩
    obtain rfl : z = 0 := Subsingleton.elim _ _
    exact (pay58_apply _ k l).trans (y70_apply m c t ⟨256 + l.val, by omega⟩ R (by dsimp only; omega) k (y 1) (by omega))
  · obtain ⟨z, k, l, q0, q1, q2, rfl⟩ : ∃ (z : Fin 1) (k : Fin 128) (l : Fin 64), (x 0).val = z.val ∧ (x 1).val = k.val ∧ (x 2).val = l.val ∧ x = ix3 z k l := ⟨x 0, x 1, x 2, rfl, rfl, rfl, eq_ix3 x⟩
    obtain rfl : z = 0 := Subsingleton.elim _ _
    exact (pay57_apply _ k l).trans (y70_apply m c t ⟨192 + l.val, by omega⟩ R (by dsimp only; omega) k (y 1) (by omega))
  · obtain ⟨z, k, l, q0, q1, q2, rfl⟩ : ∃ (z : Fin 1) (k : Fin 128) (l : Fin 64), (x 0).val = z.val ∧ (x 1).val = k.val ∧ (x 2).val = l.val ∧ x = ix3 z k l := ⟨x 0, x 1, x 2, rfl, rfl, rfl, eq_ix3 x⟩
    obtain rfl : z = 0 := Subsingleton.elim _ _
    exact (pay56_apply _ k l).trans (y70_apply m c t ⟨128 + l.val, by omega⟩ R (by dsimp only; omega) k (y 1) (by omega))
  · obtain ⟨z, k, l, q0, q1, q2, rfl⟩ : ∃ (z : Fin 1) (k : Fin 128) (l : Fin 64), (x 0).val = z.val ∧ (x 1).val = k.val ∧ (x 2).val = l.val ∧ x = ix3 z k l := ⟨x 0, x 1, x 2, rfl, rfl, rfl, eq_ix3 x⟩
    obtain rfl : z = 0 := Subsingleton.elim _ _
    exact (pay55_apply _ k l).trans (y70_apply m c t ⟨64 + l.val, by omega⟩ R (by dsimp only; omega) k (y 1) (by omega))
  · obtain ⟨z, k, l, q0, q1, q2, rfl⟩ : ∃ (z : Fin 1) (k : Fin 128) (l : Fin 64), (x 0).val = z.val ∧ (x 1).val = k.val ∧ (x 2).val = l.val ∧ x = ix3 z k l := ⟨x 0, x 1, x 2, rfl, rfl, rfl, eq_ix3 x⟩
    obtain rfl : z = 0 := Subsingleton.elim _ _
    exact (pay54_apply _ k l).trans (y70_apply m c t ⟨l.val, by omega⟩ R (by dsimp only; omega) k (y 1) (by omega))
  · obtain ⟨z, k, l, q0, q1, q2, rfl⟩ : ∃ (z : Fin 1) (k : Fin 128) (l : Fin 64), (x 0).val = z.val ∧ (x 1).val = k.val ∧ (x 2).val = l.val ∧ x = ix3 z k l := ⟨x 0, x 1, x 2, rfl, rfl, rfl, eq_ix3 x⟩
    obtain rfl : z = 0 := Subsingleton.elim _ _
    exact (pay49_apply _ k l).trans (y69_apply m c t ⟨448 + l.val, by omega⟩ R (by dsimp only; omega) k (y 1) (by omega))
  · obtain ⟨z, k, l, q0, q1, q2, rfl⟩ : ∃ (z : Fin 1) (k : Fin 128) (l : Fin 64), (x 0).val = z.val ∧ (x 1).val = k.val ∧ (x 2).val = l.val ∧ x = ix3 z k l := ⟨x 0, x 1, x 2, rfl, rfl, rfl, eq_ix3 x⟩
    obtain rfl : z = 0 := Subsingleton.elim _ _
    exact (pay48_apply _ k l).trans (y69_apply m c t ⟨384 + l.val, by omega⟩ R (by dsimp only; omega) k (y 1) (by omega))
  · obtain ⟨z, k, l, q0, q1, q2, rfl⟩ : ∃ (z : Fin 1) (k : Fin 128) (l : Fin 64), (x 0).val = z.val ∧ (x 1).val = k.val ∧ (x 2).val = l.val ∧ x = ix3 z k l := ⟨x 0, x 1, x 2, rfl, rfl, rfl, eq_ix3 x⟩
    obtain rfl : z = 0 := Subsingleton.elim _ _
    exact (pay46_apply _ k l).trans (y69_apply m c t ⟨320 + l.val, by omega⟩ R (by dsimp only; omega) k (y 1) (by omega))
  · obtain ⟨z, k, l, q0, q1, q2, rfl⟩ : ∃ (z : Fin 1) (k : Fin 128) (l : Fin 64), (x 0).val = z.val ∧ (x 1).val = k.val ∧ (x 2).val = l.val ∧ x = ix3 z k l := ⟨x 0, x 1, x 2, rfl, rfl, rfl, eq_ix3 x⟩
    obtain rfl : z = 0 := Subsingleton.elim _ _
    exact (pay45_apply _ k l).trans (y69_apply m c t ⟨256 + l.val, by omega⟩ R (by dsimp only; omega) k (y 1) (by omega))
  · obtain ⟨z, k, l, q0, q1, q2, rfl⟩ : ∃ (z : Fin 1) (k : Fin 128) (l : Fin 64), (x 0).val = z.val ∧ (x 1).val = k.val ∧ (x 2).val = l.val ∧ x = ix3 z k l := ⟨x 0, x 1, x 2, rfl, rfl, rfl, eq_ix3 x⟩
    obtain rfl : z = 0 := Subsingleton.elim _ _
    exact (pay44_apply _ k l).trans (y69_apply m c t ⟨192 + l.val, by omega⟩ R (by dsimp only; omega) k (y 1) (by omega))
  · obtain ⟨z, k, l, q0, q1, q2, rfl⟩ : ∃ (z : Fin 1) (k : Fin 128) (l : Fin 64), (x 0).val = z.val ∧ (x 1).val = k.val ∧ (x 2).val = l.val ∧ x = ix3 z k l := ⟨x 0, x 1, x 2, rfl, rfl, rfl, eq_ix3 x⟩
    obtain rfl : z = 0 := Subsingleton.elim _ _
    exact (pay43_apply _ k l).trans (y69_apply m c t ⟨128 + l.val, by omega⟩ R (by dsimp only; omega) k (y 1) (by omega))
  · obtain ⟨z, k, l, q0, q1, q2, rfl⟩ : ∃ (z : Fin 1) (k : Fin 128) (l : Fin 64), (x 0).val = z.val ∧ (x 1).val = k.val ∧ (x 2).val = l.val ∧ x = ix3 z k l := ⟨x 0, x 1, x 2, rfl, rfl, rfl, eq_ix3 x⟩
    obtain rfl : z = 0 := Subsingleton.elim _ _
    exact (pay42_apply _ k l).trans (y69_apply m c t ⟨64 + l.val, by omega⟩ R (by dsimp only; omega) k (y 1) (by omega))
  · obtain ⟨z, k, l, q0, q1, q2, rfl⟩ : ∃ (z : Fin 1) (k : Fin 128) (l : Fin 64), (x 0).val = z.val ∧ (x 1).val = k.val ∧ (x 2).val = l.val ∧ x = ix3 z k l := ⟨x 0, x 1, x 2, rfl, rfl, rfl, eq_ix3 x⟩
    obtain rfl : z = 0 := Subsingleton.elim _ _
    exact (pay41_apply _ k l).trans (y69_apply m c t ⟨l.val, by omega⟩ R (by dsimp only; omega) k (y 1) (by omega))
  · obtain ⟨z, k, l, q0, q1, q2, rfl⟩ : ∃ (z : Fin 1) (k : Fin 128) (l : Fin 64), (x 0).val = z.val ∧ (x 1).val = k.val ∧ (x 2).val = l.val ∧ x = ix3 z k l := ⟨x 0, x 1, x 2, rfl, rfl, rfl, eq_ix3 x⟩
    obtain rfl : z = 0 := Subsingleton.elim _ _
    exact (pay36_apply _ k l).trans (y68_apply m c t ⟨448 + l.val, by omega⟩ R (by dsimp only; omega) k (y 1) (by omega))
  · obtain ⟨z, k, l, q0, q1, q2, rfl⟩ : ∃ (z : Fin 1) (k : Fin 128) (l : Fin 64), (x 0).val = z.val ∧ (x 1).val = k.val ∧ (x 2).val = l.val ∧ x = ix3 z k l := ⟨x 0, x 1, x 2, rfl, rfl, rfl, eq_ix3 x⟩
    obtain rfl : z = 0 := Subsingleton.elim _ _
    exact (pay35_apply _ k l).trans (y68_apply m c t ⟨384 + l.val, by omega⟩ R (by dsimp only; omega) k (y 1) (by omega))
  · obtain ⟨z, k, l, q0, q1, q2, rfl⟩ : ∃ (z : Fin 1) (k : Fin 128) (l : Fin 64), (x 0).val = z.val ∧ (x 1).val = k.val ∧ (x 2).val = l.val ∧ x = ix3 z k l := ⟨x 0, x 1, x 2, rfl, rfl, rfl, eq_ix3 x⟩
    obtain rfl : z = 0 := Subsingleton.elim _ _
    exact (pay33_apply _ k l).trans (y68_apply m c t ⟨320 + l.val, by omega⟩ R (by dsimp only; omega) k (y 1) (by omega))
  · obtain ⟨z, k, l, q0, q1, q2, rfl⟩ : ∃ (z : Fin 1) (k : Fin 128) (l : Fin 64), (x 0).val = z.val ∧ (x 1).val = k.val ∧ (x 2).val = l.val ∧ x = ix3 z k l := ⟨x 0, x 1, x 2, rfl, rfl, rfl, eq_ix3 x⟩
    obtain rfl : z = 0 := Subsingleton.elim _ _
    exact (pay32_apply _ k l).trans (y68_apply m c t ⟨256 + l.val, by omega⟩ R (by dsimp only; omega) k (y 1) (by omega))
  · obtain ⟨z, k, l, q0, q1, q2, rfl⟩ : ∃ (z : Fin 1) (k : Fin 128) (l : Fin 64), (x 0).val = z.val ∧ (x 1).val = k.val ∧ (x 2).val = l.val ∧ x = ix3 z k l := ⟨x 0, x 1, x 2, rfl, rfl, rfl, eq_ix3 x⟩
    obtain rfl : z = 0 := Subsingleton.elim _ _
    exact (pay31_apply _ k l).trans (y68_apply m c t ⟨192 + l.val, by omega⟩ R (by dsimp only; omega) k (y 1) (by omega))
  · obtain ⟨z, k, l, q0, q1, q2, rfl⟩ : ∃ (z : Fin 1) (k : Fin 128) (l : Fin 64), (x 0).val = z.val ∧ (x 1).val = k.val ∧ (x 2).val = l.val ∧ x = ix3 z k l := ⟨x 0, x 1, x 2, rfl, rfl, rfl, eq_ix3 x⟩
    obtain rfl : z = 0 := Subsingleton.elim _ _
    exact (pay30_apply _ k l).trans (y68_apply m c t ⟨128 + l.val, by omega⟩ R (by dsimp only; omega) k (y 1) (by omega))
  · obtain ⟨z, k, l, q0, q1, q2, rfl⟩ : ∃ (z : Fin 1) (k : Fin 128) (l : Fin 64), (x 0).val = z.val ∧ (x 1).val = k.val ∧ (x 2).val = l.val ∧ x = ix3 z k l := ⟨x 0, x 1, x 2, rfl, rfl, rfl, eq_ix3 x⟩
    obtain rfl : z = 0 := Subsingleton.elim _ _
    exact (pay29_apply _ k l).trans (y68_apply m c t ⟨64 + l.val, by omega⟩ R (by dsimp only; omega) k (y 1) (by omega))
  · obtain ⟨z, k, l, q0, q1, q2, rfl⟩ : ∃ (z : Fin 1) (k : Fin 128) (l : Fin 64), (x 0).val = z.val ∧ (x 1).val = k.val ∧ (x 2).val = l.val ∧ x = ix3 z k l := ⟨x 0, x 1, x 2, rfl, rfl, rfl, eq_ix3 x⟩
    obtain rfl : z = 0 := Subsingleton.elim _ _
    exact (pay28_apply _ k l).trans (y68_apply m c t ⟨l.val, by omega⟩ R (by dsimp only; omega) k (y 1) (by omega))
  · obtain ⟨z, k, l, q0, q1, q2, rfl⟩ : ∃ (z : Fin 1) (k : Fin 128) (l : Fin 64), (x 0).val = z.val ∧ (x 1).val = k.val ∧ (x 2).val = l.val ∧ x = ix3 z k l := ⟨x 0, x 1, x 2, rfl, rfl, rfl, eq_ix3 x⟩
    obtain rfl : z = 0 := Subsingleton.elim _ _
    exact (pay23_apply _ k l).trans (y67_apply m c t ⟨448 + l.val, by omega⟩ R (by dsimp only; omega) k (y 1) (by omega))
  · obtain ⟨z, k, l, q0, q1, q2, rfl⟩ : ∃ (z : Fin 1) (k : Fin 128) (l : Fin 64), (x 0).val = z.val ∧ (x 1).val = k.val ∧ (x 2).val = l.val ∧ x = ix3 z k l := ⟨x 0, x 1, x 2, rfl, rfl, rfl, eq_ix3 x⟩
    obtain rfl : z = 0 := Subsingleton.elim _ _
    exact (pay22_apply _ k l).trans (y67_apply m c t ⟨384 + l.val, by omega⟩ R (by dsimp only; omega) k (y 1) (by omega))
  · obtain ⟨z, k, l, q0, q1, q2, rfl⟩ : ∃ (z : Fin 1) (k : Fin 128) (l : Fin 64), (x 0).val = z.val ∧ (x 1).val = k.val ∧ (x 2).val = l.val ∧ x = ix3 z k l := ⟨x 0, x 1, x 2, rfl, rfl, rfl, eq_ix3 x⟩
    obtain rfl : z = 0 := Subsingleton.elim _ _
    exact (pay21_apply _ k l).trans (y67_apply m c t ⟨320 + l.val, by omega⟩ R (by dsimp only; omega) k (y 1) (by omega))
  · obtain ⟨z, k, l, q0, q1, q2, rfl⟩ : ∃ (z : Fin 1) (k : Fin 128) (l : Fin 64), (x 0).val = z.val ∧ (x 1).val = k.val ∧ (x 2).val = l.val ∧ x = ix3 z k l := ⟨x 0, x 1, x 2, rfl, rfl, rfl, eq_ix3 x⟩
    obtain rfl : z = 0 := Subsingleton.elim _ _
    exact (pay20_apply _ k l).trans (y67_apply m c t ⟨256 + l.val, by omega⟩ R (by dsimp only; omega) k (y 1) (by omega))
  · obtain ⟨z, k, l, q0, q1, q2, rfl⟩ : ∃ (z : Fin 1) (k : Fin 128) (l : Fin 64), (x 0).val = z.val ∧ (x 1).val = k.val ∧ (x 2).val = l.val ∧ x = ix3 z k l := ⟨x 0, x 1, x 2, rfl, rfl, rfl, eq_ix3 x⟩
    obtain rfl : z = 0 := Subsingleton.elim _ _
    exact (pay19_apply _ k l).trans (y67_apply m c t ⟨192 + l.val, by omega⟩ R (by dsimp only; omega) k (y 1) (by omega))
  · obtain ⟨z, k, l, q0, q1, q2, rfl⟩ : ∃ (z : Fin 1) (k : Fin 128) (l : Fin 64), (x 0).val = z.val ∧ (x 1).val = k.val ∧ (x 2).val = l.val ∧ x = ix3 z k l := ⟨x 0, x 1, x 2, rfl, rfl, rfl, eq_ix3 x⟩
    obtain rfl : z = 0 := Subsingleton.elim _ _
    exact (pay18_apply _ k l).trans (y67_apply m c t ⟨128 + l.val, by omega⟩ R (by dsimp only; omega) k (y 1) (by omega))
  · obtain ⟨z, k, l, q0, q1, q2, rfl⟩ : ∃ (z : Fin 1) (k : Fin 128) (l : Fin 64), (x 0).val = z.val ∧ (x 1).val = k.val ∧ (x 2).val = l.val ∧ x = ix3 z k l := ⟨x 0, x 1, x 2, rfl, rfl, rfl, eq_ix3 x⟩
    obtain rfl : z = 0 := Subsingleton.elim _ _
    exact (pay17_apply _ k l).trans (y67_apply m c t ⟨64 + l.val, by omega⟩ R (by dsimp only; omega) k (y 1) (by omega))
  · obtain ⟨z, k, l, q0, q1, q2, rfl⟩ : ∃ (z : Fin 1) (k : Fin 128) (l : Fin 64), (x 0).val = z.val ∧ (x 1).val = k.val ∧ (x 2).val = l.val ∧ x = ix3 z k l := ⟨x 0, x 1, x 2, rfl, rfl, rfl, eq_ix3 x⟩
    obtain rfl : z = 0 := Subsingleton.elim _ _
    exact (pay16_apply _ k l).trans (y67_apply m c t ⟨l.val, by omega⟩ R (by dsimp only; omega) k (y 1) (by omega))

theorem out13_apply (c : Dev nD) (t : Fin cfg0.N) (y : S512x512.Idx) (R : Fin 32768) (eR : R.val = 512 * t.val + (y 0).val) :
    at_ m (out0_13 (F := Ideal)) c t y = proj (aX m c) (aG m c) (aW m c) R ⟨1536 + (y 1).val, by have := (y 1).isLt; change (y 1).val < 512 at this; omega⟩ := by
  unfold at_
  canon_tiles x h
  obtain ⟨r, k, q0, q1, rfl⟩ : ∃ r k, (x 0).val = r.val ∧ (x 1).val = k.val ∧ x = ix2 r k := ⟨x 0, x 1, rfl, rfl, eq_ix2 x⟩
  rw [ld0, ld0, ld1, ld2, ld3]
  refine (pay6_apply _ _ _ _ _ r k).trans (Finset.sum_congr rfl fun l _ => congrArg₂ (· * ·) ?_ ((iblk5_apply m c t l k).trans ?_))
  · refine Eq.trans ?_ (y62_apply m c t r R (by omega) l)
    unfold at_ k0_pay62
    rw [ld0, ld0, ld1, ld2]
  · congr 1
    exact (ix3_inj ..).2 ⟨rfl, rfl, Fin.ext (by dsimp only; omega)⟩

theorem out14_apply (c : Dev nD) (t : Fin cfg0.N) (y : S512x128.Idx) (R : Fin 32768) (eR : R.val = 512 * t.val + (y 0).val) :
    at_ m (out0_14 (F := Ideal)) c t y = Cert.Inp.gates (aX m c) (aG m c) (aW m c) R (y 1) := by
  unfold at_
  canon_tiles x h
  obtain ⟨r, k, q0, q1, rfl⟩ : ∃ r k, (x 0).val = r.val ∧ (x 1).val = k.val ∧ x = ix2 r k := ⟨x 0, x 1, rfl, rfl, eq_ix2 x⟩
  rw [ld5]
  refine (pay7_apply _ _ r k).trans (Finset.sum_congr rfl fun l _ => congrArg₂ (· * ·) (y62_apply m c t r R (by omega) l) ((iblk6_apply m c t l k).trans ?_))
  have e : k = y 1 := Fin.ext (by omega)
  rw [e]

theorem out15_apply (c : Dev nD) (t : Fin cfg0.N) (y : S512x1536.Idx) (R : Fin 32768) (eR : R.val = 512 * t.val + (y 0).val) :
    at_ m (out0_15 (F := Ideal)) c t y = proj (aX m c) (aG m c) (aW m c) R ⟨2064 + (y 1).val, by have := (y 1).isLt; change (y 1).val < 1536 at this; omega⟩ := by
  unfold at_
  canon_tiles x h
  obtain ⟨r, k, q0, q1, rfl⟩ : ∃ r k, (x 0).val = r.val ∧ (x 1).val = k.val ∧ x = ix2 r k := ⟨x 0, x 1, rfl, rfl, eq_ix2 x⟩
  rw [ld7]
  refine (pay8_apply _ _ r k).trans (Finset.sum_congr rfl fun l _ => congrArg₂ (· * ·) (y62_apply m c t r R (by omega) l) ((iblk7_apply m c t l k).trans ?_))
  congr 1
  exact (ix3_inj ..).2 ⟨rfl, rfl, Fin.ext (by dsimp only; omega)⟩

end Cert.InProjIdeal.Inp

end
-- ==== Proof.InFinal.lean ====
/-
  The seven result arrays of the input projection after the run.
-/
module

public import proofs.«01_k».proof.Proof.InStores

@[expose] public section

set_option maxRecDepth 16384

noncomputable section

namespace Cert.InProjIdeal.Inp

open Cert.InProjIdeal Cert.InProjIdeal.Gen Idealize.ShloMosaic Idealize.ShloMosaic.TcCoe Idealize.SL.Sem
open Idealize.ShloMosaic.Pointwise
open scoped BigOperators
open Cert.Inp (normed tap unit row proj before after act head)

variable (m : (ℓ : Loc nD τ sig) → Buf (Elt Ideal) ℓ)

def result9 (c : Dev nD) : FVec Ideal S32768x512 .bf16 := fun y => head (aX m c) (aG m c) (aW m c) (aC m c) 0 (y 0) (y 1) * Ideal.ofBits .f32 0x3DB504F3#32

def result10 (c : Dev nD) : FVec Ideal S32768x512 .bf16 := fun y => head (aX m c) (aG m c) (aW m c) (aC m c) 512 (y 0) (y 1)

def result11 (c : Dev nD) : FVec Ideal S32768x512 .bf16 := fun y => act (aX m c) (aG m c) (aW m c) (aC m c) (y 0) ⟨1024 + (y 1).val, by have : (y 1).val < 512 := (y 1).isLt; omega⟩

def result12 (c : Dev nD) : FVec Ideal S512x512x64 .bf16 := fun y => head (aX m c) (aG m c) (aW m c) (aC m c) 512 ⟨64 * (y 0).val + (y 2).val, by have : (y 0).val < 512 := (y 0).isLt; have : (y 2).val < 64 := (y 2).isLt; omega⟩ (y 1)

def result13 (c : Dev nD) : FVec Ideal S32768x512 .f32 := fun y => proj (aX m c) (aG m c) (aW m c) (y 0) ⟨1536 + (y 1).val, by have : (y 1).val < 512 := (y 1).isLt; omega⟩

def result14 (c : Dev nD) : FVec Ideal S32768x128 .f32 := fun y => Cert.Inp.gates (aX m c) (aG m c) (aW m c) (y 0) (y 1)

def result15 (c : Dev nD) : FVec Ideal S32768x1536 .f32 := fun y => proj (aX m c) (aG m c) (aW m c) (y 0) ⟨2064 + (y 1).val, by have : (y 1).val < 1536 := (y 1).isLt; omega⟩

theorem final9 (c : Dev nD) : (dats m 0 c).arrAt 9 cfg0.N = result9 m c := by
  refine (dats m 0 c).arrAt_eq_of_covers 9 _ (by decide +kernel) fun t hf y => ?_
  obtain ⟨-, -, -, -, -, -, -, -, -, iw, -⟩ := idx t
  blk_simp
  rw [after0_9]
  have hN := N64 t
  have e0 : ((win0_9.blk t).view.emb y 0).val = 512 * t.val + (y 0).val := by blk_simp [iw]; omega
  have e1 : ((win0_9.blk t).view.emb y 1).val = (y 1).val := by blk_simp [iw]
  have hy0 : (y 0).val < 512 := (y 0).isLt
  refine (out9_apply m c t y ((win0_9.blk t).view.emb y 0) e0).trans ?_
  exact congrArg (fun n => head _ _ _ _ _ _ n * _) (Fin.ext e1.symm)

theorem final10 (c : Dev nD) : (dats m 0 c).arrAt 10 cfg0.N = result10 m c := by
  refine (dats m 0 c).arrAt_eq_of_covers 10 _ (by decide +kernel) fun t hf y => ?_
  obtain ⟨-, -, -, -, -, -, -, -, -, -, iw, -⟩ := idx t
  blk_simp
  rw [after0_10]
  have hN := N64 t
  have e0 : ((win0_10.blk t).view.emb y 0).val = 512 * t.val + (y 0).val := by blk_simp [iw]; omega
  have e1 : ((win0_10.blk t).view.emb y 1).val = (y 1).val := by blk_simp [iw]
  have hy0 : (y 0).val < 512 := (y 0).isLt
  refine (out10_apply m c t y ((win0_10.blk t).view.emb y 0) e0).trans ?_
  exact congrArg (head _ _ _ _ _ _) (Fin.ext e1.symm)

theorem final11 (c : Dev nD) : (dats m 0 c).arrAt 11 cfg0.N = result11 m c := by
  refine (dats m 0 c).arrAt_eq_of_covers 11 _ (by decide +kernel) fun t hf y => ?_
  obtain ⟨-, -, -, -, -, -, -, -, -, -, -, iw, -⟩ := idx t
  blk_simp
  rw [after0_11]
  have hN := N64 t
  have e0 : ((win0_11.blk t).view.emb y 0).val = 512 * t.val + (y 0).val := by blk_simp [iw]; omega
  have e1 : ((win0_11.blk t).view.emb y 1).val = (y 1).val := by blk_simp [iw]
  have hy0 : (y 0).val < 512 := (y 0).isLt
  refine (out11_apply m c t y ((win0_11.blk t).view.emb y 0) e0).trans ?_
  exact congrArg (act _ _ _ _ _) (Fin.ext (congrArg (_ + ·) e1.symm))

theorem final12 (c : Dev nD) : (dats m 0 c).arrAt 12 cfg0.N = result12 m c := by
  refine (dats m 0 c).arrAt_eq_of_covers 12 _ (by decide +kernel) fun t hf y => ?_
  obtain ⟨-, -, -, -, -, -, -, -, -, -, -, -, iw, -⟩ := idx t
  blk_simp
  rw [after0_12]
  have hN := N64 t
  have e0 : ((win0_12.blk t).view.emb y 0).val = 8 * t.val + (y 0).val := by blk_simp [iw]; omega
  have e1 : ((win0_12.blk t).view.emb y 1).val = (y 1).val := by blk_simp [iw]
  have e2 : ((win0_12.blk t).view.emb y 2).val = (y 2).val := by blk_simp [iw]
  have hy0 : (y 0).val < 8 := (y 0).isLt
  have hy2 : (y 2).val < 64 := (y 2).isLt
  refine (out12_apply m c t y ⟨512 * t.val + 64 * (y 0).val + (y 2).val, by omega⟩ rfl).trans ?_
  refine congrArg₂ (head _ _ _ _ _) (Fin.ext ?_) (Fin.ext e1.symm)
  dsimp only
  rw [e0, e2]
  ring

theorem final13 (c : Dev nD) : (dats m 0 c).arrAt 13 cfg0.N = result13 m c := by
  refine (dats m 0 c).arrAt_eq_of_covers 13 _ (by decide +kernel) fun t hf y => ?_
  obtain ⟨-, -, -, -, -, -, -, -, -, -, -, -, -, iw, -⟩ := idx t
  blk_simp
  rw [after0_13]
  have hN := N64 t
  have e0 : ((win0_13.blk t).view.emb y 0).val = 512 * t.val + (y 0).val := by blk_simp [iw]; omega
  have e1 : ((win0_13.blk t).view.emb y 1).val = (y 1).val := by blk_simp [iw]
  have hy0 : (y 0).val < 512 := (y 0).isLt
  refine (out13_apply m c t y ((win0_13.blk t).view.emb y 0) e0).trans ?_
  exact congrArg (proj _ _ _ _) (Fin.ext (congrArg (_ + ·) e1.symm))

theorem final14 (c : Dev nD) : (dats m 0 c).arrAt 14 cfg0.N = result14 m c := by
  refine (dats m 0 c).arrAt_eq_of_covers 14 _ (by decide +kernel) fun t hf y => ?_
  obtain ⟨-, -, -, -, -, -, -, -, -, -, -, -, -, -, iw, -⟩ := idx t
  blk_simp
  rw [after0_14]
  have hN := N64 t
  have e0 : ((win0_14.blk t).view.emb y 0).val = 512 * t.val + (y 0).val := by blk_simp [iw]; omega
  have e1 : ((win0_14.blk t).view.emb y 1).val = (y 1).val := by blk_simp [iw]
  have hy0 : (y 0).val < 512 := (y 0).isLt
  refine (out14_apply m c t y ((win0_14.blk t).view.emb y 0) e0).trans ?_
  exact congrArg (Cert.Inp.gates _ _ _ _) (Fin.ext e1.symm)

theorem final15 (c : Dev nD) : (dats m 0 c).arrAt 15 cfg0.N = result15 m c := by
  refine (dats m 0 c).arrAt_eq_of_covers 15 _ (by decide +kernel) fun t hf y => ?_
  obtain ⟨-, -, -, -, -, -, -, -, -, -, -, -, -, -, -, iw⟩ := idx t
  blk_simp
  rw [after0_15]
  have hN := N64 t
  have e0 : ((win0_15.blk t).view.emb y 0).val = 512 * t.val + (y 0).val := by blk_simp [iw]; omega
  have e1 : ((win0_15.blk t).view.emb y 1).val = (y 1).val := by blk_simp [iw]
  have hy0 : (y 0).val < 512 := (y 0).isLt
  refine (out15_apply m c t y ((win0_15.blk t).view.emb y 0) e0).trans ?_
  exact congrArg (proj _ _ _ _) (Fin.ext (congrArg (_ + ·) e1.symm))

end Cert.InProjIdeal.Inp

end
-- ==== Proof.InRefValue.lean ====
/-
  The reference of the input projection, stage by stage, at an index: the formulas of `InSpec`.
-/
module

public import proofs.«01_k».proof.Proof.Gen.InProjRefIdeal.Run
public import proofs.«01_k».proof.Proof.InSpec
public import Idealize.ShloMosaic.Lib.Pointwise
public import Idealize.ShloMosaic.Lib.Pipeline.ValueKit

@[expose] public section

set_option maxRecDepth 16384

noncomputable section

namespace Cert.InProjRefIdeal.Inp

open Cert.InProjRefIdeal Cert.InProjRefIdeal.Gen Idealize.ShloMosaic Idealize.ShloMosaic.TcCoe Idealize.SL.Sem
open Idealize.ShloMosaic.Pointwise
open scoped BigOperators
open Cert.Inp (normed tap unit row proj before after act head gates)

/-- The rms norm. -/
def rNorm (X : FVec Ideal S16x2048x1024 .f32) (G : FVec Ideal S1x1024 .f32) : FVec Ideal S16x2048x1024 .f32 :=
  mulf (mulf X (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf X X) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32))))))
    (broadcastInDim S16x2048x1024 ![0, 1, 2] bcast_S1x1x1024_S16x2048x1024_0_1_2 (broadcastInDim S1x1x1024 ![2] bcast_S1024_S1x1x1024_2 (shapeCast _ G shapeCasts_S1x1024_S1024)))

/-- The combined projection. -/
def rProj (h : FVec Ideal S16x2048x1024 .f32) (W : FVec Ideal S1x1024x3600 .f32) : FVec Ideal S16x2048x3600 .f32 :=
  Host.dotGeneral dot_S16x2048x1024_S1024x3600_S16x2048x3600_2_0_01_1_n_n none h (shapeCast _ W shapeCasts_S1x1024x3600_S1024x3600)

/-- The columns that the convolution takes. -/
def rCut (P : FVec Ideal S16x2048x3600 .f32) : FVec Ideal S16x2048x1536 .f32 :=
  extractStridedSlice S16x2048x1536 ![0, 0, 0] P slices_S16x2048x3600_S16x2048x1536_0_0_0

/-- Each token's predecessor, zero at the start. -/
def rBefore (p : FVec Ideal S16x2048x1536 .f32) : FVec Ideal S16x2048x1536 .f32 :=
  concatenate S16x2048x1536 1 [⟨S16x1x1536, (broadcastInDim S16x1x1536 ![] bcast_S_S16x1x1536 (constant S_ .f32 0x00000000#32) : FVec Ideal S16x1x1536 .f32)⟩, ⟨S16x2047x1536, (extractStridedSlice S16x2047x1536 ![0, 0, 0] p slices_S16x2048x1536_S16x2047x1536_0_0_0 : FVec Ideal S16x2047x1536 .f32)⟩] concatenates_S16x1x1536_S16x2047x1536_S16x2048x1536_d1

/-- Each token's successor, zero at the end. -/
def rAfter (p : FVec Ideal S16x2048x1536 .f32) : FVec Ideal S16x2048x1536 .f32 :=
  concatenate S16x2048x1536 1 [⟨S16x2047x1536, (extractStridedSlice S16x2047x1536 ![0, 1, 0] p slices_S16x2048x1536_S16x2047x1536_0_1_0 : FVec Ideal S16x2047x1536 .f32)⟩, ⟨S16x1x1536, (broadcastInDim S16x1x1536 ![] bcast_S_S16x1x1536 (constant S_ .f32 0x00000000#32) : FVec Ideal S16x1x1536 .f32)⟩] concatenates_S16x2047x1536_S16x1x1536_S16x2048x1536_d1

/-- The convolution of three taps. -/
def rConv (C : FVec Ideal S1x3x1536 .f32) (a p b : FVec Ideal S16x2048x1536 .f32) : FVec Ideal S16x2048x1536 .f32 :=
  addf (addf
    (mulf (broadcastInDim S16x2048x1536 ![0, 1, 2] bcast_S1x1x1536_S16x2048x1536_0_1_2 (broadcastInDim S1x1x1536 ![2] bcast_S1536_S1x1x1536_2 (shapeCast _ (extractStridedSlice S1x1536 ![0, 0] (shapeCast _ C shapeCasts_S1x3x1536_S3x1536) slices_S3x1536_S1x1536_0_0) shapeCasts_S1x1536_S1536))) a)
    (mulf (broadcastInDim S16x2048x1536 ![0, 1, 2] bcast_S1x1x1536_S16x2048x1536_0_1_2 (broadcastInDim S1x1x1536 ![2] bcast_S1536_S1x1x1536_2 (shapeCast _ (extractStridedSlice S1x1536 ![1, 0] (shapeCast _ C shapeCasts_S1x3x1536_S3x1536) slices_S3x1536_S1x1536_1_0) shapeCasts_S1x1536_S1536))) p))
    (mulf (broadcastInDim S16x2048x1536 ![0, 1, 2] bcast_S1x1x1536_S16x2048x1536_0_1_2 (broadcastInDim S1x1x1536 ![2] bcast_S1536_S1x1x1536_2 (shapeCast _ (extractStridedSlice S1x1536 ![2, 0] (shapeCast _ C shapeCasts_S1x3x1536_S3x1536) slices_S3x1536_S1x1536_2_0) shapeCasts_S1x1536_S1536))) b)

/-- silu. -/
def rSilu (y : FVec Ideal S16x2048x1536 .f32) : FVec Ideal S16x2048x1536 .f32 :=
  mulf y (Host.divf (broadcastInDim S16x2048x1536 ![] bcast_S_S16x2048x1536 (constant S_ .f32 0x3F800000#32)) (addf (broadcastInDim S16x2048x1536 ![] bcast_S_S16x2048x1536 (constant S_ .f32 0x3F800000#32)) (Host.exp (Host.negf y))))

/-- The heads of the queries. -/
def rQHeads (A : FVec Ideal S16x2048x1536 .f32) : FVec Ideal S16x2048x4x128 .f32 :=
  shapeCast _ (extractStridedSlice S16x2048x512 ![0, 0, 0] A slices_S16x2048x1536_S16x2048x512_0_0_0) shapeCasts_S16x2048x512_S16x2048x4x128

/-- The heads of the keys. -/
def rKHeads (A : FVec Ideal S16x2048x1536 .f32) : FVec Ideal S16x2048x4x128 .f32 :=
  shapeCast _ (extractStridedSlice S16x2048x512 ![0, 0, 512] A slices_S16x2048x1536_S16x2048x512_0_0_512) shapeCasts_S16x2048x512_S16x2048x4x128

/-- The l2 norm of the heads. -/
def rUnit (h : FVec Ideal S16x2048x4x128 .f32) : FVec Ideal S16x2048x4x128 .f32 :=
  mulf h (broadcastInDim S16x2048x4x128 ![0, 1, 2, 3] bcast_S16x2048x4x1_S16x2048x4x128_0_1_2_3 (Host.rsqrt (addf (broadcastInDim S16x2048x4x1 ![0, 1, 2] bcast_S16x2048x4_S16x2048x4x1_0_1_2 (Host.reduceAdd (mulf h h) (constant S_ .f32 0x00000000#32) reducesTo_S16x2048x4x128_S16x2048x4_d3 h_S_)) (broadcastInDim S16x2048x4x1 ![] bcast_S_S16x2048x4x1 (constant S_ .f32 0x358637BD#32)))))

def rQ (u : FVec Ideal S16x2048x4x128 .f32) : FVec Ideal S32768x512 .bf16 :=
  shapeCast _ (truncf .bf16 (mulf u (broadcastInDim S16x2048x4x128 ![] bcast_S_S16x2048x4x128 (constant S_ .f32 0x3DB504F3#32))) bitsLt_bf16_f32) shapeCasts_S16x2048x4x128_S32768x512

def rK (u : FVec Ideal S16x2048x4x128 .f32) : FVec Ideal S32768x512 .bf16 :=
  shapeCast _ (truncf .bf16 u bitsLt_bf16_f32) shapeCasts_S16x2048x4x128_S32768x512

def rKt (u : FVec Ideal S16x2048x4x128 .f32) : FVec Ideal S512x512x64 .bf16 :=
  transpose S512x512x64 [0, 2, 1] (shapeCast _ (truncf .bf16 u bitsLt_bf16_f32) shapeCasts_S16x2048x4x128_S512x64x512) transposes_S512x64x512_S512x512x64_0_2_1

def rV (A : FVec Ideal S16x2048x1536 .f32) : FVec Ideal S32768x512 .bf16 :=
  shapeCast _ (truncf .bf16 (extractStridedSlice S16x2048x512 ![0, 0, 1024] A slices_S16x2048x1536_S16x2048x512_0_0_1024) bitsLt_bf16_f32) shapeCasts_S16x2048x512_S32768x512

def rZ (P : FVec Ideal S16x2048x3600 .f32) : FVec Ideal S32768x512 .f32 :=
  shapeCast _ (extractStridedSlice S16x2048x512 ![0, 0, 1536] P slices_S16x2048x3600_S16x2048x512_0_0_1536) shapeCasts_S16x2048x512_S32768x512

def rBa (P : FVec Ideal S16x2048x3600 .f32) : FVec Ideal S32768x128 .f32 :=
  shapeCast _ (pad S16x2048x128 ![0, 0, 0] ![0, 0, 112] ![0, 0, 0] (extractStridedSlice S16x2048x16 ![0, 0, 2048] P slices_S16x2048x3600_S16x2048x16_0_0_2048) (sitofp .f32 (constantI S_ 32 0#32)) pads_S16x2048x16_S16x2048x128_000_000_01120 h_S_) shapeCasts_S16x2048x128_S32768x128

def rAtt (P : FVec Ideal S16x2048x3600 .f32) : FVec Ideal S32768x1536 .f32 :=
  shapeCast _ (extractStridedSlice S16x2048x1536 ![0, 0, 2064] P slices_S16x2048x3600_S16x2048x1536_0_0_2064) shapeCasts_S16x2048x1536_S32768x1536

variable (X : FVec Ideal S16x2048x1024 .f32) (G : FVec Ideal S1x1024 .f32) (W : FVec Ideal S1x1024x3600 .f32) (C : FVec Ideal S1x3x1536 .f32)

theorem rNorm_apply (b : Fin 16) (s : Fin 2048) (d : Fin 1024) :
    rNorm X G (ix3 b s d) = normed (fun d => X (ix3 b s d)) (fun d => G (ix2 0 d)) d := by
  pointwise [rNorm, normed]

theorem rProj_apply (h : FVec Ideal S16x2048x1024 .f32) (b : Fin 16) (s : Fin 2048) (p : Fin 3600) :
    rProj h W (ix3 b s p) = ∑ d : Fin 1024, h (ix3 b s d) * W (ix3 0 d p) := by
  pointwise [rProj]

theorem rCut_apply (P : FVec Ideal S16x2048x3600 .f32) (b : Fin 16) (s : Fin 2048) (p : Fin 1536) :
    rCut P (ix3 b s p) = P (ix3 b s ⟨p.val, by omega⟩) := by
  pointwise [rCut]

theorem rBefore_apply (p : FVec Ideal S16x2048x1536 .f32) (b : Fin 16) (s : Fin 2048) (d : Fin 1536) :
    rBefore p (ix3 b s d) = if h : s.val = 0 then 0 else p (ix3 b ⟨s.val - 1, by omega⟩ d) := by
  pointwise [rBefore]
  by_cases h : s.val = 0
  · rw [dif_pos h, dif_pos (by omega)]
  · rw [dif_neg h, dif_neg (by omega)]

theorem rAfter_apply (p : FVec Ideal S16x2048x1536 .f32) (b : Fin 16) (s : Fin 2048) (d : Fin 1536) :
    rAfter p (ix3 b s d) = if h : s.val = 2047 then 0 else p (ix3 b ⟨s.val + 1, by omega⟩ d) := by
  pointwise [rAfter]
  by_cases h : s.val = 2047
  · rw [dif_pos h, dif_neg (by omega)]
  · rw [dif_neg h, dif_pos (by omega)]
    blk_ext

theorem rSilu_apply (a p b : FVec Ideal S16x2048x1536 .f32) (i : Fin 16) (s : Fin 2048) (d : Fin 1536) :
    rSilu (rConv C a p b) (ix3 i s d)
      = tap (C (ix3 0 0 d)) (C (ix3 0 1 d)) (C (ix3 0 2 d)) (a (ix3 i s d)) (p (ix3 i s d)) (b (ix3 i s d)) := by
  pointwise [rSilu, rConv, tap, Ideal.logistic]

theorem rUnit_apply (h : FVec Ideal S16x2048x4x128 .f32) (b : Fin 16) (s : Fin 2048) (n : Fin 4) (k : Fin 128) :
    rUnit h (ix4 b s n k) = unit (fun l => h (ix4 b s n l)) k := by
  pointwise [rUnit, unit]

theorem rQHeads_apply (A : FVec Ideal S16x2048x1536 .f32) (b : Fin 16) (s : Fin 2048) (n : Fin 4) (k : Fin 128) :
    rQHeads A (ix4 b s n k) = A (ix3 b s ⟨128 * n.val + k.val, by omega⟩) := by
  pointwise [rQHeads]
  blk_ext

theorem rKHeads_apply (A : FVec Ideal S16x2048x1536 .f32) (b : Fin 16) (s : Fin 2048) (n : Fin 4) (k : Fin 128) :
    rKHeads A (ix4 b s n k) = A (ix3 b s ⟨512 + 128 * n.val + k.val, by omega⟩) := by
  pointwise [rKHeads]
  blk_ext

theorem rQ_apply (u : FVec Ideal S16x2048x4x128 .f32) (R : Fin 32768) (n : Fin 512) :
    rQ u (ix2 R n) = u (ix4 ⟨R.val / 2048, by omega⟩ ⟨R.val % 2048, by omega⟩ ⟨n.val / 128, by omega⟩ ⟨n.val % 128, by omega⟩)
      * Ideal.ofBits .f32 0x3DB504F3#32 := by
  pointwise [rQ]
  blk_ext

theorem rK_apply (u : FVec Ideal S16x2048x4x128 .f32) (R : Fin 32768) (n : Fin 512) :
    rK u (ix2 R n) = u (ix4 ⟨R.val / 2048, by omega⟩ ⟨R.val % 2048, by omega⟩ ⟨n.val / 128, by omega⟩ ⟨n.val % 128, by omega⟩) := by
  pointwise [rK]
  blk_ext

theorem rKt_apply (u : FVec Ideal S16x2048x4x128 .f32) (g : Fin 512) (n : Fin 512) (l : Fin 64) (R : Fin 32768) (hR : R.val = 64 * g.val + l.val) :
    rKt u (ix3 g n l) = u (ix4 ⟨R.val / 2048, by omega⟩ ⟨R.val % 2048, by omega⟩ ⟨n.val / 128, by omega⟩ ⟨n.val % 128, by omega⟩) := by
  pointwise [rKt]
  blk_ext

theorem rV_apply (A : FVec Ideal S16x2048x1536 .f32) (R : Fin 32768) (n : Fin 512) :
    rV A (ix2 R n) = A (ix3 ⟨R.val / 2048, by omega⟩ ⟨R.val % 2048, by omega⟩ ⟨1024 + n.val, by omega⟩) := by
  pointwise [rV]

theorem rZ_apply (P : FVec Ideal S16x2048x3600 .f32) (R : Fin 32768) (n : Fin 512) :
    rZ P (ix2 R n) = P (ix3 ⟨R.val / 2048, by omega⟩ ⟨R.val % 2048, by omega⟩ ⟨1536 + n.val, by omega⟩) := by
  pointwise [rZ]

theorem rBa_low (P : FVec Ideal S16x2048x3600 .f32) (R : Fin 32768) (n : Fin 128) (h : n.val < 16) :
    rBa P (ix2 R n) = P (ix3 ⟨R.val / 2048, by omega⟩ ⟨R.val % 2048, by omega⟩ ⟨2048 + n.val, by omega⟩) := by
  pointwise [rBa]
  exact dif_pos ⟨by omega, by omega, h⟩

theorem rBa_high (P : FVec Ideal S16x2048x3600 .f32) (R : Fin 32768) (n : Fin 128) (h : ¬ n.val < 16) :
    rBa P (ix2 R n) = 0 := by
  have z : (FloatOps.sitofp (F := Ideal) FTy.f32 0#32 : EReal) = 0 := by
    show ((((0#32).toInt : ℤ) : ℝ) : EReal) = 0
    norm_num
  pointwise [rBa]
  exact (dif_neg fun a => h a.2.2).trans z

theorem rAtt_apply (P : FVec Ideal S16x2048x3600 .f32) (R : Fin 32768) (n : Fin 1536) :
    rAtt P (ix2 R n) = P (ix3 ⟨R.val / 2048, by omega⟩ ⟨R.val % 2048, by omega⟩ ⟨2064 + n.val, by omega⟩) := by
  pointwise [rAtt]

/-- The projection of a token. -/
theorem p_apply (R : Fin 32768) (p : Fin 3600) :
    rProj (rNorm X G) W (ix3 ⟨R.val / 2048, by omega⟩ ⟨R.val % 2048, by omega⟩ p) = proj X G W R p :=
  (rProj_apply W _ _ _ p).trans (Finset.sum_congr rfl fun d _ => congrArg₂ (· * ·) (rNorm_apply X G _ _ d) rfl)

theorem p_apply' (b : Fin 16) (s : Fin 2048) (R : Fin 32768) (hR : R.val = 2048 * b.val + s.val) (p : Fin 3600) :
    rProj (rNorm X G) W (ix3 b s p) = proj X G W R p := by
  have e : ix3 b s p = ix3 ⟨R.val / 2048, by omega⟩ ⟨R.val % 2048, by omega⟩ p :=
    (ix3_inj ..).2 ⟨Fin.ext (by dsimp only; omega), Fin.ext (by dsimp only; omega), rfl⟩
  exact (congrArg (rProj (rNorm X G) W) e).trans (p_apply X G W R p)

/-- The convolved columns of a token. -/
def rAct : FVec Ideal S16x2048x1536 .f32 :=
  rSilu (rConv C (rBefore (rCut (rProj (rNorm X G) W))) (rCut (rProj (rNorm X G) W)) (rAfter (rCut (rProj (rNorm X G) W))))

theorem rAct_apply (R : Fin 32768) (p : Fin 1536) :
    rAct X G W C (ix3 ⟨R.val / 2048, by omega⟩ ⟨R.val % 2048, by omega⟩ p) = act X G W C R p := by
  have e0 : rBefore (rCut (rProj (rNorm X G) W)) (ix3 ⟨R.val / 2048, by omega⟩ ⟨R.val % 2048, by omega⟩ p) = before X G W R ⟨p.val, by omega⟩ := by
    refine (rBefore_apply _ _ _ p).trans ?_
    unfold before
    by_cases h : R.val % 2048 = 0
    · rw [dif_pos h, if_pos h]
    · rw [dif_neg h, if_neg h]
      exact (rCut_apply _ _ _ p).trans (p_apply' X G W _ _ _ (by dsimp only; omega) _)
  have e1 : rCut (rProj (rNorm X G) W) (ix3 ⟨R.val / 2048, by omega⟩ ⟨R.val % 2048, by omega⟩ p) = proj X G W R ⟨p.val, by omega⟩ :=
    (rCut_apply _ _ _ p).trans (p_apply X G W R _)
  have e2 : rAfter (rCut (rProj (rNorm X G) W)) (ix3 ⟨R.val / 2048, by omega⟩ ⟨R.val % 2048, by omega⟩ p) = after X G W R ⟨p.val, by omega⟩ := by
    refine (rAfter_apply _ _ _ p).trans ?_
    unfold after
    by_cases h : R.val % 2048 = 2047
    · rw [dif_pos h, dif_pos h]
    · rw [dif_neg h, dif_neg h]
      exact (rCut_apply _ _ _ p).trans (p_apply' X G W _ _ _ (by dsimp only; omega) _)
  refine (rSilu_apply C _ _ _ _ _ p).trans ?_
  rw [e0, e1, e2]
  rfl

theorem q_apply (R : Fin 32768) (n : Fin 512) :
    rQ (rUnit (rQHeads (rAct X G W C))) (ix2 R n) = head X G W C 0 R n * Ideal.ofBits .f32 0x3DB504F3#32 := by
  refine (rQ_apply _ R n).trans (congrArg (· * _) ((rUnit_apply _ _ _ _ _).trans ?_))
  unfold head
  refine congrFun (congrArg unit (funext fun l => ?_)) _
  refine (rQHeads_apply _ _ _ _ l).trans ((rAct_apply X G W C R _).trans ?_)
  congr 1
  exact Fin.ext (by simp; omega)

theorem u_apply (R : Fin 32768) (n : Fin 512) :
    rUnit (rKHeads (rAct X G W C)) (ix4 ⟨R.val / 2048, by omega⟩ ⟨R.val % 2048, by omega⟩ ⟨n.val / 128, by omega⟩ ⟨n.val % 128, by omega⟩)
      = head X G W C 512 R n := by
  refine (rUnit_apply _ _ _ _ _).trans ?_
  unfold head
  refine congrFun (congrArg unit (funext fun l => ?_)) _
  refine (rKHeads_apply _ _ _ _ l).trans ((rAct_apply X G W C R _).trans ?_)
  congr 1
  exact Fin.ext (by simp; omega)

theorem k_apply (R : Fin 32768) (n : Fin 512) : rK (rUnit (rKHeads (rAct X G W C))) (ix2 R n) = head X G W C 512 R n :=
  (rK_apply _ R n).trans (u_apply X G W C R n)

theorem kt_apply (g n : Fin 512) (l : Fin 64) :
    rKt (rUnit (rKHeads (rAct X G W C))) (ix3 g n l) = head X G W C 512 ⟨64 * g.val + l.val, by omega⟩ n :=
  (rKt_apply _ g n l _ rfl).trans (u_apply X G W C _ n)

theorem v_apply (R : Fin 32768) (n : Fin 512) : rV (rAct X G W C) (ix2 R n) = act X G W C R ⟨1024 + n.val, by omega⟩ :=
  (rV_apply _ R n).trans (rAct_apply X G W C R _)

theorem z_apply (R : Fin 32768) (n : Fin 512) : rZ (rProj (rNorm X G) W) (ix2 R n) = proj X G W R ⟨1536 + n.val, by omega⟩ :=
  (rZ_apply _ R n).trans (p_apply X G W R _)

theorem ba_apply (R : Fin 32768) (n : Fin 128) : rBa (rProj (rNorm X G) W) (ix2 R n) = gates X G W R n := by
  unfold gates
  by_cases h : n.val < 16
  · simp only [dif_pos h]
    exact (rBa_low _ R n h).trans (p_apply X G W R _)
  · simp only [dif_neg h, mul_zero, Finset.sum_const_zero]
    exact rBa_high _ R n h

theorem att_apply (R : Fin 32768) (n : Fin 1536) : rAtt (rProj (rNorm X G) W) (ix2 R n) = proj X G W R ⟨2064 + n.val, by omega⟩ :=
  (rAtt_apply _ R n).trans (p_apply X G W R _)

variable (m : (ℓ : Loc nD τ sig) → Buf (Elt Ideal) ℓ)

abbrev bX (c : Dev nD) : FVec Ideal S16x2048x1024 .f32 := m ((c : Thread nD τ).loc main_arg0)
abbrev bG (c : Dev nD) : FVec Ideal S1x1024 .f32 := m ((c : Thread nD τ).loc main_arg1)
abbrev bW (c : Dev nD) : FVec Ideal S1x1024x3600 .f32 := m ((c : Thread nD τ).loc main_arg2)
abbrev bC (c : Dev nD) : FVec Ideal S1x3x1536 .f32 := m ((c : Thread nD τ).loc main_arg3)

theorem res0_eq (c : Dev nD) : Value.res_out0 m c = rQ (rUnit (rQHeads (rAct (bX m c) (bG m c) (bW m c) (bC m c)))) := rfl
theorem res1_eq (c : Dev nD) : Value.res_out1 m c = rK (rUnit (rKHeads (rAct (bX m c) (bG m c) (bW m c) (bC m c)))) := rfl
theorem res2_eq (c : Dev nD) : Value.res_out2 m c = rV (rAct (bX m c) (bG m c) (bW m c) (bC m c)) := rfl
theorem res3_eq (c : Dev nD) : Value.res_out3 m c = rKt (rUnit (rKHeads (rAct (bX m c) (bG m c) (bW m c) (bC m c)))) := rfl

end Cert.InProjRefIdeal.Inp

end
-- ==== Proof.AttMath.lean ====
/-
  The arithmetic of a softmax taken in pieces: sums over a window of keys against sums over all keys, and the mixing of
  several softmaxes by the logarithms of their sums.
-/
module

public import Idealize.ShloMosaic.PureOps.Ideal

@[expose] public section

noncomputable section

namespace Cert.Att

open Idealize.ShloMosaic
open scoped BigOperators

/-- The bucket of a distance, before its direction is added. -/
def small (w : BitVec 32) : BitVec 32 :=
  Scalar.select (IntOp.cmpi .slt (IntOp.absi w) 8#32) (IntOp.absi w)
    (IntOp.minsi (IntOp.addi 8#32 (FloatOps.fptosi (F := Ideal) (φ := .f32) 32
      (FloatOps.mulf (FloatOps.hostDivf (FloatOps.hostUnary .log (FloatOps.hostDivf (FloatOps.sitofp .f32 (IntOp.maxsi (IntOp.absi w) 1#32)) (FloatOps.ofBits .f32 0x41000000#32))) (FloatOps.ofBits .f32 0x409B43D5#32)) (FloatOps.ofBits .f32 0x41000000#32)))) 15#32)

/-- The bucket of a relative position. -/
def bucket (w : BitVec 32) : BitVec 32 := IntOp.addi (Scalar.select (IntOp.cmpi .sgt w 0#32) 16#32 0#32) (small w)

/-- One where the word is `j`, zero elsewhere. -/
def hot (w : BitVec 32) (j : ℕ) : EReal := FloatOps.uitofp (F := Ideal) .f32 (IntOp.cmpi .eq w (BitVec.ofNat 32 j))

/-- A nonnegative real factor passes through a sum of extended reals. -/
theorem coe_mul_sum {ι : Type} (s : Finset ι) {a : ℝ} (ha : 0 ≤ a) (f : ι → EReal) : (a : EReal) * ∑ i ∈ s, f i = ∑ i ∈ s, (a : EReal) * f i := by
  induction s using Finset.cons_induction with
  | empty => simp
  | cons i s hi ih =>
    rw [Finset.sum_cons, Finset.sum_cons, EReal.left_distrib_of_nonneg_of_ne_top (by exact_mod_cast ha) (EReal.coe_ne_top a), ih]

theorem coe_mul_add {a : ℝ} (ha : 0 ≤ a) (x y : EReal) : (a : EReal) * (x + y) = a * x + a * y :=
  EReal.left_distrib_of_nonneg_of_ne_top (by exact_mod_cast ha) (EReal.coe_ne_top a) x y

theorem coe_sum {ι : Type} (s : Finset ι) (f : ι → ℝ) : ((∑ i ∈ s, f i : ℝ) : EReal) = ∑ i ∈ s, (f i : EReal) := by
  induction s using Finset.cons_induction with
  | empty => simp
  | cons i s hi ih => rw [Finset.sum_cons, Finset.sum_cons, EReal.coe_add, ih]

section
variable {J U : Type} [Fintype J] [Fintype U] {s : J → EReal} {S : U → EReal} {P : J → Prop} {e : J → U}

/-- The largest score of a window is the largest score of all keys, when the keys outside the window score `⊥`. -/
theorem window_max (h1 : ∀ j, P j → s j = S (e j)) (h0 : ∀ j, ¬ P j → s j = ⊥) (hs : ∀ u, S u ≠ ⊥ → ∃ j, P j ∧ e j = u) :
    Finset.univ.fold max (⊥ : EReal) s = Finset.univ.fold max (⊥ : EReal) S := by
  refine le_antisymm ?_ ?_
  · rw [Finset.fold_max_le]
    refine ⟨bot_le, fun j _ => ?_⟩
    by_cases hj : P j
    · rw [h1 j hj, Finset.le_fold_max]
      exact Or.inr ⟨e j, Finset.mem_univ _, le_rfl⟩
    · rw [h0 j hj]
      exact bot_le
  · rw [Finset.fold_max_le]
    refine ⟨bot_le, fun u _ => ?_⟩
    by_cases hu : S u = ⊥
    · rw [hu]
      exact bot_le
    · obtain ⟨j, hj, rfl⟩ := hs u hu
      rw [Finset.le_fold_max]
      exact Or.inr ⟨j, Finset.mem_univ _, (h1 j hj).ge⟩

/-- A weighted sum over the window is the weighted sum over all keys. -/
theorem window_sum (h1 : ∀ j, P j → s j = S (e j)) (h0 : ∀ j, ¬ P j → s j = ⊥) (hs : ∀ u, S u ≠ ⊥ → ∃ j, P j ∧ e j = u)
    (hi : ∀ j k, P j → P k → e j = e k → j = k) (m : ℝ) {w : J → EReal} {W : U → EReal} (hw : ∀ j, P j → w j = W (e j)) :
    ∑ j, Ideal.exp (s j - m) * w j = ∑ u, Ideal.exp (S u - m) * W u := by
  have hb : Ideal.exp ((⊥ : EReal) - m) = 0 := by rw [EReal.bot_sub]; rfl
  have hp : ∀ j, Ideal.exp (s j - m) * w j ≠ 0 → P j := fun j hj => by
    by_contra hc
    exact hj (by rw [h0 j hc, hb, zero_mul])
  refine Finset.sum_bij_ne_zero (fun j _ _ => e j) (fun _ _ _ => Finset.mem_univ _) (fun j _ hj k _ hk h => hi j k (hp j hj) (hp k hk) h) (fun u _ hu => ?_)
    fun j _ hj => ?_
  · obtain ⟨j, hj, rfl⟩ := hs u fun h => hu (by rw [h, hb, zero_mul])
    exact ⟨j, Finset.mem_univ _, by rw [h1 j hj, hw j hj]; exact hu, rfl⟩
  · rw [h1 j (hp j hj), hw j (hp j hj)]

end

section
variable {U : Type} [Fintype U]

/-- What is real about the scores of one query: their largest, their weights, and the sum of these. -/
theorem reals (S : U → EReal) (hS : ∀ u, S u = ⊥ ∨ ∃ r : ℝ, S u = r) (hx : ∃ u, S u ≠ ⊥) :
    ∃ (m d : ℝ) (p : U → ℝ), Finset.univ.fold max (⊥ : EReal) S = m ∧ (∀ u, Ideal.exp (S u - m) = p u) ∧ (∀ u, 0 ≤ p u) ∧ 0 < d
      ∧ ∑ u, Ideal.exp (S u - m) = d := by
  obtain ⟨x, hx⟩ := hx
  have hn : (Finset.univ : Finset U).Nonempty := ⟨x, Finset.mem_univ _⟩
  obtain ⟨M, -, hM⟩ := Finset.exists_max_image Finset.univ S hn
  have hmax : Finset.univ.fold max (⊥ : EReal) S = S M := by
    refine le_antisymm ((Finset.fold_max_le _).2 ⟨bot_le, fun u hu => hM u hu⟩) ((Finset.le_fold_max _).2 (Or.inr ⟨M, Finset.mem_univ _, le_rfl⟩))
  obtain hb | ⟨m, hm⟩ := hS M
  · exact absurd (le_bot_iff.1 (hb ▸ hM x (Finset.mem_univ _))) hx
  have hp : ∀ u, ∃ q : ℝ, 0 ≤ q ∧ Ideal.exp (S u - m) = q := fun u => by
    obtain h | ⟨r, h⟩ := hS u
    · exact ⟨0, le_rfl, by rw [h, EReal.bot_sub]; rfl⟩
    · exact ⟨Real.exp (r - m), (Real.exp_pos _).le, by rw [h, ← EReal.coe_sub, Ideal.exp_coe]⟩
  choose p hp0 hpe using hp
  refine ⟨m, ∑ u, p u, p, hmax.trans hm, hpe, hp0, ?_, ?_⟩
  · refine Finset.sum_pos' (fun u _ => hp0 u) ⟨M, Finset.mem_univ _, ?_⟩
    have h := hpe M
    rw [hm, ← EReal.coe_sub, sub_self, Ideal.exp_coe, Real.exp_zero] at h
    have h' : (1 : ℝ) = p M := by exact_mod_cast h
    rw [← h']
    exact one_pos
  · rw [Finset.sum_congr rfl fun u _ => hpe u]
    exact (coe_sum _ _).symm

/-- One softmax's part of the mixture, both ways. -/
theorem part (m d N x D W : ℝ) (hd : 0 < d) (hD : 0 < D) (hW : W = Real.exp (x - N) * D) (p : U → ℝ) (hp : ∀ u, 0 ≤ p u) (V : U → EReal) :
    ((1 / D : ℝ) : EReal) * ((∑ u, (p u : EReal) * V u) * Ideal.exp ((m : EReal) - x))
      = Ideal.div (Ideal.exp ((m : EReal) + Ideal.log d - N)) W * ∑ u, Ideal.div (p u) d * V u := by
  have hl : Ideal.log (d : EReal) = (Real.log d : EReal) := by rw [Ideal.log_coe, if_neg (not_le.2 hd)]
  have hWp : 0 < W := hW ▸ mul_pos (Real.exp_pos _) hD
  rw [hl, ← EReal.coe_sub, ← EReal.coe_add, ← EReal.coe_sub, Ideal.exp_coe, Ideal.exp_coe, Ideal.div_coe hWp.ne']
  have h1 : ∀ u, Ideal.div (p u) d * V u = ((1 / d : ℝ) : EReal) * ((p u : EReal) * V u) := fun u => by
    rw [Ideal.div_coe hd.ne', mul_comm (p u : EReal), mul_assoc]
  rw [Finset.sum_congr rfl fun u _ => h1 u, ← coe_mul_sum _ (by positivity), mul_comm (∑ u, _) (Real.exp _ : EReal), ← mul_assoc, ← mul_assoc,
    ← EReal.coe_mul, ← EReal.coe_mul, ← EReal.coe_mul]
  congr 2
  rw [hW, show m + Real.log d - N = (m - x) + (x - N) + Real.log d by ring, Real.exp_add, Real.exp_add, Real.exp_log hd]
  have := Real.exp_pos (x - N)
  field_simp

/-- Three weighted sums and sums of weights, taken at three largest scores, brought to the largest of the three and divided. -/
def mix (o l m : ℕ → EReal) : EReal :=
  Ideal.div (o 0 * Ideal.exp (m 0 - max (max (m 0) (m 1)) (m 2)) + o 1 * Ideal.exp (m 1 - max (max (m 0) (m 1)) (m 2)) + o 2 * Ideal.exp (m 2 - max (max (m 0) (m 1)) (m 2)))
    (l 0 * Ideal.exp (m 0 - max (max (m 0) (m 1)) (m 2)) + l 1 * Ideal.exp (m 1 - max (max (m 0) (m 1)) (m 2)) + l 2 * Ideal.exp (m 2 - max (max (m 0) (m 1)) (m 2)))

/-- The logarithm of the sum of the exponentials of the scores. -/
def lse (S : U → EReal) : EReal :=
  Finset.univ.fold max (⊥ : EReal) S + Ideal.log (∑ u, Ideal.exp (S u - Finset.univ.fold max (⊥ : EReal) S))

/-- The softmax of the scores applied to the values. -/
def att (S V : U → EReal) : EReal :=
  ∑ u, Ideal.div (Ideal.exp (S u - Finset.univ.fold max (⊥ : EReal) S)) (∑ w, Ideal.exp (S w - Finset.univ.fold max (⊥ : EReal) S)) * V u

/-- Three softmaxes weighted by the softmax of their `lse`. -/
def blend (a e : ℕ → EReal) : EReal :=
  Ideal.div (Ideal.exp (e 0 - max (max (e 0) (e 1)) (e 2))) (Ideal.exp (e 0 - max (max (e 0) (e 1)) (e 2)) + Ideal.exp (e 1 - max (max (e 0) (e 1)) (e 2)) + Ideal.exp (e 2 - max (max (e 0) (e 1)) (e 2))) * a 0
    + Ideal.div (Ideal.exp (e 1 - max (max (e 0) (e 1)) (e 2))) (Ideal.exp (e 0 - max (max (e 0) (e 1)) (e 2)) + Ideal.exp (e 1 - max (max (e 0) (e 1)) (e 2)) + Ideal.exp (e 2 - max (max (e 0) (e 1)) (e 2))) * a 1
    + Ideal.div (Ideal.exp (e 2 - max (max (e 0) (e 1)) (e 2))) (Ideal.exp (e 0 - max (max (e 0) (e 1)) (e 2)) + Ideal.exp (e 1 - max (max (e 0) (e 1)) (e 2)) + Ideal.exp (e 2 - max (max (e 0) (e 1)) (e 2))) * a 2

/-- Mixing the three weighted sums is weighting the three softmaxes. -/
theorem mix_eq_blend (S : ℕ → U → EReal) (hS : ∀ P u, S P u = ⊥ ∨ ∃ r : ℝ, S P u = r) (hx : ∀ P, ∃ u, S P u ≠ ⊥) (V : U → EReal) :
    mix (fun P => ∑ u, Ideal.exp (S P u - Finset.univ.fold max (⊥ : EReal) (S P)) * V u)
        (fun P => ∑ u, Ideal.exp (S P u - Finset.univ.fold max (⊥ : EReal) (S P)) * 1)
        (fun P => Finset.univ.fold max (⊥ : EReal) (S P))
      = blend (fun P => att (S P) V) fun P => lse (S P) := by
  choose m d p hm hp hp0 hd hs using fun P => reals (S P) (hS P) (hx P)
  have hmx : max (max (m 0 : EReal) (m 1)) (m 2) = ((max (max (m 0) (m 1)) (m 2) : ℝ) : EReal) := by
    rw [EReal.coe_strictMono.monotone.map_max, EReal.coe_strictMono.monotone.map_max]
  have hl : ∀ P, Ideal.log (d P : EReal) = (Real.log (d P) : EReal) := fun P => by rw [Ideal.log_coe, if_neg (not_le.2 (hd P))]
  have hN : max (max ((m 0 : EReal) + Ideal.log (d 0)) ((m 1 : EReal) + Ideal.log (d 1))) ((m 2 : EReal) + Ideal.log (d 2))
      = ((max (max (m 0 + Real.log (d 0)) (m 1 + Real.log (d 1))) (m 2 + Real.log (d 2)) : ℝ) : EReal) := by
    rw [EReal.coe_strictMono.monotone.map_max, EReal.coe_strictMono.monotone.map_max, hl, hl, hl, EReal.coe_add, EReal.coe_add, EReal.coe_add]
  unfold mix blend att lse
  simp only [hm, mul_one, hs]
  simp only [hp]
  rw [hmx, hN]
  generalize hX : max (max (m 0) (m 1)) (m 2) = x
  generalize hY : max (max (m 0 + Real.log (d 0)) (m 1 + Real.log (d 1))) (m 2 + Real.log (d 2)) = N
  have hD : (d 0 : EReal) * Ideal.exp ((m 0 : EReal) - x) + d 1 * Ideal.exp ((m 1 : EReal) - x) + d 2 * Ideal.exp ((m 2 : EReal) - x)
      = ((d 0 * Real.exp (m 0 - x) + d 1 * Real.exp (m 1 - x) + d 2 * Real.exp (m 2 - x) : ℝ) : EReal) := by
    simp only [← EReal.coe_sub, Ideal.exp_coe, ← EReal.coe_mul, ← EReal.coe_add]
  have hW : Ideal.exp ((m 0 : EReal) + Ideal.log (d 0) - N) + Ideal.exp ((m 1 : EReal) + Ideal.log (d 1) - N) + Ideal.exp ((m 2 : EReal) + Ideal.log (d 2) - N)
      = ((Real.exp (x - N) * (d 0 * Real.exp (m 0 - x) + d 1 * Real.exp (m 1 - x) + d 2 * Real.exp (m 2 - x)) : ℝ) : EReal) := by
    have h : ∀ P, Real.exp (m P + Real.log (d P) - N) = Real.exp (x - N) * (d P * Real.exp (m P - x)) := fun P => by
      rw [show m P + Real.log (d P) - N = (x - N) + Real.log (d P) + (m P - x) by ring, Real.exp_add, Real.exp_add, Real.exp_log (hd P), mul_assoc]
    simp only [hl, ← EReal.coe_add, ← EReal.coe_sub, Ideal.exp_coe, h]
    congr 1
    ring
  have hDp : 0 < d 0 * Real.exp (m 0 - x) + d 1 * Real.exp (m 1 - x) + d 2 * Real.exp (m 2 - x) := by
    have := mul_pos (hd 0) (Real.exp_pos (m 0 - x))
    have := mul_pos (hd 1) (Real.exp_pos (m 1 - x))
    have := mul_pos (hd 2) (Real.exp_pos (m 2 - x))
    linarith
  rw [hD, hW, Ideal.div_coe hDp.ne', mul_comm, coe_mul_add (by positivity), coe_mul_add (by positivity),
    part (m 0) (d 0) N x _ _ (hd 0) hDp rfl (p 0) (hp0 0) V, part (m 1) (d 1) N x _ _ (hd 1) hDp rfl (p 1) (hp0 1) V, part (m 2) (d 2) N x _ _ (hd 2) hDp rfl (p 2) (hp0 2) V]

end

end Cert.Att

end
-- ==== Proof.AttBlk.lean ====
/-
  One block of the dilated attention, 128 queries against 256 keys, for a pair of heads, read at an index.
-/
module

public import proofs.«01_k».proof.Proof.Gen.AttnIdeal.Skeleton
public import Idealize.ShloMosaic.Lib.Pointwise
public import Idealize.ShloMosaic.Lib.WordCmp
public import Idealize.ShloMosaic.Lib.Pipeline.ValueKit

@[expose] public section

set_option maxRecDepth 16384

noncomputable section

namespace Cert.AttnIdeal.Att

open Cert.AttnIdeal Cert.AttnIdeal.Gen Idealize.ShloMosaic Idealize.ShloMosaic.TcCoe Idealize.SL.Sem
open Idealize.ShloMosaic.Pointwise
open scoped BigOperators

/-- The largest of the scores of one query. -/
def smax (s : Fin 256 → EReal) : EReal := Finset.univ.fold max (⊥ : EReal) s

/-- The sum of the values `v` weighted by the exponentials of the scores below their largest. -/
def ssum (s : Fin 256 → EReal) (v : Fin 256 → EReal) : EReal := ∑ j, Ideal.exp (s j - smax s) * v j

/-- The queries with the second head's columns set to zero. -/
def qLo (q : FVec Ideal S128x128 .f32) : FVec Ideal S128x128 .f32 :=
  select k0_pay2 q (broadcast S128x128 (Scalar.ofBits .f32 0x00000000#32))

/-- The queries with the first head's columns set to zero. -/
def qHi (q : FVec Ideal S128x128 .f32) : FVec Ideal S128x128 .f32 :=
  select k0_pay2 (broadcast S128x128 (Scalar.ofBits .f32 0x00000000#32)) q

/-- The scores of the queries against the keys, with the bias. -/
def score (q : FVec Ideal S128x128 .f32) (k : FVec Ideal S256x128 .bf16) (b : FVec Ideal S1x1x128x256 .f32) : FVec Ideal S128x256 .f32 :=
  addf (matmul dot_S128x128_S256x128_S128x256_1_1_0_0_n_n none (truncf .bf16 q bitsLt_bf16_f32) k (constant S128x256 .f32 0x00000000#32))
    (shapeCast S128x256 b shapeCasts_S1x1x128x256_S128x256)

/-- The scores with the keys outside the sequence masked. -/
def masked (v : IVec S1x256 1) (s : FVec Ideal S128x256 .f32) : FVec Ideal S128x256 .f32 :=
  select (broadcastTo S128x256 (shapeCast S1x256 v shapeCasts_S1x256_S1x256) broadcasts_S1x256_S128x256) s
    (broadcast S128x256 (Named.named κ "mask" 0xF149F2CA#32))

def top (s : FVec Ideal S128x256 .f32) : FVec Ideal S128x1 .f32 :=
  shapeCast S128x1 (multiReduction .maximumf [1] S128 s 0xFF800000#32 reduces_S128x256_S128 (.inl rfl) rfl) shapeCasts_S128_S128x1

def weighted (s : FVec Ideal S128x256 .f32) (v : FVec Ideal S256x128 .bf16) : FVec Ideal S128x256 .f32 :=
  matmul dot_S128x256_S256x256_S128x256_1_0_0_1_n_n none
    (truncf .bf16 (exp (subf s (broadcastTo S128x256 (top s) broadcasts_S128x1_S128x256))) bitsLt_bf16_f32)
    (concatenate S256x256 1 [⟨S256x128, v⟩, ⟨S256x128, k0_pay3⟩] concatenates_S256x128_S256x128_S256x256_d1) (constant S128x256 .f32 0x00000000#32)

def blkO (s0 s1 : FVec Ideal S128x256 .f32) (v : FVec Ideal S256x128 .bf16) : FVec Ideal S128x128 .f32 :=
  select k0_pay2 (extractStridedSlice S128x128 ![0, 0] (weighted s0 v) slices_S128x256_o0_0_S128x128)
    (extractStridedSlice S128x128 ![0, 0] (weighted s1 v) slices_S128x256_o0_0_S128x128)

def blkL (s0 s1 : FVec Ideal S128x256 .f32) (v : FVec Ideal S256x128 .bf16) : FVec Ideal S128x128 .f32 :=
  select k0_pay2 (extractStridedSlice S128x128 ![0, 128] (weighted s0 v) slices_S128x256_o0_128_S128x128)
    (extractStridedSlice S128x128 ![0, 128] (weighted s1 v) slices_S128x256_o0_128_S128x128)

def blkM (s0 s1 : FVec Ideal S128x256 .f32) : FVec Ideal S128x128 .f32 :=
  select k0_pay2 (broadcastTo S128x128 (shapeCast S128x1 (top s0) shapeCasts_S128x1_S128x1) broadcasts_S128x1_S128x128)
    (broadcastTo S128x128 (shapeCast S128x1 (top s1) shapeCasts_S128x1_S128x1) broadcasts_S128x1_S128x128)

/-- The keys of a block that lie inside the sequence. -/
def inside (t lt off n : BitVec 32) (v3 : IVec S1x256 32) : IVec S1x256 1 :=
  andi (cmpi .sge (addi (broadcast S1x256 (Scalar.subi (Scalar.addi (Scalar.muli t lt) off) 64#32)) v3) (broadcast S1x256 0#32))
    (cmpi .slt (addi (broadcast S1x256 (Scalar.subi (Scalar.addi (Scalar.muli t lt) off) 64#32)) v3) (broadcast S1x256 n))

theorem lane_lt (α : Type) (c : Fin 128) (x y : α) :
    Scalar.select (IntOp.cmpi CmpIPredicate.slt (BitVec.ofNat 32 c.val) 64#32) x y = if c.val < 64 then x else y := by
  have h : IntOp.cmpi CmpIPredicate.slt (BitVec.ofNat 32 c.val) 64#32 = BitVec.ofBool (decide (c.val < 64)) :=
    WordCmp.cmpi_slt_ofNat (a := c.val) (b := 64) (w := 32) (by omega) (by omega)
  rw [h]
  by_cases hc : c.val < 64
  · simp only [hc, decide_true, if_true]; rfl
  · simp only [hc, decide_false, if_false]; rfl

theorem qLo_apply (q : FVec Ideal S128x128 .f32) (i c : Fin 128) : qLo q (ix2 i c) = if c.val < 64 then q (ix2 i c) else 0 := by
  pointwise [qLo, k0_pay2]
  exact lane_lt _ c _ _

theorem qHi_apply (q : FVec Ideal S128x128 .f32) (i c : Fin 128) : qHi q (ix2 i c) = if c.val < 64 then 0 else q (ix2 i c) := by
  pointwise [qHi, k0_pay2]
  exact lane_lt _ c _ _

theorem score_apply (q : FVec Ideal S128x128 .f32) (k : FVec Ideal S256x128 .bf16) (b : FVec Ideal S1x1x128x256 .f32) (i : Fin 128) (j : Fin 256) :
    score q k b (ix2 i j) = (∑ c : Fin 128, q (ix2 i c) * k (ix2 j c)) + b (ix4 0 0 i j) := by
  pointwise [score]

theorem masked_apply (v : IVec S1x256 1) (s : FVec Ideal S128x256 .f32) (i : Fin 128) (j : Fin 256) :
    masked v s (ix2 i j) = if v (ix2 0 j) = 1#1 then s (ix2 i j) else ⊥ := by
  pointwise [masked]
  rfl

theorem top_apply (s : FVec Ideal S128x256 .f32) (i : Fin 128) :
    top s (ix2 i 0) = smax fun j => s (ix2 i j) := by
  pointwise [top, smax]
  rw [show Ideal.ofBits FTy.f32 4286578688#32 = ⊥ by simp [Ideal.ofBits, Ideal.ieee]]

theorem weighted_lo (s : FVec Ideal S128x256 .f32) (v : FVec Ideal S256x128 .bf16) (i : Fin 128) (c : Fin 128) :
    weighted s v (ix2 i ⟨c.val, by omega⟩) = ssum (fun j => s (ix2 i j)) fun j => v (ix2 j c) := by
  pointwise [weighted, ssum, top_apply]

theorem weighted_hi (s : FVec Ideal S128x256 .f32) (v : FVec Ideal S256x128 .bf16) (i : Fin 128) (c : Fin 128) :
    weighted s v (ix2 i ⟨128 + c.val, by omega⟩) = ssum (fun j => s (ix2 i j)) fun j => 1 := by
  pointwise [weighted, ssum, top_apply, k0_pay3]

theorem blkO_apply (s0 s1 : FVec Ideal S128x256 .f32) (v : FVec Ideal S256x128 .bf16) (i c : Fin 128) :
    blkO s0 s1 v (ix2 i c) = if c.val < 64 then ssum (fun j => s0 (ix2 i j)) (fun j => v (ix2 j c)) else ssum (fun j => s1 (ix2 i j)) (fun j => v (ix2 j c)) := by
  pointwise [blkO, k0_pay2]
  refine (lane_lt _ c _ _).trans ?_
  rw [← weighted_lo s0 v i c, ← weighted_lo s1 v i c]

theorem blkL_apply (s0 s1 : FVec Ideal S128x256 .f32) (v : FVec Ideal S256x128 .bf16) (i c : Fin 128) :
    blkL s0 s1 v (ix2 i c) = if c.val < 64 then ssum (fun j => s0 (ix2 i j)) (fun j => 1) else ssum (fun j => s1 (ix2 i j)) (fun j => 1) := by
  pointwise [blkL, k0_pay2]
  refine (lane_lt _ c _ _).trans ?_
  rw [← weighted_hi s0 v i c, ← weighted_hi s1 v i c]

theorem blkM_apply (s0 s1 : FVec Ideal S128x256 .f32) (i c : Fin 128) :
    blkM s0 s1 (ix2 i c) = if c.val < 64 then smax (fun j => s0 (ix2 i j)) else smax (fun j => s1 (ix2 i j)) := by
  pointwise [blkM, k0_pay2]
  refine (lane_lt _ c _ _).trans ?_
  rw [← top_apply s0 i, ← top_apply s1 i]

theorem inside_apply (lt : BitVec 32) (o n : ℕ) (ho : o ≤ 2048) (hn : n ≤ 2048) (j : Fin 256) :
    inside 0#32 lt (BitVec.ofNat 32 o) (BitVec.ofNat 32 n) (iota .tc S1x256 32 [1] iota_S1x256_d1_w32) (ix2 0 j) = 1#1 ↔ 64 ≤ o + j.val ∧ o + j.val < n + 64 := by
  have hx : (BitVec.ofNat 32 o - 64#32 + BitVec.ofNat 32 j.val).toInt = (o : ℤ) + j.val - 64 := by
    have hj := j.isLt
    rw [BitVec.toInt_eq_toNat_cond]
    simp only [BitVec.toNat_add, BitVec.toNat_sub, BitVec.toNat_ofNat]
    split <;> omega
  have hn' : (BitVec.ofNat 32 n).toInt = (n : ℤ) := by
    rw [BitVec.toInt_eq_toNat_cond]
    simp only [BitVec.toNat_ofNat]
    split <;> omega
  have hz : Scalar.addi (Scalar.muli 0#32 lt) (BitVec.ofNat 32 o) = BitVec.ofNat 32 o := by
    show 0#32 * lt + BitVec.ofNat 32 o = _
    rw [BitVec.zero_mul, BitVec.zero_add]
  pointwise [inside]
  rw [hz]
  show BitVec.ofBool (decide ((0#32).toInt ≤ (BitVec.ofNat 32 o - 64#32 + BitVec.ofNat 32 j.val).toInt))
    &&& BitVec.ofBool (decide ((BitVec.ofNat 32 o - 64#32 + BitVec.ofNat 32 j.val).toInt < (BitVec.ofNat 32 n).toInt)) = 1#1 ↔ _
  rw [hx, hn', BitVec.toInt_zero]
  by_cases h1 : (0 : ℤ) ≤ (o : ℤ) + j.val - 64 <;> by_cases h2 : (o : ℤ) + j.val - 64 < (n : ℤ)
  all_goals simp only [h1, h2, decide_true, decide_false]
  · exact ⟨fun _ => by omega, fun _ => rfl⟩
  · exact ⟨fun h => absurd h (by decide), fun h => by omega⟩
  · exact ⟨fun h => absurd h (by decide), fun h => by omega⟩
  · exact ⟨fun h => absurd h (by decide), fun h => by omega⟩

end Cert.AttnIdeal.Att

end
-- ==== Proof.AttForm.lean ====
/-
  The dilated attention of one sequence and one pair of heads, read at natural numbers: what the queries, the keys, the
  scores and the three running quantities (weighted sum, sum of weights, largest score) are at each position.
-/
module

public import proofs.«01_k».proof.Proof.AttBlk
public import Idealize.ShloMosaic.Lib.Pipeline.ReadBack
public import Idealize.ShloMosaic.Lib.WholeRead

@[expose] public section

set_option maxRecDepth 16384

noncomputable section

namespace Cert.AttnIdeal.Att

open Cert.AttnIdeal Cert.AttnIdeal.Gen Idealize.ShloMosaic Idealize.ShloMosaic.TcCoe Idealize.SL.Sem
open Idealize.ShloMosaic.Pointwise
open scoped BigOperators

/-- The scaled query at position `t`, column `c`. -/
def QQ (x : FVec Ideal S1x2048x128 .f32) (t c : ℕ) : EReal :=
  if h : t < 2048 ∧ c < 128 then x (ix3 0 ⟨t, h.1⟩ ⟨c, h.2⟩) * Ideal.ofBits .f32 0x3E000000#32 else 0

/-- The key (or value) at position `t` of the sequence with 1024 positions before it and 1024 after it. -/
def KK (p : FVec Ideal S1x1024x128 .f32) (x : FVec Ideal S1x2048x128 .f32) (n : FVec Ideal S1x1024x128 .f32) (t c : ℕ) : EReal :=
  if h : t < 1024 ∧ c < 128 then p (ix3 0 ⟨t, h.1⟩ ⟨c, h.2⟩)
  else if h : 1024 ≤ t ∧ t < 3072 ∧ c < 128 then x (ix3 0 ⟨t - 1024, by omega⟩ ⟨c, h.2.2⟩)
  else if h : 3072 ≤ t ∧ t < 4096 ∧ c < 128 then n (ix3 0 ⟨t - 3072, by omega⟩ ⟨c, h.2.2⟩) else 0

/-- The bias of pattern `P`, head `h`, query `i` of a block and key `j` of its window. -/
def BB (b : FVec Ideal S3x2x128x256 .f32) (P h i j : ℕ) : EReal :=
  if H : P < 3 ∧ h < 2 ∧ i < 128 ∧ j < 256 then b (ix4 ⟨P, H.1⟩ ⟨h, H.2.1⟩ ⟨i, H.2.2.1⟩ ⟨j, H.2.2.2⟩) else 0

/-- The queries laid out residue by residue. -/
def QD (x : FVec Ideal S1x2048x128 .f32) (d lt row c : ℕ) : EReal := QQ x (row / lt + d * (row % lt)) c

/-- The keys (or values) laid out residue by residue. -/
def KD (p : FVec Ideal S1x1024x128 .f32) (x : FVec Ideal S1x2048x128 .f32) (n : FVec Ideal S1x1024x128 .f32) (d span row c : ℕ) : EReal :=
  KK p x n (row / span + d * (row % span)) c

section
variable (x0 : FVec Ideal S1x2048x128 .f32) (x1 : FVec Ideal S1x1024x128 .f32) (x2 : FVec Ideal S1x2048x128 .f32) (x3 : FVec Ideal S1x1024x128 .f32)
  (x4 : FVec Ideal S1x1024x128 .f32) (x5 : FVec Ideal S1x2048x128 .f32) (x6 : FVec Ideal S1x1024x128 .f32) (x7 : FVec Ideal S3x2x128x256 .f32)

/-- The score of query `n` of residue `r` against key `j` of its window, for head `h` and pattern `P` with dilation `d`. -/
def SS (P d lt lh h r n : ℕ) (j : Fin 256) : EReal :=
  if 64 ≤ n / 128 * 128 + j.val ∧ n / 128 * 128 + j.val < lt + 64 then
    (∑ c : Fin 128, (if c.val / 64 = h then QQ x0 (r + d * n) c.val else 0) * KK x1 x2 x3 (r + d * (lh + n / 128 * 128 + j.val - 64)) c.val)
      + BB x7 P h (n % 128) j.val
  else ⊥

/-- The weighted sum of values. -/
def OB (P d lt lh r n c : ℕ) : EReal :=
  ssum (SS x0 x1 x2 x3 x7 P d lt lh (c / 64) r n) fun j => KK x4 x5 x6 (r + d * (lh + n / 128 * 128 + j.val - 64)) c

/-- The sum of the weights. -/
def LB (P d lt lh r n c : ℕ) : EReal := ssum (SS x0 x1 x2 x3 x7 P d lt lh (c / 64) r n) fun _ => 1

/-- The largest score. -/
def MB (P d lt lh r n c : ℕ) : EReal := smax (SS x0 x1 x2 x3 x7 P d lt lh (c / 64) r n)

/-- What one block reads: its queries, its window of keys and values, its two biases. -/
structure Ctx (P d lh r j0 : ℕ) (q : FVec Ideal S128x128 .f32) (k v : FVec Ideal S256x128 .bf16) (b0 b1 : FVec Ideal S1x1x128x256 .f32) : Prop where
  hq : ∀ i c : Fin 128, q (ix2 i c) = QQ x0 (r + d * (j0 * 128 + i.val)) c.val
  hk : ∀ (j : Fin 256) (c : Fin 128), k (ix2 j c) = KK x1 x2 x3 (r + d * (lh + j0 * 128 + j.val - 64)) c.val
  hv : ∀ (j : Fin 256) (c : Fin 128), v (ix2 j c) = KK x4 x5 x6 (r + d * (lh + j0 * 128 + j.val - 64)) c.val
  hb0 : ∀ (i : Fin 128) (j : Fin 256), b0 (ix4 0 0 i j) = BB x7 P 0 i.val j.val
  hb1 : ∀ (i : Fin 128) (j : Fin 256), b1 (ix4 0 0 i j) = BB x7 P 1 i.val j.val

variable {x0 x1 x2 x3 x4 x5 x6 x7}
variable {P d lh r j0 : ℕ} {q : FVec Ideal S128x128 .f32} {k v : FVec Ideal S256x128 .bf16} {b0 b1 : FVec Ideal S1x1x128x256 .f32}

theorem Ctx.s0 (C : Ctx x0 x1 x2 x3 x4 x5 x6 x7 P d lh r j0 q k v b0 b1) (i : Fin 128) (j : Fin 256) :
    score (qLo q) k b0 (ix2 i j) = (∑ c : Fin 128, (if c.val / 64 = 0 then QQ x0 (r + d * (j0 * 128 + i.val)) c.val else 0) * KK x1 x2 x3 (r + d * (lh + j0 * 128 + j.val - 64)) c.val)
      + BB x7 P 0 i.val j.val := by
  rw [score_apply, C.hb0]
  congr 1
  refine Finset.sum_congr rfl fun c _ => ?_
  rw [qLo_apply, C.hk, C.hq]
  congr 1
  by_cases h : c.val < 64
  · rw [if_pos h, if_pos (by omega)]
  · rw [if_neg h, if_neg (by omega)]

theorem Ctx.s1 (C : Ctx x0 x1 x2 x3 x4 x5 x6 x7 P d lh r j0 q k v b0 b1) (i : Fin 128) (j : Fin 256) :
    score (qHi q) k b1 (ix2 i j) = (∑ c : Fin 128, (if c.val / 64 = 1 then QQ x0 (r + d * (j0 * 128 + i.val)) c.val else 0) * KK x1 x2 x3 (r + d * (lh + j0 * 128 + j.val - 64)) c.val)
      + BB x7 P 1 i.val j.val := by
  rw [score_apply, C.hb1]
  congr 1
  refine Finset.sum_congr rfl fun c _ => ?_
  rw [qHi_apply, C.hk, C.hq]
  congr 1
  have := c.isLt
  by_cases h : c.val < 64
  · rw [if_pos h, if_neg (by omega)]
  · rw [if_neg h, if_pos (by omega)]

/-- The keys of a block that is not at an end all lie inside the sequence. -/
theorem Ctx.n0 (C : Ctx x0 x1 x2 x3 x4 x5 x6 x7 P d lh r j0 q k v b0 b1) {lt : ℕ} (h1 : 64 ≤ j0 * 128) (h2 : j0 * 128 + 192 ≤ lt) (i : Fin 128) :
    (fun j => score (qLo q) k b0 (ix2 i j)) = SS x0 x1 x2 x3 x7 P d lt lh 0 r (j0 * 128 + i.val) := by
  funext j
  have hd : (j0 * 128 + i.val) / 128 = j0 := by omega
  have hm : (j0 * 128 + i.val) % 128 = i.val := by omega
  rw [C.s0, SS, hd, hm, if_pos (by omega)]

theorem Ctx.n1 (C : Ctx x0 x1 x2 x3 x4 x5 x6 x7 P d lh r j0 q k v b0 b1) {lt : ℕ} (h1 : 64 ≤ j0 * 128) (h2 : j0 * 128 + 192 ≤ lt) (i : Fin 128) :
    (fun j => score (qHi q) k b1 (ix2 i j)) = SS x0 x1 x2 x3 x7 P d lt lh 1 r (j0 * 128 + i.val) := by
  funext j
  have hd : (j0 * 128 + i.val) / 128 = j0 := by omega
  have hm : (j0 * 128 + i.val) % 128 = i.val := by omega
  rw [C.s1, SS, hd, hm, if_pos (by omega)]

/-- Those of a block at an end are masked by position. -/
theorem Ctx.e0 (C : Ctx x0 x1 x2 x3 x4 x5 x6 x7 P d lh r j0 q k v b0 b1) {lt : ℕ} (w : BitVec 32) (t : ℕ) (ht : t = 0) (h1 : j0 * 128 ≤ 2048) (h2 : lt ≤ 2048) (i : Fin 128) :
    (fun j => masked (inside (BitVec.ofNat 32 t) w (BitVec.ofNat 32 (j0 * 128)) (BitVec.ofNat 32 lt) (iota .tc S1x256 32 [1] iota_S1x256_d1_w32)) (score (qLo q) k b0) (ix2 i j))
      = SS x0 x1 x2 x3 x7 P d lt lh 0 r (j0 * 128 + i.val) := by
  subst ht
  funext j
  have hd : (j0 * 128 + i.val) / 128 = j0 := by omega
  have hm : (j0 * 128 + i.val) % 128 = i.val := by omega
  rw [masked_apply, C.s0, SS, hd, hm]
  exact if_congr (inside_apply w _ _ h1 h2 j) rfl rfl

theorem Ctx.e1 (C : Ctx x0 x1 x2 x3 x4 x5 x6 x7 P d lh r j0 q k v b0 b1) {lt : ℕ} (w : BitVec 32) (t : ℕ) (ht : t = 0) (h1 : j0 * 128 ≤ 2048) (h2 : lt ≤ 2048) (i : Fin 128) :
    (fun j => masked (inside (BitVec.ofNat 32 t) w (BitVec.ofNat 32 (j0 * 128)) (BitVec.ofNat 32 lt) (iota .tc S1x256 32 [1] iota_S1x256_d1_w32)) (score (qHi q) k b1) (ix2 i j))
      = SS x0 x1 x2 x3 x7 P d lt lh 1 r (j0 * 128 + i.val) := by
  subst ht
  funext j
  have hd : (j0 * 128 + i.val) / 128 = j0 := by omega
  have hm : (j0 * 128 + i.val) % 128 = i.val := by omega
  rw [masked_apply, C.s1, SS, hd, hm]
  exact if_congr (inside_apply w _ _ h1 h2 j) rfl rfl

variable {lt : ℕ} {s0 s1 : FVec Ideal S128x256 .f32}

/-- The three quantities of a block, from its two rows of scores. -/
theorem Ctx.o (C : Ctx x0 x1 x2 x3 x4 x5 x6 x7 P d lh r j0 q k v b0 b1)
    (h0 : ∀ i : Fin 128, (fun j => s0 (ix2 i j)) = SS x0 x1 x2 x3 x7 P d lt lh 0 r (j0 * 128 + i.val))
    (h1 : ∀ i : Fin 128, (fun j => s1 (ix2 i j)) = SS x0 x1 x2 x3 x7 P d lt lh 1 r (j0 * 128 + i.val)) (i c : Fin 128) :
    blkO s0 s1 v (ix2 i c) = OB x0 x1 x2 x3 x4 x5 x6 x7 P d lt lh r (j0 * 128 + i.val) c.val := by
  have hd : (j0 * 128 + i.val) / 128 = j0 := by omega
  have := c.isLt
  rw [blkO_apply, h0, h1, OB, hd]
  simp only [C.hv]
  by_cases h : c.val < 64
  · rw [if_pos h, show c.val / 64 = 0 by omega]
  · rw [if_neg h, show c.val / 64 = 1 by omega]

theorem Ctx.l (C : Ctx x0 x1 x2 x3 x4 x5 x6 x7 P d lh r j0 q k v b0 b1)
    (h0 : ∀ i : Fin 128, (fun j => s0 (ix2 i j)) = SS x0 x1 x2 x3 x7 P d lt lh 0 r (j0 * 128 + i.val))
    (h1 : ∀ i : Fin 128, (fun j => s1 (ix2 i j)) = SS x0 x1 x2 x3 x7 P d lt lh 1 r (j0 * 128 + i.val)) (i c : Fin 128) :
    blkL s0 s1 v (ix2 i c) = LB x0 x1 x2 x3 x7 P d lt lh r (j0 * 128 + i.val) c.val := by
  have := c.isLt
  rw [blkL_apply, h0, h1, LB]
  by_cases h : c.val < 64
  · rw [if_pos h, show c.val / 64 = 0 by omega]
  · rw [if_neg h, show c.val / 64 = 1 by omega]

theorem Ctx.m (C : Ctx x0 x1 x2 x3 x4 x5 x6 x7 P d lh r j0 q k v b0 b1)
    (h0 : ∀ i : Fin 128, (fun j => s0 (ix2 i j)) = SS x0 x1 x2 x3 x7 P d lt lh 0 r (j0 * 128 + i.val))
    (h1 : ∀ i : Fin 128, (fun j => s1 (ix2 i j)) = SS x0 x1 x2 x3 x7 P d lt lh 1 r (j0 * 128 + i.val)) (i c : Fin 128) :
    blkM s0 s1 (ix2 i c) = MB x0 x1 x2 x3 x7 P d lt lh r (j0 * 128 + i.val) c.val := by
  have := c.isLt
  rw [blkM_apply, h0, h1, MB]
  by_cases h : c.val < 64
  · rw [if_pos h, show c.val / 64 = 0 by omega]
  · rw [if_neg h, show c.val / 64 = 1 by omega]

end

/-- One of the three quantities `f` at a position, pattern by pattern: dilations 1, 4 and 16. -/
def plane (f : ℕ → ℕ → ℕ → ℕ → ℕ → ℕ → ℕ → EReal) (P t c : ℕ) : EReal :=
  if P = 0 then f 0 1 2048 1024 0 t c else if P = 1 then f 1 4 512 256 (t % 4) (t / 4) c else f 2 16 128 64 (t % 16) (t / 16) c

/-! ## Reading a buffer whose pieces are known -/

/-- A load from a buffer that holds `f`. -/
theorem ld2 {s : Shape} {e : EltTy} {sp : Space} (v : View sig .tc sp s e) {L : List (View.Piece (Elt Ideal) s e)}
    {f : s.Idx → Elt Ideal e} (hc : View.canon L = f) (R : LoadRect s) (j : R.shape.Idx) : v.readCov L R j = f (R.idx j) := by
  rw [View.readCov_eq_canon', hc]

/-- Inside the last piece written the buffer holds what that piece says, elsewhere what it held before. -/
theorem step {s : Shape} {e : EltTy} (r : Rect s) (w : r.shape.Idx → Elt Ideal e) {L : List (View.Piece (Elt Ideal) s e)} {G : s.Idx → Elt Ideal e} {y : s.Idx}
    (hp : ∀ x, w x = G (r.emb x)) (h : y ∉ r.set → View.canon L y = G y) : View.canon (⟨r, w⟩ :: L) y = G y := by
  by_cases hm : y ∈ r.set
  · obtain ⟨x, rfl⟩ := r.exists_idx_of_mem hm
    rw [show r.idx x = r.emb x from rfl, View.canon_cons_emb]
    exact hp x
  · rw [View.canon_cons_of_not_mem _ _ hm]
    exact h hm

/-- The same for a piece of whole rows. -/
theorem rowStep {A n off : ℕ} {e : EltTy} (inb : ∀ a, (![off, 0] : Fin 2 → ℕ) a + (Shape.size ⟨2, ![n, 128]⟩) a ≤ (Shape.size ⟨2, ![A, 128]⟩) a)
    (w : (⟨2, ![n, 128]⟩ : Shape).Idx → Elt Ideal e) {L : List (View.Piece (Elt Ideal) ⟨2, ![A, 128]⟩ e)} {g : ℕ → ℕ → Elt Ideal e} {y : (⟨2, ![A, 128]⟩ : Shape).Idx}
    (hp : ∀ (a : Fin n) (c : Fin 128), w (ix2 a c) = g (off + a.val) c.val)
    (h : ¬ (off ≤ (y 0).val ∧ (y 0).val < off + n) → View.canon L y = g (y 0).val (y 1).val) :
    View.canon (⟨Rect.unit (s := ⟨2, ![A, 128]⟩) ![off, 0] (Shape.size ⟨2, ![n, 128]⟩) inb, w⟩ :: L) y = g (y 0).val (y 1).val := by
  refine step (G := fun y => g (y 0).val (y 1).val) (Rect.unit (s := ⟨2, ![A, 128]⟩) ![off, 0] (Shape.size ⟨2, ![n, 128]⟩) inb) w (fun x => ?_) fun hm => h fun ⟨h1, h2⟩ => hm ?_
  · obtain ⟨a, c, rfl⟩ : ∃ a c, x = ix2 a c := ⟨x 0, x 1, eq_ix2 x⟩
    refine (hp a c).trans ?_
    show g (off + a.val) c.val = g (off + 1 * a.val) (0 + 1 * c.val)
    rw [Nat.one_mul, Nat.one_mul, Nat.zero_add]
  · rw [LoadRect.mem_set]
    refine Fin.forall_fin_two.mpr ⟨⟨(y 0).val - off, ?_, ?_⟩, ⟨(y 1).val, (y 1).isLt, ?_⟩⟩
    · show (y 0).val - off < n
      omega
    · show (y 0).val = off + 1 * ((y 0).val - off)
      omega
    · show (y 1).val = 0 + 1 * (y 1).val
      omega

/-- The same for a piece of consecutive rows of one plane. -/
theorem planeStep {n P off : ℕ} {e : EltTy} (inb : ∀ a, (![P, off, 0] : Fin 3 → ℕ) a + (Shape.size ⟨3, ![1, n, 128]⟩) a ≤ (Shape.size ⟨3, ![3, 2048, 128]⟩) a)
    (w : (⟨3, ![1, n, 128]⟩ : Shape).Idx → Elt Ideal e) {L : List (View.Piece (Elt Ideal) ⟨3, ![3, 2048, 128]⟩ e)} {g : ℕ → ℕ → ℕ → Elt Ideal e} {y : (⟨3, ![3, 2048, 128]⟩ : Shape).Idx}
    (hp : ∀ (a : Fin n) (c : Fin 128), w (ix3 0 a c) = g P (off + a.val) c.val)
    (h : ¬ ((y 0).val = P ∧ off ≤ (y 1).val ∧ (y 1).val < off + n) → View.canon L y = g (y 0).val (y 1).val (y 2).val) :
    View.canon (⟨Rect.unit (s := ⟨3, ![3, 2048, 128]⟩) ![P, off, 0] (Shape.size ⟨3, ![1, n, 128]⟩) inb, w⟩ :: L) y = g (y 0).val (y 1).val (y 2).val := by
  refine step (G := fun y => g (y 0).val (y 1).val (y 2).val) (Rect.unit (s := ⟨3, ![3, 2048, 128]⟩) ![P, off, 0] (Shape.size ⟨3, ![1, n, 128]⟩) inb) w (fun x => ?_) fun hm => h fun ⟨h0, h1, h2⟩ => hm ?_
  · obtain ⟨z, a, c, rfl⟩ : ∃ z a c, x = ix3 z a c := ⟨x 0, x 1, x 2, eq_ix3 x⟩
    obtain rfl : z = 0 := Subsingleton.elim _ _
    refine (hp a c).trans ?_
    show g P (off + a.val) c.val = g (P + 1 * 0) (off + 1 * a.val) (0 + 1 * c.val)
    rw [Nat.mul_zero, Nat.add_zero, Nat.one_mul, Nat.one_mul, Nat.zero_add]
  · rw [LoadRect.mem_set]
    refine Fin.forall_fin_succ.mpr ⟨⟨0, Nat.one_pos, ?_⟩, Fin.forall_fin_two.mpr ⟨⟨(y 1).val - off, ?_, ?_⟩, ⟨(y 2).val, (y 2).isLt, ?_⟩⟩⟩
    · show (y 0).val = P + 1 * 0
      omega
    · show (y 1).val - off < n
      omega
    · show (y 1).val = off + 1 * ((y 1).val - off)
      omega
    · show (y 2).val = 0 + 1 * (y 2).val
      omega

/-- The same for a piece of the rows of one residue of one plane. -/
theorem strideStep {n P d r : ℕ} {e : EltTy} (inb) (pos) (hn : n * d = 2048) (hr : r < d)
    (w : (⟨3, ![1, n, 128]⟩ : Shape).Idx → Elt Ideal e) {L : List (View.Piece (Elt Ideal) ⟨3, ![3, 2048, 128]⟩ e)} {g : ℕ → ℕ → ℕ → Elt Ideal e} {y : (⟨3, ![3, 2048, 128]⟩ : Shape).Idx}
    (hp : ∀ (a : Fin n) (c : Fin 128), w (ix3 0 a c) = g P (r + d * a.val) c.val)
    (h : ¬ ((y 0).val = P ∧ (y 1).val % d = r) → View.canon L y = g (y 0).val (y 1).val (y 2).val) :
    View.canon (⟨({ off := ![P, r, 0], size := Shape.size ⟨3, ![1, n, 128]⟩, stride := ![1, d, 1], inb := inb, stride_pos := pos } : Rect ⟨3, ![3, 2048, 128]⟩), w⟩ :: L) y
      = g (y 0).val (y 1).val (y 2).val := by
  refine step (G := fun y => g (y 0).val (y 1).val (y 2).val) ({ off := ![P, r, 0], size := Shape.size ⟨3, ![1, n, 128]⟩, stride := ![1, d, 1], inb := inb, stride_pos := pos } : Rect ⟨3, ![3, 2048, 128]⟩) w (fun x => ?_) fun hm => h fun ⟨h0, h1⟩ => hm ?_
  · obtain ⟨z, a, c, rfl⟩ : ∃ z a c, x = ix3 z a c := ⟨x 0, x 1, x 2, eq_ix3 x⟩
    obtain rfl : z = 0 := Subsingleton.elim _ _
    refine (hp a c).trans ?_
    show g P (r + d * a.val) c.val = g (P + 1 * 0) (r + d * a.val) (0 + 1 * c.val)
    rw [Nat.mul_zero, Nat.add_zero, Nat.one_mul, Nat.zero_add]
  · rw [LoadRect.mem_set]
    have hy : (y 1).val < 2048 := (y 1).isLt
    refine Fin.forall_fin_succ.mpr ⟨⟨0, Nat.one_pos, ?_⟩, Fin.forall_fin_two.mpr ⟨⟨(y 1).val / d, ?_, ?_⟩, ⟨(y 2).val, (y 2).isLt, ?_⟩⟩⟩
    · show (y 0).val = P + 1 * 0
      omega
    · show (y 1).val / d < n
      exact Nat.div_lt_of_lt_mul (by rw [Nat.mul_comm, hn]; exact hy)
    · show (y 1).val = r + d * ((y 1).val / d)
      have := Nat.mod_add_div (y 1).val d
      omega
    · show (y 2).val = 0 + 1 * (y 2).val
      omega

/-! ## Covers -/

theorem cover2 {z y : ℕ} (hz : z = 2) (h0 : ¬ (z = 2 ∧ y % 16 = 15)) (h1 : ¬ (z = 2 ∧ y % 16 = 14)) (h2 : ¬ (z = 2 ∧ y % 16 = 13)) (h3 : ¬ (z = 2 ∧ y % 16 = 12)) (h4 : ¬ (z = 2 ∧ y % 16 = 11)) (h5 : ¬ (z = 2 ∧ y % 16 = 10)) (h6 : ¬ (z = 2 ∧ y % 16 = 9)) (h7 : ¬ (z = 2 ∧ y % 16 = 8)) (h8 : ¬ (z = 2 ∧ y % 16 = 7)) (h9 : ¬ (z = 2 ∧ y % 16 = 6)) (h10 : ¬ (z = 2 ∧ y % 16 = 5)) (h11 : ¬ (z = 2 ∧ y % 16 = 4)) (h12 : ¬ (z = 2 ∧ y % 16 = 3)) (h13 : ¬ (z = 2 ∧ y % 16 = 2)) (h14 : ¬ (z = 2 ∧ y % 16 = 1)) (h15 : ¬ (z = 2 ∧ y % 16 = 0)) : False := by
  simp only [hz, true_and] at *
  omega

theorem cover1 {z y : ℕ} (hz : z = 1) (h0 : ¬ (z = 1 ∧ y % 4 = 3)) (h1 : ¬ (z = 1 ∧ y % 4 = 2)) (h2 : ¬ (z = 1 ∧ y % 4 = 1)) (h3 : ¬ (z = 1 ∧ y % 4 = 0)) : False := by
  simp only [hz, true_and] at *
  omega

theorem cover0 {z y : ℕ} (hz : z = 0) (hy : y < 2048) (h0 : ¬ (z = 0 ∧ 1920 ≤ y ∧ y < 1920 + 128)) (h1 : ¬ (z = 0 ∧ 1792 ≤ y ∧ y < 1792 + 128)) (h2 : ¬ (z = 0 ∧ 1664 ≤ y ∧ y < 1664 + 128)) (h3 : ¬ (z = 0 ∧ 1536 ≤ y ∧ y < 1536 + 128)) (h4 : ¬ (z = 0 ∧ 1408 ≤ y ∧ y < 1408 + 128)) (h5 : ¬ (z = 0 ∧ 1280 ≤ y ∧ y < 1280 + 128)) (h6 : ¬ (z = 0 ∧ 1152 ≤ y ∧ y < 1152 + 128)) (h7 : ¬ (z = 0 ∧ 1024 ≤ y ∧ y < 1024 + 128)) (h8 : ¬ (z = 0 ∧ 896 ≤ y ∧ y < 896 + 128)) (h9 : ¬ (z = 0 ∧ 768 ≤ y ∧ y < 768 + 128)) (h10 : ¬ (z = 0 ∧ 640 ≤ y ∧ y < 640 + 128)) (h11 : ¬ (z = 0 ∧ 512 ≤ y ∧ y < 512 + 128)) (h12 : ¬ (z = 0 ∧ 384 ≤ y ∧ y < 384 + 128)) (h13 : ¬ (z = 0 ∧ 256 ≤ y ∧ y < 256 + 128)) (h14 : ¬ (z = 0 ∧ 128 ≤ y ∧ y < 128 + 128)) (h15 : ¬ (z = 0 ∧ 0 ≤ y ∧ y < 0 + 128)) : False := by
  simp only [hz, true_and] at *
  omega

/-! ## Entries of the inputs -/

theorem QQ_at (x : FVec Ideal S1x2048x128 .f32) (y : S1x2048x128.Idx) {t c : ℕ} (h1 : (y 1).val = t) (h2 : (y 2).val = c) :
    x y * Ideal.ofBits .f32 0x3E000000#32 = QQ x t c := by
  obtain ⟨z, a, b, rfl⟩ : ∃ z a b, y = ix3 z a b := ⟨y 0, y 1, y 2, eq_ix3 y⟩
  obtain rfl : z = 0 := Subsingleton.elim _ _
  subst h1; subst h2
  show _ = QQ x a.val b.val
  rw [QQ, dif_pos ⟨a.isLt, b.isLt⟩]

theorem KK_p (p : FVec Ideal S1x1024x128 .f32) (x : FVec Ideal S1x2048x128 .f32) (n : FVec Ideal S1x1024x128 .f32) (y : S1x1024x128.Idx) {t c : ℕ}
    (h1 : (y 1).val = t) (h2 : (y 2).val = c) : p y = KK p x n t c := by
  obtain ⟨z, a, b, rfl⟩ : ∃ z a b, y = ix3 z a b := ⟨y 0, y 1, y 2, eq_ix3 y⟩
  obtain rfl : z = 0 := Subsingleton.elim _ _
  subst h1; subst h2
  show _ = KK p x n a.val b.val
  rw [KK, dif_pos ⟨a.isLt, b.isLt⟩]

theorem KK_x (p : FVec Ideal S1x1024x128 .f32) (x : FVec Ideal S1x2048x128 .f32) (n : FVec Ideal S1x1024x128 .f32) (y : S1x2048x128.Idx) {t c : ℕ}
    (h1 : (y 1).val + 1024 = t) (h2 : (y 2).val = c) : x y = KK p x n t c := by
  obtain ⟨z, a, b, rfl⟩ : ∃ z a b, y = ix3 z a b := ⟨y 0, y 1, y 2, eq_ix3 y⟩
  obtain rfl : z = 0 := Subsingleton.elim _ _
  subst h1; subst h2
  have ha : a.val < 2048 := a.isLt
  have hb : b.val < 128 := b.isLt
  show _ = KK p x n (a.val + 1024) b.val
  rw [KK, dif_neg (by omega), dif_pos (by omega)]
  exact congrArg x (congrArg (fun k => ix3 0 k b) (Fin.ext (by show a.val = a.val + 1024 - 1024; omega)))

theorem KK_n (p : FVec Ideal S1x1024x128 .f32) (x : FVec Ideal S1x2048x128 .f32) (n : FVec Ideal S1x1024x128 .f32) (y : S1x1024x128.Idx) {t c : ℕ}
    (h1 : (y 1).val + 3072 = t) (h2 : (y 2).val = c) : n y = KK p x n t c := by
  obtain ⟨z, a, b, rfl⟩ : ∃ z a b, y = ix3 z a b := ⟨y 0, y 1, y 2, eq_ix3 y⟩
  obtain rfl : z = 0 := Subsingleton.elim _ _
  subst h1; subst h2
  have ha : a.val < 1024 := a.isLt
  have hb : b.val < 128 := b.isLt
  show _ = KK p x n (a.val + 3072) b.val
  rw [KK, dif_neg (by omega), dif_neg (by omega), dif_pos (by omega)]
  exact congrArg n (congrArg (fun k => ix3 0 k b) (Fin.ext (by show a.val = a.val + 3072 - 3072; omega)))

theorem BB_at (b : FVec Ideal S3x2x128x256 .f32) (y : S3x2x128x256.Idx) {P h i j : ℕ} (h0 : (y 0).val = P) (h1 : (y 1).val = h) (h2 : (y 2).val = i) (h3 : (y 3).val = j) :
    b y = BB b P h i j := by
  obtain ⟨z, w, a, c, rfl⟩ : ∃ z w a c, y = ix4 z w a c := ⟨y 0, y 1, y 2, y 3, eq_ix4 y⟩
  subst h0; subst h1; subst h2; subst h3
  show _ = BB b z.val w.val a.val c.val
  rw [BB, dif_pos ⟨z.isLt, w.isLt, a.isLt, c.isLt⟩]

end Cert.AttnIdeal.Att

end
-- ==== Proof.AttPay.lean ====
/-
  A block's three results, as they are stored.
-/
module

public import proofs.«01_k».proof.Proof.AttForm

@[expose] public section

set_option maxRecDepth 16384

noncomputable section

namespace Cert.AttnIdeal.Att

open Cert.AttnIdeal Cert.AttnIdeal.Gen Idealize.ShloMosaic Idealize.ShloMosaic.TcCoe Idealize.SL.Sem
open Idealize.ShloMosaic.Pointwise
open scoped BigOperators

variable {x0 : FVec Ideal S1x2048x128 .f32} {x1 : FVec Ideal S1x1024x128 .f32} {x2 : FVec Ideal S1x2048x128 .f32} {x3 : FVec Ideal S1x1024x128 .f32}
  {x4 : FVec Ideal S1x1024x128 .f32} {x5 : FVec Ideal S1x2048x128 .f32} {x6 : FVec Ideal S1x1024x128 .f32} {x7 : FVec Ideal S3x2x128x256 .f32}
variable {P d lh r j0 : ℕ} {q : FVec Ideal S128x128 .f32} {k v : FVec Ideal S256x128 .bf16} {b0 b1 : FVec Ideal S1x1x128x256 .f32}

theorem Ctx.oN (C : Ctx x0 x1 x2 x3 x4 x5 x6 x7 P d lh r j0 q k v b0 b1) {lt : ℕ} (h1 : 64 ≤ j0 * 128) (h2 : j0 * 128 + 192 ≤ lt)
    {pay : FVec Ideal S128x128 .f32} {i b : Fin 128} {z : EReal} (hp : pay = shapeCast S128x128 (blkO (score (qLo q) k b0) (score (qHi q) k b1) v) shapeCasts_S128x128_S128x128) (hz : OB x0 x1 x2 x3 x4 x5 x6 x7 P d lt lh r (j0 * 128 + i.val) b.val = z) : pay (ix2 i b) = z := by
  rw [hp, shapeCast_id, ← hz]
  exact C.o (C.n0 h1 h2) (C.n1 h1 h2) i b

theorem Ctx.oN3 (C : Ctx x0 x1 x2 x3 x4 x5 x6 x7 P d lh r j0 q k v b0 b1) {lt : ℕ} (h1 : 64 ≤ j0 * 128) (h2 : j0 * 128 + 192 ≤ lt)
    {pay : FVec Ideal S1x128x128 .f32} {i b : Fin 128} {z : EReal} (hp : pay = shapeCast S1x128x128 (blkO (score (qLo q) k b0) (score (qHi q) k b1) v) shapeCasts_S128x128_S1x128x128) (hz : OB x0 x1 x2 x3 x4 x5 x6 x7 P d lt lh r (j0 * 128 + i.val) b.val = z) : pay (ix3 0 i b) = z := by
  rw [hp]
  refine Eq.trans ?_ (C.oN h1 h2 (pay := shapeCast S128x128 (blkO (score (qLo q) k b0) (score (qHi q) k b1) v) shapeCasts_S128x128_S128x128) rfl hz)
  rw [shapeCast_id]
  pointwise []

theorem Ctx.lN (C : Ctx x0 x1 x2 x3 x4 x5 x6 x7 P d lh r j0 q k v b0 b1) {lt : ℕ} (h1 : 64 ≤ j0 * 128) (h2 : j0 * 128 + 192 ≤ lt)
    {pay : FVec Ideal S128x128 .f32} {i b : Fin 128} {z : EReal} (hp : pay = shapeCast S128x128 (blkL (score (qLo q) k b0) (score (qHi q) k b1) v) shapeCasts_S128x128_S128x128) (hz : LB x0 x1 x2 x3 x7 P d lt lh r (j0 * 128 + i.val) b.val = z) : pay (ix2 i b) = z := by
  rw [hp, shapeCast_id, ← hz]
  exact C.l (C.n0 h1 h2) (C.n1 h1 h2) i b

theorem Ctx.lN3 (C : Ctx x0 x1 x2 x3 x4 x5 x6 x7 P d lh r j0 q k v b0 b1) {lt : ℕ} (h1 : 64 ≤ j0 * 128) (h2 : j0 * 128 + 192 ≤ lt)
    {pay : FVec Ideal S1x128x128 .f32} {i b : Fin 128} {z : EReal} (hp : pay = shapeCast S1x128x128 (blkL (score (qLo q) k b0) (score (qHi q) k b1) v) shapeCasts_S128x128_S1x128x128) (hz : LB x0 x1 x2 x3 x7 P d lt lh r (j0 * 128 + i.val) b.val = z) : pay (ix3 0 i b) = z := by
  rw [hp]
  refine Eq.trans ?_ (C.lN h1 h2 (pay := shapeCast S128x128 (blkL (score (qLo q) k b0) (score (qHi q) k b1) v) shapeCasts_S128x128_S128x128) rfl hz)
  rw [shapeCast_id]
  pointwise []

theorem Ctx.mN (C : Ctx x0 x1 x2 x3 x4 x5 x6 x7 P d lh r j0 q k v b0 b1) {lt : ℕ} (h1 : 64 ≤ j0 * 128) (h2 : j0 * 128 + 192 ≤ lt)
    {pay : FVec Ideal S128x128 .f32} {i b : Fin 128} {z : EReal} (hp : pay = shapeCast S128x128 (blkM (score (qLo q) k b0) (score (qHi q) k b1)) shapeCasts_S128x128_S128x128) (hz : MB x0 x1 x2 x3 x7 P d lt lh r (j0 * 128 + i.val) b.val = z) : pay (ix2 i b) = z := by
  rw [hp, shapeCast_id, ← hz]
  exact C.m (C.n0 h1 h2) (C.n1 h1 h2) i b

theorem Ctx.mN3 (C : Ctx x0 x1 x2 x3 x4 x5 x6 x7 P d lh r j0 q k v b0 b1) {lt : ℕ} (h1 : 64 ≤ j0 * 128) (h2 : j0 * 128 + 192 ≤ lt)
    {pay : FVec Ideal S1x128x128 .f32} {i b : Fin 128} {z : EReal} (hp : pay = shapeCast S1x128x128 (blkM (score (qLo q) k b0) (score (qHi q) k b1)) shapeCasts_S128x128_S1x128x128) (hz : MB x0 x1 x2 x3 x7 P d lt lh r (j0 * 128 + i.val) b.val = z) : pay (ix3 0 i b) = z := by
  rw [hp]
  refine Eq.trans ?_ (C.mN h1 h2 (pay := shapeCast S128x128 (blkM (score (qLo q) k b0) (score (qHi q) k b1)) shapeCasts_S128x128_S128x128) rfl hz)
  rw [shapeCast_id]
  pointwise []

theorem Ctx.oE (C : Ctx x0 x1 x2 x3 x4 x5 x6 x7 P d lh r j0 q k v b0 b1) {lt : ℕ} (w : BitVec 32) {t : ℕ} (ht : t = 0) (h1 : j0 * 128 ≤ 2048) (h2 : lt ≤ 2048)
    {pay : FVec Ideal S128x128 .f32} {i b : Fin 128} {z : EReal} (hp : pay = shapeCast S128x128 (blkO (masked (inside (BitVec.ofNat 32 t) w (BitVec.ofNat 32 (j0 * 128)) (BitVec.ofNat 32 lt) (iota .tc S1x256 32 [1] iota_S1x256_d1_w32)) (score (qLo q) k b0)) (masked (inside (BitVec.ofNat 32 t) w (BitVec.ofNat 32 (j0 * 128)) (BitVec.ofNat 32 lt) (iota .tc S1x256 32 [1] iota_S1x256_d1_w32)) (score (qHi q) k b1)) v) shapeCasts_S128x128_S128x128) (hz : OB x0 x1 x2 x3 x4 x5 x6 x7 P d lt lh r (j0 * 128 + i.val) b.val = z) : pay (ix2 i b) = z := by
  rw [hp, shapeCast_id, ← hz]
  exact C.o (C.e0 w t ht h1 h2) (C.e1 w t ht h1 h2) i b

theorem Ctx.oE3 (C : Ctx x0 x1 x2 x3 x4 x5 x6 x7 P d lh r j0 q k v b0 b1) {lt : ℕ} (w : BitVec 32) {t : ℕ} (ht : t = 0) (h1 : j0 * 128 ≤ 2048) (h2 : lt ≤ 2048)
    {pay : FVec Ideal S1x128x128 .f32} {i b : Fin 128} {z : EReal} (hp : pay = shapeCast S1x128x128 (blkO (masked (inside (BitVec.ofNat 32 t) w (BitVec.ofNat 32 (j0 * 128)) (BitVec.ofNat 32 lt) (iota .tc S1x256 32 [1] iota_S1x256_d1_w32)) (score (qLo q) k b0)) (masked (inside (BitVec.ofNat 32 t) w (BitVec.ofNat 32 (j0 * 128)) (BitVec.ofNat 32 lt) (iota .tc S1x256 32 [1] iota_S1x256_d1_w32)) (score (qHi q) k b1)) v) shapeCasts_S128x128_S1x128x128) (hz : OB x0 x1 x2 x3 x4 x5 x6 x7 P d lt lh r (j0 * 128 + i.val) b.val = z) : pay (ix3 0 i b) = z := by
  rw [hp]
  refine Eq.trans ?_ (C.oE w ht h1 h2 (pay := shapeCast S128x128 (blkO (masked (inside (BitVec.ofNat 32 t) w (BitVec.ofNat 32 (j0 * 128)) (BitVec.ofNat 32 lt) (iota .tc S1x256 32 [1] iota_S1x256_d1_w32)) (score (qLo q) k b0)) (masked (inside (BitVec.ofNat 32 t) w (BitVec.ofNat 32 (j0 * 128)) (BitVec.ofNat 32 lt) (iota .tc S1x256 32 [1] iota_S1x256_d1_w32)) (score (qHi q) k b1)) v) shapeCasts_S128x128_S128x128) rfl hz)
  rw [shapeCast_id]
  pointwise []

theorem Ctx.lE (C : Ctx x0 x1 x2 x3 x4 x5 x6 x7 P d lh r j0 q k v b0 b1) {lt : ℕ} (w : BitVec 32) {t : ℕ} (ht : t = 0) (h1 : j0 * 128 ≤ 2048) (h2 : lt ≤ 2048)
    {pay : FVec Ideal S128x128 .f32} {i b : Fin 128} {z : EReal} (hp : pay = shapeCast S128x128 (blkL (masked (inside (BitVec.ofNat 32 t) w (BitVec.ofNat 32 (j0 * 128)) (BitVec.ofNat 32 lt) (iota .tc S1x256 32 [1] iota_S1x256_d1_w32)) (score (qLo q) k b0)) (masked (inside (BitVec.ofNat 32 t) w (BitVec.ofNat 32 (j0 * 128)) (BitVec.ofNat 32 lt) (iota .tc S1x256 32 [1] iota_S1x256_d1_w32)) (score (qHi q) k b1)) v) shapeCasts_S128x128_S128x128) (hz : LB x0 x1 x2 x3 x7 P d lt lh r (j0 * 128 + i.val) b.val = z) : pay (ix2 i b) = z := by
  rw [hp, shapeCast_id, ← hz]
  exact C.l (C.e0 w t ht h1 h2) (C.e1 w t ht h1 h2) i b

theorem Ctx.lE3 (C : Ctx x0 x1 x2 x3 x4 x5 x6 x7 P d lh r j0 q k v b0 b1) {lt : ℕ} (w : BitVec 32) {t : ℕ} (ht : t = 0) (h1 : j0 * 128 ≤ 2048) (h2 : lt ≤ 2048)
    {pay : FVec Ideal S1x128x128 .f32} {i b : Fin 128} {z : EReal} (hp : pay = shapeCast S1x128x128 (blkL (masked (inside (BitVec.ofNat 32 t) w (BitVec.ofNat 32 (j0 * 128)) (BitVec.ofNat 32 lt) (iota .tc S1x256 32 [1] iota_S1x256_d1_w32)) (score (qLo q) k b0)) (masked (inside (BitVec.ofNat 32 t) w (BitVec.ofNat 32 (j0 * 128)) (BitVec.ofNat 32 lt) (iota .tc S1x256 32 [1] iota_S1x256_d1_w32)) (score (qHi q) k b1)) v) shapeCasts_S128x128_S1x128x128) (hz : LB x0 x1 x2 x3 x7 P d lt lh r (j0 * 128 + i.val) b.val = z) : pay (ix3 0 i b) = z := by
  rw [hp]
  refine Eq.trans ?_ (C.lE w ht h1 h2 (pay := shapeCast S128x128 (blkL (masked (inside (BitVec.ofNat 32 t) w (BitVec.ofNat 32 (j0 * 128)) (BitVec.ofNat 32 lt) (iota .tc S1x256 32 [1] iota_S1x256_d1_w32)) (score (qLo q) k b0)) (masked (inside (BitVec.ofNat 32 t) w (BitVec.ofNat 32 (j0 * 128)) (BitVec.ofNat 32 lt) (iota .tc S1x256 32 [1] iota_S1x256_d1_w32)) (score (qHi q) k b1)) v) shapeCasts_S128x128_S128x128) rfl hz)
  rw [shapeCast_id]
  pointwise []

theorem Ctx.mE (C : Ctx x0 x1 x2 x3 x4 x5 x6 x7 P d lh r j0 q k v b0 b1) {lt : ℕ} (w : BitVec 32) {t : ℕ} (ht : t = 0) (h1 : j0 * 128 ≤ 2048) (h2 : lt ≤ 2048)
    {pay : FVec Ideal S128x128 .f32} {i b : Fin 128} {z : EReal} (hp : pay = shapeCast S128x128 (blkM (masked (inside (BitVec.ofNat 32 t) w (BitVec.ofNat 32 (j0 * 128)) (BitVec.ofNat 32 lt) (iota .tc S1x256 32 [1] iota_S1x256_d1_w32)) (score (qLo q) k b0)) (masked (inside (BitVec.ofNat 32 t) w (BitVec.ofNat 32 (j0 * 128)) (BitVec.ofNat 32 lt) (iota .tc S1x256 32 [1] iota_S1x256_d1_w32)) (score (qHi q) k b1))) shapeCasts_S128x128_S128x128) (hz : MB x0 x1 x2 x3 x7 P d lt lh r (j0 * 128 + i.val) b.val = z) : pay (ix2 i b) = z := by
  rw [hp, shapeCast_id, ← hz]
  exact C.m (C.e0 w t ht h1 h2) (C.e1 w t ht h1 h2) i b

theorem Ctx.mE3 (C : Ctx x0 x1 x2 x3 x4 x5 x6 x7 P d lh r j0 q k v b0 b1) {lt : ℕ} (w : BitVec 32) {t : ℕ} (ht : t = 0) (h1 : j0 * 128 ≤ 2048) (h2 : lt ≤ 2048)
    {pay : FVec Ideal S1x128x128 .f32} {i b : Fin 128} {z : EReal} (hp : pay = shapeCast S1x128x128 (blkM (masked (inside (BitVec.ofNat 32 t) w (BitVec.ofNat 32 (j0 * 128)) (BitVec.ofNat 32 lt) (iota .tc S1x256 32 [1] iota_S1x256_d1_w32)) (score (qLo q) k b0)) (masked (inside (BitVec.ofNat 32 t) w (BitVec.ofNat 32 (j0 * 128)) (BitVec.ofNat 32 lt) (iota .tc S1x256 32 [1] iota_S1x256_d1_w32)) (score (qHi q) k b1))) shapeCasts_S128x128_S1x128x128) (hz : MB x0 x1 x2 x3 x7 P d lt lh r (j0 * 128 + i.val) b.val = z) : pay (ix3 0 i b) = z := by
  rw [hp]
  refine Eq.trans ?_ (C.mE w ht h1 h2 (pay := shapeCast S128x128 (blkM (masked (inside (BitVec.ofNat 32 t) w (BitVec.ofNat 32 (j0 * 128)) (BitVec.ofNat 32 lt) (iota .tc S1x256 32 [1] iota_S1x256_d1_w32)) (score (qLo q) k b0)) (masked (inside (BitVec.ofNat 32 t) w (BitVec.ofNat 32 (j0 * 128)) (BitVec.ofNat 32 lt) (iota .tc S1x256 32 [1] iota_S1x256_d1_w32)) (score (qHi q) k b1))) shapeCasts_S128x128_S128x128) rfl hz)
  rw [shapeCast_id]
  pointwise []

end Cert.AttnIdeal.Att

end
-- ==== Proof.AttBuf.lean ====
/-
  What the kernel's buffers of queries, keys and values hold once they are filled.
-/
module

public import proofs.«01_k».proof.Proof.AttForm
public import proofs.«01_k».proof.Proof.Gen.AttnIdeal.Frame.RunA

@[expose] public section

set_option maxRecDepth 16384

noncomputable section

namespace Cert.AttnIdeal.Att

open Cert.AttnIdeal Cert.AttnIdeal.Gen Idealize.ShloMosaic Idealize.ShloMosaic.TcCoe Idealize.SL.Sem
open Idealize.ShloMosaic.Pointwise
open scoped BigOperators

/-- The scaled queries as the kernel holds them for dilation 1. -/
theorem canon_HS0_1 (c : Dev nD) (arg3 : Memref sig .tc .vmem S1x2048x128 .f32) (harg3 : arg3.IsWhole) (x0 : FVec Ideal S1x2048x128 .f32) :
    View.canon (kernelRun0_A.sl.HS0_1 (F := Ideal) c arg3 harg3 x0) = fun y => QD x0 1 2048 (y 0).val (y 1).val := by
  funext y
  have hy : (y 0).val < 2048 := (y 0).isLt
  unfold kernelRun0_A.sl.HS0_1
  refine rowStep (e := .f32) (g := QD x0 1 2048) (off := 0) (n := 2048) _ _ (fun a b => ?_) fun h0 => ?_
  · have ha := a.isLt
    pointwise [kernelRun0_A.sl.v11, kernelRun0_A.sl.v8, kernelRun0_A.sl.v6, kernelRun0_A.sl.v7, kernelRun0_A.sl.cst_2]
    rw [Memref.IsWhole.readAt_unread]
    exact QQ_at _ _ (show 0 + 1 * a.val = a.val / 2048 + 1 * (a.val % 2048) by omega) (show 0 + 1 * b.val = b.val by omega)
  omega

/-- The keys as the kernel holds them for dilation 1. -/
theorem canon_HS4_3 (c : Dev nD) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (x1 : FVec Ideal S1x1024x128 .f32) (x2 : FVec Ideal S1x2048x128 .f32) (x3 : FVec Ideal S1x1024x128 .f32) :
    View.canon (kernelRun0_A.sl.HS4_3 (F := Ideal) c arg4 harg4 arg5 harg5 arg6 harg6 x1 x2 x3) = fun y => KD x1 x2 x3 1 4096 (y 0).val (y 1).val := by
  funext y
  have hy : (y 0).val < 4096 := (y 0).isLt
  unfold kernelRun0_A.sl.HS4_3
  refine rowStep (e := .bf16) (g := KD x1 x2 x3 1 4096) (off := 3072) (n := 1024) _ _ (fun a b => ?_) fun h0 => ?_
  · have ha := a.isLt
    pointwise [kernelRun0_A.sl.v43, kernelRun0_A.sl.v40, kernelRun0_A.sl.v37]
    rw [Memref.IsWhole.readAt_unread]
    exact KK_n _ _ _ _ (show 0 + 1 * a.val + 3072 = (3072 + a.val) / 4096 + 1 * ((3072 + a.val) % 4096) by omega) (show 0 + 1 * b.val = b.val by omega)
  refine rowStep (e := .bf16) (g := KD x1 x2 x3 1 4096) (off := 1024) (n := 2048) _ _ (fun a b => ?_) fun h1 => ?_
  · have ha := a.isLt
    pointwise [kernelRun0_A.sl.v31, kernelRun0_A.sl.v28, kernelRun0_A.sl.v25]
    rw [Memref.IsWhole.readAt_unread]
    exact KK_x _ _ _ _ (show 0 + 1 * a.val + 1024 = (1024 + a.val) / 4096 + 1 * ((1024 + a.val) % 4096) by omega) (show 0 + 1 * b.val = b.val by omega)
  refine rowStep (e := .bf16) (g := KD x1 x2 x3 1 4096) (off := 0) (n := 1024) _ _ (fun a b => ?_) fun h2 => ?_
  · have ha := a.isLt
    pointwise [kernelRun0_A.sl.v19, kernelRun0_A.sl.v16, kernelRun0_A.sl.v13]
    rw [Memref.IsWhole.readAt_unread]
    exact KK_p _ _ _ _ (show 0 + 1 * a.val = a.val / 4096 + 1 * (a.val % 4096) by omega) (show 0 + 1 * b.val = b.val by omega)
  omega

/-- The values as the kernel holds them for dilation 1. -/
theorem canon_HS5_3 (c : Dev nD) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (x4 : FVec Ideal S1x1024x128 .f32) (x5 : FVec Ideal S1x2048x128 .f32) (x6 : FVec Ideal S1x1024x128 .f32) :
    View.canon (kernelRun0_A.sl.HS5_3 (F := Ideal) c arg7 harg7 arg8 harg8 arg9 harg9 x4 x5 x6) = fun y => KD x4 x5 x6 1 4096 (y 0).val (y 1).val := by
  funext y
  have hy : (y 0).val < 4096 := (y 0).isLt
  unfold kernelRun0_A.sl.HS5_3
  refine rowStep (e := .bf16) (g := KD x4 x5 x6 1 4096) (off := 3072) (n := 1024) _ _ (fun a b => ?_) fun h0 => ?_
  · have ha := a.isLt
    pointwise [kernelRun0_A.sl.v47, kernelRun0_A.sl.v44, kernelRun0_A.sl.v39]
    rw [Memref.IsWhole.readAt_unread]
    exact KK_n _ _ _ _ (show 0 + 1 * a.val + 3072 = (3072 + a.val) / 4096 + 1 * ((3072 + a.val) % 4096) by omega) (show 0 + 1 * b.val = b.val by omega)
  refine rowStep (e := .bf16) (g := KD x4 x5 x6 1 4096) (off := 1024) (n := 2048) _ _ (fun a b => ?_) fun h1 => ?_
  · have ha := a.isLt
    pointwise [kernelRun0_A.sl.v35, kernelRun0_A.sl.v32, kernelRun0_A.sl.v27]
    rw [Memref.IsWhole.readAt_unread]
    exact KK_x _ _ _ _ (show 0 + 1 * a.val + 1024 = (1024 + a.val) / 4096 + 1 * ((1024 + a.val) % 4096) by omega) (show 0 + 1 * b.val = b.val by omega)
  refine rowStep (e := .bf16) (g := KD x4 x5 x6 1 4096) (off := 0) (n := 1024) _ _ (fun a b => ?_) fun h2 => ?_
  · have ha := a.isLt
    pointwise [kernelRun0_A.sl.v23, kernelRun0_A.sl.v20, kernelRun0_A.sl.v15]
    rw [Memref.IsWhole.readAt_unread]
    exact KK_p _ _ _ _ (show 0 + 1 * a.val = a.val / 4096 + 1 * (a.val % 4096) by omega) (show 0 + 1 * b.val = b.val by omega)
  omega

/-- The scaled queries as the kernel holds them for dilation 4. -/
theorem canon_HS1_4 (c : Dev nD) (arg3 : Memref sig .tc .vmem S1x2048x128 .f32) (harg3 : arg3.IsWhole) (x0 : FVec Ideal S1x2048x128 .f32) :
    View.canon (kernelRun0_A.sl.HS1_4 (F := Ideal) c arg3 harg3 x0) = fun y => QD x0 4 512 (y 0).val (y 1).val := by
  funext y
  have hy : (y 0).val < 2048 := (y 0).isLt
  unfold kernelRun0_A.sl.HS1_4
  refine rowStep (e := .f32) (g := QD x0 4 512) (off := 1536) (n := 512) _ _ (fun a b => ?_) fun h0 => ?_
  · have ha := a.isLt
    pointwise [kernelRun0_A.sl.v1105, kernelRun0_A.sl.v1102, kernelRun0_A.sl.v1100, kernelRun0_A.sl.v918, kernelRun0_A.sl.cst_2]
    rw [Memref.IsWhole.readAt_unread]
    exact QQ_at _ _ (show 3 + 4 * a.val = (1536 + a.val) / 512 + 4 * ((1536 + a.val) % 512) by omega) (show 0 + 1 * b.val = b.val by omega)
  refine rowStep (e := .f32) (g := QD x0 4 512) (off := 1024) (n := 512) _ _ (fun a b => ?_) fun h1 => ?_
  · have ha := a.isLt
    pointwise [kernelRun0_A.sl.v1044, kernelRun0_A.sl.v1041, kernelRun0_A.sl.v1039, kernelRun0_A.sl.v918, kernelRun0_A.sl.cst_2]
    rw [Memref.IsWhole.readAt_unread]
    exact QQ_at _ _ (show 2 + 4 * a.val = (1024 + a.val) / 512 + 4 * ((1024 + a.val) % 512) by omega) (show 0 + 1 * b.val = b.val by omega)
  refine rowStep (e := .f32) (g := QD x0 4 512) (off := 512) (n := 512) _ _ (fun a b => ?_) fun h2 => ?_
  · have ha := a.isLt
    pointwise [kernelRun0_A.sl.v983, kernelRun0_A.sl.v980, kernelRun0_A.sl.v978, kernelRun0_A.sl.v918, kernelRun0_A.sl.cst_2]
    rw [Memref.IsWhole.readAt_unread]
    exact QQ_at _ _ (show 1 + 4 * a.val = (512 + a.val) / 512 + 4 * ((512 + a.val) % 512) by omega) (show 0 + 1 * b.val = b.val by omega)
  refine rowStep (e := .f32) (g := QD x0 4 512) (off := 0) (n := 512) _ _ (fun a b => ?_) fun h3 => ?_
  · have ha := a.isLt
    pointwise [kernelRun0_A.sl.v922, kernelRun0_A.sl.v919, kernelRun0_A.sl.v917, kernelRun0_A.sl.v918, kernelRun0_A.sl.cst_2]
    rw [Memref.IsWhole.readAt_unread]
    exact QQ_at _ _ (show 0 + 4 * a.val = a.val / 512 + 4 * (a.val % 512) by omega) (show 0 + 1 * b.val = b.val by omega)
  omega

/-- The keys as the kernel holds them for dilation 4. -/
theorem canon_HS2_12 (c : Dev nD) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (x1 : FVec Ideal S1x1024x128 .f32) (x2 : FVec Ideal S1x2048x128 .f32) (x3 : FVec Ideal S1x1024x128 .f32) :
    View.canon (kernelRun0_A.sl.HS2_12 (F := Ideal) c arg4 harg4 arg5 harg5 arg6 harg6 x1 x2 x3) = fun y => KD x1 x2 x3 4 1024 (y 0).val (y 1).val := by
  funext y
  have hy : (y 0).val < 4096 := (y 0).isLt
  unfold kernelRun0_A.sl.HS2_12
  refine rowStep (e := .f32) (g := KD x1 x2 x3 4 1024) (off := 3840) (n := 256) _ _ (fun a b => ?_) fun h0 => ?_
  · have ha := a.isLt
    pointwise [kernelRun0_A.sl.v1148, kernelRun0_A.sl.v1143]
    rw [Memref.IsWhole.readAt_unread]
    exact KK_n _ _ _ _ (show 3 + 4 * a.val + 3072 = (3840 + a.val) / 1024 + 4 * ((3840 + a.val) % 1024) by omega) (show 0 + 1 * b.val = b.val by omega)
  refine rowStep (e := .f32) (g := KD x1 x2 x3 4 1024) (off := 3328) (n := 512) _ _ (fun a b => ?_) fun h1 => ?_
  · have ha := a.isLt
    pointwise [kernelRun0_A.sl.v1130, kernelRun0_A.sl.v1125]
    rw [Memref.IsWhole.readAt_unread]
    exact KK_x _ _ _ _ (show 3 + 4 * a.val + 1024 = (3328 + a.val) / 1024 + 4 * ((3328 + a.val) % 1024) by omega) (show 0 + 1 * b.val = b.val by omega)
  refine rowStep (e := .f32) (g := KD x1 x2 x3 4 1024) (off := 3072) (n := 256) _ _ (fun a b => ?_) fun h2 => ?_
  · have ha := a.isLt
    pointwise [kernelRun0_A.sl.v1112, kernelRun0_A.sl.v1107]
    rw [Memref.IsWhole.readAt_unread]
    exact KK_p _ _ _ _ (show 3 + 4 * a.val = (3072 + a.val) / 1024 + 4 * ((3072 + a.val) % 1024) by omega) (show 0 + 1 * b.val = b.val by omega)
  refine rowStep (e := .f32) (g := KD x1 x2 x3 4 1024) (off := 2816) (n := 256) _ _ (fun a b => ?_) fun h3 => ?_
  · have ha := a.isLt
    pointwise [kernelRun0_A.sl.v1087, kernelRun0_A.sl.v1082]
    rw [Memref.IsWhole.readAt_unread]
    exact KK_n _ _ _ _ (show 2 + 4 * a.val + 3072 = (2816 + a.val) / 1024 + 4 * ((2816 + a.val) % 1024) by omega) (show 0 + 1 * b.val = b.val by omega)
  refine rowStep (e := .f32) (g := KD x1 x2 x3 4 1024) (off := 2304) (n := 512) _ _ (fun a b => ?_) fun h4 => ?_
  · have ha := a.isLt
    pointwise [kernelRun0_A.sl.v1069, kernelRun0_A.sl.v1064]
    rw [Memref.IsWhole.readAt_unread]
    exact KK_x _ _ _ _ (show 2 + 4 * a.val + 1024 = (2304 + a.val) / 1024 + 4 * ((2304 + a.val) % 1024) by omega) (show 0 + 1 * b.val = b.val by omega)
  refine rowStep (e := .f32) (g := KD x1 x2 x3 4 1024) (off := 2048) (n := 256) _ _ (fun a b => ?_) fun h5 => ?_
  · have ha := a.isLt
    pointwise [kernelRun0_A.sl.v1051, kernelRun0_A.sl.v1046]
    rw [Memref.IsWhole.readAt_unread]
    exact KK_p _ _ _ _ (show 2 + 4 * a.val = (2048 + a.val) / 1024 + 4 * ((2048 + a.val) % 1024) by omega) (show 0 + 1 * b.val = b.val by omega)
  refine rowStep (e := .f32) (g := KD x1 x2 x3 4 1024) (off := 1792) (n := 256) _ _ (fun a b => ?_) fun h6 => ?_
  · have ha := a.isLt
    pointwise [kernelRun0_A.sl.v1026, kernelRun0_A.sl.v1021]
    rw [Memref.IsWhole.readAt_unread]
    exact KK_n _ _ _ _ (show 1 + 4 * a.val + 3072 = (1792 + a.val) / 1024 + 4 * ((1792 + a.val) % 1024) by omega) (show 0 + 1 * b.val = b.val by omega)
  refine rowStep (e := .f32) (g := KD x1 x2 x3 4 1024) (off := 1280) (n := 512) _ _ (fun a b => ?_) fun h7 => ?_
  · have ha := a.isLt
    pointwise [kernelRun0_A.sl.v1008, kernelRun0_A.sl.v1003]
    rw [Memref.IsWhole.readAt_unread]
    exact KK_x _ _ _ _ (show 1 + 4 * a.val + 1024 = (1280 + a.val) / 1024 + 4 * ((1280 + a.val) % 1024) by omega) (show 0 + 1 * b.val = b.val by omega)
  refine rowStep (e := .f32) (g := KD x1 x2 x3 4 1024) (off := 1024) (n := 256) _ _ (fun a b => ?_) fun h8 => ?_
  · have ha := a.isLt
    pointwise [kernelRun0_A.sl.v990, kernelRun0_A.sl.v985]
    rw [Memref.IsWhole.readAt_unread]
    exact KK_p _ _ _ _ (show 1 + 4 * a.val = (1024 + a.val) / 1024 + 4 * ((1024 + a.val) % 1024) by omega) (show 0 + 1 * b.val = b.val by omega)
  refine rowStep (e := .f32) (g := KD x1 x2 x3 4 1024) (off := 768) (n := 256) _ _ (fun a b => ?_) fun h9 => ?_
  · have ha := a.isLt
    pointwise [kernelRun0_A.sl.v965, kernelRun0_A.sl.v960]
    rw [Memref.IsWhole.readAt_unread]
    exact KK_n _ _ _ _ (show 0 + 4 * a.val + 3072 = (768 + a.val) / 1024 + 4 * ((768 + a.val) % 1024) by omega) (show 0 + 1 * b.val = b.val by omega)
  refine rowStep (e := .f32) (g := KD x1 x2 x3 4 1024) (off := 256) (n := 512) _ _ (fun a b => ?_) fun h10 => ?_
  · have ha := a.isLt
    pointwise [kernelRun0_A.sl.v947, kernelRun0_A.sl.v942]
    rw [Memref.IsWhole.readAt_unread]
    exact KK_x _ _ _ _ (show 0 + 4 * a.val + 1024 = (256 + a.val) / 1024 + 4 * ((256 + a.val) % 1024) by omega) (show 0 + 1 * b.val = b.val by omega)
  refine rowStep (e := .f32) (g := KD x1 x2 x3 4 1024) (off := 0) (n := 256) _ _ (fun a b => ?_) fun h11 => ?_
  · have ha := a.isLt
    pointwise [kernelRun0_A.sl.v929, kernelRun0_A.sl.v924]
    rw [Memref.IsWhole.readAt_unread]
    exact KK_p _ _ _ _ (show 0 + 4 * a.val = a.val / 1024 + 4 * (a.val % 1024) by omega) (show 0 + 1 * b.val = b.val by omega)
  omega

/-- The values as the kernel holds them for dilation 4. -/
theorem canon_HS3_12 (c : Dev nD) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (x4 : FVec Ideal S1x1024x128 .f32) (x5 : FVec Ideal S1x2048x128 .f32) (x6 : FVec Ideal S1x1024x128 .f32) :
    View.canon (kernelRun0_A.sl.HS3_12 (F := Ideal) c arg7 harg7 arg8 harg8 arg9 harg9 x4 x5 x6) = fun y => KD x4 x5 x6 4 1024 (y 0).val (y 1).val := by
  funext y
  have hy : (y 0).val < 4096 := (y 0).isLt
  unfold kernelRun0_A.sl.HS3_12
  refine rowStep (e := .f32) (g := KD x4 x5 x6 4 1024) (off := 3840) (n := 256) _ _ (fun a b => ?_) fun h0 => ?_
  · have ha := a.isLt
    pointwise [kernelRun0_A.sl.v1151, kernelRun0_A.sl.v1145]
    rw [Memref.IsWhole.readAt_unread]
    exact KK_n _ _ _ _ (show 3 + 4 * a.val + 3072 = (3840 + a.val) / 1024 + 4 * ((3840 + a.val) % 1024) by omega) (show 0 + 1 * b.val = b.val by omega)
  refine rowStep (e := .f32) (g := KD x4 x5 x6 4 1024) (off := 3328) (n := 512) _ _ (fun a b => ?_) fun h1 => ?_
  · have ha := a.isLt
    pointwise [kernelRun0_A.sl.v1133, kernelRun0_A.sl.v1127]
    rw [Memref.IsWhole.readAt_unread]
    exact KK_x _ _ _ _ (show 3 + 4 * a.val + 1024 = (3328 + a.val) / 1024 + 4 * ((3328 + a.val) % 1024) by omega) (show 0 + 1 * b.val = b.val by omega)
  refine rowStep (e := .f32) (g := KD x4 x5 x6 4 1024) (off := 3072) (n := 256) _ _ (fun a b => ?_) fun h2 => ?_
  · have ha := a.isLt
    pointwise [kernelRun0_A.sl.v1115, kernelRun0_A.sl.v1109]
    rw [Memref.IsWhole.readAt_unread]
    exact KK_p _ _ _ _ (show 3 + 4 * a.val = (3072 + a.val) / 1024 + 4 * ((3072 + a.val) % 1024) by omega) (show 0 + 1 * b.val = b.val by omega)
  refine rowStep (e := .f32) (g := KD x4 x5 x6 4 1024) (off := 2816) (n := 256) _ _ (fun a b => ?_) fun h3 => ?_
  · have ha := a.isLt
    pointwise [kernelRun0_A.sl.v1090, kernelRun0_A.sl.v1084]
    rw [Memref.IsWhole.readAt_unread]
    exact KK_n _ _ _ _ (show 2 + 4 * a.val + 3072 = (2816 + a.val) / 1024 + 4 * ((2816 + a.val) % 1024) by omega) (show 0 + 1 * b.val = b.val by omega)
  refine rowStep (e := .f32) (g := KD x4 x5 x6 4 1024) (off := 2304) (n := 512) _ _ (fun a b => ?_) fun h4 => ?_
  · have ha := a.isLt
    pointwise [kernelRun0_A.sl.v1072, kernelRun0_A.sl.v1066]
    rw [Memref.IsWhole.readAt_unread]
    exact KK_x _ _ _ _ (show 2 + 4 * a.val + 1024 = (2304 + a.val) / 1024 + 4 * ((2304 + a.val) % 1024) by omega) (show 0 + 1 * b.val = b.val by omega)
  refine rowStep (e := .f32) (g := KD x4 x5 x6 4 1024) (off := 2048) (n := 256) _ _ (fun a b => ?_) fun h5 => ?_
  · have ha := a.isLt
    pointwise [kernelRun0_A.sl.v1054, kernelRun0_A.sl.v1048]
    rw [Memref.IsWhole.readAt_unread]
    exact KK_p _ _ _ _ (show 2 + 4 * a.val = (2048 + a.val) / 1024 + 4 * ((2048 + a.val) % 1024) by omega) (show 0 + 1 * b.val = b.val by omega)
  refine rowStep (e := .f32) (g := KD x4 x5 x6 4 1024) (off := 1792) (n := 256) _ _ (fun a b => ?_) fun h6 => ?_
  · have ha := a.isLt
    pointwise [kernelRun0_A.sl.v1029, kernelRun0_A.sl.v1023]
    rw [Memref.IsWhole.readAt_unread]
    exact KK_n _ _ _ _ (show 1 + 4 * a.val + 3072 = (1792 + a.val) / 1024 + 4 * ((1792 + a.val) % 1024) by omega) (show 0 + 1 * b.val = b.val by omega)
  refine rowStep (e := .f32) (g := KD x4 x5 x6 4 1024) (off := 1280) (n := 512) _ _ (fun a b => ?_) fun h7 => ?_
  · have ha := a.isLt
    pointwise [kernelRun0_A.sl.v1011, kernelRun0_A.sl.v1005]
    rw [Memref.IsWhole.readAt_unread]
    exact KK_x _ _ _ _ (show 1 + 4 * a.val + 1024 = (1280 + a.val) / 1024 + 4 * ((1280 + a.val) % 1024) by omega) (show 0 + 1 * b.val = b.val by omega)
  refine rowStep (e := .f32) (g := KD x4 x5 x6 4 1024) (off := 1024) (n := 256) _ _ (fun a b => ?_) fun h8 => ?_
  · have ha := a.isLt
    pointwise [kernelRun0_A.sl.v993, kernelRun0_A.sl.v987]
    rw [Memref.IsWhole.readAt_unread]
    exact KK_p _ _ _ _ (show 1 + 4 * a.val = (1024 + a.val) / 1024 + 4 * ((1024 + a.val) % 1024) by omega) (show 0 + 1 * b.val = b.val by omega)
  refine rowStep (e := .f32) (g := KD x4 x5 x6 4 1024) (off := 768) (n := 256) _ _ (fun a b => ?_) fun h9 => ?_
  · have ha := a.isLt
    pointwise [kernelRun0_A.sl.v968, kernelRun0_A.sl.v962]
    rw [Memref.IsWhole.readAt_unread]
    exact KK_n _ _ _ _ (show 0 + 4 * a.val + 3072 = (768 + a.val) / 1024 + 4 * ((768 + a.val) % 1024) by omega) (show 0 + 1 * b.val = b.val by omega)
  refine rowStep (e := .f32) (g := KD x4 x5 x6 4 1024) (off := 256) (n := 512) _ _ (fun a b => ?_) fun h10 => ?_
  · have ha := a.isLt
    pointwise [kernelRun0_A.sl.v950, kernelRun0_A.sl.v944]
    rw [Memref.IsWhole.readAt_unread]
    exact KK_x _ _ _ _ (show 0 + 4 * a.val + 1024 = (256 + a.val) / 1024 + 4 * ((256 + a.val) % 1024) by omega) (show 0 + 1 * b.val = b.val by omega)
  refine rowStep (e := .f32) (g := KD x4 x5 x6 4 1024) (off := 0) (n := 256) _ _ (fun a b => ?_) fun h11 => ?_
  · have ha := a.isLt
    pointwise [kernelRun0_A.sl.v932, kernelRun0_A.sl.v926]
    rw [Memref.IsWhole.readAt_unread]
    exact KK_p _ _ _ _ (show 0 + 4 * a.val = a.val / 1024 + 4 * (a.val % 1024) by omega) (show 0 + 1 * b.val = b.val by omega)
  omega

/-- The keys as the kernel holds them for dilation 4. -/
theorem canon_HS4_15 (c : Dev nD) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (x1 : FVec Ideal S1x1024x128 .f32) (x2 : FVec Ideal S1x2048x128 .f32) (x3 : FVec Ideal S1x1024x128 .f32) :
    View.canon (kernelRun0_A.sl.HS4_15 (F := Ideal) c arg4 harg4 arg5 harg5 arg6 harg6 x1 x2 x3) = fun y => KD x1 x2 x3 4 1024 (y 0).val (y 1).val := by
  funext y
  have hy : (y 0).val < 4096 := (y 0).isLt
  unfold kernelRun0_A.sl.HS4_15 kernelRun0_A.sl.HS4_14 kernelRun0_A.sl.HS4_13 kernelRun0_A.sl.HS4_12 kernelRun0_A.sl.HS4_11 kernelRun0_A.sl.HS4_10 kernelRun0_A.sl.HS4_9 kernelRun0_A.sl.HS4_8 kernelRun0_A.sl.HS4_7 kernelRun0_A.sl.HS4_6 kernelRun0_A.sl.HS4_5 kernelRun0_A.sl.HS4_4
  refine rowStep (e := .bf16) (g := KD x1 x2 x3 4 1024) (off := 3840) (n := 256) _ _ (fun a b => ?_) fun h0 => ?_
  · have ha := a.isLt
    pointwise [kernelRun0_A.sl.v1155, kernelRun0_A.sl.v1152, kernelRun0_A.sl.v1143]
    rw [Memref.IsWhole.readAt_unread]
    exact KK_n _ _ _ _ (show 3 + 4 * a.val + 3072 = (3840 + a.val) / 1024 + 4 * ((3840 + a.val) % 1024) by omega) (show 0 + 1 * b.val = b.val by omega)
  refine rowStep (e := .bf16) (g := KD x1 x2 x3 4 1024) (off := 3328) (n := 512) _ _ (fun a b => ?_) fun h1 => ?_
  · have ha := a.isLt
    pointwise [kernelRun0_A.sl.v1137, kernelRun0_A.sl.v1134, kernelRun0_A.sl.v1125]
    rw [Memref.IsWhole.readAt_unread]
    exact KK_x _ _ _ _ (show 3 + 4 * a.val + 1024 = (3328 + a.val) / 1024 + 4 * ((3328 + a.val) % 1024) by omega) (show 0 + 1 * b.val = b.val by omega)
  refine rowStep (e := .bf16) (g := KD x1 x2 x3 4 1024) (off := 3072) (n := 256) _ _ (fun a b => ?_) fun h2 => ?_
  · have ha := a.isLt
    pointwise [kernelRun0_A.sl.v1119, kernelRun0_A.sl.v1116, kernelRun0_A.sl.v1107]
    rw [Memref.IsWhole.readAt_unread]
    exact KK_p _ _ _ _ (show 3 + 4 * a.val = (3072 + a.val) / 1024 + 4 * ((3072 + a.val) % 1024) by omega) (show 0 + 1 * b.val = b.val by omega)
  refine rowStep (e := .bf16) (g := KD x1 x2 x3 4 1024) (off := 2816) (n := 256) _ _ (fun a b => ?_) fun h3 => ?_
  · have ha := a.isLt
    pointwise [kernelRun0_A.sl.v1094, kernelRun0_A.sl.v1091, kernelRun0_A.sl.v1082]
    rw [Memref.IsWhole.readAt_unread]
    exact KK_n _ _ _ _ (show 2 + 4 * a.val + 3072 = (2816 + a.val) / 1024 + 4 * ((2816 + a.val) % 1024) by omega) (show 0 + 1 * b.val = b.val by omega)
  refine rowStep (e := .bf16) (g := KD x1 x2 x3 4 1024) (off := 2304) (n := 512) _ _ (fun a b => ?_) fun h4 => ?_
  · have ha := a.isLt
    pointwise [kernelRun0_A.sl.v1076, kernelRun0_A.sl.v1073, kernelRun0_A.sl.v1064]
    rw [Memref.IsWhole.readAt_unread]
    exact KK_x _ _ _ _ (show 2 + 4 * a.val + 1024 = (2304 + a.val) / 1024 + 4 * ((2304 + a.val) % 1024) by omega) (show 0 + 1 * b.val = b.val by omega)
  refine rowStep (e := .bf16) (g := KD x1 x2 x3 4 1024) (off := 2048) (n := 256) _ _ (fun a b => ?_) fun h5 => ?_
  · have ha := a.isLt
    pointwise [kernelRun0_A.sl.v1058, kernelRun0_A.sl.v1055, kernelRun0_A.sl.v1046]
    rw [Memref.IsWhole.readAt_unread]
    exact KK_p _ _ _ _ (show 2 + 4 * a.val = (2048 + a.val) / 1024 + 4 * ((2048 + a.val) % 1024) by omega) (show 0 + 1 * b.val = b.val by omega)
  refine rowStep (e := .bf16) (g := KD x1 x2 x3 4 1024) (off := 1792) (n := 256) _ _ (fun a b => ?_) fun h6 => ?_
  · have ha := a.isLt
    pointwise [kernelRun0_A.sl.v1033, kernelRun0_A.sl.v1030, kernelRun0_A.sl.v1021]
    rw [Memref.IsWhole.readAt_unread]
    exact KK_n _ _ _ _ (show 1 + 4 * a.val + 3072 = (1792 + a.val) / 1024 + 4 * ((1792 + a.val) % 1024) by omega) (show 0 + 1 * b.val = b.val by omega)
  refine rowStep (e := .bf16) (g := KD x1 x2 x3 4 1024) (off := 1280) (n := 512) _ _ (fun a b => ?_) fun h7 => ?_
  · have ha := a.isLt
    pointwise [kernelRun0_A.sl.v1015, kernelRun0_A.sl.v1012, kernelRun0_A.sl.v1003]
    rw [Memref.IsWhole.readAt_unread]
    exact KK_x _ _ _ _ (show 1 + 4 * a.val + 1024 = (1280 + a.val) / 1024 + 4 * ((1280 + a.val) % 1024) by omega) (show 0 + 1 * b.val = b.val by omega)
  refine rowStep (e := .bf16) (g := KD x1 x2 x3 4 1024) (off := 1024) (n := 256) _ _ (fun a b => ?_) fun h8 => ?_
  · have ha := a.isLt
    pointwise [kernelRun0_A.sl.v997, kernelRun0_A.sl.v994, kernelRun0_A.sl.v985]
    rw [Memref.IsWhole.readAt_unread]
    exact KK_p _ _ _ _ (show 1 + 4 * a.val = (1024 + a.val) / 1024 + 4 * ((1024 + a.val) % 1024) by omega) (show 0 + 1 * b.val = b.val by omega)
  refine rowStep (e := .bf16) (g := KD x1 x2 x3 4 1024) (off := 768) (n := 256) _ _ (fun a b => ?_) fun h9 => ?_
  · have ha := a.isLt
    pointwise [kernelRun0_A.sl.v972, kernelRun0_A.sl.v969, kernelRun0_A.sl.v960]
    rw [Memref.IsWhole.readAt_unread]
    exact KK_n _ _ _ _ (show 0 + 4 * a.val + 3072 = (768 + a.val) / 1024 + 4 * ((768 + a.val) % 1024) by omega) (show 0 + 1 * b.val = b.val by omega)
  refine rowStep (e := .bf16) (g := KD x1 x2 x3 4 1024) (off := 256) (n := 512) _ _ (fun a b => ?_) fun h10 => ?_
  · have ha := a.isLt
    pointwise [kernelRun0_A.sl.v954, kernelRun0_A.sl.v951, kernelRun0_A.sl.v942]
    rw [Memref.IsWhole.readAt_unread]
    exact KK_x _ _ _ _ (show 0 + 4 * a.val + 1024 = (256 + a.val) / 1024 + 4 * ((256 + a.val) % 1024) by omega) (show 0 + 1 * b.val = b.val by omega)
  refine rowStep (e := .bf16) (g := KD x1 x2 x3 4 1024) (off := 0) (n := 256) _ _ (fun a b => ?_) fun h11 => ?_
  · have ha := a.isLt
    pointwise [kernelRun0_A.sl.v936, kernelRun0_A.sl.v933, kernelRun0_A.sl.v924]
    rw [Memref.IsWhole.readAt_unread]
    exact KK_p _ _ _ _ (show 0 + 4 * a.val = a.val / 1024 + 4 * (a.val % 1024) by omega) (show 0 + 1 * b.val = b.val by omega)
  omega

/-- The values as the kernel holds them for dilation 4. -/
theorem canon_HS5_15 (c : Dev nD) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (x4 : FVec Ideal S1x1024x128 .f32) (x5 : FVec Ideal S1x2048x128 .f32) (x6 : FVec Ideal S1x1024x128 .f32) :
    View.canon (kernelRun0_A.sl.HS5_15 (F := Ideal) c arg7 harg7 arg8 harg8 arg9 harg9 x4 x5 x6) = fun y => KD x4 x5 x6 4 1024 (y 0).val (y 1).val := by
  funext y
  have hy : (y 0).val < 4096 := (y 0).isLt
  unfold kernelRun0_A.sl.HS5_15 kernelRun0_A.sl.HS5_14 kernelRun0_A.sl.HS5_13 kernelRun0_A.sl.HS5_12 kernelRun0_A.sl.HS5_11 kernelRun0_A.sl.HS5_10 kernelRun0_A.sl.HS5_9 kernelRun0_A.sl.HS5_8 kernelRun0_A.sl.HS5_7 kernelRun0_A.sl.HS5_6 kernelRun0_A.sl.HS5_5 kernelRun0_A.sl.HS5_4
  refine rowStep (e := .bf16) (g := KD x4 x5 x6 4 1024) (off := 3840) (n := 256) _ _ (fun a b => ?_) fun h0 => ?_
  · have ha := a.isLt
    pointwise [kernelRun0_A.sl.v1159, kernelRun0_A.sl.v1156, kernelRun0_A.sl.v1145]
    rw [Memref.IsWhole.readAt_unread]
    exact KK_n _ _ _ _ (show 3 + 4 * a.val + 3072 = (3840 + a.val) / 1024 + 4 * ((3840 + a.val) % 1024) by omega) (show 0 + 1 * b.val = b.val by omega)
  refine rowStep (e := .bf16) (g := KD x4 x5 x6 4 1024) (off := 3328) (n := 512) _ _ (fun a b => ?_) fun h1 => ?_
  · have ha := a.isLt
    pointwise [kernelRun0_A.sl.v1141, kernelRun0_A.sl.v1138, kernelRun0_A.sl.v1127]
    rw [Memref.IsWhole.readAt_unread]
    exact KK_x _ _ _ _ (show 3 + 4 * a.val + 1024 = (3328 + a.val) / 1024 + 4 * ((3328 + a.val) % 1024) by omega) (show 0 + 1 * b.val = b.val by omega)
  refine rowStep (e := .bf16) (g := KD x4 x5 x6 4 1024) (off := 3072) (n := 256) _ _ (fun a b => ?_) fun h2 => ?_
  · have ha := a.isLt
    pointwise [kernelRun0_A.sl.v1123, kernelRun0_A.sl.v1120, kernelRun0_A.sl.v1109]
    rw [Memref.IsWhole.readAt_unread]
    exact KK_p _ _ _ _ (show 3 + 4 * a.val = (3072 + a.val) / 1024 + 4 * ((3072 + a.val) % 1024) by omega) (show 0 + 1 * b.val = b.val by omega)
  refine rowStep (e := .bf16) (g := KD x4 x5 x6 4 1024) (off := 2816) (n := 256) _ _ (fun a b => ?_) fun h3 => ?_
  · have ha := a.isLt
    pointwise [kernelRun0_A.sl.v1098, kernelRun0_A.sl.v1095, kernelRun0_A.sl.v1084]
    rw [Memref.IsWhole.readAt_unread]
    exact KK_n _ _ _ _ (show 2 + 4 * a.val + 3072 = (2816 + a.val) / 1024 + 4 * ((2816 + a.val) % 1024) by omega) (show 0 + 1 * b.val = b.val by omega)
  refine rowStep (e := .bf16) (g := KD x4 x5 x6 4 1024) (off := 2304) (n := 512) _ _ (fun a b => ?_) fun h4 => ?_
  · have ha := a.isLt
    pointwise [kernelRun0_A.sl.v1080, kernelRun0_A.sl.v1077, kernelRun0_A.sl.v1066]
    rw [Memref.IsWhole.readAt_unread]
    exact KK_x _ _ _ _ (show 2 + 4 * a.val + 1024 = (2304 + a.val) / 1024 + 4 * ((2304 + a.val) % 1024) by omega) (show 0 + 1 * b.val = b.val by omega)
  refine rowStep (e := .bf16) (g := KD x4 x5 x6 4 1024) (off := 2048) (n := 256) _ _ (fun a b => ?_) fun h5 => ?_
  · have ha := a.isLt
    pointwise [kernelRun0_A.sl.v1062, kernelRun0_A.sl.v1059, kernelRun0_A.sl.v1048]
    rw [Memref.IsWhole.readAt_unread]
    exact KK_p _ _ _ _ (show 2 + 4 * a.val = (2048 + a.val) / 1024 + 4 * ((2048 + a.val) % 1024) by omega) (show 0 + 1 * b.val = b.val by omega)
  refine rowStep (e := .bf16) (g := KD x4 x5 x6 4 1024) (off := 1792) (n := 256) _ _ (fun a b => ?_) fun h6 => ?_
  · have ha := a.isLt
    pointwise [kernelRun0_A.sl.v1037, kernelRun0_A.sl.v1034, kernelRun0_A.sl.v1023]
    rw [Memref.IsWhole.readAt_unread]
    exact KK_n _ _ _ _ (show 1 + 4 * a.val + 3072 = (1792 + a.val) / 1024 + 4 * ((1792 + a.val) % 1024) by omega) (show 0 + 1 * b.val = b.val by omega)
  refine rowStep (e := .bf16) (g := KD x4 x5 x6 4 1024) (off := 1280) (n := 512) _ _ (fun a b => ?_) fun h7 => ?_
  · have ha := a.isLt
    pointwise [kernelRun0_A.sl.v1019, kernelRun0_A.sl.v1016, kernelRun0_A.sl.v1005]
    rw [Memref.IsWhole.readAt_unread]
    exact KK_x _ _ _ _ (show 1 + 4 * a.val + 1024 = (1280 + a.val) / 1024 + 4 * ((1280 + a.val) % 1024) by omega) (show 0 + 1 * b.val = b.val by omega)
  refine rowStep (e := .bf16) (g := KD x4 x5 x6 4 1024) (off := 1024) (n := 256) _ _ (fun a b => ?_) fun h8 => ?_
  · have ha := a.isLt
    pointwise [kernelRun0_A.sl.v1001, kernelRun0_A.sl.v998, kernelRun0_A.sl.v987]
    rw [Memref.IsWhole.readAt_unread]
    exact KK_p _ _ _ _ (show 1 + 4 * a.val = (1024 + a.val) / 1024 + 4 * ((1024 + a.val) % 1024) by omega) (show 0 + 1 * b.val = b.val by omega)
  refine rowStep (e := .bf16) (g := KD x4 x5 x6 4 1024) (off := 768) (n := 256) _ _ (fun a b => ?_) fun h9 => ?_
  · have ha := a.isLt
    pointwise [kernelRun0_A.sl.v976, kernelRun0_A.sl.v973, kernelRun0_A.sl.v962]
    rw [Memref.IsWhole.readAt_unread]
    exact KK_n _ _ _ _ (show 0 + 4 * a.val + 3072 = (768 + a.val) / 1024 + 4 * ((768 + a.val) % 1024) by omega) (show 0 + 1 * b.val = b.val by omega)
  refine rowStep (e := .bf16) (g := KD x4 x5 x6 4 1024) (off := 256) (n := 512) _ _ (fun a b => ?_) fun h10 => ?_
  · have ha := a.isLt
    pointwise [kernelRun0_A.sl.v958, kernelRun0_A.sl.v955, kernelRun0_A.sl.v944]
    rw [Memref.IsWhole.readAt_unread]
    exact KK_x _ _ _ _ (show 0 + 4 * a.val + 1024 = (256 + a.val) / 1024 + 4 * ((256 + a.val) % 1024) by omega) (show 0 + 1 * b.val = b.val by omega)
  refine rowStep (e := .bf16) (g := KD x4 x5 x6 4 1024) (off := 0) (n := 256) _ _ (fun a b => ?_) fun h11 => ?_
  · have ha := a.isLt
    pointwise [kernelRun0_A.sl.v940, kernelRun0_A.sl.v937, kernelRun0_A.sl.v926]
    rw [Memref.IsWhole.readAt_unread]
    exact KK_p _ _ _ _ (show 0 + 4 * a.val = a.val / 1024 + 4 * (a.val % 1024) by omega) (show 0 + 1 * b.val = b.val by omega)
  omega

/-- The scaled queries as the kernel holds them for dilation 16. -/
theorem canon_HS0_17 (c : Dev nD) (arg3 : Memref sig .tc .vmem S1x2048x128 .f32) (harg3 : arg3.IsWhole) (arg13 : Memref sig .tc .vmem S2048x128 .f32) (x0 : FVec Ideal S1x2048x128 .f32) :
    View.canon (kernelRun0_A.sl.HS0_17 (F := Ideal) c arg3 harg3 arg13 x0) = fun y => QD x0 16 128 (y 0).val (y 1).val := by
  funext y
  have hy : (y 0).val < 2048 := (y 0).isLt
  unfold kernelRun0_A.sl.HS0_17 kernelRun0_A.sl.HS0_5
  refine rowStep (e := .f32) (g := QD x0 16 128) (off := 1920) (n := 128) _ _ (fun a b => ?_) fun h0 => ?_
  · have ha := a.isLt
    pointwise [k0_pay545]
    show (kernelRun0_A.sl.v2394 (F := Ideal) c arg3 harg3 arg13 x0) (ix2 a b) = _
    refine (ld2 _ (canon_HS1_4 c arg3 harg3 x0) _ _).trans ?_
    show QD x0 4 512 (1539 + 4 * a.val) (0 + 1 * b.val) = QD x0 16 128 (1920 + a.val) b.val
    unfold QD; congr 1 <;> omega
  refine rowStep (e := .f32) (g := QD x0 16 128) (off := 1792) (n := 128) _ _ (fun a b => ?_) fun h1 => ?_
  · have ha := a.isLt
    pointwise [k0_pay541]
    show (kernelRun0_A.sl.v2380 (F := Ideal) c arg3 harg3 arg13 x0) (ix2 a b) = _
    refine (ld2 _ (canon_HS1_4 c arg3 harg3 x0) _ _).trans ?_
    show QD x0 4 512 (1027 + 4 * a.val) (0 + 1 * b.val) = QD x0 16 128 (1792 + a.val) b.val
    unfold QD; congr 1 <;> omega
  refine rowStep (e := .f32) (g := QD x0 16 128) (off := 1664) (n := 128) _ _ (fun a b => ?_) fun h2 => ?_
  · have ha := a.isLt
    pointwise [k0_pay538]
    show (kernelRun0_A.sl.v2366 (F := Ideal) c arg3 harg3 arg13 x0) (ix2 a b) = _
    refine (ld2 _ (canon_HS1_4 c arg3 harg3 x0) _ _).trans ?_
    show QD x0 4 512 (515 + 4 * a.val) (0 + 1 * b.val) = QD x0 16 128 (1664 + a.val) b.val
    unfold QD; congr 1 <;> omega
  refine rowStep (e := .f32) (g := QD x0 16 128) (off := 1536) (n := 128) _ _ (fun a b => ?_) fun h3 => ?_
  · have ha := a.isLt
    pointwise [k0_pay534]
    show (kernelRun0_A.sl.v2352 (F := Ideal) c arg3 harg3 arg13 x0) (ix2 a b) = _
    refine (ld2 _ (canon_HS1_4 c arg3 harg3 x0) _ _).trans ?_
    show QD x0 4 512 (3 + 4 * a.val) (0 + 1 * b.val) = QD x0 16 128 (1536 + a.val) b.val
    unfold QD; congr 1 <;> omega
  refine rowStep (e := .f32) (g := QD x0 16 128) (off := 1408) (n := 128) _ _ (fun a b => ?_) fun h4 => ?_
  · have ha := a.isLt
    pointwise [k0_pay531]
    show (kernelRun0_A.sl.v2338 (F := Ideal) c arg3 harg3 arg13 x0) (ix2 a b) = _
    refine (ld2 _ (canon_HS1_4 c arg3 harg3 x0) _ _).trans ?_
    show QD x0 4 512 (1538 + 4 * a.val) (0 + 1 * b.val) = QD x0 16 128 (1408 + a.val) b.val
    unfold QD; congr 1 <;> omega
  refine rowStep (e := .f32) (g := QD x0 16 128) (off := 1280) (n := 128) _ _ (fun a b => ?_) fun h5 => ?_
  · have ha := a.isLt
    pointwise [k0_pay528]
    show (kernelRun0_A.sl.v2324 (F := Ideal) c arg3 harg3 arg13 x0) (ix2 a b) = _
    refine (ld2 _ (canon_HS1_4 c arg3 harg3 x0) _ _).trans ?_
    show QD x0 4 512 (1026 + 4 * a.val) (0 + 1 * b.val) = QD x0 16 128 (1280 + a.val) b.val
    unfold QD; congr 1 <;> omega
  refine rowStep (e := .f32) (g := QD x0 16 128) (off := 1152) (n := 128) _ _ (fun a b => ?_) fun h6 => ?_
  · have ha := a.isLt
    pointwise [k0_pay525]
    show (kernelRun0_A.sl.v2310 (F := Ideal) c arg3 harg3 arg13 x0) (ix2 a b) = _
    refine (ld2 _ (canon_HS1_4 c arg3 harg3 x0) _ _).trans ?_
    show QD x0 4 512 (514 + 4 * a.val) (0 + 1 * b.val) = QD x0 16 128 (1152 + a.val) b.val
    unfold QD; congr 1 <;> omega
  refine rowStep (e := .f32) (g := QD x0 16 128) (off := 1024) (n := 128) _ _ (fun a b => ?_) fun h7 => ?_
  · have ha := a.isLt
    pointwise [k0_pay522]
    show (kernelRun0_A.sl.v2296 (F := Ideal) c arg3 harg3 arg13 x0) (ix2 a b) = _
    refine (ld2 _ (canon_HS1_4 c arg3 harg3 x0) _ _).trans ?_
    show QD x0 4 512 (2 + 4 * a.val) (0 + 1 * b.val) = QD x0 16 128 (1024 + a.val) b.val
    unfold QD; congr 1 <;> omega
  refine rowStep (e := .f32) (g := QD x0 16 128) (off := 896) (n := 128) _ _ (fun a b => ?_) fun h8 => ?_
  · have ha := a.isLt
    pointwise [k0_pay519]
    show (kernelRun0_A.sl.v2282 (F := Ideal) c arg3 harg3 arg13 x0) (ix2 a b) = _
    refine (ld2 _ (canon_HS1_4 c arg3 harg3 x0) _ _).trans ?_
    show QD x0 4 512 (1537 + 4 * a.val) (0 + 1 * b.val) = QD x0 16 128 (896 + a.val) b.val
    unfold QD; congr 1 <;> omega
  refine rowStep (e := .f32) (g := QD x0 16 128) (off := 768) (n := 128) _ _ (fun a b => ?_) fun h9 => ?_
  · have ha := a.isLt
    pointwise [kernelRun0_A.sl.r_44, k0_pay516]
    show (kernelRun0_A.sl.v2268 (F := Ideal) c arg3 harg3 arg13 x0) (ix2 a b) = _
    refine (ld2 _ (canon_HS1_4 c arg3 harg3 x0) _ _).trans ?_
    show QD x0 4 512 (1025 + 4 * a.val) (0 + 1 * b.val) = QD x0 16 128 (768 + a.val) b.val
    unfold QD; congr 1 <;> omega
  refine rowStep (e := .f32) (g := QD x0 16 128) (off := 640) (n := 128) _ _ (fun a b => ?_) fun h10 => ?_
  · have ha := a.isLt
    pointwise [k0_pay513]
    show (kernelRun0_A.sl.v2254 (F := Ideal) c arg3 harg3 arg13 x0) (ix2 a b) = _
    refine (ld2 _ (canon_HS1_4 c arg3 harg3 x0) _ _).trans ?_
    show QD x0 4 512 (513 + 4 * a.val) (0 + 1 * b.val) = QD x0 16 128 (640 + a.val) b.val
    unfold QD; congr 1 <;> omega
  refine rowStep (e := .f32) (g := QD x0 16 128) (off := 512) (n := 128) _ _ (fun a b => ?_) fun h11 => ?_
  · have ha := a.isLt
    pointwise [k0_pay510]
    show (kernelRun0_A.sl.v2240 (F := Ideal) c arg3 harg3 arg13 x0) (ix2 a b) = _
    refine (ld2 _ (canon_HS1_4 c arg3 harg3 x0) _ _).trans ?_
    show QD x0 4 512 (1 + 4 * a.val) (0 + 1 * b.val) = QD x0 16 128 (512 + a.val) b.val
    unfold QD; congr 1 <;> omega
  refine rowStep (e := .f32) (g := QD x0 16 128) (off := 384) (n := 128) _ _ (fun a b => ?_) fun h12 => ?_
  · have ha := a.isLt
    pointwise [k0_pay507]
    show (kernelRun0_A.sl.v2226 (F := Ideal) c arg3 harg3 arg13 x0) (ix2 a b) = _
    refine (ld2 _ (canon_HS1_4 c arg3 harg3 x0) _ _).trans ?_
    show QD x0 4 512 (1536 + 4 * a.val) (0 + 1 * b.val) = QD x0 16 128 (384 + a.val) b.val
    unfold QD; congr 1 <;> omega
  refine rowStep (e := .f32) (g := QD x0 16 128) (off := 256) (n := 128) _ _ (fun a b => ?_) fun h13 => ?_
  · have ha := a.isLt
    pointwise [k0_pay504]
    show (kernelRun0_A.sl.v2212 (F := Ideal) c arg3 harg3 arg13 x0) (ix2 a b) = _
    refine (ld2 _ (canon_HS1_4 c arg3 harg3 x0) _ _).trans ?_
    show QD x0 4 512 (1024 + 4 * a.val) (0 + 1 * b.val) = QD x0 16 128 (256 + a.val) b.val
    unfold QD; congr 1 <;> omega
  refine rowStep (e := .f32) (g := QD x0 16 128) (off := 128) (n := 128) _ _ (fun a b => ?_) fun h14 => ?_
  · have ha := a.isLt
    pointwise [k0_pay501]
    show (kernelRun0_A.sl.v2198 (F := Ideal) c arg3 harg3 arg13 x0) (ix2 a b) = _
    refine (ld2 _ (canon_HS1_4 c arg3 harg3 x0) _ _).trans ?_
    show QD x0 4 512 (512 + 4 * a.val) (0 + 1 * b.val) = QD x0 16 128 (128 + a.val) b.val
    unfold QD; congr 1 <;> omega
  refine rowStep (e := .f32) (g := QD x0 16 128) (off := 0) (n := 128) _ _ (fun a b => ?_) fun h15 => ?_
  · have ha := a.isLt
    pointwise [k0_pay498]
    show (kernelRun0_A.sl.v2184 (F := Ideal) c arg3 harg3 arg13 x0) (ix2 a b) = _
    refine (ld2 _ (canon_HS1_4 c arg3 harg3 x0) _ _).trans ?_
    show QD x0 4 512 (0 + 4 * a.val) (0 + 1 * b.val) = QD x0 16 128 a.val b.val
    unfold QD; congr 1 <;> omega
  omega

/-- The keys as the kernel holds them for dilation 16. -/
theorem canon_HS4_31 (c : Dev nD) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg14 : Memref sig .tc .vmem S4096x128 .f32) (x1 : FVec Ideal S1x1024x128 .f32) (x2 : FVec Ideal S1x2048x128 .f32) (x3 : FVec Ideal S1x1024x128 .f32) :
    View.canon (kernelRun0_A.sl.HS4_31 (F := Ideal) c arg4 harg4 arg5 harg5 arg6 harg6 arg14 x1 x2 x3) = fun y => KD x1 x2 x3 16 256 (y 0).val (y 1).val := by
  funext y
  have hy : (y 0).val < 4096 := (y 0).isLt
  unfold kernelRun0_A.sl.HS4_31 kernelRun0_A.sl.HS4_29
  refine rowStep (e := .bf16) (g := KD x1 x2 x3 16 256) (off := 3840) (n := 256) _ _ (fun a b => ?_) fun h0 => ?_
  · have ha := a.isLt
    pointwise [k0_pay546]
    show (kernelRun0_A.sl.v2398 (F := Ideal) c arg4 harg4 arg5 harg5 arg6 harg6 arg14 x1 x2 x3) (ix2 a b) = _
    refine (ld2 _ (canon_HS2_12 c arg4 harg4 arg5 harg5 arg6 harg6 x1 x2 x3) _ _).trans ?_
    show KD x1 x2 x3 4 1024 (3075 + 4 * a.val) (0 + 1 * b.val) = KD x1 x2 x3 16 256 (3840 + a.val) b.val
    unfold KD; congr 1 <;> omega
  refine rowStep (e := .bf16) (g := KD x1 x2 x3 16 256) (off := 3584) (n := 256) _ _ (fun a b => ?_) fun h1 => ?_
  · have ha := a.isLt
    pointwise [kernelRun0_A.sl.r_46, k0_pay542, k0_pay543]
    show (kernelRun0_A.sl.v2384 (F := Ideal) c arg4 harg4 arg5 harg5 arg6 harg6 arg14 x1 x2 x3) (ix2 a b) = _
    refine (ld2 _ (canon_HS2_12 c arg4 harg4 arg5 harg5 arg6 harg6 x1 x2 x3) _ _).trans ?_
    show KD x1 x2 x3 4 1024 (2051 + 4 * a.val) (0 + 1 * b.val) = KD x1 x2 x3 16 256 (3584 + a.val) b.val
    unfold KD; congr 1 <;> omega
  refine rowStep (e := .bf16) (g := KD x1 x2 x3 16 256) (off := 3328) (n := 256) _ _ (fun a b => ?_) fun h2 => ?_
  · have ha := a.isLt
    pointwise [k0_pay539]
    show (kernelRun0_A.sl.v2370 (F := Ideal) c arg4 harg4 arg5 harg5 arg6 harg6 arg14 x1 x2 x3) (ix2 a b) = _
    refine (ld2 _ (canon_HS2_12 c arg4 harg4 arg5 harg5 arg6 harg6 x1 x2 x3) _ _).trans ?_
    show KD x1 x2 x3 4 1024 (1027 + 4 * a.val) (0 + 1 * b.val) = KD x1 x2 x3 16 256 (3328 + a.val) b.val
    unfold KD; congr 1 <;> omega
  refine rowStep (e := .bf16) (g := KD x1 x2 x3 16 256) (off := 3072) (n := 256) _ _ (fun a b => ?_) fun h3 => ?_
  · have ha := a.isLt
    pointwise [kernelRun0_A.sl.r_45, k0_pay535, k0_pay536]
    show (kernelRun0_A.sl.v2356 (F := Ideal) c arg4 harg4 arg5 harg5 arg6 harg6 arg14 x1 x2 x3) (ix2 a b) = _
    refine (ld2 _ (canon_HS2_12 c arg4 harg4 arg5 harg5 arg6 harg6 x1 x2 x3) _ _).trans ?_
    show KD x1 x2 x3 4 1024 (3 + 4 * a.val) (0 + 1 * b.val) = KD x1 x2 x3 16 256 (3072 + a.val) b.val
    unfold KD; congr 1 <;> omega
  refine rowStep (e := .bf16) (g := KD x1 x2 x3 16 256) (off := 2816) (n := 256) _ _ (fun a b => ?_) fun h4 => ?_
  · have ha := a.isLt
    pointwise [k0_pay532]
    show (kernelRun0_A.sl.v2342 (F := Ideal) c arg4 harg4 arg5 harg5 arg6 harg6 arg14 x1 x2 x3) (ix2 a b) = _
    refine (ld2 _ (canon_HS2_12 c arg4 harg4 arg5 harg5 arg6 harg6 x1 x2 x3) _ _).trans ?_
    show KD x1 x2 x3 4 1024 (3074 + 4 * a.val) (0 + 1 * b.val) = KD x1 x2 x3 16 256 (2816 + a.val) b.val
    unfold KD; congr 1 <;> omega
  refine rowStep (e := .bf16) (g := KD x1 x2 x3 16 256) (off := 2560) (n := 256) _ _ (fun a b => ?_) fun h5 => ?_
  · have ha := a.isLt
    pointwise [k0_pay529]
    show (kernelRun0_A.sl.v (F := Ideal) c arg4 harg4 arg5 harg5 arg6 harg6 arg14 x1 x2 x3) (ix2 a b) = _
    refine (ld2 _ (canon_HS2_12 c arg4 harg4 arg5 harg5 arg6 harg6 x1 x2 x3) _ _).trans ?_
    show KD x1 x2 x3 4 1024 (2050 + 4 * a.val) (0 + 1 * b.val) = KD x1 x2 x3 16 256 (2560 + a.val) b.val
    unfold KD; congr 1 <;> omega
  refine rowStep (e := .bf16) (g := KD x1 x2 x3 16 256) (off := 2304) (n := 256) _ _ (fun a b => ?_) fun h6 => ?_
  · have ha := a.isLt
    pointwise [k0_pay526]
    show (kernelRun0_A.sl.v2314 (F := Ideal) c arg4 harg4 arg5 harg5 arg6 harg6 arg14 x1 x2 x3) (ix2 a b) = _
    refine (ld2 _ (canon_HS2_12 c arg4 harg4 arg5 harg5 arg6 harg6 x1 x2 x3) _ _).trans ?_
    show KD x1 x2 x3 4 1024 (1026 + 4 * a.val) (0 + 1 * b.val) = KD x1 x2 x3 16 256 (2304 + a.val) b.val
    unfold KD; congr 1 <;> omega
  refine rowStep (e := .bf16) (g := KD x1 x2 x3 16 256) (off := 2048) (n := 256) _ _ (fun a b => ?_) fun h7 => ?_
  · have ha := a.isLt
    pointwise [k0_pay523]
    show (kernelRun0_A.sl.v2300 (F := Ideal) c arg4 harg4 arg5 harg5 arg6 harg6 arg14 x1 x2 x3) (ix2 a b) = _
    refine (ld2 _ (canon_HS2_12 c arg4 harg4 arg5 harg5 arg6 harg6 x1 x2 x3) _ _).trans ?_
    show KD x1 x2 x3 4 1024 (2 + 4 * a.val) (0 + 1 * b.val) = KD x1 x2 x3 16 256 (2048 + a.val) b.val
    unfold KD; congr 1 <;> omega
  refine rowStep (e := .bf16) (g := KD x1 x2 x3 16 256) (off := 1792) (n := 256) _ _ (fun a b => ?_) fun h8 => ?_
  · have ha := a.isLt
    pointwise [k0_pay520]
    show (kernelRun0_A.sl.v2286 (F := Ideal) c arg4 harg4 arg5 harg5 arg6 harg6 arg14 x1 x2 x3) (ix2 a b) = _
    refine (ld2 _ (canon_HS2_12 c arg4 harg4 arg5 harg5 arg6 harg6 x1 x2 x3) _ _).trans ?_
    show KD x1 x2 x3 4 1024 (3073 + 4 * a.val) (0 + 1 * b.val) = KD x1 x2 x3 16 256 (1792 + a.val) b.val
    unfold KD; congr 1 <;> omega
  refine rowStep (e := .bf16) (g := KD x1 x2 x3 16 256) (off := 1536) (n := 256) _ _ (fun a b => ?_) fun h9 => ?_
  · have ha := a.isLt
    pointwise [k0_pay517]
    show (kernelRun0_A.sl.v2272 (F := Ideal) c arg4 harg4 arg5 harg5 arg6 harg6 arg14 x1 x2 x3) (ix2 a b) = _
    refine (ld2 _ (canon_HS2_12 c arg4 harg4 arg5 harg5 arg6 harg6 x1 x2 x3) _ _).trans ?_
    show KD x1 x2 x3 4 1024 (2049 + 4 * a.val) (0 + 1 * b.val) = KD x1 x2 x3 16 256 (1536 + a.val) b.val
    unfold KD; congr 1 <;> omega
  refine rowStep (e := .bf16) (g := KD x1 x2 x3 16 256) (off := 1280) (n := 256) _ _ (fun a b => ?_) fun h10 => ?_
  · have ha := a.isLt
    pointwise [k0_pay514]
    show (kernelRun0_A.sl.v2258 (F := Ideal) c arg4 harg4 arg5 harg5 arg6 harg6 arg14 x1 x2 x3) (ix2 a b) = _
    refine (ld2 _ (canon_HS2_12 c arg4 harg4 arg5 harg5 arg6 harg6 x1 x2 x3) _ _).trans ?_
    show KD x1 x2 x3 4 1024 (1025 + 4 * a.val) (0 + 1 * b.val) = KD x1 x2 x3 16 256 (1280 + a.val) b.val
    unfold KD; congr 1 <;> omega
  refine rowStep (e := .bf16) (g := KD x1 x2 x3 16 256) (off := 1024) (n := 256) _ _ (fun a b => ?_) fun h11 => ?_
  · have ha := a.isLt
    pointwise [k0_pay511]
    show (kernelRun0_A.sl.v2244 (F := Ideal) c arg4 harg4 arg5 harg5 arg6 harg6 arg14 x1 x2 x3) (ix2 a b) = _
    refine (ld2 _ (canon_HS2_12 c arg4 harg4 arg5 harg5 arg6 harg6 x1 x2 x3) _ _).trans ?_
    show KD x1 x2 x3 4 1024 (1 + 4 * a.val) (0 + 1 * b.val) = KD x1 x2 x3 16 256 (1024 + a.val) b.val
    unfold KD; congr 1 <;> omega
  refine rowStep (e := .bf16) (g := KD x1 x2 x3 16 256) (off := 768) (n := 256) _ _ (fun a b => ?_) fun h12 => ?_
  · have ha := a.isLt
    pointwise [k0_pay508]
    show (kernelRun0_A.sl.v2230 (F := Ideal) c arg4 harg4 arg5 harg5 arg6 harg6 arg14 x1 x2 x3) (ix2 a b) = _
    refine (ld2 _ (canon_HS2_12 c arg4 harg4 arg5 harg5 arg6 harg6 x1 x2 x3) _ _).trans ?_
    show KD x1 x2 x3 4 1024 (3072 + 4 * a.val) (0 + 1 * b.val) = KD x1 x2 x3 16 256 (768 + a.val) b.val
    unfold KD; congr 1 <;> omega
  refine rowStep (e := .bf16) (g := KD x1 x2 x3 16 256) (off := 512) (n := 256) _ _ (fun a b => ?_) fun h13 => ?_
  · have ha := a.isLt
    pointwise [k0_pay505]
    show (kernelRun0_A.sl.v2216 (F := Ideal) c arg4 harg4 arg5 harg5 arg6 harg6 arg14 x1 x2 x3) (ix2 a b) = _
    refine (ld2 _ (canon_HS2_12 c arg4 harg4 arg5 harg5 arg6 harg6 x1 x2 x3) _ _).trans ?_
    show KD x1 x2 x3 4 1024 (2048 + 4 * a.val) (0 + 1 * b.val) = KD x1 x2 x3 16 256 (512 + a.val) b.val
    unfold KD; congr 1 <;> omega
  refine rowStep (e := .bf16) (g := KD x1 x2 x3 16 256) (off := 256) (n := 256) _ _ (fun a b => ?_) fun h14 => ?_
  · have ha := a.isLt
    pointwise [k0_pay502]
    show (kernelRun0_A.sl.v2202 (F := Ideal) c arg4 harg4 arg5 harg5 arg6 harg6 arg14 x1 x2 x3) (ix2 a b) = _
    refine (ld2 _ (canon_HS2_12 c arg4 harg4 arg5 harg5 arg6 harg6 x1 x2 x3) _ _).trans ?_
    show KD x1 x2 x3 4 1024 (1024 + 4 * a.val) (0 + 1 * b.val) = KD x1 x2 x3 16 256 (256 + a.val) b.val
    unfold KD; congr 1 <;> omega
  refine rowStep (e := .bf16) (g := KD x1 x2 x3 16 256) (off := 0) (n := 256) _ _ (fun a b => ?_) fun h15 => ?_
  · have ha := a.isLt
    pointwise [k0_pay499]
    show (kernelRun0_A.sl.v2188 (F := Ideal) c arg4 harg4 arg5 harg5 arg6 harg6 arg14 x1 x2 x3) (ix2 a b) = _
    refine (ld2 _ (canon_HS2_12 c arg4 harg4 arg5 harg5 arg6 harg6 x1 x2 x3) _ _).trans ?_
    show KD x1 x2 x3 4 1024 (0 + 4 * a.val) (0 + 1 * b.val) = KD x1 x2 x3 16 256 a.val b.val
    unfold KD; congr 1 <;> omega
  omega

/-- The values as the kernel holds them for dilation 16. -/
theorem canon_HS5_31 (c : Dev nD) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg15 : Memref sig .tc .vmem S4096x128 .f32) (x4 : FVec Ideal S1x1024x128 .f32) (x5 : FVec Ideal S1x2048x128 .f32) (x6 : FVec Ideal S1x1024x128 .f32) :
    View.canon (kernelRun0_A.sl.HS5_31 (F := Ideal) c arg7 harg7 arg8 harg8 arg9 harg9 arg15 x4 x5 x6) = fun y => KD x4 x5 x6 16 256 (y 0).val (y 1).val := by
  funext y
  have hy : (y 0).val < 4096 := (y 0).isLt
  unfold kernelRun0_A.sl.HS5_31
  refine rowStep (e := .bf16) (g := KD x4 x5 x6 16 256) (off := 3840) (n := 256) _ _ (fun a b => ?_) fun h0 => ?_
  · have ha := a.isLt
    pointwise [k0_pay547]
    show (kernelRun0_A.sl.v2403 (F := Ideal) c arg7 harg7 arg8 harg8 arg9 harg9 arg15 x4 x5 x6) (ix2 a b) = _
    refine (ld2 _ (canon_HS3_12 c arg7 harg7 arg8 harg8 arg9 harg9 x4 x5 x6) _ _).trans ?_
    show KD x4 x5 x6 4 1024 (3075 + 4 * a.val) (0 + 1 * b.val) = KD x4 x5 x6 16 256 (3840 + a.val) b.val
    unfold KD; congr 1 <;> omega
  refine rowStep (e := .bf16) (g := KD x4 x5 x6 16 256) (off := 3584) (n := 256) _ _ (fun a b => ?_) fun h1 => ?_
  · have ha := a.isLt
    pointwise [k0_pay544]
    show (kernelRun0_A.sl.v2389 (F := Ideal) c arg7 harg7 arg8 harg8 arg9 harg9 arg15 x4 x5 x6) (ix2 a b) = _
    refine (ld2 _ (canon_HS3_12 c arg7 harg7 arg8 harg8 arg9 harg9 x4 x5 x6) _ _).trans ?_
    show KD x4 x5 x6 4 1024 (2051 + 4 * a.val) (0 + 1 * b.val) = KD x4 x5 x6 16 256 (3584 + a.val) b.val
    unfold KD; congr 1 <;> omega
  refine rowStep (e := .bf16) (g := KD x4 x5 x6 16 256) (off := 3328) (n := 256) _ _ (fun a b => ?_) fun h2 => ?_
  · have ha := a.isLt
    pointwise [k0_pay540]
    show (kernelRun0_A.sl.v2375 (F := Ideal) c arg7 harg7 arg8 harg8 arg9 harg9 arg15 x4 x5 x6) (ix2 a b) = _
    refine (ld2 _ (canon_HS3_12 c arg7 harg7 arg8 harg8 arg9 harg9 x4 x5 x6) _ _).trans ?_
    show KD x4 x5 x6 4 1024 (1027 + 4 * a.val) (0 + 1 * b.val) = KD x4 x5 x6 16 256 (3328 + a.val) b.val
    unfold KD; congr 1 <;> omega
  refine rowStep (e := .bf16) (g := KD x4 x5 x6 16 256) (off := 3072) (n := 256) _ _ (fun a b => ?_) fun h3 => ?_
  · have ha := a.isLt
    pointwise [k0_pay537]
    show (kernelRun0_A.sl.v2361 (F := Ideal) c arg7 harg7 arg8 harg8 arg9 harg9 arg15 x4 x5 x6) (ix2 a b) = _
    refine (ld2 _ (canon_HS3_12 c arg7 harg7 arg8 harg8 arg9 harg9 x4 x5 x6) _ _).trans ?_
    show KD x4 x5 x6 4 1024 (3 + 4 * a.val) (0 + 1 * b.val) = KD x4 x5 x6 16 256 (3072 + a.val) b.val
    unfold KD; congr 1 <;> omega
  refine rowStep (e := .bf16) (g := KD x4 x5 x6 16 256) (off := 2816) (n := 256) _ _ (fun a b => ?_) fun h4 => ?_
  · have ha := a.isLt
    pointwise [k0_pay533]
    show (kernelRun0_A.sl.v2347 (F := Ideal) c arg7 harg7 arg8 harg8 arg9 harg9 arg15 x4 x5 x6) (ix2 a b) = _
    refine (ld2 _ (canon_HS3_12 c arg7 harg7 arg8 harg8 arg9 harg9 x4 x5 x6) _ _).trans ?_
    show KD x4 x5 x6 4 1024 (3074 + 4 * a.val) (0 + 1 * b.val) = KD x4 x5 x6 16 256 (2816 + a.val) b.val
    unfold KD; congr 1 <;> omega
  refine rowStep (e := .bf16) (g := KD x4 x5 x6 16 256) (off := 2560) (n := 256) _ _ (fun a b => ?_) fun h5 => ?_
  · have ha := a.isLt
    pointwise [k0_pay530]
    show (kernelRun0_A.sl.v2333 (F := Ideal) c arg7 harg7 arg8 harg8 arg9 harg9 arg15 x4 x5 x6) (ix2 a b) = _
    refine (ld2 _ (canon_HS3_12 c arg7 harg7 arg8 harg8 arg9 harg9 x4 x5 x6) _ _).trans ?_
    show KD x4 x5 x6 4 1024 (2050 + 4 * a.val) (0 + 1 * b.val) = KD x4 x5 x6 16 256 (2560 + a.val) b.val
    unfold KD; congr 1 <;> omega
  refine rowStep (e := .bf16) (g := KD x4 x5 x6 16 256) (off := 2304) (n := 256) _ _ (fun a b => ?_) fun h6 => ?_
  · have ha := a.isLt
    pointwise [k0_pay527]
    show (kernelRun0_A.sl.v2319 (F := Ideal) c arg7 harg7 arg8 harg8 arg9 harg9 arg15 x4 x5 x6) (ix2 a b) = _
    refine (ld2 _ (canon_HS3_12 c arg7 harg7 arg8 harg8 arg9 harg9 x4 x5 x6) _ _).trans ?_
    show KD x4 x5 x6 4 1024 (1026 + 4 * a.val) (0 + 1 * b.val) = KD x4 x5 x6 16 256 (2304 + a.val) b.val
    unfold KD; congr 1 <;> omega
  refine rowStep (e := .bf16) (g := KD x4 x5 x6 16 256) (off := 2048) (n := 256) _ _ (fun a b => ?_) fun h7 => ?_
  · have ha := a.isLt
    pointwise [k0_pay524]
    show (kernelRun0_A.sl.v2305 (F := Ideal) c arg7 harg7 arg8 harg8 arg9 harg9 arg15 x4 x5 x6) (ix2 a b) = _
    refine (ld2 _ (canon_HS3_12 c arg7 harg7 arg8 harg8 arg9 harg9 x4 x5 x6) _ _).trans ?_
    show KD x4 x5 x6 4 1024 (2 + 4 * a.val) (0 + 1 * b.val) = KD x4 x5 x6 16 256 (2048 + a.val) b.val
    unfold KD; congr 1 <;> omega
  refine rowStep (e := .bf16) (g := KD x4 x5 x6 16 256) (off := 1792) (n := 256) _ _ (fun a b => ?_) fun h8 => ?_
  · have ha := a.isLt
    pointwise [k0_pay521]
    show (kernelRun0_A.sl.v2291 (F := Ideal) c arg7 harg7 arg8 harg8 arg9 harg9 arg15 x4 x5 x6) (ix2 a b) = _
    refine (ld2 _ (canon_HS3_12 c arg7 harg7 arg8 harg8 arg9 harg9 x4 x5 x6) _ _).trans ?_
    show KD x4 x5 x6 4 1024 (3073 + 4 * a.val) (0 + 1 * b.val) = KD x4 x5 x6 16 256 (1792 + a.val) b.val
    unfold KD; congr 1 <;> omega
  refine rowStep (e := .bf16) (g := KD x4 x5 x6 16 256) (off := 1536) (n := 256) _ _ (fun a b => ?_) fun h9 => ?_
  · have ha := a.isLt
    pointwise [k0_pay518]
    show (kernelRun0_A.sl.v2277 (F := Ideal) c arg7 harg7 arg8 harg8 arg9 harg9 arg15 x4 x5 x6) (ix2 a b) = _
    refine (ld2 _ (canon_HS3_12 c arg7 harg7 arg8 harg8 arg9 harg9 x4 x5 x6) _ _).trans ?_
    show KD x4 x5 x6 4 1024 (2049 + 4 * a.val) (0 + 1 * b.val) = KD x4 x5 x6 16 256 (1536 + a.val) b.val
    unfold KD; congr 1 <;> omega
  refine rowStep (e := .bf16) (g := KD x4 x5 x6 16 256) (off := 1280) (n := 256) _ _ (fun a b => ?_) fun h10 => ?_
  · have ha := a.isLt
    pointwise [k0_pay515]
    show (kernelRun0_A.sl.v2263 (F := Ideal) c arg7 harg7 arg8 harg8 arg9 harg9 arg15 x4 x5 x6) (ix2 a b) = _
    refine (ld2 _ (canon_HS3_12 c arg7 harg7 arg8 harg8 arg9 harg9 x4 x5 x6) _ _).trans ?_
    show KD x4 x5 x6 4 1024 (1025 + 4 * a.val) (0 + 1 * b.val) = KD x4 x5 x6 16 256 (1280 + a.val) b.val
    unfold KD; congr 1 <;> omega
  refine rowStep (e := .bf16) (g := KD x4 x5 x6 16 256) (off := 1024) (n := 256) _ _ (fun a b => ?_) fun h11 => ?_
  · have ha := a.isLt
    pointwise [k0_pay512]
    show (kernelRun0_A.sl.v2249 (F := Ideal) c arg7 harg7 arg8 harg8 arg9 harg9 arg15 x4 x5 x6) (ix2 a b) = _
    refine (ld2 _ (canon_HS3_12 c arg7 harg7 arg8 harg8 arg9 harg9 x4 x5 x6) _ _).trans ?_
    show KD x4 x5 x6 4 1024 (1 + 4 * a.val) (0 + 1 * b.val) = KD x4 x5 x6 16 256 (1024 + a.val) b.val
    unfold KD; congr 1 <;> omega
  refine rowStep (e := .bf16) (g := KD x4 x5 x6 16 256) (off := 768) (n := 256) _ _ (fun a b => ?_) fun h12 => ?_
  · have ha := a.isLt
    pointwise [k0_pay509]
    show (kernelRun0_A.sl.v2235 (F := Ideal) c arg7 harg7 arg8 harg8 arg9 harg9 arg15 x4 x5 x6) (ix2 a b) = _
    refine (ld2 _ (canon_HS3_12 c arg7 harg7 arg8 harg8 arg9 harg9 x4 x5 x6) _ _).trans ?_
    show KD x4 x5 x6 4 1024 (3072 + 4 * a.val) (0 + 1 * b.val) = KD x4 x5 x6 16 256 (768 + a.val) b.val
    unfold KD; congr 1 <;> omega
  refine rowStep (e := .bf16) (g := KD x4 x5 x6 16 256) (off := 512) (n := 256) _ _ (fun a b => ?_) fun h13 => ?_
  · have ha := a.isLt
    pointwise [k0_pay506]
    show (kernelRun0_A.sl.v2221 (F := Ideal) c arg7 harg7 arg8 harg8 arg9 harg9 arg15 x4 x5 x6) (ix2 a b) = _
    refine (ld2 _ (canon_HS3_12 c arg7 harg7 arg8 harg8 arg9 harg9 x4 x5 x6) _ _).trans ?_
    show KD x4 x5 x6 4 1024 (2048 + 4 * a.val) (0 + 1 * b.val) = KD x4 x5 x6 16 256 (512 + a.val) b.val
    unfold KD; congr 1 <;> omega
  refine rowStep (e := .bf16) (g := KD x4 x5 x6 16 256) (off := 256) (n := 256) _ _ (fun a b => ?_) fun h14 => ?_
  · have ha := a.isLt
    pointwise [k0_pay503]
    show (kernelRun0_A.sl.v2207 (F := Ideal) c arg7 harg7 arg8 harg8 arg9 harg9 arg15 x4 x5 x6) (ix2 a b) = _
    refine (ld2 _ (canon_HS3_12 c arg7 harg7 arg8 harg8 arg9 harg9 x4 x5 x6) _ _).trans ?_
    show KD x4 x5 x6 4 1024 (1024 + 4 * a.val) (0 + 1 * b.val) = KD x4 x5 x6 16 256 (256 + a.val) b.val
    unfold KD; congr 1 <;> omega
  refine rowStep (e := .bf16) (g := KD x4 x5 x6 16 256) (off := 0) (n := 256) _ _ (fun a b => ?_) fun h15 => ?_
  · have ha := a.isLt
    pointwise [k0_pay500]
    show (kernelRun0_A.sl.v2193 (F := Ideal) c arg7 harg7 arg8 harg8 arg9 harg9 arg15 x4 x5 x6) (ix2 a b) = _
    refine (ld2 _ (canon_HS3_12 c arg7 harg7 arg8 harg8 arg9 harg9 x4 x5 x6) _ _).trans ?_
    show KD x4 x5 x6 4 1024 (0 + 4 * a.val) (0 + 1 * b.val) = KD x4 x5 x6 16 256 a.val b.val
    unfold KD; congr 1 <;> omega
  omega

end Cert.AttnIdeal.Att

end
-- ==== Proof.AttCtx0.lean ====
/-
  What each block of the attention reads, for dilation 1.
-/
module

public import proofs.«01_k».proof.Proof.AttBuf

@[expose] public section

set_option maxRecDepth 16384

noncomputable section

namespace Cert.AttnIdeal.Att

open Cert.AttnIdeal Cert.AttnIdeal.Gen Idealize.ShloMosaic Idealize.ShloMosaic.TcCoe Idealize.SL.Sem
open Idealize.ShloMosaic.Pointwise
open scoped BigOperators

/-- What block 0 of residue 0 reads, for dilation 1. -/
theorem ctx_0 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg12 : Memref sig .tc .vmem S2048x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 0 1 1024 0 0 (kernelRun0_A.sl.v48 (F := Ideal) c arg3 harg3 arg12 x0) (kernelRun0_A.sl.v49 (F := Ideal) c arg4 harg4 arg5 harg5 arg6 harg6 arg16 x1 x2 x3) (kernelRun0_A.sl.v50 (F := Ideal) c arg7 harg7 arg8 harg8 arg9 harg9 arg17 x4 x5 x6)
      (View.readAt (Elt Ideal) (Memref.view arg10) (Rect.toLoadRect (Rect.unit ![0, 0, 0, 0] (Shape.size S1x1x128x256) inb_S3x2x128x256_S1x1x128x256_0_0_0_0)) (Memref.IsWhole.unread harg10 x7))
      (View.readAt (Elt Ideal) (Memref.view arg10) (Rect.toLoadRect (Rect.unit ![0, 1, 0, 0] (Shape.size S1x1x128x256) inb_S3x2x128x256_S1x1x128x256_0_1_0_0)) (Memref.IsWhole.unread harg10 x7)) where
  hq := fun i b => (ld2 _ (canon_HS0_1 c arg3 harg3 x0) _ _).trans (by
    show QD x0 1 2048 (0 + 1 * i.val) (0 + 1 * b.val) = _
    unfold QD
    congr 1 <;> omega)
  hk := fun i b => (ld2 _ (canon_HS4_3 c arg4 harg4 arg5 harg5 arg6 harg6 x1 x2 x3) _ _).trans (by
    show KD x1 x2 x3 1 4096 (960 + 1 * i.val) (0 + 1 * b.val) = _
    unfold KD
    congr 1 <;> omega)
  hv := fun i b => (ld2 _ (canon_HS5_3 c arg7 harg7 arg8 harg8 arg9 harg9 x4 x5 x6) _ _).trans (by
    show KD x4 x5 x6 1 4096 (960 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 1 of residue 0 reads, for dilation 1. -/
theorem ctx_1 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg12 : Memref sig .tc .vmem S2048x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 0 1 1024 0 1 (kernelRun0_A.sl.v118 (F := Ideal) c arg3 harg3 arg12 x0) (kernelRun0_A.sl.v119 (F := Ideal) c arg4 harg4 arg5 harg5 arg6 harg6 arg16 x1 x2 x3) (kernelRun0_A.sl.v120 (F := Ideal) c arg7 harg7 arg8 harg8 arg9 harg9 arg17 x4 x5 x6)
      (View.readAt (Elt Ideal) (Memref.view arg10) (Rect.toLoadRect (Rect.unit ![0, 0, 0, 0] (Shape.size S1x1x128x256) inb_S3x2x128x256_S1x1x128x256_0_0_0_0)) (Memref.IsWhole.unread harg10 x7))
      (View.readAt (Elt Ideal) (Memref.view arg10) (Rect.toLoadRect (Rect.unit ![0, 1, 0, 0] (Shape.size S1x1x128x256) inb_S3x2x128x256_S1x1x128x256_0_1_0_0)) (Memref.IsWhole.unread harg10 x7)) where
  hq := fun i b => (ld2 _ (canon_HS0_1 c arg3 harg3 x0) _ _).trans (by
    show QD x0 1 2048 (128 + 1 * i.val) (0 + 1 * b.val) = _
    unfold QD
    congr 1 <;> omega)
  hk := fun i b => (ld2 _ (canon_HS4_3 c arg4 harg4 arg5 harg5 arg6 harg6 x1 x2 x3) _ _).trans (by
    show KD x1 x2 x3 1 4096 (1088 + 1 * i.val) (0 + 1 * b.val) = _
    unfold KD
    congr 1 <;> omega)
  hv := fun i b => (ld2 _ (canon_HS5_3 c arg7 harg7 arg8 harg8 arg9 harg9 x4 x5 x6) _ _).trans (by
    show KD x4 x5 x6 1 4096 (1088 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 2 of residue 0 reads, for dilation 1. -/
theorem ctx_2 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg12 : Memref sig .tc .vmem S2048x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 0 1 1024 0 2 (kernelRun0_A.sl.v170 (F := Ideal) c arg3 harg3 arg12 x0) (kernelRun0_A.sl.v171 (F := Ideal) c arg4 harg4 arg5 harg5 arg6 harg6 arg16 x1 x2 x3) (kernelRun0_A.sl.v172 (F := Ideal) c arg7 harg7 arg8 harg8 arg9 harg9 arg17 x4 x5 x6)
      (View.readAt (Elt Ideal) (Memref.view arg10) (Rect.toLoadRect (Rect.unit ![0, 0, 0, 0] (Shape.size S1x1x128x256) inb_S3x2x128x256_S1x1x128x256_0_0_0_0)) (Memref.IsWhole.unread harg10 x7))
      (View.readAt (Elt Ideal) (Memref.view arg10) (Rect.toLoadRect (Rect.unit ![0, 1, 0, 0] (Shape.size S1x1x128x256) inb_S3x2x128x256_S1x1x128x256_0_1_0_0)) (Memref.IsWhole.unread harg10 x7)) where
  hq := fun i b => (ld2 _ (canon_HS0_1 c arg3 harg3 x0) _ _).trans (by
    show QD x0 1 2048 (256 + 1 * i.val) (0 + 1 * b.val) = _
    unfold QD
    congr 1 <;> omega)
  hk := fun i b => (ld2 _ (canon_HS4_3 c arg4 harg4 arg5 harg5 arg6 harg6 x1 x2 x3) _ _).trans (by
    show KD x1 x2 x3 1 4096 (1216 + 1 * i.val) (0 + 1 * b.val) = _
    unfold KD
    congr 1 <;> omega)
  hv := fun i b => (ld2 _ (canon_HS5_3 c arg7 harg7 arg8 harg8 arg9 harg9 x4 x5 x6) _ _).trans (by
    show KD x4 x5 x6 1 4096 (1216 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 3 of residue 0 reads, for dilation 1. -/
theorem ctx_3 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg12 : Memref sig .tc .vmem S2048x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 0 1 1024 0 3 (kernelRun0_A.sl.v222 (F := Ideal) c arg3 harg3 arg12 x0) (kernelRun0_A.sl.v223 (F := Ideal) c arg4 harg4 arg5 harg5 arg6 harg6 arg16 x1 x2 x3) (kernelRun0_A.sl.v224 (F := Ideal) c arg7 harg7 arg8 harg8 arg9 harg9 arg17 x4 x5 x6)
      (View.readAt (Elt Ideal) (Memref.view arg10) (Rect.toLoadRect (Rect.unit ![0, 0, 0, 0] (Shape.size S1x1x128x256) inb_S3x2x128x256_S1x1x128x256_0_0_0_0)) (Memref.IsWhole.unread harg10 x7))
      (View.readAt (Elt Ideal) (Memref.view arg10) (Rect.toLoadRect (Rect.unit ![0, 1, 0, 0] (Shape.size S1x1x128x256) inb_S3x2x128x256_S1x1x128x256_0_1_0_0)) (Memref.IsWhole.unread harg10 x7)) where
  hq := fun i b => (ld2 _ (canon_HS0_1 c arg3 harg3 x0) _ _).trans (by
    show QD x0 1 2048 (384 + 1 * i.val) (0 + 1 * b.val) = _
    unfold QD
    congr 1 <;> omega)
  hk := fun i b => (ld2 _ (canon_HS4_3 c arg4 harg4 arg5 harg5 arg6 harg6 x1 x2 x3) _ _).trans (by
    show KD x1 x2 x3 1 4096 (1344 + 1 * i.val) (0 + 1 * b.val) = _
    unfold KD
    congr 1 <;> omega)
  hv := fun i b => (ld2 _ (canon_HS5_3 c arg7 harg7 arg8 harg8 arg9 harg9 x4 x5 x6) _ _).trans (by
    show KD x4 x5 x6 1 4096 (1344 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 4 of residue 0 reads, for dilation 1. -/
theorem ctx_4 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg12 : Memref sig .tc .vmem S2048x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 0 1 1024 0 4 (kernelRun0_A.sl.v274 (F := Ideal) c arg3 harg3 arg12 x0) (kernelRun0_A.sl.v275 (F := Ideal) c arg4 harg4 arg5 harg5 arg6 harg6 arg16 x1 x2 x3) (kernelRun0_A.sl.v276 (F := Ideal) c arg7 harg7 arg8 harg8 arg9 harg9 arg17 x4 x5 x6)
      (View.readAt (Elt Ideal) (Memref.view arg10) (Rect.toLoadRect (Rect.unit ![0, 0, 0, 0] (Shape.size S1x1x128x256) inb_S3x2x128x256_S1x1x128x256_0_0_0_0)) (Memref.IsWhole.unread harg10 x7))
      (View.readAt (Elt Ideal) (Memref.view arg10) (Rect.toLoadRect (Rect.unit ![0, 1, 0, 0] (Shape.size S1x1x128x256) inb_S3x2x128x256_S1x1x128x256_0_1_0_0)) (Memref.IsWhole.unread harg10 x7)) where
  hq := fun i b => (ld2 _ (canon_HS0_1 c arg3 harg3 x0) _ _).trans (by
    show QD x0 1 2048 (512 + 1 * i.val) (0 + 1 * b.val) = _
    unfold QD
    congr 1 <;> omega)
  hk := fun i b => (ld2 _ (canon_HS4_3 c arg4 harg4 arg5 harg5 arg6 harg6 x1 x2 x3) _ _).trans (by
    show KD x1 x2 x3 1 4096 (1472 + 1 * i.val) (0 + 1 * b.val) = _
    unfold KD
    congr 1 <;> omega)
  hv := fun i b => (ld2 _ (canon_HS5_3 c arg7 harg7 arg8 harg8 arg9 harg9 x4 x5 x6) _ _).trans (by
    show KD x4 x5 x6 1 4096 (1472 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 5 of residue 0 reads, for dilation 1. -/
theorem ctx_5 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg12 : Memref sig .tc .vmem S2048x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 0 1 1024 0 5 (kernelRun0_A.sl.v326 (F := Ideal) c arg3 harg3 arg12 x0) (kernelRun0_A.sl.v327 (F := Ideal) c arg4 harg4 arg5 harg5 arg6 harg6 arg16 x1 x2 x3) (kernelRun0_A.sl.v328 (F := Ideal) c arg7 harg7 arg8 harg8 arg9 harg9 arg17 x4 x5 x6)
      (View.readAt (Elt Ideal) (Memref.view arg10) (Rect.toLoadRect (Rect.unit ![0, 0, 0, 0] (Shape.size S1x1x128x256) inb_S3x2x128x256_S1x1x128x256_0_0_0_0)) (Memref.IsWhole.unread harg10 x7))
      (View.readAt (Elt Ideal) (Memref.view arg10) (Rect.toLoadRect (Rect.unit ![0, 1, 0, 0] (Shape.size S1x1x128x256) inb_S3x2x128x256_S1x1x128x256_0_1_0_0)) (Memref.IsWhole.unread harg10 x7)) where
  hq := fun i b => (ld2 _ (canon_HS0_1 c arg3 harg3 x0) _ _).trans (by
    show QD x0 1 2048 (640 + 1 * i.val) (0 + 1 * b.val) = _
    unfold QD
    congr 1 <;> omega)
  hk := fun i b => (ld2 _ (canon_HS4_3 c arg4 harg4 arg5 harg5 arg6 harg6 x1 x2 x3) _ _).trans (by
    show KD x1 x2 x3 1 4096 (1600 + 1 * i.val) (0 + 1 * b.val) = _
    unfold KD
    congr 1 <;> omega)
  hv := fun i b => (ld2 _ (canon_HS5_3 c arg7 harg7 arg8 harg8 arg9 harg9 x4 x5 x6) _ _).trans (by
    show KD x4 x5 x6 1 4096 (1600 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 6 of residue 0 reads, for dilation 1. -/
theorem ctx_6 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg12 : Memref sig .tc .vmem S2048x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 0 1 1024 0 6 (kernelRun0_A.sl.v378 (F := Ideal) c arg3 harg3 arg12 x0) (kernelRun0_A.sl.v379 (F := Ideal) c arg4 harg4 arg5 harg5 arg6 harg6 arg16 x1 x2 x3) (kernelRun0_A.sl.v380 (F := Ideal) c arg7 harg7 arg8 harg8 arg9 harg9 arg17 x4 x5 x6)
      (View.readAt (Elt Ideal) (Memref.view arg10) (Rect.toLoadRect (Rect.unit ![0, 0, 0, 0] (Shape.size S1x1x128x256) inb_S3x2x128x256_S1x1x128x256_0_0_0_0)) (Memref.IsWhole.unread harg10 x7))
      (View.readAt (Elt Ideal) (Memref.view arg10) (Rect.toLoadRect (Rect.unit ![0, 1, 0, 0] (Shape.size S1x1x128x256) inb_S3x2x128x256_S1x1x128x256_0_1_0_0)) (Memref.IsWhole.unread harg10 x7)) where
  hq := fun i b => (ld2 _ (canon_HS0_1 c arg3 harg3 x0) _ _).trans (by
    show QD x0 1 2048 (768 + 1 * i.val) (0 + 1 * b.val) = _
    unfold QD
    congr 1 <;> omega)
  hk := fun i b => (ld2 _ (canon_HS4_3 c arg4 harg4 arg5 harg5 arg6 harg6 x1 x2 x3) _ _).trans (by
    show KD x1 x2 x3 1 4096 (1728 + 1 * i.val) (0 + 1 * b.val) = _
    unfold KD
    congr 1 <;> omega)
  hv := fun i b => (ld2 _ (canon_HS5_3 c arg7 harg7 arg8 harg8 arg9 harg9 x4 x5 x6) _ _).trans (by
    show KD x4 x5 x6 1 4096 (1728 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 7 of residue 0 reads, for dilation 1. -/
theorem ctx_7 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg12 : Memref sig .tc .vmem S2048x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 0 1 1024 0 7 (kernelRun0_A.sl.v430 (F := Ideal) c arg3 harg3 arg12 x0) (kernelRun0_A.sl.v431 (F := Ideal) c arg4 harg4 arg5 harg5 arg6 harg6 arg16 x1 x2 x3) (kernelRun0_A.sl.v432 (F := Ideal) c arg7 harg7 arg8 harg8 arg9 harg9 arg17 x4 x5 x6)
      (View.readAt (Elt Ideal) (Memref.view arg10) (Rect.toLoadRect (Rect.unit ![0, 0, 0, 0] (Shape.size S1x1x128x256) inb_S3x2x128x256_S1x1x128x256_0_0_0_0)) (Memref.IsWhole.unread harg10 x7))
      (View.readAt (Elt Ideal) (Memref.view arg10) (Rect.toLoadRect (Rect.unit ![0, 1, 0, 0] (Shape.size S1x1x128x256) inb_S3x2x128x256_S1x1x128x256_0_1_0_0)) (Memref.IsWhole.unread harg10 x7)) where
  hq := fun i b => (ld2 _ (canon_HS0_1 c arg3 harg3 x0) _ _).trans (by
    show QD x0 1 2048 (896 + 1 * i.val) (0 + 1 * b.val) = _
    unfold QD
    congr 1 <;> omega)
  hk := fun i b => (ld2 _ (canon_HS4_3 c arg4 harg4 arg5 harg5 arg6 harg6 x1 x2 x3) _ _).trans (by
    show KD x1 x2 x3 1 4096 (1856 + 1 * i.val) (0 + 1 * b.val) = _
    unfold KD
    congr 1 <;> omega)
  hv := fun i b => (ld2 _ (canon_HS5_3 c arg7 harg7 arg8 harg8 arg9 harg9 x4 x5 x6) _ _).trans (by
    show KD x4 x5 x6 1 4096 (1856 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 8 of residue 0 reads, for dilation 1. -/
theorem ctx_8 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg12 : Memref sig .tc .vmem S2048x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 0 1 1024 0 8 (kernelRun0_A.sl.v482 (F := Ideal) c arg3 harg3 arg12 x0) (kernelRun0_A.sl.v483 (F := Ideal) c arg4 harg4 arg5 harg5 arg6 harg6 arg16 x1 x2 x3) (kernelRun0_A.sl.v484 (F := Ideal) c arg7 harg7 arg8 harg8 arg9 harg9 arg17 x4 x5 x6)
      (View.readAt (Elt Ideal) (Memref.view arg10) (Rect.toLoadRect (Rect.unit ![0, 0, 0, 0] (Shape.size S1x1x128x256) inb_S3x2x128x256_S1x1x128x256_0_0_0_0)) (Memref.IsWhole.unread harg10 x7))
      (View.readAt (Elt Ideal) (Memref.view arg10) (Rect.toLoadRect (Rect.unit ![0, 1, 0, 0] (Shape.size S1x1x128x256) inb_S3x2x128x256_S1x1x128x256_0_1_0_0)) (Memref.IsWhole.unread harg10 x7)) where
  hq := fun i b => (ld2 _ (canon_HS0_1 c arg3 harg3 x0) _ _).trans (by
    show QD x0 1 2048 (1024 + 1 * i.val) (0 + 1 * b.val) = _
    unfold QD
    congr 1 <;> omega)
  hk := fun i b => (ld2 _ (canon_HS4_3 c arg4 harg4 arg5 harg5 arg6 harg6 x1 x2 x3) _ _).trans (by
    show KD x1 x2 x3 1 4096 (1984 + 1 * i.val) (0 + 1 * b.val) = _
    unfold KD
    congr 1 <;> omega)
  hv := fun i b => (ld2 _ (canon_HS5_3 c arg7 harg7 arg8 harg8 arg9 harg9 x4 x5 x6) _ _).trans (by
    show KD x4 x5 x6 1 4096 (1984 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 9 of residue 0 reads, for dilation 1. -/
theorem ctx_9 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg12 : Memref sig .tc .vmem S2048x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 0 1 1024 0 9 (kernelRun0_A.sl.v534 (F := Ideal) c arg3 harg3 arg12 x0) (kernelRun0_A.sl.v535 (F := Ideal) c arg4 harg4 arg5 harg5 arg6 harg6 arg16 x1 x2 x3) (kernelRun0_A.sl.v536 (F := Ideal) c arg7 harg7 arg8 harg8 arg9 harg9 arg17 x4 x5 x6)
      (View.readAt (Elt Ideal) (Memref.view arg10) (Rect.toLoadRect (Rect.unit ![0, 0, 0, 0] (Shape.size S1x1x128x256) inb_S3x2x128x256_S1x1x128x256_0_0_0_0)) (Memref.IsWhole.unread harg10 x7))
      (View.readAt (Elt Ideal) (Memref.view arg10) (Rect.toLoadRect (Rect.unit ![0, 1, 0, 0] (Shape.size S1x1x128x256) inb_S3x2x128x256_S1x1x128x256_0_1_0_0)) (Memref.IsWhole.unread harg10 x7)) where
  hq := fun i b => (ld2 _ (canon_HS0_1 c arg3 harg3 x0) _ _).trans (by
    show QD x0 1 2048 (1152 + 1 * i.val) (0 + 1 * b.val) = _
    unfold QD
    congr 1 <;> omega)
  hk := fun i b => (ld2 _ (canon_HS4_3 c arg4 harg4 arg5 harg5 arg6 harg6 x1 x2 x3) _ _).trans (by
    show KD x1 x2 x3 1 4096 (2112 + 1 * i.val) (0 + 1 * b.val) = _
    unfold KD
    congr 1 <;> omega)
  hv := fun i b => (ld2 _ (canon_HS5_3 c arg7 harg7 arg8 harg8 arg9 harg9 x4 x5 x6) _ _).trans (by
    show KD x4 x5 x6 1 4096 (2112 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 10 of residue 0 reads, for dilation 1. -/
theorem ctx_10 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg12 : Memref sig .tc .vmem S2048x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 0 1 1024 0 10 (kernelRun0_A.sl.v586 (F := Ideal) c arg3 harg3 arg12 x0) (kernelRun0_A.sl.v587 (F := Ideal) c arg4 harg4 arg5 harg5 arg6 harg6 arg16 x1 x2 x3) (kernelRun0_A.sl.v588 (F := Ideal) c arg7 harg7 arg8 harg8 arg9 harg9 arg17 x4 x5 x6)
      (View.readAt (Elt Ideal) (Memref.view arg10) (Rect.toLoadRect (Rect.unit ![0, 0, 0, 0] (Shape.size S1x1x128x256) inb_S3x2x128x256_S1x1x128x256_0_0_0_0)) (Memref.IsWhole.unread harg10 x7))
      (View.readAt (Elt Ideal) (Memref.view arg10) (Rect.toLoadRect (Rect.unit ![0, 1, 0, 0] (Shape.size S1x1x128x256) inb_S3x2x128x256_S1x1x128x256_0_1_0_0)) (Memref.IsWhole.unread harg10 x7)) where
  hq := fun i b => (ld2 _ (canon_HS0_1 c arg3 harg3 x0) _ _).trans (by
    show QD x0 1 2048 (1280 + 1 * i.val) (0 + 1 * b.val) = _
    unfold QD
    congr 1 <;> omega)
  hk := fun i b => (ld2 _ (canon_HS4_3 c arg4 harg4 arg5 harg5 arg6 harg6 x1 x2 x3) _ _).trans (by
    show KD x1 x2 x3 1 4096 (2240 + 1 * i.val) (0 + 1 * b.val) = _
    unfold KD
    congr 1 <;> omega)
  hv := fun i b => (ld2 _ (canon_HS5_3 c arg7 harg7 arg8 harg8 arg9 harg9 x4 x5 x6) _ _).trans (by
    show KD x4 x5 x6 1 4096 (2240 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 11 of residue 0 reads, for dilation 1. -/
theorem ctx_11 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg12 : Memref sig .tc .vmem S2048x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 0 1 1024 0 11 (kernelRun0_A.sl.v638 (F := Ideal) c arg3 harg3 arg12 x0) (kernelRun0_A.sl.v639 (F := Ideal) c arg4 harg4 arg5 harg5 arg6 harg6 arg16 x1 x2 x3) (kernelRun0_A.sl.v640 (F := Ideal) c arg7 harg7 arg8 harg8 arg9 harg9 arg17 x4 x5 x6)
      (View.readAt (Elt Ideal) (Memref.view arg10) (Rect.toLoadRect (Rect.unit ![0, 0, 0, 0] (Shape.size S1x1x128x256) inb_S3x2x128x256_S1x1x128x256_0_0_0_0)) (Memref.IsWhole.unread harg10 x7))
      (View.readAt (Elt Ideal) (Memref.view arg10) (Rect.toLoadRect (Rect.unit ![0, 1, 0, 0] (Shape.size S1x1x128x256) inb_S3x2x128x256_S1x1x128x256_0_1_0_0)) (Memref.IsWhole.unread harg10 x7)) where
  hq := fun i b => (ld2 _ (canon_HS0_1 c arg3 harg3 x0) _ _).trans (by
    show QD x0 1 2048 (1408 + 1 * i.val) (0 + 1 * b.val) = _
    unfold QD
    congr 1 <;> omega)
  hk := fun i b => (ld2 _ (canon_HS4_3 c arg4 harg4 arg5 harg5 arg6 harg6 x1 x2 x3) _ _).trans (by
    show KD x1 x2 x3 1 4096 (2368 + 1 * i.val) (0 + 1 * b.val) = _
    unfold KD
    congr 1 <;> omega)
  hv := fun i b => (ld2 _ (canon_HS5_3 c arg7 harg7 arg8 harg8 arg9 harg9 x4 x5 x6) _ _).trans (by
    show KD x4 x5 x6 1 4096 (2368 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 12 of residue 0 reads, for dilation 1. -/
theorem ctx_12 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg12 : Memref sig .tc .vmem S2048x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 0 1 1024 0 12 (kernelRun0_A.sl.v690 (F := Ideal) c arg3 harg3 arg12 x0) (kernelRun0_A.sl.v691 (F := Ideal) c arg4 harg4 arg5 harg5 arg6 harg6 arg16 x1 x2 x3) (kernelRun0_A.sl.v692 (F := Ideal) c arg7 harg7 arg8 harg8 arg9 harg9 arg17 x4 x5 x6)
      (View.readAt (Elt Ideal) (Memref.view arg10) (Rect.toLoadRect (Rect.unit ![0, 0, 0, 0] (Shape.size S1x1x128x256) inb_S3x2x128x256_S1x1x128x256_0_0_0_0)) (Memref.IsWhole.unread harg10 x7))
      (View.readAt (Elt Ideal) (Memref.view arg10) (Rect.toLoadRect (Rect.unit ![0, 1, 0, 0] (Shape.size S1x1x128x256) inb_S3x2x128x256_S1x1x128x256_0_1_0_0)) (Memref.IsWhole.unread harg10 x7)) where
  hq := fun i b => (ld2 _ (canon_HS0_1 c arg3 harg3 x0) _ _).trans (by
    show QD x0 1 2048 (1536 + 1 * i.val) (0 + 1 * b.val) = _
    unfold QD
    congr 1 <;> omega)
  hk := fun i b => (ld2 _ (canon_HS4_3 c arg4 harg4 arg5 harg5 arg6 harg6 x1 x2 x3) _ _).trans (by
    show KD x1 x2 x3 1 4096 (2496 + 1 * i.val) (0 + 1 * b.val) = _
    unfold KD
    congr 1 <;> omega)
  hv := fun i b => (ld2 _ (canon_HS5_3 c arg7 harg7 arg8 harg8 arg9 harg9 x4 x5 x6) _ _).trans (by
    show KD x4 x5 x6 1 4096 (2496 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 13 of residue 0 reads, for dilation 1. -/
theorem ctx_13 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg12 : Memref sig .tc .vmem S2048x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 0 1 1024 0 13 (kernelRun0_A.sl.v742 (F := Ideal) c arg3 harg3 arg12 x0) (kernelRun0_A.sl.v743 (F := Ideal) c arg4 harg4 arg5 harg5 arg6 harg6 arg16 x1 x2 x3) (kernelRun0_A.sl.v744 (F := Ideal) c arg7 harg7 arg8 harg8 arg9 harg9 arg17 x4 x5 x6)
      (View.readAt (Elt Ideal) (Memref.view arg10) (Rect.toLoadRect (Rect.unit ![0, 0, 0, 0] (Shape.size S1x1x128x256) inb_S3x2x128x256_S1x1x128x256_0_0_0_0)) (Memref.IsWhole.unread harg10 x7))
      (View.readAt (Elt Ideal) (Memref.view arg10) (Rect.toLoadRect (Rect.unit ![0, 1, 0, 0] (Shape.size S1x1x128x256) inb_S3x2x128x256_S1x1x128x256_0_1_0_0)) (Memref.IsWhole.unread harg10 x7)) where
  hq := fun i b => (ld2 _ (canon_HS0_1 c arg3 harg3 x0) _ _).trans (by
    show QD x0 1 2048 (1664 + 1 * i.val) (0 + 1 * b.val) = _
    unfold QD
    congr 1 <;> omega)
  hk := fun i b => (ld2 _ (canon_HS4_3 c arg4 harg4 arg5 harg5 arg6 harg6 x1 x2 x3) _ _).trans (by
    show KD x1 x2 x3 1 4096 (2624 + 1 * i.val) (0 + 1 * b.val) = _
    unfold KD
    congr 1 <;> omega)
  hv := fun i b => (ld2 _ (canon_HS5_3 c arg7 harg7 arg8 harg8 arg9 harg9 x4 x5 x6) _ _).trans (by
    show KD x4 x5 x6 1 4096 (2624 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 14 of residue 0 reads, for dilation 1. -/
theorem ctx_14 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg12 : Memref sig .tc .vmem S2048x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 0 1 1024 0 14 (kernelRun0_A.sl.v794 (F := Ideal) c arg3 harg3 arg12 x0) (kernelRun0_A.sl.v795 (F := Ideal) c arg4 harg4 arg5 harg5 arg6 harg6 arg16 x1 x2 x3) (kernelRun0_A.sl.v796 (F := Ideal) c arg7 harg7 arg8 harg8 arg9 harg9 arg17 x4 x5 x6)
      (View.readAt (Elt Ideal) (Memref.view arg10) (Rect.toLoadRect (Rect.unit ![0, 0, 0, 0] (Shape.size S1x1x128x256) inb_S3x2x128x256_S1x1x128x256_0_0_0_0)) (Memref.IsWhole.unread harg10 x7))
      (View.readAt (Elt Ideal) (Memref.view arg10) (Rect.toLoadRect (Rect.unit ![0, 1, 0, 0] (Shape.size S1x1x128x256) inb_S3x2x128x256_S1x1x128x256_0_1_0_0)) (Memref.IsWhole.unread harg10 x7)) where
  hq := fun i b => (ld2 _ (canon_HS0_1 c arg3 harg3 x0) _ _).trans (by
    show QD x0 1 2048 (1792 + 1 * i.val) (0 + 1 * b.val) = _
    unfold QD
    congr 1 <;> omega)
  hk := fun i b => (ld2 _ (canon_HS4_3 c arg4 harg4 arg5 harg5 arg6 harg6 x1 x2 x3) _ _).trans (by
    show KD x1 x2 x3 1 4096 (2752 + 1 * i.val) (0 + 1 * b.val) = _
    unfold KD
    congr 1 <;> omega)
  hv := fun i b => (ld2 _ (canon_HS5_3 c arg7 harg7 arg8 harg8 arg9 harg9 x4 x5 x6) _ _).trans (by
    show KD x4 x5 x6 1 4096 (2752 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 15 of residue 0 reads, for dilation 1. -/
theorem ctx_15 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg12 : Memref sig .tc .vmem S2048x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 0 1 1024 0 15 (kernelRun0_A.sl.v846 (F := Ideal) c arg3 harg3 arg12 x0) (kernelRun0_A.sl.v847 (F := Ideal) c arg4 harg4 arg5 harg5 arg6 harg6 arg16 x1 x2 x3) (kernelRun0_A.sl.v848 (F := Ideal) c arg7 harg7 arg8 harg8 arg9 harg9 arg17 x4 x5 x6)
      (View.readAt (Elt Ideal) (Memref.view arg10) (Rect.toLoadRect (Rect.unit ![0, 0, 0, 0] (Shape.size S1x1x128x256) inb_S3x2x128x256_S1x1x128x256_0_0_0_0)) (Memref.IsWhole.unread harg10 x7))
      (View.readAt (Elt Ideal) (Memref.view arg10) (Rect.toLoadRect (Rect.unit ![0, 1, 0, 0] (Shape.size S1x1x128x256) inb_S3x2x128x256_S1x1x128x256_0_1_0_0)) (Memref.IsWhole.unread harg10 x7)) where
  hq := fun i b => (ld2 _ (canon_HS0_1 c arg3 harg3 x0) _ _).trans (by
    show QD x0 1 2048 (1920 + 1 * i.val) (0 + 1 * b.val) = _
    unfold QD
    congr 1 <;> omega)
  hk := fun i b => (ld2 _ (canon_HS4_3 c arg4 harg4 arg5 harg5 arg6 harg6 x1 x2 x3) _ _).trans (by
    show KD x1 x2 x3 1 4096 (2880 + 1 * i.val) (0 + 1 * b.val) = _
    unfold KD
    congr 1 <;> omega)
  hv := fun i b => (ld2 _ (canon_HS5_3 c arg7 harg7 arg8 harg8 arg9 harg9 x4 x5 x6) _ _).trans (by
    show KD x4 x5 x6 1 4096 (2880 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

end Cert.AttnIdeal.Att

end
-- ==== Proof.AttCtx1.lean ====
/-
  What each block of the attention reads, for dilation 4.
-/
module

public import proofs.«01_k».proof.Proof.AttBuf

@[expose] public section

set_option maxRecDepth 16384

noncomputable section

namespace Cert.AttnIdeal.Att

open Cert.AttnIdeal Cert.AttnIdeal.Gen Idealize.ShloMosaic Idealize.ShloMosaic.TcCoe Idealize.SL.Sem
open Idealize.ShloMosaic.Pointwise
open scoped BigOperators

/-- What block 0 of residue 0 reads, for dilation 4. -/
theorem ctx_16 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg13 : Memref sig .tc .vmem S2048x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 1 4 256 0 0 (kernelRun0_A.sl.v1160 (F := Ideal) c arg3 harg3 arg13 x0) (kernelRun0_A.sl.v1161 (F := Ideal) c arg4 harg4 arg5 harg5 arg6 harg6 arg16 x1 x2 x3) (kernelRun0_A.sl.v1162 (F := Ideal) c arg7 harg7 arg8 harg8 arg9 harg9 arg17 x4 x5 x6)
      (View.readAt (Elt Ideal) (Memref.view arg10) (Rect.toLoadRect (Rect.unit ![1, 0, 0, 0] (Shape.size S1x1x128x256) inb_S3x2x128x256_S1x1x128x256_1_0_0_0)) (Memref.IsWhole.unread harg10 x7))
      (View.readAt (Elt Ideal) (Memref.view arg10) (Rect.toLoadRect (Rect.unit ![1, 1, 0, 0] (Shape.size S1x1x128x256) inb_S3x2x128x256_S1x1x128x256_1_1_0_0)) (Memref.IsWhole.unread harg10 x7)) where
  hq := fun i b => (ld2 _ (canon_HS1_4 c arg3 harg3 x0) _ _).trans (by
    show QD x0 4 512 (0 + 1 * i.val) (0 + 1 * b.val) = _
    unfold QD
    congr 1 <;> omega)
  hk := fun i b => (ld2 _ (canon_HS4_15 c arg4 harg4 arg5 harg5 arg6 harg6 x1 x2 x3) _ _).trans (by
    show KD x1 x2 x3 4 1024 (192 + 1 * i.val) (0 + 1 * b.val) = _
    unfold KD
    congr 1 <;> omega)
  hv := fun i b => (ld2 _ (canon_HS5_15 c arg7 harg7 arg8 harg8 arg9 harg9 x4 x5 x6) _ _).trans (by
    show KD x4 x5 x6 4 1024 (192 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 1 of residue 0 reads, for dilation 4. -/
theorem ctx_17 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg13 : Memref sig .tc .vmem S2048x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 1 4 256 0 1 (kernelRun0_A.sl.v1230 (F := Ideal) c arg3 harg3 arg13 x0) (kernelRun0_A.sl.v1231 (F := Ideal) c arg4 harg4 arg5 harg5 arg6 harg6 arg16 x1 x2 x3) (kernelRun0_A.sl.v1232 (F := Ideal) c arg7 harg7 arg8 harg8 arg9 harg9 arg17 x4 x5 x6)
      (View.readAt (Elt Ideal) (Memref.view arg10) (Rect.toLoadRect (Rect.unit ![1, 0, 0, 0] (Shape.size S1x1x128x256) inb_S3x2x128x256_S1x1x128x256_1_0_0_0)) (Memref.IsWhole.unread harg10 x7))
      (View.readAt (Elt Ideal) (Memref.view arg10) (Rect.toLoadRect (Rect.unit ![1, 1, 0, 0] (Shape.size S1x1x128x256) inb_S3x2x128x256_S1x1x128x256_1_1_0_0)) (Memref.IsWhole.unread harg10 x7)) where
  hq := fun i b => (ld2 _ (canon_HS1_4 c arg3 harg3 x0) _ _).trans (by
    show QD x0 4 512 (128 + 1 * i.val) (0 + 1 * b.val) = _
    unfold QD
    congr 1 <;> omega)
  hk := fun i b => (ld2 _ (canon_HS4_15 c arg4 harg4 arg5 harg5 arg6 harg6 x1 x2 x3) _ _).trans (by
    show KD x1 x2 x3 4 1024 (320 + 1 * i.val) (0 + 1 * b.val) = _
    unfold KD
    congr 1 <;> omega)
  hv := fun i b => (ld2 _ (canon_HS5_15 c arg7 harg7 arg8 harg8 arg9 harg9 x4 x5 x6) _ _).trans (by
    show KD x4 x5 x6 4 1024 (320 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 2 of residue 0 reads, for dilation 4. -/
theorem ctx_18 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg13 : Memref sig .tc .vmem S2048x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 1 4 256 0 2 (kernelRun0_A.sl.v1282 (F := Ideal) c arg3 harg3 arg13 x0) (kernelRun0_A.sl.v1283 (F := Ideal) c arg4 harg4 arg5 harg5 arg6 harg6 arg16 x1 x2 x3) (kernelRun0_A.sl.v1284 (F := Ideal) c arg7 harg7 arg8 harg8 arg9 harg9 arg17 x4 x5 x6)
      (View.readAt (Elt Ideal) (Memref.view arg10) (Rect.toLoadRect (Rect.unit ![1, 0, 0, 0] (Shape.size S1x1x128x256) inb_S3x2x128x256_S1x1x128x256_1_0_0_0)) (Memref.IsWhole.unread harg10 x7))
      (View.readAt (Elt Ideal) (Memref.view arg10) (Rect.toLoadRect (Rect.unit ![1, 1, 0, 0] (Shape.size S1x1x128x256) inb_S3x2x128x256_S1x1x128x256_1_1_0_0)) (Memref.IsWhole.unread harg10 x7)) where
  hq := fun i b => (ld2 _ (canon_HS1_4 c arg3 harg3 x0) _ _).trans (by
    show QD x0 4 512 (256 + 1 * i.val) (0 + 1 * b.val) = _
    unfold QD
    congr 1 <;> omega)
  hk := fun i b => (ld2 _ (canon_HS4_15 c arg4 harg4 arg5 harg5 arg6 harg6 x1 x2 x3) _ _).trans (by
    show KD x1 x2 x3 4 1024 (448 + 1 * i.val) (0 + 1 * b.val) = _
    unfold KD
    congr 1 <;> omega)
  hv := fun i b => (ld2 _ (canon_HS5_15 c arg7 harg7 arg8 harg8 arg9 harg9 x4 x5 x6) _ _).trans (by
    show KD x4 x5 x6 4 1024 (448 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 3 of residue 0 reads, for dilation 4. -/
theorem ctx_19 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg13 : Memref sig .tc .vmem S2048x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 1 4 256 0 3 (kernelRun0_A.sl.v1334 (F := Ideal) c arg3 harg3 arg13 x0) (kernelRun0_A.sl.v1335 (F := Ideal) c arg4 harg4 arg5 harg5 arg6 harg6 arg16 x1 x2 x3) (kernelRun0_A.sl.v1336 (F := Ideal) c arg7 harg7 arg8 harg8 arg9 harg9 arg17 x4 x5 x6)
      (View.readAt (Elt Ideal) (Memref.view arg10) (Rect.toLoadRect (Rect.unit ![1, 0, 0, 0] (Shape.size S1x1x128x256) inb_S3x2x128x256_S1x1x128x256_1_0_0_0)) (Memref.IsWhole.unread harg10 x7))
      (View.readAt (Elt Ideal) (Memref.view arg10) (Rect.toLoadRect (Rect.unit ![1, 1, 0, 0] (Shape.size S1x1x128x256) inb_S3x2x128x256_S1x1x128x256_1_1_0_0)) (Memref.IsWhole.unread harg10 x7)) where
  hq := fun i b => (ld2 _ (canon_HS1_4 c arg3 harg3 x0) _ _).trans (by
    show QD x0 4 512 (384 + 1 * i.val) (0 + 1 * b.val) = _
    unfold QD
    congr 1 <;> omega)
  hk := fun i b => (ld2 _ (canon_HS4_15 c arg4 harg4 arg5 harg5 arg6 harg6 x1 x2 x3) _ _).trans (by
    show KD x1 x2 x3 4 1024 (576 + 1 * i.val) (0 + 1 * b.val) = _
    unfold KD
    congr 1 <;> omega)
  hv := fun i b => (ld2 _ (canon_HS5_15 c arg7 harg7 arg8 harg8 arg9 harg9 x4 x5 x6) _ _).trans (by
    show KD x4 x5 x6 4 1024 (576 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 0 of residue 1 reads, for dilation 4. -/
theorem ctx_20 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg13 : Memref sig .tc .vmem S2048x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 1 4 256 1 0 (kernelRun0_A.sl.v1404 (F := Ideal) c arg3 harg3 arg13 x0) (kernelRun0_A.sl.v1405 (F := Ideal) c arg4 harg4 arg5 harg5 arg6 harg6 arg16 x1 x2 x3) (kernelRun0_A.sl.v1406 (F := Ideal) c arg7 harg7 arg8 harg8 arg9 harg9 arg17 x4 x5 x6)
      (View.readAt (Elt Ideal) (Memref.view arg10) (Rect.toLoadRect (Rect.unit ![1, 0, 0, 0] (Shape.size S1x1x128x256) inb_S3x2x128x256_S1x1x128x256_1_0_0_0)) (Memref.IsWhole.unread harg10 x7))
      (View.readAt (Elt Ideal) (Memref.view arg10) (Rect.toLoadRect (Rect.unit ![1, 1, 0, 0] (Shape.size S1x1x128x256) inb_S3x2x128x256_S1x1x128x256_1_1_0_0)) (Memref.IsWhole.unread harg10 x7)) where
  hq := fun i b => (ld2 _ (canon_HS1_4 c arg3 harg3 x0) _ _).trans (by
    show QD x0 4 512 (512 + 1 * i.val) (0 + 1 * b.val) = _
    unfold QD
    congr 1 <;> omega)
  hk := fun i b => (ld2 _ (canon_HS4_15 c arg4 harg4 arg5 harg5 arg6 harg6 x1 x2 x3) _ _).trans (by
    show KD x1 x2 x3 4 1024 (1216 + 1 * i.val) (0 + 1 * b.val) = _
    unfold KD
    congr 1 <;> omega)
  hv := fun i b => (ld2 _ (canon_HS5_15 c arg7 harg7 arg8 harg8 arg9 harg9 x4 x5 x6) _ _).trans (by
    show KD x4 x5 x6 4 1024 (1216 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 1 of residue 1 reads, for dilation 4. -/
theorem ctx_21 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg13 : Memref sig .tc .vmem S2048x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 1 4 256 1 1 (kernelRun0_A.sl.v1474 (F := Ideal) c arg3 harg3 arg13 x0) (kernelRun0_A.sl.v1475 (F := Ideal) c arg4 harg4 arg5 harg5 arg6 harg6 arg16 x1 x2 x3) (kernelRun0_A.sl.v1476 (F := Ideal) c arg7 harg7 arg8 harg8 arg9 harg9 arg17 x4 x5 x6)
      (View.readAt (Elt Ideal) (Memref.view arg10) (Rect.toLoadRect (Rect.unit ![1, 0, 0, 0] (Shape.size S1x1x128x256) inb_S3x2x128x256_S1x1x128x256_1_0_0_0)) (Memref.IsWhole.unread harg10 x7))
      (View.readAt (Elt Ideal) (Memref.view arg10) (Rect.toLoadRect (Rect.unit ![1, 1, 0, 0] (Shape.size S1x1x128x256) inb_S3x2x128x256_S1x1x128x256_1_1_0_0)) (Memref.IsWhole.unread harg10 x7)) where
  hq := fun i b => (ld2 _ (canon_HS1_4 c arg3 harg3 x0) _ _).trans (by
    show QD x0 4 512 (640 + 1 * i.val) (0 + 1 * b.val) = _
    unfold QD
    congr 1 <;> omega)
  hk := fun i b => (ld2 _ (canon_HS4_15 c arg4 harg4 arg5 harg5 arg6 harg6 x1 x2 x3) _ _).trans (by
    show KD x1 x2 x3 4 1024 (1344 + 1 * i.val) (0 + 1 * b.val) = _
    unfold KD
    congr 1 <;> omega)
  hv := fun i b => (ld2 _ (canon_HS5_15 c arg7 harg7 arg8 harg8 arg9 harg9 x4 x5 x6) _ _).trans (by
    show KD x4 x5 x6 4 1024 (1344 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 2 of residue 1 reads, for dilation 4. -/
theorem ctx_22 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg13 : Memref sig .tc .vmem S2048x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 1 4 256 1 2 (kernelRun0_A.sl.v1526 (F := Ideal) c arg3 harg3 arg13 x0) (kernelRun0_A.sl.v1527 (F := Ideal) c arg4 harg4 arg5 harg5 arg6 harg6 arg16 x1 x2 x3) (kernelRun0_A.sl.v1528 (F := Ideal) c arg7 harg7 arg8 harg8 arg9 harg9 arg17 x4 x5 x6)
      (View.readAt (Elt Ideal) (Memref.view arg10) (Rect.toLoadRect (Rect.unit ![1, 0, 0, 0] (Shape.size S1x1x128x256) inb_S3x2x128x256_S1x1x128x256_1_0_0_0)) (Memref.IsWhole.unread harg10 x7))
      (View.readAt (Elt Ideal) (Memref.view arg10) (Rect.toLoadRect (Rect.unit ![1, 1, 0, 0] (Shape.size S1x1x128x256) inb_S3x2x128x256_S1x1x128x256_1_1_0_0)) (Memref.IsWhole.unread harg10 x7)) where
  hq := fun i b => (ld2 _ (canon_HS1_4 c arg3 harg3 x0) _ _).trans (by
    show QD x0 4 512 (768 + 1 * i.val) (0 + 1 * b.val) = _
    unfold QD
    congr 1 <;> omega)
  hk := fun i b => (ld2 _ (canon_HS4_15 c arg4 harg4 arg5 harg5 arg6 harg6 x1 x2 x3) _ _).trans (by
    show KD x1 x2 x3 4 1024 (1472 + 1 * i.val) (0 + 1 * b.val) = _
    unfold KD
    congr 1 <;> omega)
  hv := fun i b => (ld2 _ (canon_HS5_15 c arg7 harg7 arg8 harg8 arg9 harg9 x4 x5 x6) _ _).trans (by
    show KD x4 x5 x6 4 1024 (1472 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 3 of residue 1 reads, for dilation 4. -/
theorem ctx_23 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg13 : Memref sig .tc .vmem S2048x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 1 4 256 1 3 (kernelRun0_A.sl.v1578 (F := Ideal) c arg3 harg3 arg13 x0) (kernelRun0_A.sl.v1579 (F := Ideal) c arg4 harg4 arg5 harg5 arg6 harg6 arg16 x1 x2 x3) (kernelRun0_A.sl.v1580 (F := Ideal) c arg7 harg7 arg8 harg8 arg9 harg9 arg17 x4 x5 x6)
      (View.readAt (Elt Ideal) (Memref.view arg10) (Rect.toLoadRect (Rect.unit ![1, 0, 0, 0] (Shape.size S1x1x128x256) inb_S3x2x128x256_S1x1x128x256_1_0_0_0)) (Memref.IsWhole.unread harg10 x7))
      (View.readAt (Elt Ideal) (Memref.view arg10) (Rect.toLoadRect (Rect.unit ![1, 1, 0, 0] (Shape.size S1x1x128x256) inb_S3x2x128x256_S1x1x128x256_1_1_0_0)) (Memref.IsWhole.unread harg10 x7)) where
  hq := fun i b => (ld2 _ (canon_HS1_4 c arg3 harg3 x0) _ _).trans (by
    show QD x0 4 512 (896 + 1 * i.val) (0 + 1 * b.val) = _
    unfold QD
    congr 1 <;> omega)
  hk := fun i b => (ld2 _ (canon_HS4_15 c arg4 harg4 arg5 harg5 arg6 harg6 x1 x2 x3) _ _).trans (by
    show KD x1 x2 x3 4 1024 (1600 + 1 * i.val) (0 + 1 * b.val) = _
    unfold KD
    congr 1 <;> omega)
  hv := fun i b => (ld2 _ (canon_HS5_15 c arg7 harg7 arg8 harg8 arg9 harg9 x4 x5 x6) _ _).trans (by
    show KD x4 x5 x6 4 1024 (1600 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 0 of residue 2 reads, for dilation 4. -/
theorem ctx_24 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg13 : Memref sig .tc .vmem S2048x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 1 4 256 2 0 (kernelRun0_A.sl.v1648 (F := Ideal) c arg3 harg3 arg13 x0) (kernelRun0_A.sl.v1649 (F := Ideal) c arg4 harg4 arg5 harg5 arg6 harg6 arg16 x1 x2 x3) (kernelRun0_A.sl.v1650 (F := Ideal) c arg7 harg7 arg8 harg8 arg9 harg9 arg17 x4 x5 x6)
      (View.readAt (Elt Ideal) (Memref.view arg10) (Rect.toLoadRect (Rect.unit ![1, 0, 0, 0] (Shape.size S1x1x128x256) inb_S3x2x128x256_S1x1x128x256_1_0_0_0)) (Memref.IsWhole.unread harg10 x7))
      (View.readAt (Elt Ideal) (Memref.view arg10) (Rect.toLoadRect (Rect.unit ![1, 1, 0, 0] (Shape.size S1x1x128x256) inb_S3x2x128x256_S1x1x128x256_1_1_0_0)) (Memref.IsWhole.unread harg10 x7)) where
  hq := fun i b => (ld2 _ (canon_HS1_4 c arg3 harg3 x0) _ _).trans (by
    show QD x0 4 512 (1024 + 1 * i.val) (0 + 1 * b.val) = _
    unfold QD
    congr 1 <;> omega)
  hk := fun i b => (ld2 _ (canon_HS4_15 c arg4 harg4 arg5 harg5 arg6 harg6 x1 x2 x3) _ _).trans (by
    show KD x1 x2 x3 4 1024 (2240 + 1 * i.val) (0 + 1 * b.val) = _
    unfold KD
    congr 1 <;> omega)
  hv := fun i b => (ld2 _ (canon_HS5_15 c arg7 harg7 arg8 harg8 arg9 harg9 x4 x5 x6) _ _).trans (by
    show KD x4 x5 x6 4 1024 (2240 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 1 of residue 2 reads, for dilation 4. -/
theorem ctx_25 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg13 : Memref sig .tc .vmem S2048x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 1 4 256 2 1 (kernelRun0_A.sl.v1718 (F := Ideal) c arg3 harg3 arg13 x0) (kernelRun0_A.sl.v1719 (F := Ideal) c arg4 harg4 arg5 harg5 arg6 harg6 arg16 x1 x2 x3) (kernelRun0_A.sl.v1720 (F := Ideal) c arg7 harg7 arg8 harg8 arg9 harg9 arg17 x4 x5 x6)
      (View.readAt (Elt Ideal) (Memref.view arg10) (Rect.toLoadRect (Rect.unit ![1, 0, 0, 0] (Shape.size S1x1x128x256) inb_S3x2x128x256_S1x1x128x256_1_0_0_0)) (Memref.IsWhole.unread harg10 x7))
      (View.readAt (Elt Ideal) (Memref.view arg10) (Rect.toLoadRect (Rect.unit ![1, 1, 0, 0] (Shape.size S1x1x128x256) inb_S3x2x128x256_S1x1x128x256_1_1_0_0)) (Memref.IsWhole.unread harg10 x7)) where
  hq := fun i b => (ld2 _ (canon_HS1_4 c arg3 harg3 x0) _ _).trans (by
    show QD x0 4 512 (1152 + 1 * i.val) (0 + 1 * b.val) = _
    unfold QD
    congr 1 <;> omega)
  hk := fun i b => (ld2 _ (canon_HS4_15 c arg4 harg4 arg5 harg5 arg6 harg6 x1 x2 x3) _ _).trans (by
    show KD x1 x2 x3 4 1024 (2368 + 1 * i.val) (0 + 1 * b.val) = _
    unfold KD
    congr 1 <;> omega)
  hv := fun i b => (ld2 _ (canon_HS5_15 c arg7 harg7 arg8 harg8 arg9 harg9 x4 x5 x6) _ _).trans (by
    show KD x4 x5 x6 4 1024 (2368 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 2 of residue 2 reads, for dilation 4. -/
theorem ctx_26 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg13 : Memref sig .tc .vmem S2048x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 1 4 256 2 2 (kernelRun0_A.sl.v1770 (F := Ideal) c arg3 harg3 arg13 x0) (kernelRun0_A.sl.v1771 (F := Ideal) c arg4 harg4 arg5 harg5 arg6 harg6 arg16 x1 x2 x3) (kernelRun0_A.sl.v1772 (F := Ideal) c arg7 harg7 arg8 harg8 arg9 harg9 arg17 x4 x5 x6)
      (View.readAt (Elt Ideal) (Memref.view arg10) (Rect.toLoadRect (Rect.unit ![1, 0, 0, 0] (Shape.size S1x1x128x256) inb_S3x2x128x256_S1x1x128x256_1_0_0_0)) (Memref.IsWhole.unread harg10 x7))
      (View.readAt (Elt Ideal) (Memref.view arg10) (Rect.toLoadRect (Rect.unit ![1, 1, 0, 0] (Shape.size S1x1x128x256) inb_S3x2x128x256_S1x1x128x256_1_1_0_0)) (Memref.IsWhole.unread harg10 x7)) where
  hq := fun i b => (ld2 _ (canon_HS1_4 c arg3 harg3 x0) _ _).trans (by
    show QD x0 4 512 (1280 + 1 * i.val) (0 + 1 * b.val) = _
    unfold QD
    congr 1 <;> omega)
  hk := fun i b => (ld2 _ (canon_HS4_15 c arg4 harg4 arg5 harg5 arg6 harg6 x1 x2 x3) _ _).trans (by
    show KD x1 x2 x3 4 1024 (2496 + 1 * i.val) (0 + 1 * b.val) = _
    unfold KD
    congr 1 <;> omega)
  hv := fun i b => (ld2 _ (canon_HS5_15 c arg7 harg7 arg8 harg8 arg9 harg9 x4 x5 x6) _ _).trans (by
    show KD x4 x5 x6 4 1024 (2496 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 3 of residue 2 reads, for dilation 4. -/
theorem ctx_27 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg13 : Memref sig .tc .vmem S2048x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 1 4 256 2 3 (kernelRun0_A.sl.v1822 (F := Ideal) c arg3 harg3 arg13 x0) (kernelRun0_A.sl.v1823 (F := Ideal) c arg4 harg4 arg5 harg5 arg6 harg6 arg16 x1 x2 x3) (kernelRun0_A.sl.v1824 (F := Ideal) c arg7 harg7 arg8 harg8 arg9 harg9 arg17 x4 x5 x6)
      (View.readAt (Elt Ideal) (Memref.view arg10) (Rect.toLoadRect (Rect.unit ![1, 0, 0, 0] (Shape.size S1x1x128x256) inb_S3x2x128x256_S1x1x128x256_1_0_0_0)) (Memref.IsWhole.unread harg10 x7))
      (View.readAt (Elt Ideal) (Memref.view arg10) (Rect.toLoadRect (Rect.unit ![1, 1, 0, 0] (Shape.size S1x1x128x256) inb_S3x2x128x256_S1x1x128x256_1_1_0_0)) (Memref.IsWhole.unread harg10 x7)) where
  hq := fun i b => (ld2 _ (canon_HS1_4 c arg3 harg3 x0) _ _).trans (by
    show QD x0 4 512 (1408 + 1 * i.val) (0 + 1 * b.val) = _
    unfold QD
    congr 1 <;> omega)
  hk := fun i b => (ld2 _ (canon_HS4_15 c arg4 harg4 arg5 harg5 arg6 harg6 x1 x2 x3) _ _).trans (by
    show KD x1 x2 x3 4 1024 (2624 + 1 * i.val) (0 + 1 * b.val) = _
    unfold KD
    congr 1 <;> omega)
  hv := fun i b => (ld2 _ (canon_HS5_15 c arg7 harg7 arg8 harg8 arg9 harg9 x4 x5 x6) _ _).trans (by
    show KD x4 x5 x6 4 1024 (2624 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 0 of residue 3 reads, for dilation 4. -/
theorem ctx_28 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg13 : Memref sig .tc .vmem S2048x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 1 4 256 3 0 (kernelRun0_A.sl.v1892 (F := Ideal) c arg3 harg3 arg13 x0) (kernelRun0_A.sl.v1893 (F := Ideal) c arg4 harg4 arg5 harg5 arg6 harg6 arg16 x1 x2 x3) (kernelRun0_A.sl.v1894 (F := Ideal) c arg7 harg7 arg8 harg8 arg9 harg9 arg17 x4 x5 x6)
      (View.readAt (Elt Ideal) (Memref.view arg10) (Rect.toLoadRect (Rect.unit ![1, 0, 0, 0] (Shape.size S1x1x128x256) inb_S3x2x128x256_S1x1x128x256_1_0_0_0)) (Memref.IsWhole.unread harg10 x7))
      (View.readAt (Elt Ideal) (Memref.view arg10) (Rect.toLoadRect (Rect.unit ![1, 1, 0, 0] (Shape.size S1x1x128x256) inb_S3x2x128x256_S1x1x128x256_1_1_0_0)) (Memref.IsWhole.unread harg10 x7)) where
  hq := fun i b => (ld2 _ (canon_HS1_4 c arg3 harg3 x0) _ _).trans (by
    show QD x0 4 512 (1536 + 1 * i.val) (0 + 1 * b.val) = _
    unfold QD
    congr 1 <;> omega)
  hk := fun i b => (ld2 _ (canon_HS4_15 c arg4 harg4 arg5 harg5 arg6 harg6 x1 x2 x3) _ _).trans (by
    show KD x1 x2 x3 4 1024 (3264 + 1 * i.val) (0 + 1 * b.val) = _
    unfold KD
    congr 1 <;> omega)
  hv := fun i b => (ld2 _ (canon_HS5_15 c arg7 harg7 arg8 harg8 arg9 harg9 x4 x5 x6) _ _).trans (by
    show KD x4 x5 x6 4 1024 (3264 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 1 of residue 3 reads, for dilation 4. -/
theorem ctx_29 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg13 : Memref sig .tc .vmem S2048x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 1 4 256 3 1 (kernelRun0_A.sl.v1962 (F := Ideal) c arg3 harg3 arg13 x0) (kernelRun0_A.sl.v1963 (F := Ideal) c arg4 harg4 arg5 harg5 arg6 harg6 arg16 x1 x2 x3) (kernelRun0_A.sl.v1964 (F := Ideal) c arg7 harg7 arg8 harg8 arg9 harg9 arg17 x4 x5 x6)
      (View.readAt (Elt Ideal) (Memref.view arg10) (Rect.toLoadRect (Rect.unit ![1, 0, 0, 0] (Shape.size S1x1x128x256) inb_S3x2x128x256_S1x1x128x256_1_0_0_0)) (Memref.IsWhole.unread harg10 x7))
      (View.readAt (Elt Ideal) (Memref.view arg10) (Rect.toLoadRect (Rect.unit ![1, 1, 0, 0] (Shape.size S1x1x128x256) inb_S3x2x128x256_S1x1x128x256_1_1_0_0)) (Memref.IsWhole.unread harg10 x7)) where
  hq := fun i b => (ld2 _ (canon_HS1_4 c arg3 harg3 x0) _ _).trans (by
    show QD x0 4 512 (1664 + 1 * i.val) (0 + 1 * b.val) = _
    unfold QD
    congr 1 <;> omega)
  hk := fun i b => (ld2 _ (canon_HS4_15 c arg4 harg4 arg5 harg5 arg6 harg6 x1 x2 x3) _ _).trans (by
    show KD x1 x2 x3 4 1024 (3392 + 1 * i.val) (0 + 1 * b.val) = _
    unfold KD
    congr 1 <;> omega)
  hv := fun i b => (ld2 _ (canon_HS5_15 c arg7 harg7 arg8 harg8 arg9 harg9 x4 x5 x6) _ _).trans (by
    show KD x4 x5 x6 4 1024 (3392 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 2 of residue 3 reads, for dilation 4. -/
theorem ctx_30 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg13 : Memref sig .tc .vmem S2048x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 1 4 256 3 2 (kernelRun0_A.sl.v2014 (F := Ideal) c arg3 harg3 arg13 x0) (kernelRun0_A.sl.v2015 (F := Ideal) c arg4 harg4 arg5 harg5 arg6 harg6 arg16 x1 x2 x3) (kernelRun0_A.sl.v2016 (F := Ideal) c arg7 harg7 arg8 harg8 arg9 harg9 arg17 x4 x5 x6)
      (View.readAt (Elt Ideal) (Memref.view arg10) (Rect.toLoadRect (Rect.unit ![1, 0, 0, 0] (Shape.size S1x1x128x256) inb_S3x2x128x256_S1x1x128x256_1_0_0_0)) (Memref.IsWhole.unread harg10 x7))
      (View.readAt (Elt Ideal) (Memref.view arg10) (Rect.toLoadRect (Rect.unit ![1, 1, 0, 0] (Shape.size S1x1x128x256) inb_S3x2x128x256_S1x1x128x256_1_1_0_0)) (Memref.IsWhole.unread harg10 x7)) where
  hq := fun i b => (ld2 _ (canon_HS1_4 c arg3 harg3 x0) _ _).trans (by
    show QD x0 4 512 (1792 + 1 * i.val) (0 + 1 * b.val) = _
    unfold QD
    congr 1 <;> omega)
  hk := fun i b => (ld2 _ (canon_HS4_15 c arg4 harg4 arg5 harg5 arg6 harg6 x1 x2 x3) _ _).trans (by
    show KD x1 x2 x3 4 1024 (3520 + 1 * i.val) (0 + 1 * b.val) = _
    unfold KD
    congr 1 <;> omega)
  hv := fun i b => (ld2 _ (canon_HS5_15 c arg7 harg7 arg8 harg8 arg9 harg9 x4 x5 x6) _ _).trans (by
    show KD x4 x5 x6 4 1024 (3520 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 3 of residue 3 reads, for dilation 4. -/
theorem ctx_31 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg13 : Memref sig .tc .vmem S2048x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 1 4 256 3 3 (kernelRun0_A.sl.v2066 (F := Ideal) c arg3 harg3 arg13 x0) (kernelRun0_A.sl.v2067 (F := Ideal) c arg4 harg4 arg5 harg5 arg6 harg6 arg16 x1 x2 x3) (kernelRun0_A.sl.v2068 (F := Ideal) c arg7 harg7 arg8 harg8 arg9 harg9 arg17 x4 x5 x6)
      (View.readAt (Elt Ideal) (Memref.view arg10) (Rect.toLoadRect (Rect.unit ![1, 0, 0, 0] (Shape.size S1x1x128x256) inb_S3x2x128x256_S1x1x128x256_1_0_0_0)) (Memref.IsWhole.unread harg10 x7))
      (View.readAt (Elt Ideal) (Memref.view arg10) (Rect.toLoadRect (Rect.unit ![1, 1, 0, 0] (Shape.size S1x1x128x256) inb_S3x2x128x256_S1x1x128x256_1_1_0_0)) (Memref.IsWhole.unread harg10 x7)) where
  hq := fun i b => (ld2 _ (canon_HS1_4 c arg3 harg3 x0) _ _).trans (by
    show QD x0 4 512 (1920 + 1 * i.val) (0 + 1 * b.val) = _
    unfold QD
    congr 1 <;> omega)
  hk := fun i b => (ld2 _ (canon_HS4_15 c arg4 harg4 arg5 harg5 arg6 harg6 x1 x2 x3) _ _).trans (by
    show KD x1 x2 x3 4 1024 (3648 + 1 * i.val) (0 + 1 * b.val) = _
    unfold KD
    congr 1 <;> omega)
  hv := fun i b => (ld2 _ (canon_HS5_15 c arg7 harg7 arg8 harg8 arg9 harg9 x4 x5 x6) _ _).trans (by
    show KD x4 x5 x6 4 1024 (3648 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

end Cert.AttnIdeal.Att

end
-- ==== Proof.AttRows1.lean ====
/-
  The three results of the blocks of dilation 4, as the kernel holds them.
-/
module

public import proofs.«01_k».proof.Proof.AttPay
public import proofs.«01_k».proof.Proof.AttCtx1

@[expose] public section

set_option maxRecDepth 16384

noncomputable section

namespace Cert.AttnIdeal.Att

open Cert.AttnIdeal Cert.AttnIdeal.Gen Idealize.ShloMosaic Idealize.ShloMosaic.TcCoe Idealize.SL.Sem
open Idealize.ShloMosaic.Pointwise
open scoped BigOperators

/-- The weighted sums of the blocks of dilation 4. -/
theorem canon_HS6_16 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg13 : Memref sig .tc .vmem S2048x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) (hi : (i 1).val = 0) :
    View.canon (kernelRun0_A.sl.HS6_16 (F := Ideal) c i arg3 harg3 arg4 harg4 arg5 harg5 arg6 harg6 arg7 harg7 arg8 harg8 arg9 harg9 arg10 harg10 arg13 arg16 arg17 x0 x1 x2 x3 x4 x5 x6 x7) = fun y => (fun a b => OB x0 x1 x2 x3 x4 x5 x6 x7 1 4 512 256 (a / 512) (a % 512) b) (y 0).val (y 1).val := by
  funext y
  have hy : (y 0).val < 2048 := (y 0).isLt
  unfold kernelRun0_A.sl.HS6_16
  refine rowStep (e := .f32) (g := (fun a b => OB x0 x1 x2 x3 x4 x5 x6 x7 1 4 512 256 (a / 512) (a % 512) b)) (off := 1920) (n := 128) _ _ (fun a b => ?_) fun h0 => ?_
  · refine (Ctx.oE (ctx_31 c arg3 harg3 arg4 harg4 arg5 harg5 arg6 harg6 arg7 harg7 arg8 harg8 arg9 harg9 arg10 harg10 arg13 arg16 arg17 x0 x1 x2 x3 x4 x5 x6 x7) (lt := 512) 512#32 hi (by decide) (by decide) rfl ?_)
    have ha := a.isLt
    show OB x0 x1 x2 x3 x4 x5 x6 x7 1 4 512 256 3 (3 * 128 + a.val) b.val = (fun a b => OB x0 x1 x2 x3 x4 x5 x6 x7 1 4 512 256 (a / 512) (a % 512) b) (1920 + a.val) b.val
    exact congrArg₂ (fun r n => OB x0 x1 x2 x3 x4 x5 x6 x7 1 4 512 256 r n b.val) (by omega) (by omega)
  refine rowStep (e := .f32) (g := (fun a b => OB x0 x1 x2 x3 x4 x5 x6 x7 1 4 512 256 (a / 512) (a % 512) b)) (off := 1792) (n := 128) _ _ (fun a b => ?_) fun h1 => ?_
  · refine (Ctx.oN (ctx_30 c arg3 harg3 arg4 harg4 arg5 harg5 arg6 harg6 arg7 harg7 arg8 harg8 arg9 harg9 arg10 harg10 arg13 arg16 arg17 x0 x1 x2 x3 x4 x5 x6 x7) (lt := 512) (by decide) (by decide) rfl ?_)
    have ha := a.isLt
    show OB x0 x1 x2 x3 x4 x5 x6 x7 1 4 512 256 3 (2 * 128 + a.val) b.val = (fun a b => OB x0 x1 x2 x3 x4 x5 x6 x7 1 4 512 256 (a / 512) (a % 512) b) (1792 + a.val) b.val
    exact congrArg₂ (fun r n => OB x0 x1 x2 x3 x4 x5 x6 x7 1 4 512 256 r n b.val) (by omega) (by omega)
  refine rowStep (e := .f32) (g := (fun a b => OB x0 x1 x2 x3 x4 x5 x6 x7 1 4 512 256 (a / 512) (a % 512) b)) (off := 1664) (n := 128) _ _ (fun a b => ?_) fun h2 => ?_
  · refine (Ctx.oN (ctx_29 c arg3 harg3 arg4 harg4 arg5 harg5 arg6 harg6 arg7 harg7 arg8 harg8 arg9 harg9 arg10 harg10 arg13 arg16 arg17 x0 x1 x2 x3 x4 x5 x6 x7) (lt := 512) (by decide) (by decide) rfl ?_)
    have ha := a.isLt
    show OB x0 x1 x2 x3 x4 x5 x6 x7 1 4 512 256 3 (1 * 128 + a.val) b.val = (fun a b => OB x0 x1 x2 x3 x4 x5 x6 x7 1 4 512 256 (a / 512) (a % 512) b) (1664 + a.val) b.val
    exact congrArg₂ (fun r n => OB x0 x1 x2 x3 x4 x5 x6 x7 1 4 512 256 r n b.val) (by omega) (by omega)
  refine rowStep (e := .f32) (g := (fun a b => OB x0 x1 x2 x3 x4 x5 x6 x7 1 4 512 256 (a / 512) (a % 512) b)) (off := 1536) (n := 128) _ _ (fun a b => ?_) fun h3 => ?_
  · refine (Ctx.oE (ctx_28 c arg3 harg3 arg4 harg4 arg5 harg5 arg6 harg6 arg7 harg7 arg8 harg8 arg9 harg9 arg10 harg10 arg13 arg16 arg17 x0 x1 x2 x3 x4 x5 x6 x7) (lt := 512) 512#32 hi (by decide) (by decide) rfl ?_)
    have ha := a.isLt
    show OB x0 x1 x2 x3 x4 x5 x6 x7 1 4 512 256 3 (0 * 128 + a.val) b.val = (fun a b => OB x0 x1 x2 x3 x4 x5 x6 x7 1 4 512 256 (a / 512) (a % 512) b) (1536 + a.val) b.val
    exact congrArg₂ (fun r n => OB x0 x1 x2 x3 x4 x5 x6 x7 1 4 512 256 r n b.val) (by omega) (by omega)
  refine rowStep (e := .f32) (g := (fun a b => OB x0 x1 x2 x3 x4 x5 x6 x7 1 4 512 256 (a / 512) (a % 512) b)) (off := 1408) (n := 128) _ _ (fun a b => ?_) fun h4 => ?_
  · refine (Ctx.oE (ctx_27 c arg3 harg3 arg4 harg4 arg5 harg5 arg6 harg6 arg7 harg7 arg8 harg8 arg9 harg9 arg10 harg10 arg13 arg16 arg17 x0 x1 x2 x3 x4 x5 x6 x7) (lt := 512) 512#32 hi (by decide) (by decide) rfl ?_)
    have ha := a.isLt
    show OB x0 x1 x2 x3 x4 x5 x6 x7 1 4 512 256 2 (3 * 128 + a.val) b.val = (fun a b => OB x0 x1 x2 x3 x4 x5 x6 x7 1 4 512 256 (a / 512) (a % 512) b) (1408 + a.val) b.val
    exact congrArg₂ (fun r n => OB x0 x1 x2 x3 x4 x5 x6 x7 1 4 512 256 r n b.val) (by omega) (by omega)
  refine rowStep (e := .f32) (g := (fun a b => OB x0 x1 x2 x3 x4 x5 x6 x7 1 4 512 256 (a / 512) (a % 512) b)) (off := 1280) (n := 128) _ _ (fun a b => ?_) fun h5 => ?_
  · refine (Ctx.oN (ctx_26 c arg3 harg3 arg4 harg4 arg5 harg5 arg6 harg6 arg7 harg7 arg8 harg8 arg9 harg9 arg10 harg10 arg13 arg16 arg17 x0 x1 x2 x3 x4 x5 x6 x7) (lt := 512) (by decide) (by decide) rfl ?_)
    have ha := a.isLt
    show OB x0 x1 x2 x3 x4 x5 x6 x7 1 4 512 256 2 (2 * 128 + a.val) b.val = (fun a b => OB x0 x1 x2 x3 x4 x5 x6 x7 1 4 512 256 (a / 512) (a % 512) b) (1280 + a.val) b.val
    exact congrArg₂ (fun r n => OB x0 x1 x2 x3 x4 x5 x6 x7 1 4 512 256 r n b.val) (by omega) (by omega)
  refine rowStep (e := .f32) (g := (fun a b => OB x0 x1 x2 x3 x4 x5 x6 x7 1 4 512 256 (a / 512) (a % 512) b)) (off := 1152) (n := 128) _ _ (fun a b => ?_) fun h6 => ?_
  · refine (Ctx.oN (ctx_25 c arg3 harg3 arg4 harg4 arg5 harg5 arg6 harg6 arg7 harg7 arg8 harg8 arg9 harg9 arg10 harg10 arg13 arg16 arg17 x0 x1 x2 x3 x4 x5 x6 x7) (lt := 512) (by decide) (by decide) rfl ?_)
    have ha := a.isLt
    show OB x0 x1 x2 x3 x4 x5 x6 x7 1 4 512 256 2 (1 * 128 + a.val) b.val = (fun a b => OB x0 x1 x2 x3 x4 x5 x6 x7 1 4 512 256 (a / 512) (a % 512) b) (1152 + a.val) b.val
    exact congrArg₂ (fun r n => OB x0 x1 x2 x3 x4 x5 x6 x7 1 4 512 256 r n b.val) (by omega) (by omega)
  refine rowStep (e := .f32) (g := (fun a b => OB x0 x1 x2 x3 x4 x5 x6 x7 1 4 512 256 (a / 512) (a % 512) b)) (off := 1024) (n := 128) _ _ (fun a b => ?_) fun h7 => ?_
  · refine (Ctx.oE (ctx_24 c arg3 harg3 arg4 harg4 arg5 harg5 arg6 harg6 arg7 harg7 arg8 harg8 arg9 harg9 arg10 harg10 arg13 arg16 arg17 x0 x1 x2 x3 x4 x5 x6 x7) (lt := 512) 512#32 hi (by decide) (by decide) rfl ?_)
    have ha := a.isLt
    show OB x0 x1 x2 x3 x4 x5 x6 x7 1 4 512 256 2 (0 * 128 + a.val) b.val = (fun a b => OB x0 x1 x2 x3 x4 x5 x6 x7 1 4 512 256 (a / 512) (a % 512) b) (1024 + a.val) b.val
    exact congrArg₂ (fun r n => OB x0 x1 x2 x3 x4 x5 x6 x7 1 4 512 256 r n b.val) (by omega) (by omega)
  refine rowStep (e := .f32) (g := (fun a b => OB x0 x1 x2 x3 x4 x5 x6 x7 1 4 512 256 (a / 512) (a % 512) b)) (off := 896) (n := 128) _ _ (fun a b => ?_) fun h8 => ?_
  · refine (Ctx.oE (ctx_23 c arg3 harg3 arg4 harg4 arg5 harg5 arg6 harg6 arg7 harg7 arg8 harg8 arg9 harg9 arg10 harg10 arg13 arg16 arg17 x0 x1 x2 x3 x4 x5 x6 x7) (lt := 512) 512#32 hi (by decide) (by decide) rfl ?_)
    have ha := a.isLt
    show OB x0 x1 x2 x3 x4 x5 x6 x7 1 4 512 256 1 (3 * 128 + a.val) b.val = (fun a b => OB x0 x1 x2 x3 x4 x5 x6 x7 1 4 512 256 (a / 512) (a % 512) b) (896 + a.val) b.val
    exact congrArg₂ (fun r n => OB x0 x1 x2 x3 x4 x5 x6 x7 1 4 512 256 r n b.val) (by omega) (by omega)
  refine rowStep (e := .f32) (g := (fun a b => OB x0 x1 x2 x3 x4 x5 x6 x7 1 4 512 256 (a / 512) (a % 512) b)) (off := 768) (n := 128) _ _ (fun a b => ?_) fun h9 => ?_
  · refine (Ctx.oN (ctx_22 c arg3 harg3 arg4 harg4 arg5 harg5 arg6 harg6 arg7 harg7 arg8 harg8 arg9 harg9 arg10 harg10 arg13 arg16 arg17 x0 x1 x2 x3 x4 x5 x6 x7) (lt := 512) (by decide) (by decide) rfl ?_)
    have ha := a.isLt
    show OB x0 x1 x2 x3 x4 x5 x6 x7 1 4 512 256 1 (2 * 128 + a.val) b.val = (fun a b => OB x0 x1 x2 x3 x4 x5 x6 x7 1 4 512 256 (a / 512) (a % 512) b) (768 + a.val) b.val
    exact congrArg₂ (fun r n => OB x0 x1 x2 x3 x4 x5 x6 x7 1 4 512 256 r n b.val) (by omega) (by omega)
  refine rowStep (e := .f32) (g := (fun a b => OB x0 x1 x2 x3 x4 x5 x6 x7 1 4 512 256 (a / 512) (a % 512) b)) (off := 640) (n := 128) _ _ (fun a b => ?_) fun h10 => ?_
  · refine (Ctx.oN (ctx_21 c arg3 harg3 arg4 harg4 arg5 harg5 arg6 harg6 arg7 harg7 arg8 harg8 arg9 harg9 arg10 harg10 arg13 arg16 arg17 x0 x1 x2 x3 x4 x5 x6 x7) (lt := 512) (by decide) (by decide) rfl ?_)
    have ha := a.isLt
    show OB x0 x1 x2 x3 x4 x5 x6 x7 1 4 512 256 1 (1 * 128 + a.val) b.val = (fun a b => OB x0 x1 x2 x3 x4 x5 x6 x7 1 4 512 256 (a / 512) (a % 512) b) (640 + a.val) b.val
    exact congrArg₂ (fun r n => OB x0 x1 x2 x3 x4 x5 x6 x7 1 4 512 256 r n b.val) (by omega) (by omega)
  refine rowStep (e := .f32) (g := (fun a b => OB x0 x1 x2 x3 x4 x5 x6 x7 1 4 512 256 (a / 512) (a % 512) b)) (off := 512) (n := 128) _ _ (fun a b => ?_) fun h11 => ?_
  · refine (Ctx.oE (ctx_20 c arg3 harg3 arg4 harg4 arg5 harg5 arg6 harg6 arg7 harg7 arg8 harg8 arg9 harg9 arg10 harg10 arg13 arg16 arg17 x0 x1 x2 x3 x4 x5 x6 x7) (lt := 512) 512#32 hi (by decide) (by decide) rfl ?_)
    have ha := a.isLt
    show OB x0 x1 x2 x3 x4 x5 x6 x7 1 4 512 256 1 (0 * 128 + a.val) b.val = (fun a b => OB x0 x1 x2 x3 x4 x5 x6 x7 1 4 512 256 (a / 512) (a % 512) b) (512 + a.val) b.val
    exact congrArg₂ (fun r n => OB x0 x1 x2 x3 x4 x5 x6 x7 1 4 512 256 r n b.val) (by omega) (by omega)
  refine rowStep (e := .f32) (g := (fun a b => OB x0 x1 x2 x3 x4 x5 x6 x7 1 4 512 256 (a / 512) (a % 512) b)) (off := 384) (n := 128) _ _ (fun a b => ?_) fun h12 => ?_
  · refine (Ctx.oE (ctx_19 c arg3 harg3 arg4 harg4 arg5 harg5 arg6 harg6 arg7 harg7 arg8 harg8 arg9 harg9 arg10 harg10 arg13 arg16 arg17 x0 x1 x2 x3 x4 x5 x6 x7) (lt := 512) 512#32 hi (by decide) (by decide) rfl ?_)
    have ha := a.isLt
    show OB x0 x1 x2 x3 x4 x5 x6 x7 1 4 512 256 0 (3 * 128 + a.val) b.val = (fun a b => OB x0 x1 x2 x3 x4 x5 x6 x7 1 4 512 256 (a / 512) (a % 512) b) (384 + a.val) b.val
    exact congrArg₂ (fun r n => OB x0 x1 x2 x3 x4 x5 x6 x7 1 4 512 256 r n b.val) (by omega) (by omega)
  refine rowStep (e := .f32) (g := (fun a b => OB x0 x1 x2 x3 x4 x5 x6 x7 1 4 512 256 (a / 512) (a % 512) b)) (off := 256) (n := 128) _ _ (fun a b => ?_) fun h13 => ?_
  · refine (Ctx.oN (ctx_18 c arg3 harg3 arg4 harg4 arg5 harg5 arg6 harg6 arg7 harg7 arg8 harg8 arg9 harg9 arg10 harg10 arg13 arg16 arg17 x0 x1 x2 x3 x4 x5 x6 x7) (lt := 512) (by decide) (by decide) rfl ?_)
    have ha := a.isLt
    show OB x0 x1 x2 x3 x4 x5 x6 x7 1 4 512 256 0 (2 * 128 + a.val) b.val = (fun a b => OB x0 x1 x2 x3 x4 x5 x6 x7 1 4 512 256 (a / 512) (a % 512) b) (256 + a.val) b.val
    exact congrArg₂ (fun r n => OB x0 x1 x2 x3 x4 x5 x6 x7 1 4 512 256 r n b.val) (by omega) (by omega)
  refine rowStep (e := .f32) (g := (fun a b => OB x0 x1 x2 x3 x4 x5 x6 x7 1 4 512 256 (a / 512) (a % 512) b)) (off := 128) (n := 128) _ _ (fun a b => ?_) fun h14 => ?_
  · refine (Ctx.oN (ctx_17 c arg3 harg3 arg4 harg4 arg5 harg5 arg6 harg6 arg7 harg7 arg8 harg8 arg9 harg9 arg10 harg10 arg13 arg16 arg17 x0 x1 x2 x3 x4 x5 x6 x7) (lt := 512) (by decide) (by decide) rfl ?_)
    have ha := a.isLt
    show OB x0 x1 x2 x3 x4 x5 x6 x7 1 4 512 256 0 (1 * 128 + a.val) b.val = (fun a b => OB x0 x1 x2 x3 x4 x5 x6 x7 1 4 512 256 (a / 512) (a % 512) b) (128 + a.val) b.val
    exact congrArg₂ (fun r n => OB x0 x1 x2 x3 x4 x5 x6 x7 1 4 512 256 r n b.val) (by omega) (by omega)
  refine rowStep (e := .f32) (g := (fun a b => OB x0 x1 x2 x3 x4 x5 x6 x7 1 4 512 256 (a / 512) (a % 512) b)) (off := 0) (n := 128) _ _ (fun a b => ?_) fun h15 => ?_
  · refine (Ctx.oE (ctx_16 c arg3 harg3 arg4 harg4 arg5 harg5 arg6 harg6 arg7 harg7 arg8 harg8 arg9 harg9 arg10 harg10 arg13 arg16 arg17 x0 x1 x2 x3 x4 x5 x6 x7) (lt := 512) 512#32 hi (by decide) (by decide) rfl ?_)
    have ha := a.isLt
    show OB x0 x1 x2 x3 x4 x5 x6 x7 1 4 512 256 0 (0 * 128 + a.val) b.val = (fun a b => OB x0 x1 x2 x3 x4 x5 x6 x7 1 4 512 256 (a / 512) (a % 512) b) (0 + a.val) b.val
    exact congrArg₂ (fun r n => OB x0 x1 x2 x3 x4 x5 x6 x7 1 4 512 256 r n b.val) (by omega) (by omega)
  omega

/-- The largest scores of the blocks of dilation 4. -/
theorem canon_HS7_16 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg13 : Memref sig .tc .vmem S2048x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) (hi : (i 1).val = 0) :
    View.canon (kernelRun0_A.sl.HS7_16 (F := Ideal) c i arg3 harg3 arg4 harg4 arg5 harg5 arg6 harg6 arg10 harg10 arg13 arg16 x0 x1 x2 x3 x7) = fun y => (fun a b => MB x0 x1 x2 x3 x7 1 4 512 256 (a / 512) (a % 512) b) (y 0).val (y 1).val := by
  funext y
  have hy : (y 0).val < 2048 := (y 0).isLt
  unfold kernelRun0_A.sl.HS7_16
  refine rowStep (e := .f32) (g := (fun a b => MB x0 x1 x2 x3 x7 1 4 512 256 (a / 512) (a % 512) b)) (off := 1920) (n := 128) _ _ (fun a b => ?_) fun h0 => ?_
  · refine (Ctx.mE (ctx_31 c arg3 harg3 arg4 harg4 arg5 harg5 arg6 harg6 arg7 harg7 arg8 harg8 arg9 harg9 arg10 harg10 arg13 arg16 arg17 x0 x1 x2 x3 x4 x5 x6 x7) (lt := 512) 512#32 hi (by decide) (by decide) rfl ?_)
    have ha := a.isLt
    show MB x0 x1 x2 x3 x7 1 4 512 256 3 (3 * 128 + a.val) b.val = (fun a b => MB x0 x1 x2 x3 x7 1 4 512 256 (a / 512) (a % 512) b) (1920 + a.val) b.val
    exact congrArg₂ (fun r n => MB x0 x1 x2 x3 x7 1 4 512 256 r n b.val) (by omega) (by omega)
  refine rowStep (e := .f32) (g := (fun a b => MB x0 x1 x2 x3 x7 1 4 512 256 (a / 512) (a % 512) b)) (off := 1792) (n := 128) _ _ (fun a b => ?_) fun h1 => ?_
  · refine (Ctx.mN (ctx_30 c arg3 harg3 arg4 harg4 arg5 harg5 arg6 harg6 arg7 harg7 arg8 harg8 arg9 harg9 arg10 harg10 arg13 arg16 arg17 x0 x1 x2 x3 x4 x5 x6 x7) (lt := 512) (by decide) (by decide) rfl ?_)
    have ha := a.isLt
    show MB x0 x1 x2 x3 x7 1 4 512 256 3 (2 * 128 + a.val) b.val = (fun a b => MB x0 x1 x2 x3 x7 1 4 512 256 (a / 512) (a % 512) b) (1792 + a.val) b.val
    exact congrArg₂ (fun r n => MB x0 x1 x2 x3 x7 1 4 512 256 r n b.val) (by omega) (by omega)
  refine rowStep (e := .f32) (g := (fun a b => MB x0 x1 x2 x3 x7 1 4 512 256 (a / 512) (a % 512) b)) (off := 1664) (n := 128) _ _ (fun a b => ?_) fun h2 => ?_
  · refine (Ctx.mN (ctx_29 c arg3 harg3 arg4 harg4 arg5 harg5 arg6 harg6 arg7 harg7 arg8 harg8 arg9 harg9 arg10 harg10 arg13 arg16 arg17 x0 x1 x2 x3 x4 x5 x6 x7) (lt := 512) (by decide) (by decide) rfl ?_)
    have ha := a.isLt
    show MB x0 x1 x2 x3 x7 1 4 512 256 3 (1 * 128 + a.val) b.val = (fun a b => MB x0 x1 x2 x3 x7 1 4 512 256 (a / 512) (a % 512) b) (1664 + a.val) b.val
    exact congrArg₂ (fun r n => MB x0 x1 x2 x3 x7 1 4 512 256 r n b.val) (by omega) (by omega)
  refine rowStep (e := .f32) (g := (fun a b => MB x0 x1 x2 x3 x7 1 4 512 256 (a / 512) (a % 512) b)) (off := 1536) (n := 128) _ _ (fun a b => ?_) fun h3 => ?_
  · refine (Ctx.mE (ctx_28 c arg3 harg3 arg4 harg4 arg5 harg5 arg6 harg6 arg7 harg7 arg8 harg8 arg9 harg9 arg10 harg10 arg13 arg16 arg17 x0 x1 x2 x3 x4 x5 x6 x7) (lt := 512) 512#32 hi (by decide) (by decide) rfl ?_)
    have ha := a.isLt
    show MB x0 x1 x2 x3 x7 1 4 512 256 3 (0 * 128 + a.val) b.val = (fun a b => MB x0 x1 x2 x3 x7 1 4 512 256 (a / 512) (a % 512) b) (1536 + a.val) b.val
    exact congrArg₂ (fun r n => MB x0 x1 x2 x3 x7 1 4 512 256 r n b.val) (by omega) (by omega)
  refine rowStep (e := .f32) (g := (fun a b => MB x0 x1 x2 x3 x7 1 4 512 256 (a / 512) (a % 512) b)) (off := 1408) (n := 128) _ _ (fun a b => ?_) fun h4 => ?_
  · refine (Ctx.mE (ctx_27 c arg3 harg3 arg4 harg4 arg5 harg5 arg6 harg6 arg7 harg7 arg8 harg8 arg9 harg9 arg10 harg10 arg13 arg16 arg17 x0 x1 x2 x3 x4 x5 x6 x7) (lt := 512) 512#32 hi (by decide) (by decide) rfl ?_)
    have ha := a.isLt
    show MB x0 x1 x2 x3 x7 1 4 512 256 2 (3 * 128 + a.val) b.val = (fun a b => MB x0 x1 x2 x3 x7 1 4 512 256 (a / 512) (a % 512) b) (1408 + a.val) b.val
    exact congrArg₂ (fun r n => MB x0 x1 x2 x3 x7 1 4 512 256 r n b.val) (by omega) (by omega)
  refine rowStep (e := .f32) (g := (fun a b => MB x0 x1 x2 x3 x7 1 4 512 256 (a / 512) (a % 512) b)) (off := 1280) (n := 128) _ _ (fun a b => ?_) fun h5 => ?_
  · refine (Ctx.mN (ctx_26 c arg3 harg3 arg4 harg4 arg5 harg5 arg6 harg6 arg7 harg7 arg8 harg8 arg9 harg9 arg10 harg10 arg13 arg16 arg17 x0 x1 x2 x3 x4 x5 x6 x7) (lt := 512) (by decide) (by decide) rfl ?_)
    have ha := a.isLt
    show MB x0 x1 x2 x3 x7 1 4 512 256 2 (2 * 128 + a.val) b.val = (fun a b => MB x0 x1 x2 x3 x7 1 4 512 256 (a / 512) (a % 512) b) (1280 + a.val) b.val
    exact congrArg₂ (fun r n => MB x0 x1 x2 x3 x7 1 4 512 256 r n b.val) (by omega) (by omega)
  refine rowStep (e := .f32) (g := (fun a b => MB x0 x1 x2 x3 x7 1 4 512 256 (a / 512) (a % 512) b)) (off := 1152) (n := 128) _ _ (fun a b => ?_) fun h6 => ?_
  · refine (Ctx.mN (ctx_25 c arg3 harg3 arg4 harg4 arg5 harg5 arg6 harg6 arg7 harg7 arg8 harg8 arg9 harg9 arg10 harg10 arg13 arg16 arg17 x0 x1 x2 x3 x4 x5 x6 x7) (lt := 512) (by decide) (by decide) rfl ?_)
    have ha := a.isLt
    show MB x0 x1 x2 x3 x7 1 4 512 256 2 (1 * 128 + a.val) b.val = (fun a b => MB x0 x1 x2 x3 x7 1 4 512 256 (a / 512) (a % 512) b) (1152 + a.val) b.val
    exact congrArg₂ (fun r n => MB x0 x1 x2 x3 x7 1 4 512 256 r n b.val) (by omega) (by omega)
  refine rowStep (e := .f32) (g := (fun a b => MB x0 x1 x2 x3 x7 1 4 512 256 (a / 512) (a % 512) b)) (off := 1024) (n := 128) _ _ (fun a b => ?_) fun h7 => ?_
  · refine (Ctx.mE (ctx_24 c arg3 harg3 arg4 harg4 arg5 harg5 arg6 harg6 arg7 harg7 arg8 harg8 arg9 harg9 arg10 harg10 arg13 arg16 arg17 x0 x1 x2 x3 x4 x5 x6 x7) (lt := 512) 512#32 hi (by decide) (by decide) rfl ?_)
    have ha := a.isLt
    show MB x0 x1 x2 x3 x7 1 4 512 256 2 (0 * 128 + a.val) b.val = (fun a b => MB x0 x1 x2 x3 x7 1 4 512 256 (a / 512) (a % 512) b) (1024 + a.val) b.val
    exact congrArg₂ (fun r n => MB x0 x1 x2 x3 x7 1 4 512 256 r n b.val) (by omega) (by omega)
  refine rowStep (e := .f32) (g := (fun a b => MB x0 x1 x2 x3 x7 1 4 512 256 (a / 512) (a % 512) b)) (off := 896) (n := 128) _ _ (fun a b => ?_) fun h8 => ?_
  · refine (Ctx.mE (ctx_23 c arg3 harg3 arg4 harg4 arg5 harg5 arg6 harg6 arg7 harg7 arg8 harg8 arg9 harg9 arg10 harg10 arg13 arg16 arg17 x0 x1 x2 x3 x4 x5 x6 x7) (lt := 512) 512#32 hi (by decide) (by decide) rfl ?_)
    have ha := a.isLt
    show MB x0 x1 x2 x3 x7 1 4 512 256 1 (3 * 128 + a.val) b.val = (fun a b => MB x0 x1 x2 x3 x7 1 4 512 256 (a / 512) (a % 512) b) (896 + a.val) b.val
    exact congrArg₂ (fun r n => MB x0 x1 x2 x3 x7 1 4 512 256 r n b.val) (by omega) (by omega)
  refine rowStep (e := .f32) (g := (fun a b => MB x0 x1 x2 x3 x7 1 4 512 256 (a / 512) (a % 512) b)) (off := 768) (n := 128) _ _ (fun a b => ?_) fun h9 => ?_
  · refine (Ctx.mN (ctx_22 c arg3 harg3 arg4 harg4 arg5 harg5 arg6 harg6 arg7 harg7 arg8 harg8 arg9 harg9 arg10 harg10 arg13 arg16 arg17 x0 x1 x2 x3 x4 x5 x6 x7) (lt := 512) (by decide) (by decide) rfl ?_)
    have ha := a.isLt
    show MB x0 x1 x2 x3 x7 1 4 512 256 1 (2 * 128 + a.val) b.val = (fun a b => MB x0 x1 x2 x3 x7 1 4 512 256 (a / 512) (a % 512) b) (768 + a.val) b.val
    exact congrArg₂ (fun r n => MB x0 x1 x2 x3 x7 1 4 512 256 r n b.val) (by omega) (by omega)
  refine rowStep (e := .f32) (g := (fun a b => MB x0 x1 x2 x3 x7 1 4 512 256 (a / 512) (a % 512) b)) (off := 640) (n := 128) _ _ (fun a b => ?_) fun h10 => ?_
  · refine (Ctx.mN (ctx_21 c arg3 harg3 arg4 harg4 arg5 harg5 arg6 harg6 arg7 harg7 arg8 harg8 arg9 harg9 arg10 harg10 arg13 arg16 arg17 x0 x1 x2 x3 x4 x5 x6 x7) (lt := 512) (by decide) (by decide) rfl ?_)
    have ha := a.isLt
    show MB x0 x1 x2 x3 x7 1 4 512 256 1 (1 * 128 + a.val) b.val = (fun a b => MB x0 x1 x2 x3 x7 1 4 512 256 (a / 512) (a % 512) b) (640 + a.val) b.val
    exact congrArg₂ (fun r n => MB x0 x1 x2 x3 x7 1 4 512 256 r n b.val) (by omega) (by omega)
  refine rowStep (e := .f32) (g := (fun a b => MB x0 x1 x2 x3 x7 1 4 512 256 (a / 512) (a % 512) b)) (off := 512) (n := 128) _ _ (fun a b => ?_) fun h11 => ?_
  · refine (Ctx.mE (ctx_20 c arg3 harg3 arg4 harg4 arg5 harg5 arg6 harg6 arg7 harg7 arg8 harg8 arg9 harg9 arg10 harg10 arg13 arg16 arg17 x0 x1 x2 x3 x4 x5 x6 x7) (lt := 512) 512#32 hi (by decide) (by decide) rfl ?_)
    have ha := a.isLt
    show MB x0 x1 x2 x3 x7 1 4 512 256 1 (0 * 128 + a.val) b.val = (fun a b => MB x0 x1 x2 x3 x7 1 4 512 256 (a / 512) (a % 512) b) (512 + a.val) b.val
    exact congrArg₂ (fun r n => MB x0 x1 x2 x3 x7 1 4 512 256 r n b.val) (by omega) (by omega)
  refine rowStep (e := .f32) (g := (fun a b => MB x0 x1 x2 x3 x7 1 4 512 256 (a / 512) (a % 512) b)) (off := 384) (n := 128) _ _ (fun a b => ?_) fun h12 => ?_
  · refine (Ctx.mE (ctx_19 c arg3 harg3 arg4 harg4 arg5 harg5 arg6 harg6 arg7 harg7 arg8 harg8 arg9 harg9 arg10 harg10 arg13 arg16 arg17 x0 x1 x2 x3 x4 x5 x6 x7) (lt := 512) 512#32 hi (by decide) (by decide) rfl ?_)
    have ha := a.isLt
    show MB x0 x1 x2 x3 x7 1 4 512 256 0 (3 * 128 + a.val) b.val = (fun a b => MB x0 x1 x2 x3 x7 1 4 512 256 (a / 512) (a % 512) b) (384 + a.val) b.val
    exact congrArg₂ (fun r n => MB x0 x1 x2 x3 x7 1 4 512 256 r n b.val) (by omega) (by omega)
  refine rowStep (e := .f32) (g := (fun a b => MB x0 x1 x2 x3 x7 1 4 512 256 (a / 512) (a % 512) b)) (off := 256) (n := 128) _ _ (fun a b => ?_) fun h13 => ?_
  · refine (Ctx.mN (ctx_18 c arg3 harg3 arg4 harg4 arg5 harg5 arg6 harg6 arg7 harg7 arg8 harg8 arg9 harg9 arg10 harg10 arg13 arg16 arg17 x0 x1 x2 x3 x4 x5 x6 x7) (lt := 512) (by decide) (by decide) rfl ?_)
    have ha := a.isLt
    show MB x0 x1 x2 x3 x7 1 4 512 256 0 (2 * 128 + a.val) b.val = (fun a b => MB x0 x1 x2 x3 x7 1 4 512 256 (a / 512) (a % 512) b) (256 + a.val) b.val
    exact congrArg₂ (fun r n => MB x0 x1 x2 x3 x7 1 4 512 256 r n b.val) (by omega) (by omega)
  refine rowStep (e := .f32) (g := (fun a b => MB x0 x1 x2 x3 x7 1 4 512 256 (a / 512) (a % 512) b)) (off := 128) (n := 128) _ _ (fun a b => ?_) fun h14 => ?_
  · refine (Ctx.mN (ctx_17 c arg3 harg3 arg4 harg4 arg5 harg5 arg6 harg6 arg7 harg7 arg8 harg8 arg9 harg9 arg10 harg10 arg13 arg16 arg17 x0 x1 x2 x3 x4 x5 x6 x7) (lt := 512) (by decide) (by decide) rfl ?_)
    have ha := a.isLt
    show MB x0 x1 x2 x3 x7 1 4 512 256 0 (1 * 128 + a.val) b.val = (fun a b => MB x0 x1 x2 x3 x7 1 4 512 256 (a / 512) (a % 512) b) (128 + a.val) b.val
    exact congrArg₂ (fun r n => MB x0 x1 x2 x3 x7 1 4 512 256 r n b.val) (by omega) (by omega)
  refine rowStep (e := .f32) (g := (fun a b => MB x0 x1 x2 x3 x7 1 4 512 256 (a / 512) (a % 512) b)) (off := 0) (n := 128) _ _ (fun a b => ?_) fun h15 => ?_
  · refine (Ctx.mE (ctx_16 c arg3 harg3 arg4 harg4 arg5 harg5 arg6 harg6 arg7 harg7 arg8 harg8 arg9 harg9 arg10 harg10 arg13 arg16 arg17 x0 x1 x2 x3 x4 x5 x6 x7) (lt := 512) 512#32 hi (by decide) (by decide) rfl ?_)
    have ha := a.isLt
    show MB x0 x1 x2 x3 x7 1 4 512 256 0 (0 * 128 + a.val) b.val = (fun a b => MB x0 x1 x2 x3 x7 1 4 512 256 (a / 512) (a % 512) b) (0 + a.val) b.val
    exact congrArg₂ (fun r n => MB x0 x1 x2 x3 x7 1 4 512 256 r n b.val) (by omega) (by omega)
  omega

/-- The sums of weights of the blocks of dilation 4. -/
theorem canon_HS8_16 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg13 : Memref sig .tc .vmem S2048x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) (hi : (i 1).val = 0) :
    View.canon (kernelRun0_A.sl.HS8_16 (F := Ideal) c i arg3 harg3 arg4 harg4 arg5 harg5 arg6 harg6 arg7 harg7 arg8 harg8 arg9 harg9 arg10 harg10 arg13 arg16 arg17 x0 x1 x2 x3 x4 x5 x6 x7) = fun y => (fun a b => LB x0 x1 x2 x3 x7 1 4 512 256 (a / 512) (a % 512) b) (y 0).val (y 1).val := by
  funext y
  have hy : (y 0).val < 2048 := (y 0).isLt
  unfold kernelRun0_A.sl.HS8_16
  refine rowStep (e := .f32) (g := (fun a b => LB x0 x1 x2 x3 x7 1 4 512 256 (a / 512) (a % 512) b)) (off := 1920) (n := 128) _ _ (fun a b => ?_) fun h0 => ?_
  · refine (Ctx.lE (ctx_31 c arg3 harg3 arg4 harg4 arg5 harg5 arg6 harg6 arg7 harg7 arg8 harg8 arg9 harg9 arg10 harg10 arg13 arg16 arg17 x0 x1 x2 x3 x4 x5 x6 x7) (lt := 512) 512#32 hi (by decide) (by decide) rfl ?_)
    have ha := a.isLt
    show LB x0 x1 x2 x3 x7 1 4 512 256 3 (3 * 128 + a.val) b.val = (fun a b => LB x0 x1 x2 x3 x7 1 4 512 256 (a / 512) (a % 512) b) (1920 + a.val) b.val
    exact congrArg₂ (fun r n => LB x0 x1 x2 x3 x7 1 4 512 256 r n b.val) (by omega) (by omega)
  refine rowStep (e := .f32) (g := (fun a b => LB x0 x1 x2 x3 x7 1 4 512 256 (a / 512) (a % 512) b)) (off := 1792) (n := 128) _ _ (fun a b => ?_) fun h1 => ?_
  · refine (Ctx.lN (ctx_30 c arg3 harg3 arg4 harg4 arg5 harg5 arg6 harg6 arg7 harg7 arg8 harg8 arg9 harg9 arg10 harg10 arg13 arg16 arg17 x0 x1 x2 x3 x4 x5 x6 x7) (lt := 512) (by decide) (by decide) rfl ?_)
    have ha := a.isLt
    show LB x0 x1 x2 x3 x7 1 4 512 256 3 (2 * 128 + a.val) b.val = (fun a b => LB x0 x1 x2 x3 x7 1 4 512 256 (a / 512) (a % 512) b) (1792 + a.val) b.val
    exact congrArg₂ (fun r n => LB x0 x1 x2 x3 x7 1 4 512 256 r n b.val) (by omega) (by omega)
  refine rowStep (e := .f32) (g := (fun a b => LB x0 x1 x2 x3 x7 1 4 512 256 (a / 512) (a % 512) b)) (off := 1664) (n := 128) _ _ (fun a b => ?_) fun h2 => ?_
  · refine (Ctx.lN (ctx_29 c arg3 harg3 arg4 harg4 arg5 harg5 arg6 harg6 arg7 harg7 arg8 harg8 arg9 harg9 arg10 harg10 arg13 arg16 arg17 x0 x1 x2 x3 x4 x5 x6 x7) (lt := 512) (by decide) (by decide) rfl ?_)
    have ha := a.isLt
    show LB x0 x1 x2 x3 x7 1 4 512 256 3 (1 * 128 + a.val) b.val = (fun a b => LB x0 x1 x2 x3 x7 1 4 512 256 (a / 512) (a % 512) b) (1664 + a.val) b.val
    exact congrArg₂ (fun r n => LB x0 x1 x2 x3 x7 1 4 512 256 r n b.val) (by omega) (by omega)
  refine rowStep (e := .f32) (g := (fun a b => LB x0 x1 x2 x3 x7 1 4 512 256 (a / 512) (a % 512) b)) (off := 1536) (n := 128) _ _ (fun a b => ?_) fun h3 => ?_
  · refine (Ctx.lE (ctx_28 c arg3 harg3 arg4 harg4 arg5 harg5 arg6 harg6 arg7 harg7 arg8 harg8 arg9 harg9 arg10 harg10 arg13 arg16 arg17 x0 x1 x2 x3 x4 x5 x6 x7) (lt := 512) 512#32 hi (by decide) (by decide) rfl ?_)
    have ha := a.isLt
    show LB x0 x1 x2 x3 x7 1 4 512 256 3 (0 * 128 + a.val) b.val = (fun a b => LB x0 x1 x2 x3 x7 1 4 512 256 (a / 512) (a % 512) b) (1536 + a.val) b.val
    exact congrArg₂ (fun r n => LB x0 x1 x2 x3 x7 1 4 512 256 r n b.val) (by omega) (by omega)
  refine rowStep (e := .f32) (g := (fun a b => LB x0 x1 x2 x3 x7 1 4 512 256 (a / 512) (a % 512) b)) (off := 1408) (n := 128) _ _ (fun a b => ?_) fun h4 => ?_
  · refine (Ctx.lE (ctx_27 c arg3 harg3 arg4 harg4 arg5 harg5 arg6 harg6 arg7 harg7 arg8 harg8 arg9 harg9 arg10 harg10 arg13 arg16 arg17 x0 x1 x2 x3 x4 x5 x6 x7) (lt := 512) 512#32 hi (by decide) (by decide) rfl ?_)
    have ha := a.isLt
    show LB x0 x1 x2 x3 x7 1 4 512 256 2 (3 * 128 + a.val) b.val = (fun a b => LB x0 x1 x2 x3 x7 1 4 512 256 (a / 512) (a % 512) b) (1408 + a.val) b.val
    exact congrArg₂ (fun r n => LB x0 x1 x2 x3 x7 1 4 512 256 r n b.val) (by omega) (by omega)
  refine rowStep (e := .f32) (g := (fun a b => LB x0 x1 x2 x3 x7 1 4 512 256 (a / 512) (a % 512) b)) (off := 1280) (n := 128) _ _ (fun a b => ?_) fun h5 => ?_
  · refine (Ctx.lN (ctx_26 c arg3 harg3 arg4 harg4 arg5 harg5 arg6 harg6 arg7 harg7 arg8 harg8 arg9 harg9 arg10 harg10 arg13 arg16 arg17 x0 x1 x2 x3 x4 x5 x6 x7) (lt := 512) (by decide) (by decide) rfl ?_)
    have ha := a.isLt
    show LB x0 x1 x2 x3 x7 1 4 512 256 2 (2 * 128 + a.val) b.val = (fun a b => LB x0 x1 x2 x3 x7 1 4 512 256 (a / 512) (a % 512) b) (1280 + a.val) b.val
    exact congrArg₂ (fun r n => LB x0 x1 x2 x3 x7 1 4 512 256 r n b.val) (by omega) (by omega)
  refine rowStep (e := .f32) (g := (fun a b => LB x0 x1 x2 x3 x7 1 4 512 256 (a / 512) (a % 512) b)) (off := 1152) (n := 128) _ _ (fun a b => ?_) fun h6 => ?_
  · refine (Ctx.lN (ctx_25 c arg3 harg3 arg4 harg4 arg5 harg5 arg6 harg6 arg7 harg7 arg8 harg8 arg9 harg9 arg10 harg10 arg13 arg16 arg17 x0 x1 x2 x3 x4 x5 x6 x7) (lt := 512) (by decide) (by decide) rfl ?_)
    have ha := a.isLt
    show LB x0 x1 x2 x3 x7 1 4 512 256 2 (1 * 128 + a.val) b.val = (fun a b => LB x0 x1 x2 x3 x7 1 4 512 256 (a / 512) (a % 512) b) (1152 + a.val) b.val
    exact congrArg₂ (fun r n => LB x0 x1 x2 x3 x7 1 4 512 256 r n b.val) (by omega) (by omega)
  refine rowStep (e := .f32) (g := (fun a b => LB x0 x1 x2 x3 x7 1 4 512 256 (a / 512) (a % 512) b)) (off := 1024) (n := 128) _ _ (fun a b => ?_) fun h7 => ?_
  · refine (Ctx.lE (ctx_24 c arg3 harg3 arg4 harg4 arg5 harg5 arg6 harg6 arg7 harg7 arg8 harg8 arg9 harg9 arg10 harg10 arg13 arg16 arg17 x0 x1 x2 x3 x4 x5 x6 x7) (lt := 512) 512#32 hi (by decide) (by decide) rfl ?_)
    have ha := a.isLt
    show LB x0 x1 x2 x3 x7 1 4 512 256 2 (0 * 128 + a.val) b.val = (fun a b => LB x0 x1 x2 x3 x7 1 4 512 256 (a / 512) (a % 512) b) (1024 + a.val) b.val
    exact congrArg₂ (fun r n => LB x0 x1 x2 x3 x7 1 4 512 256 r n b.val) (by omega) (by omega)
  refine rowStep (e := .f32) (g := (fun a b => LB x0 x1 x2 x3 x7 1 4 512 256 (a / 512) (a % 512) b)) (off := 896) (n := 128) _ _ (fun a b => ?_) fun h8 => ?_
  · refine (Ctx.lE (ctx_23 c arg3 harg3 arg4 harg4 arg5 harg5 arg6 harg6 arg7 harg7 arg8 harg8 arg9 harg9 arg10 harg10 arg13 arg16 arg17 x0 x1 x2 x3 x4 x5 x6 x7) (lt := 512) 512#32 hi (by decide) (by decide) rfl ?_)
    have ha := a.isLt
    show LB x0 x1 x2 x3 x7 1 4 512 256 1 (3 * 128 + a.val) b.val = (fun a b => LB x0 x1 x2 x3 x7 1 4 512 256 (a / 512) (a % 512) b) (896 + a.val) b.val
    exact congrArg₂ (fun r n => LB x0 x1 x2 x3 x7 1 4 512 256 r n b.val) (by omega) (by omega)
  refine rowStep (e := .f32) (g := (fun a b => LB x0 x1 x2 x3 x7 1 4 512 256 (a / 512) (a % 512) b)) (off := 768) (n := 128) _ _ (fun a b => ?_) fun h9 => ?_
  · refine (Ctx.lN (ctx_22 c arg3 harg3 arg4 harg4 arg5 harg5 arg6 harg6 arg7 harg7 arg8 harg8 arg9 harg9 arg10 harg10 arg13 arg16 arg17 x0 x1 x2 x3 x4 x5 x6 x7) (lt := 512) (by decide) (by decide) rfl ?_)
    have ha := a.isLt
    show LB x0 x1 x2 x3 x7 1 4 512 256 1 (2 * 128 + a.val) b.val = (fun a b => LB x0 x1 x2 x3 x7 1 4 512 256 (a / 512) (a % 512) b) (768 + a.val) b.val
    exact congrArg₂ (fun r n => LB x0 x1 x2 x3 x7 1 4 512 256 r n b.val) (by omega) (by omega)
  refine rowStep (e := .f32) (g := (fun a b => LB x0 x1 x2 x3 x7 1 4 512 256 (a / 512) (a % 512) b)) (off := 640) (n := 128) _ _ (fun a b => ?_) fun h10 => ?_
  · refine (Ctx.lN (ctx_21 c arg3 harg3 arg4 harg4 arg5 harg5 arg6 harg6 arg7 harg7 arg8 harg8 arg9 harg9 arg10 harg10 arg13 arg16 arg17 x0 x1 x2 x3 x4 x5 x6 x7) (lt := 512) (by decide) (by decide) rfl ?_)
    have ha := a.isLt
    show LB x0 x1 x2 x3 x7 1 4 512 256 1 (1 * 128 + a.val) b.val = (fun a b => LB x0 x1 x2 x3 x7 1 4 512 256 (a / 512) (a % 512) b) (640 + a.val) b.val
    exact congrArg₂ (fun r n => LB x0 x1 x2 x3 x7 1 4 512 256 r n b.val) (by omega) (by omega)
  refine rowStep (e := .f32) (g := (fun a b => LB x0 x1 x2 x3 x7 1 4 512 256 (a / 512) (a % 512) b)) (off := 512) (n := 128) _ _ (fun a b => ?_) fun h11 => ?_
  · refine (Ctx.lE (ctx_20 c arg3 harg3 arg4 harg4 arg5 harg5 arg6 harg6 arg7 harg7 arg8 harg8 arg9 harg9 arg10 harg10 arg13 arg16 arg17 x0 x1 x2 x3 x4 x5 x6 x7) (lt := 512) 512#32 hi (by decide) (by decide) rfl ?_)
    have ha := a.isLt
    show LB x0 x1 x2 x3 x7 1 4 512 256 1 (0 * 128 + a.val) b.val = (fun a b => LB x0 x1 x2 x3 x7 1 4 512 256 (a / 512) (a % 512) b) (512 + a.val) b.val
    exact congrArg₂ (fun r n => LB x0 x1 x2 x3 x7 1 4 512 256 r n b.val) (by omega) (by omega)
  refine rowStep (e := .f32) (g := (fun a b => LB x0 x1 x2 x3 x7 1 4 512 256 (a / 512) (a % 512) b)) (off := 384) (n := 128) _ _ (fun a b => ?_) fun h12 => ?_
  · refine (Ctx.lE (ctx_19 c arg3 harg3 arg4 harg4 arg5 harg5 arg6 harg6 arg7 harg7 arg8 harg8 arg9 harg9 arg10 harg10 arg13 arg16 arg17 x0 x1 x2 x3 x4 x5 x6 x7) (lt := 512) 512#32 hi (by decide) (by decide) rfl ?_)
    have ha := a.isLt
    show LB x0 x1 x2 x3 x7 1 4 512 256 0 (3 * 128 + a.val) b.val = (fun a b => LB x0 x1 x2 x3 x7 1 4 512 256 (a / 512) (a % 512) b) (384 + a.val) b.val
    exact congrArg₂ (fun r n => LB x0 x1 x2 x3 x7 1 4 512 256 r n b.val) (by omega) (by omega)
  refine rowStep (e := .f32) (g := (fun a b => LB x0 x1 x2 x3 x7 1 4 512 256 (a / 512) (a % 512) b)) (off := 256) (n := 128) _ _ (fun a b => ?_) fun h13 => ?_
  · refine (Ctx.lN (ctx_18 c arg3 harg3 arg4 harg4 arg5 harg5 arg6 harg6 arg7 harg7 arg8 harg8 arg9 harg9 arg10 harg10 arg13 arg16 arg17 x0 x1 x2 x3 x4 x5 x6 x7) (lt := 512) (by decide) (by decide) rfl ?_)
    have ha := a.isLt
    show LB x0 x1 x2 x3 x7 1 4 512 256 0 (2 * 128 + a.val) b.val = (fun a b => LB x0 x1 x2 x3 x7 1 4 512 256 (a / 512) (a % 512) b) (256 + a.val) b.val
    exact congrArg₂ (fun r n => LB x0 x1 x2 x3 x7 1 4 512 256 r n b.val) (by omega) (by omega)
  refine rowStep (e := .f32) (g := (fun a b => LB x0 x1 x2 x3 x7 1 4 512 256 (a / 512) (a % 512) b)) (off := 128) (n := 128) _ _ (fun a b => ?_) fun h14 => ?_
  · refine (Ctx.lN (ctx_17 c arg3 harg3 arg4 harg4 arg5 harg5 arg6 harg6 arg7 harg7 arg8 harg8 arg9 harg9 arg10 harg10 arg13 arg16 arg17 x0 x1 x2 x3 x4 x5 x6 x7) (lt := 512) (by decide) (by decide) rfl ?_)
    have ha := a.isLt
    show LB x0 x1 x2 x3 x7 1 4 512 256 0 (1 * 128 + a.val) b.val = (fun a b => LB x0 x1 x2 x3 x7 1 4 512 256 (a / 512) (a % 512) b) (128 + a.val) b.val
    exact congrArg₂ (fun r n => LB x0 x1 x2 x3 x7 1 4 512 256 r n b.val) (by omega) (by omega)
  refine rowStep (e := .f32) (g := (fun a b => LB x0 x1 x2 x3 x7 1 4 512 256 (a / 512) (a % 512) b)) (off := 0) (n := 128) _ _ (fun a b => ?_) fun h15 => ?_
  · refine (Ctx.lE (ctx_16 c arg3 harg3 arg4 harg4 arg5 harg5 arg6 harg6 arg7 harg7 arg8 harg8 arg9 harg9 arg10 harg10 arg13 arg16 arg17 x0 x1 x2 x3 x4 x5 x6 x7) (lt := 512) 512#32 hi (by decide) (by decide) rfl ?_)
    have ha := a.isLt
    show LB x0 x1 x2 x3 x7 1 4 512 256 0 (0 * 128 + a.val) b.val = (fun a b => LB x0 x1 x2 x3 x7 1 4 512 256 (a / 512) (a % 512) b) (0 + a.val) b.val
    exact congrArg₂ (fun r n => LB x0 x1 x2 x3 x7 1 4 512 256 r n b.val) (by omega) (by omega)
  omega

end Cert.AttnIdeal.Att

end
-- ==== Proof.AttCtx2.lean ====
/-
  What each block of the attention reads, for dilation 16.
-/
module

public import proofs.«01_k».proof.Proof.AttBuf

@[expose] public section

set_option maxRecDepth 16384

noncomputable section

namespace Cert.AttnIdeal.Att

open Cert.AttnIdeal Cert.AttnIdeal.Gen Idealize.ShloMosaic Idealize.ShloMosaic.TcCoe Idealize.SL.Sem
open Idealize.ShloMosaic.Pointwise
open scoped BigOperators

/-- What block 0 of residue 0 reads, for dilation 16. -/
theorem ctx_32 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg12 : Memref sig .tc .vmem S2048x128 .f32) (arg13 : Memref sig .tc .vmem S2048x128 .f32) (arg14 : Memref sig .tc .vmem S4096x128 .f32) (arg15 : Memref sig .tc .vmem S4096x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 2 16 64 0 0 (kernelRun0_A.sl.v2408 (F := Ideal) c arg3 harg3 arg12 arg13 x0) (kernelRun0_A.sl.v2409 (F := Ideal) c arg4 harg4 arg5 harg5 arg6 harg6 arg14 arg16 x1 x2 x3) (kernelRun0_A.sl.v2410 (F := Ideal) c arg7 harg7 arg8 harg8 arg9 harg9 arg15 arg17 x4 x5 x6)
      (View.readAt (Elt Ideal) (Memref.view arg10) (Rect.toLoadRect (Rect.unit ![2, 0, 0, 0] (Shape.size S1x1x128x256) inb_S3x2x128x256_S1x1x128x256_2_0_0_0)) (Memref.IsWhole.unread harg10 x7))
      (View.readAt (Elt Ideal) (Memref.view arg10) (Rect.toLoadRect (Rect.unit ![2, 1, 0, 0] (Shape.size S1x1x128x256) inb_S3x2x128x256_S1x1x128x256_2_1_0_0)) (Memref.IsWhole.unread harg10 x7)) where
  hq := fun i b => (ld2 _ (canon_HS0_17 c arg3 harg3 arg13 x0) _ _).trans (by
    show QD x0 16 128 (0 + 1 * i.val) (0 + 1 * b.val) = _
    unfold QD
    congr 1 <;> omega)
  hk := fun i b => (ld2 _ (canon_HS4_31 c arg4 harg4 arg5 harg5 arg6 harg6 arg14 x1 x2 x3) _ _).trans (by
    show KD x1 x2 x3 16 256 (0 + 1 * i.val) (0 + 1 * b.val) = _
    unfold KD
    congr 1 <;> omega)
  hv := fun i b => (ld2 _ (canon_HS5_31 c arg7 harg7 arg8 harg8 arg9 harg9 arg15 x4 x5 x6) _ _).trans (by
    show KD x4 x5 x6 16 256 (0 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 0 of residue 1 reads, for dilation 16. -/
theorem ctx_33 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg12 : Memref sig .tc .vmem S2048x128 .f32) (arg13 : Memref sig .tc .vmem S2048x128 .f32) (arg14 : Memref sig .tc .vmem S4096x128 .f32) (arg15 : Memref sig .tc .vmem S4096x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 2 16 64 1 0 (kernelRun0_A.sl.v2478 (F := Ideal) c arg3 harg3 arg12 arg13 x0) (kernelRun0_A.sl.v2479 (F := Ideal) c arg4 harg4 arg5 harg5 arg6 harg6 arg14 arg16 x1 x2 x3) (kernelRun0_A.sl.v2480 (F := Ideal) c arg7 harg7 arg8 harg8 arg9 harg9 arg15 arg17 x4 x5 x6)
      (View.readAt (Elt Ideal) (Memref.view arg10) (Rect.toLoadRect (Rect.unit ![2, 0, 0, 0] (Shape.size S1x1x128x256) inb_S3x2x128x256_S1x1x128x256_2_0_0_0)) (Memref.IsWhole.unread harg10 x7))
      (View.readAt (Elt Ideal) (Memref.view arg10) (Rect.toLoadRect (Rect.unit ![2, 1, 0, 0] (Shape.size S1x1x128x256) inb_S3x2x128x256_S1x1x128x256_2_1_0_0)) (Memref.IsWhole.unread harg10 x7)) where
  hq := fun i b => (ld2 _ (canon_HS0_17 c arg3 harg3 arg13 x0) _ _).trans (by
    show QD x0 16 128 (128 + 1 * i.val) (0 + 1 * b.val) = _
    unfold QD
    congr 1 <;> omega)
  hk := fun i b => (ld2 _ (canon_HS4_31 c arg4 harg4 arg5 harg5 arg6 harg6 arg14 x1 x2 x3) _ _).trans (by
    show KD x1 x2 x3 16 256 (256 + 1 * i.val) (0 + 1 * b.val) = _
    unfold KD
    congr 1 <;> omega)
  hv := fun i b => (ld2 _ (canon_HS5_31 c arg7 harg7 arg8 harg8 arg9 harg9 arg15 x4 x5 x6) _ _).trans (by
    show KD x4 x5 x6 16 256 (256 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 0 of residue 2 reads, for dilation 16. -/
theorem ctx_34 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg12 : Memref sig .tc .vmem S2048x128 .f32) (arg13 : Memref sig .tc .vmem S2048x128 .f32) (arg14 : Memref sig .tc .vmem S4096x128 .f32) (arg15 : Memref sig .tc .vmem S4096x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 2 16 64 2 0 (kernelRun0_A.sl.v2548 (F := Ideal) c arg3 harg3 arg12 arg13 x0) (kernelRun0_A.sl.v2549 (F := Ideal) c arg4 harg4 arg5 harg5 arg6 harg6 arg14 arg16 x1 x2 x3) (kernelRun0_A.sl.v2550 (F := Ideal) c arg7 harg7 arg8 harg8 arg9 harg9 arg15 arg17 x4 x5 x6)
      (View.readAt (Elt Ideal) (Memref.view arg10) (Rect.toLoadRect (Rect.unit ![2, 0, 0, 0] (Shape.size S1x1x128x256) inb_S3x2x128x256_S1x1x128x256_2_0_0_0)) (Memref.IsWhole.unread harg10 x7))
      (View.readAt (Elt Ideal) (Memref.view arg10) (Rect.toLoadRect (Rect.unit ![2, 1, 0, 0] (Shape.size S1x1x128x256) inb_S3x2x128x256_S1x1x128x256_2_1_0_0)) (Memref.IsWhole.unread harg10 x7)) where
  hq := fun i b => (ld2 _ (canon_HS0_17 c arg3 harg3 arg13 x0) _ _).trans (by
    show QD x0 16 128 (256 + 1 * i.val) (0 + 1 * b.val) = _
    unfold QD
    congr 1 <;> omega)
  hk := fun i b => (ld2 _ (canon_HS4_31 c arg4 harg4 arg5 harg5 arg6 harg6 arg14 x1 x2 x3) _ _).trans (by
    show KD x1 x2 x3 16 256 (512 + 1 * i.val) (0 + 1 * b.val) = _
    unfold KD
    congr 1 <;> omega)
  hv := fun i b => (ld2 _ (canon_HS5_31 c arg7 harg7 arg8 harg8 arg9 harg9 arg15 x4 x5 x6) _ _).trans (by
    show KD x4 x5 x6 16 256 (512 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 0 of residue 3 reads, for dilation 16. -/
theorem ctx_35 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg12 : Memref sig .tc .vmem S2048x128 .f32) (arg13 : Memref sig .tc .vmem S2048x128 .f32) (arg14 : Memref sig .tc .vmem S4096x128 .f32) (arg15 : Memref sig .tc .vmem S4096x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 2 16 64 3 0 (kernelRun0_A.sl.v2618 (F := Ideal) c arg3 harg3 arg12 arg13 x0) (kernelRun0_A.sl.v2619 (F := Ideal) c arg4 harg4 arg5 harg5 arg6 harg6 arg14 arg16 x1 x2 x3) (kernelRun0_A.sl.v2620 (F := Ideal) c arg7 harg7 arg8 harg8 arg9 harg9 arg15 arg17 x4 x5 x6)
      (View.readAt (Elt Ideal) (Memref.view arg10) (Rect.toLoadRect (Rect.unit ![2, 0, 0, 0] (Shape.size S1x1x128x256) inb_S3x2x128x256_S1x1x128x256_2_0_0_0)) (Memref.IsWhole.unread harg10 x7))
      (View.readAt (Elt Ideal) (Memref.view arg10) (Rect.toLoadRect (Rect.unit ![2, 1, 0, 0] (Shape.size S1x1x128x256) inb_S3x2x128x256_S1x1x128x256_2_1_0_0)) (Memref.IsWhole.unread harg10 x7)) where
  hq := fun i b => (ld2 _ (canon_HS0_17 c arg3 harg3 arg13 x0) _ _).trans (by
    show QD x0 16 128 (384 + 1 * i.val) (0 + 1 * b.val) = _
    unfold QD
    congr 1 <;> omega)
  hk := fun i b => (ld2 _ (canon_HS4_31 c arg4 harg4 arg5 harg5 arg6 harg6 arg14 x1 x2 x3) _ _).trans (by
    show KD x1 x2 x3 16 256 (768 + 1 * i.val) (0 + 1 * b.val) = _
    unfold KD
    congr 1 <;> omega)
  hv := fun i b => (ld2 _ (canon_HS5_31 c arg7 harg7 arg8 harg8 arg9 harg9 arg15 x4 x5 x6) _ _).trans (by
    show KD x4 x5 x6 16 256 (768 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 0 of residue 4 reads, for dilation 16. -/
theorem ctx_36 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg12 : Memref sig .tc .vmem S2048x128 .f32) (arg13 : Memref sig .tc .vmem S2048x128 .f32) (arg14 : Memref sig .tc .vmem S4096x128 .f32) (arg15 : Memref sig .tc .vmem S4096x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 2 16 64 4 0 (kernelRun0_A.sl.v2688 (F := Ideal) c arg3 harg3 arg12 arg13 x0) (kernelRun0_A.sl.v2689 (F := Ideal) c arg4 harg4 arg5 harg5 arg6 harg6 arg14 arg16 x1 x2 x3) (kernelRun0_A.sl.v2690 (F := Ideal) c arg7 harg7 arg8 harg8 arg9 harg9 arg15 arg17 x4 x5 x6)
      (View.readAt (Elt Ideal) (Memref.view arg10) (Rect.toLoadRect (Rect.unit ![2, 0, 0, 0] (Shape.size S1x1x128x256) inb_S3x2x128x256_S1x1x128x256_2_0_0_0)) (Memref.IsWhole.unread harg10 x7))
      (View.readAt (Elt Ideal) (Memref.view arg10) (Rect.toLoadRect (Rect.unit ![2, 1, 0, 0] (Shape.size S1x1x128x256) inb_S3x2x128x256_S1x1x128x256_2_1_0_0)) (Memref.IsWhole.unread harg10 x7)) where
  hq := fun i b => (ld2 _ (canon_HS0_17 c arg3 harg3 arg13 x0) _ _).trans (by
    show QD x0 16 128 (512 + 1 * i.val) (0 + 1 * b.val) = _
    unfold QD
    congr 1 <;> omega)
  hk := fun i b => (ld2 _ (canon_HS4_31 c arg4 harg4 arg5 harg5 arg6 harg6 arg14 x1 x2 x3) _ _).trans (by
    show KD x1 x2 x3 16 256 (1024 + 1 * i.val) (0 + 1 * b.val) = _
    unfold KD
    congr 1 <;> omega)
  hv := fun i b => (ld2 _ (canon_HS5_31 c arg7 harg7 arg8 harg8 arg9 harg9 arg15 x4 x5 x6) _ _).trans (by
    show KD x4 x5 x6 16 256 (1024 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 0 of residue 5 reads, for dilation 16. -/
theorem ctx_37 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg12 : Memref sig .tc .vmem S2048x128 .f32) (arg13 : Memref sig .tc .vmem S2048x128 .f32) (arg14 : Memref sig .tc .vmem S4096x128 .f32) (arg15 : Memref sig .tc .vmem S4096x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 2 16 64 5 0 (kernelRun0_A.sl.v2758 (F := Ideal) c arg3 harg3 arg12 arg13 x0) (kernelRun0_A.sl.v2759 (F := Ideal) c arg4 harg4 arg5 harg5 arg6 harg6 arg14 arg16 x1 x2 x3) (kernelRun0_A.sl.v2760 (F := Ideal) c arg7 harg7 arg8 harg8 arg9 harg9 arg15 arg17 x4 x5 x6)
      (View.readAt (Elt Ideal) (Memref.view arg10) (Rect.toLoadRect (Rect.unit ![2, 0, 0, 0] (Shape.size S1x1x128x256) inb_S3x2x128x256_S1x1x128x256_2_0_0_0)) (Memref.IsWhole.unread harg10 x7))
      (View.readAt (Elt Ideal) (Memref.view arg10) (Rect.toLoadRect (Rect.unit ![2, 1, 0, 0] (Shape.size S1x1x128x256) inb_S3x2x128x256_S1x1x128x256_2_1_0_0)) (Memref.IsWhole.unread harg10 x7)) where
  hq := fun i b => (ld2 _ (canon_HS0_17 c arg3 harg3 arg13 x0) _ _).trans (by
    show QD x0 16 128 (640 + 1 * i.val) (0 + 1 * b.val) = _
    unfold QD
    congr 1 <;> omega)
  hk := fun i b => (ld2 _ (canon_HS4_31 c arg4 harg4 arg5 harg5 arg6 harg6 arg14 x1 x2 x3) _ _).trans (by
    show KD x1 x2 x3 16 256 (1280 + 1 * i.val) (0 + 1 * b.val) = _
    unfold KD
    congr 1 <;> omega)
  hv := fun i b => (ld2 _ (canon_HS5_31 c arg7 harg7 arg8 harg8 arg9 harg9 arg15 x4 x5 x6) _ _).trans (by
    show KD x4 x5 x6 16 256 (1280 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 0 of residue 6 reads, for dilation 16. -/
theorem ctx_38 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg12 : Memref sig .tc .vmem S2048x128 .f32) (arg13 : Memref sig .tc .vmem S2048x128 .f32) (arg14 : Memref sig .tc .vmem S4096x128 .f32) (arg15 : Memref sig .tc .vmem S4096x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 2 16 64 6 0 (kernelRun0_A.sl.v2828 (F := Ideal) c arg3 harg3 arg12 arg13 x0) (kernelRun0_A.sl.v2829 (F := Ideal) c arg4 harg4 arg5 harg5 arg6 harg6 arg14 arg16 x1 x2 x3) (kernelRun0_A.sl.v2830 (F := Ideal) c arg7 harg7 arg8 harg8 arg9 harg9 arg15 arg17 x4 x5 x6)
      (View.readAt (Elt Ideal) (Memref.view arg10) (Rect.toLoadRect (Rect.unit ![2, 0, 0, 0] (Shape.size S1x1x128x256) inb_S3x2x128x256_S1x1x128x256_2_0_0_0)) (Memref.IsWhole.unread harg10 x7))
      (View.readAt (Elt Ideal) (Memref.view arg10) (Rect.toLoadRect (Rect.unit ![2, 1, 0, 0] (Shape.size S1x1x128x256) inb_S3x2x128x256_S1x1x128x256_2_1_0_0)) (Memref.IsWhole.unread harg10 x7)) where
  hq := fun i b => (ld2 _ (canon_HS0_17 c arg3 harg3 arg13 x0) _ _).trans (by
    show QD x0 16 128 (768 + 1 * i.val) (0 + 1 * b.val) = _
    unfold QD
    congr 1 <;> omega)
  hk := fun i b => (ld2 _ (canon_HS4_31 c arg4 harg4 arg5 harg5 arg6 harg6 arg14 x1 x2 x3) _ _).trans (by
    show KD x1 x2 x3 16 256 (1536 + 1 * i.val) (0 + 1 * b.val) = _
    unfold KD
    congr 1 <;> omega)
  hv := fun i b => (ld2 _ (canon_HS5_31 c arg7 harg7 arg8 harg8 arg9 harg9 arg15 x4 x5 x6) _ _).trans (by
    show KD x4 x5 x6 16 256 (1536 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 0 of residue 7 reads, for dilation 16. -/
theorem ctx_39 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg12 : Memref sig .tc .vmem S2048x128 .f32) (arg13 : Memref sig .tc .vmem S2048x128 .f32) (arg14 : Memref sig .tc .vmem S4096x128 .f32) (arg15 : Memref sig .tc .vmem S4096x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 2 16 64 7 0 (kernelRun0_A.sl.v2898 (F := Ideal) c arg3 harg3 arg12 arg13 x0) (kernelRun0_A.sl.v2899 (F := Ideal) c arg4 harg4 arg5 harg5 arg6 harg6 arg14 arg16 x1 x2 x3) (kernelRun0_A.sl.v2900 (F := Ideal) c arg7 harg7 arg8 harg8 arg9 harg9 arg15 arg17 x4 x5 x6)
      (View.readAt (Elt Ideal) (Memref.view arg10) (Rect.toLoadRect (Rect.unit ![2, 0, 0, 0] (Shape.size S1x1x128x256) inb_S3x2x128x256_S1x1x128x256_2_0_0_0)) (Memref.IsWhole.unread harg10 x7))
      (View.readAt (Elt Ideal) (Memref.view arg10) (Rect.toLoadRect (Rect.unit ![2, 1, 0, 0] (Shape.size S1x1x128x256) inb_S3x2x128x256_S1x1x128x256_2_1_0_0)) (Memref.IsWhole.unread harg10 x7)) where
  hq := fun i b => (ld2 _ (canon_HS0_17 c arg3 harg3 arg13 x0) _ _).trans (by
    show QD x0 16 128 (896 + 1 * i.val) (0 + 1 * b.val) = _
    unfold QD
    congr 1 <;> omega)
  hk := fun i b => (ld2 _ (canon_HS4_31 c arg4 harg4 arg5 harg5 arg6 harg6 arg14 x1 x2 x3) _ _).trans (by
    show KD x1 x2 x3 16 256 (1792 + 1 * i.val) (0 + 1 * b.val) = _
    unfold KD
    congr 1 <;> omega)
  hv := fun i b => (ld2 _ (canon_HS5_31 c arg7 harg7 arg8 harg8 arg9 harg9 arg15 x4 x5 x6) _ _).trans (by
    show KD x4 x5 x6 16 256 (1792 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 0 of residue 8 reads, for dilation 16. -/
theorem ctx_40 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg12 : Memref sig .tc .vmem S2048x128 .f32) (arg13 : Memref sig .tc .vmem S2048x128 .f32) (arg14 : Memref sig .tc .vmem S4096x128 .f32) (arg15 : Memref sig .tc .vmem S4096x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 2 16 64 8 0 (kernelRun0_A.sl.v2968 (F := Ideal) c arg3 harg3 arg12 arg13 x0) (kernelRun0_A.sl.v2969 (F := Ideal) c arg4 harg4 arg5 harg5 arg6 harg6 arg14 arg16 x1 x2 x3) (kernelRun0_A.sl.v2970 (F := Ideal) c arg7 harg7 arg8 harg8 arg9 harg9 arg15 arg17 x4 x5 x6)
      (View.readAt (Elt Ideal) (Memref.view arg10) (Rect.toLoadRect (Rect.unit ![2, 0, 0, 0] (Shape.size S1x1x128x256) inb_S3x2x128x256_S1x1x128x256_2_0_0_0)) (Memref.IsWhole.unread harg10 x7))
      (View.readAt (Elt Ideal) (Memref.view arg10) (Rect.toLoadRect (Rect.unit ![2, 1, 0, 0] (Shape.size S1x1x128x256) inb_S3x2x128x256_S1x1x128x256_2_1_0_0)) (Memref.IsWhole.unread harg10 x7)) where
  hq := fun i b => (ld2 _ (canon_HS0_17 c arg3 harg3 arg13 x0) _ _).trans (by
    show QD x0 16 128 (1024 + 1 * i.val) (0 + 1 * b.val) = _
    unfold QD
    congr 1 <;> omega)
  hk := fun i b => (ld2 _ (canon_HS4_31 c arg4 harg4 arg5 harg5 arg6 harg6 arg14 x1 x2 x3) _ _).trans (by
    show KD x1 x2 x3 16 256 (2048 + 1 * i.val) (0 + 1 * b.val) = _
    unfold KD
    congr 1 <;> omega)
  hv := fun i b => (ld2 _ (canon_HS5_31 c arg7 harg7 arg8 harg8 arg9 harg9 arg15 x4 x5 x6) _ _).trans (by
    show KD x4 x5 x6 16 256 (2048 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 0 of residue 9 reads, for dilation 16. -/
theorem ctx_41 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg12 : Memref sig .tc .vmem S2048x128 .f32) (arg13 : Memref sig .tc .vmem S2048x128 .f32) (arg14 : Memref sig .tc .vmem S4096x128 .f32) (arg15 : Memref sig .tc .vmem S4096x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 2 16 64 9 0 (kernelRun0_A.sl.v3038 (F := Ideal) c arg3 harg3 arg12 arg13 x0) (kernelRun0_A.sl.v3039 (F := Ideal) c arg4 harg4 arg5 harg5 arg6 harg6 arg14 arg16 x1 x2 x3) (kernelRun0_A.sl.v3040 (F := Ideal) c arg7 harg7 arg8 harg8 arg9 harg9 arg15 arg17 x4 x5 x6)
      (View.readAt (Elt Ideal) (Memref.view arg10) (Rect.toLoadRect (Rect.unit ![2, 0, 0, 0] (Shape.size S1x1x128x256) inb_S3x2x128x256_S1x1x128x256_2_0_0_0)) (Memref.IsWhole.unread harg10 x7))
      (View.readAt (Elt Ideal) (Memref.view arg10) (Rect.toLoadRect (Rect.unit ![2, 1, 0, 0] (Shape.size S1x1x128x256) inb_S3x2x128x256_S1x1x128x256_2_1_0_0)) (Memref.IsWhole.unread harg10 x7)) where
  hq := fun i b => (ld2 _ (canon_HS0_17 c arg3 harg3 arg13 x0) _ _).trans (by
    show QD x0 16 128 (1152 + 1 * i.val) (0 + 1 * b.val) = _
    unfold QD
    congr 1 <;> omega)
  hk := fun i b => (ld2 _ (canon_HS4_31 c arg4 harg4 arg5 harg5 arg6 harg6 arg14 x1 x2 x3) _ _).trans (by
    show KD x1 x2 x3 16 256 (2304 + 1 * i.val) (0 + 1 * b.val) = _
    unfold KD
    congr 1 <;> omega)
  hv := fun i b => (ld2 _ (canon_HS5_31 c arg7 harg7 arg8 harg8 arg9 harg9 arg15 x4 x5 x6) _ _).trans (by
    show KD x4 x5 x6 16 256 (2304 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 0 of residue 10 reads, for dilation 16. -/
theorem ctx_42 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg12 : Memref sig .tc .vmem S2048x128 .f32) (arg13 : Memref sig .tc .vmem S2048x128 .f32) (arg14 : Memref sig .tc .vmem S4096x128 .f32) (arg15 : Memref sig .tc .vmem S4096x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 2 16 64 10 0 (kernelRun0_A.sl.v3108 (F := Ideal) c arg3 harg3 arg12 arg13 x0) (kernelRun0_A.sl.v3109 (F := Ideal) c arg4 harg4 arg5 harg5 arg6 harg6 arg14 arg16 x1 x2 x3) (kernelRun0_A.sl.v3110 (F := Ideal) c arg7 harg7 arg8 harg8 arg9 harg9 arg15 arg17 x4 x5 x6)
      (View.readAt (Elt Ideal) (Memref.view arg10) (Rect.toLoadRect (Rect.unit ![2, 0, 0, 0] (Shape.size S1x1x128x256) inb_S3x2x128x256_S1x1x128x256_2_0_0_0)) (Memref.IsWhole.unread harg10 x7))
      (View.readAt (Elt Ideal) (Memref.view arg10) (Rect.toLoadRect (Rect.unit ![2, 1, 0, 0] (Shape.size S1x1x128x256) inb_S3x2x128x256_S1x1x128x256_2_1_0_0)) (Memref.IsWhole.unread harg10 x7)) where
  hq := fun i b => (ld2 _ (canon_HS0_17 c arg3 harg3 arg13 x0) _ _).trans (by
    show QD x0 16 128 (1280 + 1 * i.val) (0 + 1 * b.val) = _
    unfold QD
    congr 1 <;> omega)
  hk := fun i b => (ld2 _ (canon_HS4_31 c arg4 harg4 arg5 harg5 arg6 harg6 arg14 x1 x2 x3) _ _).trans (by
    show KD x1 x2 x3 16 256 (2560 + 1 * i.val) (0 + 1 * b.val) = _
    unfold KD
    congr 1 <;> omega)
  hv := fun i b => (ld2 _ (canon_HS5_31 c arg7 harg7 arg8 harg8 arg9 harg9 arg15 x4 x5 x6) _ _).trans (by
    show KD x4 x5 x6 16 256 (2560 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 0 of residue 11 reads, for dilation 16. -/
theorem ctx_43 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg12 : Memref sig .tc .vmem S2048x128 .f32) (arg13 : Memref sig .tc .vmem S2048x128 .f32) (arg14 : Memref sig .tc .vmem S4096x128 .f32) (arg15 : Memref sig .tc .vmem S4096x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 2 16 64 11 0 (kernelRun0_A.sl.v3178 (F := Ideal) c arg3 harg3 arg12 arg13 x0) (kernelRun0_A.sl.v3179 (F := Ideal) c arg4 harg4 arg5 harg5 arg6 harg6 arg14 arg16 x1 x2 x3) (kernelRun0_A.sl.v3180 (F := Ideal) c arg7 harg7 arg8 harg8 arg9 harg9 arg15 arg17 x4 x5 x6)
      (View.readAt (Elt Ideal) (Memref.view arg10) (Rect.toLoadRect (Rect.unit ![2, 0, 0, 0] (Shape.size S1x1x128x256) inb_S3x2x128x256_S1x1x128x256_2_0_0_0)) (Memref.IsWhole.unread harg10 x7))
      (View.readAt (Elt Ideal) (Memref.view arg10) (Rect.toLoadRect (Rect.unit ![2, 1, 0, 0] (Shape.size S1x1x128x256) inb_S3x2x128x256_S1x1x128x256_2_1_0_0)) (Memref.IsWhole.unread harg10 x7)) where
  hq := fun i b => (ld2 _ (canon_HS0_17 c arg3 harg3 arg13 x0) _ _).trans (by
    show QD x0 16 128 (1408 + 1 * i.val) (0 + 1 * b.val) = _
    unfold QD
    congr 1 <;> omega)
  hk := fun i b => (ld2 _ (canon_HS4_31 c arg4 harg4 arg5 harg5 arg6 harg6 arg14 x1 x2 x3) _ _).trans (by
    show KD x1 x2 x3 16 256 (2816 + 1 * i.val) (0 + 1 * b.val) = _
    unfold KD
    congr 1 <;> omega)
  hv := fun i b => (ld2 _ (canon_HS5_31 c arg7 harg7 arg8 harg8 arg9 harg9 arg15 x4 x5 x6) _ _).trans (by
    show KD x4 x5 x6 16 256 (2816 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 0 of residue 12 reads, for dilation 16. -/
theorem ctx_44 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg12 : Memref sig .tc .vmem S2048x128 .f32) (arg13 : Memref sig .tc .vmem S2048x128 .f32) (arg14 : Memref sig .tc .vmem S4096x128 .f32) (arg15 : Memref sig .tc .vmem S4096x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 2 16 64 12 0 (kernelRun0_A.sl.v3248 (F := Ideal) c arg3 harg3 arg12 arg13 x0) (kernelRun0_A.sl.v3249 (F := Ideal) c arg4 harg4 arg5 harg5 arg6 harg6 arg14 arg16 x1 x2 x3) (kernelRun0_A.sl.v3250 (F := Ideal) c arg7 harg7 arg8 harg8 arg9 harg9 arg15 arg17 x4 x5 x6)
      (View.readAt (Elt Ideal) (Memref.view arg10) (Rect.toLoadRect (Rect.unit ![2, 0, 0, 0] (Shape.size S1x1x128x256) inb_S3x2x128x256_S1x1x128x256_2_0_0_0)) (Memref.IsWhole.unread harg10 x7))
      (View.readAt (Elt Ideal) (Memref.view arg10) (Rect.toLoadRect (Rect.unit ![2, 1, 0, 0] (Shape.size S1x1x128x256) inb_S3x2x128x256_S1x1x128x256_2_1_0_0)) (Memref.IsWhole.unread harg10 x7)) where
  hq := fun i b => (ld2 _ (canon_HS0_17 c arg3 harg3 arg13 x0) _ _).trans (by
    show QD x0 16 128 (1536 + 1 * i.val) (0 + 1 * b.val) = _
    unfold QD
    congr 1 <;> omega)
  hk := fun i b => (ld2 _ (canon_HS4_31 c arg4 harg4 arg5 harg5 arg6 harg6 arg14 x1 x2 x3) _ _).trans (by
    show KD x1 x2 x3 16 256 (3072 + 1 * i.val) (0 + 1 * b.val) = _
    unfold KD
    congr 1 <;> omega)
  hv := fun i b => (ld2 _ (canon_HS5_31 c arg7 harg7 arg8 harg8 arg9 harg9 arg15 x4 x5 x6) _ _).trans (by
    show KD x4 x5 x6 16 256 (3072 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 0 of residue 13 reads, for dilation 16. -/
theorem ctx_45 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg12 : Memref sig .tc .vmem S2048x128 .f32) (arg13 : Memref sig .tc .vmem S2048x128 .f32) (arg14 : Memref sig .tc .vmem S4096x128 .f32) (arg15 : Memref sig .tc .vmem S4096x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 2 16 64 13 0 (kernelRun0_A.sl.v3318 (F := Ideal) c arg3 harg3 arg12 arg13 x0) (kernelRun0_A.sl.v3319 (F := Ideal) c arg4 harg4 arg5 harg5 arg6 harg6 arg14 arg16 x1 x2 x3) (kernelRun0_A.sl.v3320 (F := Ideal) c arg7 harg7 arg8 harg8 arg9 harg9 arg15 arg17 x4 x5 x6)
      (View.readAt (Elt Ideal) (Memref.view arg10) (Rect.toLoadRect (Rect.unit ![2, 0, 0, 0] (Shape.size S1x1x128x256) inb_S3x2x128x256_S1x1x128x256_2_0_0_0)) (Memref.IsWhole.unread harg10 x7))
      (View.readAt (Elt Ideal) (Memref.view arg10) (Rect.toLoadRect (Rect.unit ![2, 1, 0, 0] (Shape.size S1x1x128x256) inb_S3x2x128x256_S1x1x128x256_2_1_0_0)) (Memref.IsWhole.unread harg10 x7)) where
  hq := fun i b => (ld2 _ (canon_HS0_17 c arg3 harg3 arg13 x0) _ _).trans (by
    show QD x0 16 128 (1664 + 1 * i.val) (0 + 1 * b.val) = _
    unfold QD
    congr 1 <;> omega)
  hk := fun i b => (ld2 _ (canon_HS4_31 c arg4 harg4 arg5 harg5 arg6 harg6 arg14 x1 x2 x3) _ _).trans (by
    show KD x1 x2 x3 16 256 (3328 + 1 * i.val) (0 + 1 * b.val) = _
    unfold KD
    congr 1 <;> omega)
  hv := fun i b => (ld2 _ (canon_HS5_31 c arg7 harg7 arg8 harg8 arg9 harg9 arg15 x4 x5 x6) _ _).trans (by
    show KD x4 x5 x6 16 256 (3328 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 0 of residue 14 reads, for dilation 16. -/
theorem ctx_46 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg12 : Memref sig .tc .vmem S2048x128 .f32) (arg13 : Memref sig .tc .vmem S2048x128 .f32) (arg14 : Memref sig .tc .vmem S4096x128 .f32) (arg15 : Memref sig .tc .vmem S4096x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 2 16 64 14 0 (kernelRun0_A.sl.v3388 (F := Ideal) c arg3 harg3 arg12 arg13 x0) (kernelRun0_A.sl.v3389 (F := Ideal) c arg4 harg4 arg5 harg5 arg6 harg6 arg14 arg16 x1 x2 x3) (kernelRun0_A.sl.v3390 (F := Ideal) c arg7 harg7 arg8 harg8 arg9 harg9 arg15 arg17 x4 x5 x6)
      (View.readAt (Elt Ideal) (Memref.view arg10) (Rect.toLoadRect (Rect.unit ![2, 0, 0, 0] (Shape.size S1x1x128x256) inb_S3x2x128x256_S1x1x128x256_2_0_0_0)) (Memref.IsWhole.unread harg10 x7))
      (View.readAt (Elt Ideal) (Memref.view arg10) (Rect.toLoadRect (Rect.unit ![2, 1, 0, 0] (Shape.size S1x1x128x256) inb_S3x2x128x256_S1x1x128x256_2_1_0_0)) (Memref.IsWhole.unread harg10 x7)) where
  hq := fun i b => (ld2 _ (canon_HS0_17 c arg3 harg3 arg13 x0) _ _).trans (by
    show QD x0 16 128 (1792 + 1 * i.val) (0 + 1 * b.val) = _
    unfold QD
    congr 1 <;> omega)
  hk := fun i b => (ld2 _ (canon_HS4_31 c arg4 harg4 arg5 harg5 arg6 harg6 arg14 x1 x2 x3) _ _).trans (by
    show KD x1 x2 x3 16 256 (3584 + 1 * i.val) (0 + 1 * b.val) = _
    unfold KD
    congr 1 <;> omega)
  hv := fun i b => (ld2 _ (canon_HS5_31 c arg7 harg7 arg8 harg8 arg9 harg9 arg15 x4 x5 x6) _ _).trans (by
    show KD x4 x5 x6 16 256 (3584 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

/-- What block 0 of residue 15 reads, for dilation 16. -/
theorem ctx_47 (c : Dev nD) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg12 : Memref sig .tc .vmem S2048x128 .f32) (arg13 : Memref sig .tc .vmem S2048x128 .f32) (arg14 : Memref sig .tc .vmem S4096x128 .f32) (arg15 : Memref sig .tc .vmem S4096x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) :
    Ctx x0 x1 x2 x3 x4 x5 x6 x7 2 16 64 15 0 (kernelRun0_A.sl.v3458 (F := Ideal) c arg3 harg3 arg12 arg13 x0) (kernelRun0_A.sl.v3459 (F := Ideal) c arg4 harg4 arg5 harg5 arg6 harg6 arg14 arg16 x1 x2 x3) (kernelRun0_A.sl.v3460 (F := Ideal) c arg7 harg7 arg8 harg8 arg9 harg9 arg15 arg17 x4 x5 x6)
      (View.readAt (Elt Ideal) (Memref.view arg10) (Rect.toLoadRect (Rect.unit ![2, 0, 0, 0] (Shape.size S1x1x128x256) inb_S3x2x128x256_S1x1x128x256_2_0_0_0)) (Memref.IsWhole.unread harg10 x7))
      (View.readAt (Elt Ideal) (Memref.view arg10) (Rect.toLoadRect (Rect.unit ![2, 1, 0, 0] (Shape.size S1x1x128x256) inb_S3x2x128x256_S1x1x128x256_2_1_0_0)) (Memref.IsWhole.unread harg10 x7)) where
  hq := fun i b => (ld2 _ (canon_HS0_17 c arg3 harg3 arg13 x0) _ _).trans (by
    show QD x0 16 128 (1920 + 1 * i.val) (0 + 1 * b.val) = _
    unfold QD
    congr 1 <;> omega)
  hk := fun i b => (ld2 _ (canon_HS4_31 c arg4 harg4 arg5 harg5 arg6 harg6 arg14 x1 x2 x3) _ _).trans (by
    show KD x1 x2 x3 16 256 (3840 + 1 * i.val) (0 + 1 * b.val) = _
    unfold KD
    congr 1 <;> omega)
  hv := fun i b => (ld2 _ (canon_HS5_31 c arg7 harg7 arg8 harg8 arg9 harg9 arg15 x4 x5 x6) _ _).trans (by
    show KD x4 x5 x6 16 256 (3840 + 1 * i.val) (0 + 1 * b.val) = _
    unfold KD
    congr 1 <;> omega)
  hb0 := fun i b => (Memref.IsWhole.readAt_unread _ _ _ _).trans (BB_at _ _ (by rfl) (by rfl) (show 0 + 1 * i.val = i.val by omega) (show 0 + 1 * b.val = b.val by omega))
  hb1 := fun i b => (Memref.IsWhole.readAt_unread _ _ _ _).trans (BB_at _ _ (by rfl) (by rfl) (show 0 + 1 * i.val = i.val by omega) (show 0 + 1 * b.val = b.val by omega))

end Cert.AttnIdeal.Att

end
-- ==== Proof.AttRows2.lean ====
/-
  The three results of the blocks of dilation 16, as the kernel holds them.
-/
module

public import proofs.«01_k».proof.Proof.AttPay
public import proofs.«01_k».proof.Proof.AttCtx2

@[expose] public section

set_option maxRecDepth 16384

noncomputable section

namespace Cert.AttnIdeal.Att

open Cert.AttnIdeal Cert.AttnIdeal.Gen Idealize.ShloMosaic Idealize.ShloMosaic.TcCoe Idealize.SL.Sem
open Idealize.ShloMosaic.Pointwise
open scoped BigOperators

/-- The weighted sums of the blocks of dilation 16. -/
theorem canon_HS6_32 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg12 : Memref sig .tc .vmem S2048x128 .f32) (arg13 : Memref sig .tc .vmem S2048x128 .f32) (arg14 : Memref sig .tc .vmem S4096x128 .f32) (arg15 : Memref sig .tc .vmem S4096x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) (hi : (i 1).val = 0) :
    View.canon (kernelRun0_A.sl.HS6_32 (F := Ideal) c i arg3 harg3 arg4 harg4 arg5 harg5 arg6 harg6 arg7 harg7 arg8 harg8 arg9 harg9 arg10 harg10 arg12 arg13 arg14 arg15 arg16 arg17 x0 x1 x2 x3 x4 x5 x6 x7) = fun y => (fun a b => OB x0 x1 x2 x3 x4 x5 x6 x7 2 16 128 64 (a / 128) (a % 128) b) (y 0).val (y 1).val := by
  funext y
  have hy : (y 0).val < 2048 := (y 0).isLt
  unfold kernelRun0_A.sl.HS6_32
  refine rowStep (e := .f32) (g := (fun a b => OB x0 x1 x2 x3 x4 x5 x6 x7 2 16 128 64 (a / 128) (a % 128) b)) (off := 1920) (n := 128) _ _ (fun a b => ?_) fun h0 => ?_
  · refine (Ctx.oE (ctx_47 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show OB x0 x1 x2 x3 x4 x5 x6 x7 2 16 128 64 15 (0 * 128 + a.val) b.val = (fun a b => OB x0 x1 x2 x3 x4 x5 x6 x7 2 16 128 64 (a / 128) (a % 128) b) (1920 + a.val) b.val
    exact congrArg₂ (fun r n => OB x0 x1 x2 x3 x4 x5 x6 x7 2 16 128 64 r n b.val) (by omega) (by omega)
  refine rowStep (e := .f32) (g := (fun a b => OB x0 x1 x2 x3 x4 x5 x6 x7 2 16 128 64 (a / 128) (a % 128) b)) (off := 1792) (n := 128) _ _ (fun a b => ?_) fun h1 => ?_
  · refine (Ctx.oE (ctx_46 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show OB x0 x1 x2 x3 x4 x5 x6 x7 2 16 128 64 14 (0 * 128 + a.val) b.val = (fun a b => OB x0 x1 x2 x3 x4 x5 x6 x7 2 16 128 64 (a / 128) (a % 128) b) (1792 + a.val) b.val
    exact congrArg₂ (fun r n => OB x0 x1 x2 x3 x4 x5 x6 x7 2 16 128 64 r n b.val) (by omega) (by omega)
  refine rowStep (e := .f32) (g := (fun a b => OB x0 x1 x2 x3 x4 x5 x6 x7 2 16 128 64 (a / 128) (a % 128) b)) (off := 1664) (n := 128) _ _ (fun a b => ?_) fun h2 => ?_
  · refine (Ctx.oE (ctx_45 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show OB x0 x1 x2 x3 x4 x5 x6 x7 2 16 128 64 13 (0 * 128 + a.val) b.val = (fun a b => OB x0 x1 x2 x3 x4 x5 x6 x7 2 16 128 64 (a / 128) (a % 128) b) (1664 + a.val) b.val
    exact congrArg₂ (fun r n => OB x0 x1 x2 x3 x4 x5 x6 x7 2 16 128 64 r n b.val) (by omega) (by omega)
  refine rowStep (e := .f32) (g := (fun a b => OB x0 x1 x2 x3 x4 x5 x6 x7 2 16 128 64 (a / 128) (a % 128) b)) (off := 1536) (n := 128) _ _ (fun a b => ?_) fun h3 => ?_
  · refine (Ctx.oE (ctx_44 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show OB x0 x1 x2 x3 x4 x5 x6 x7 2 16 128 64 12 (0 * 128 + a.val) b.val = (fun a b => OB x0 x1 x2 x3 x4 x5 x6 x7 2 16 128 64 (a / 128) (a % 128) b) (1536 + a.val) b.val
    exact congrArg₂ (fun r n => OB x0 x1 x2 x3 x4 x5 x6 x7 2 16 128 64 r n b.val) (by omega) (by omega)
  refine rowStep (e := .f32) (g := (fun a b => OB x0 x1 x2 x3 x4 x5 x6 x7 2 16 128 64 (a / 128) (a % 128) b)) (off := 1408) (n := 128) _ _ (fun a b => ?_) fun h4 => ?_
  · refine (Ctx.oE (ctx_43 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show OB x0 x1 x2 x3 x4 x5 x6 x7 2 16 128 64 11 (0 * 128 + a.val) b.val = (fun a b => OB x0 x1 x2 x3 x4 x5 x6 x7 2 16 128 64 (a / 128) (a % 128) b) (1408 + a.val) b.val
    exact congrArg₂ (fun r n => OB x0 x1 x2 x3 x4 x5 x6 x7 2 16 128 64 r n b.val) (by omega) (by omega)
  refine rowStep (e := .f32) (g := (fun a b => OB x0 x1 x2 x3 x4 x5 x6 x7 2 16 128 64 (a / 128) (a % 128) b)) (off := 1280) (n := 128) _ _ (fun a b => ?_) fun h5 => ?_
  · refine (Ctx.oE (ctx_42 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show OB x0 x1 x2 x3 x4 x5 x6 x7 2 16 128 64 10 (0 * 128 + a.val) b.val = (fun a b => OB x0 x1 x2 x3 x4 x5 x6 x7 2 16 128 64 (a / 128) (a % 128) b) (1280 + a.val) b.val
    exact congrArg₂ (fun r n => OB x0 x1 x2 x3 x4 x5 x6 x7 2 16 128 64 r n b.val) (by omega) (by omega)
  refine rowStep (e := .f32) (g := (fun a b => OB x0 x1 x2 x3 x4 x5 x6 x7 2 16 128 64 (a / 128) (a % 128) b)) (off := 1152) (n := 128) _ _ (fun a b => ?_) fun h6 => ?_
  · refine (Ctx.oE (ctx_41 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show OB x0 x1 x2 x3 x4 x5 x6 x7 2 16 128 64 9 (0 * 128 + a.val) b.val = (fun a b => OB x0 x1 x2 x3 x4 x5 x6 x7 2 16 128 64 (a / 128) (a % 128) b) (1152 + a.val) b.val
    exact congrArg₂ (fun r n => OB x0 x1 x2 x3 x4 x5 x6 x7 2 16 128 64 r n b.val) (by omega) (by omega)
  refine rowStep (e := .f32) (g := (fun a b => OB x0 x1 x2 x3 x4 x5 x6 x7 2 16 128 64 (a / 128) (a % 128) b)) (off := 1024) (n := 128) _ _ (fun a b => ?_) fun h7 => ?_
  · refine (Ctx.oE (ctx_40 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show OB x0 x1 x2 x3 x4 x5 x6 x7 2 16 128 64 8 (0 * 128 + a.val) b.val = (fun a b => OB x0 x1 x2 x3 x4 x5 x6 x7 2 16 128 64 (a / 128) (a % 128) b) (1024 + a.val) b.val
    exact congrArg₂ (fun r n => OB x0 x1 x2 x3 x4 x5 x6 x7 2 16 128 64 r n b.val) (by omega) (by omega)
  refine rowStep (e := .f32) (g := (fun a b => OB x0 x1 x2 x3 x4 x5 x6 x7 2 16 128 64 (a / 128) (a % 128) b)) (off := 896) (n := 128) _ _ (fun a b => ?_) fun h8 => ?_
  · refine (Ctx.oE (ctx_39 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show OB x0 x1 x2 x3 x4 x5 x6 x7 2 16 128 64 7 (0 * 128 + a.val) b.val = (fun a b => OB x0 x1 x2 x3 x4 x5 x6 x7 2 16 128 64 (a / 128) (a % 128) b) (896 + a.val) b.val
    exact congrArg₂ (fun r n => OB x0 x1 x2 x3 x4 x5 x6 x7 2 16 128 64 r n b.val) (by omega) (by omega)
  refine rowStep (e := .f32) (g := (fun a b => OB x0 x1 x2 x3 x4 x5 x6 x7 2 16 128 64 (a / 128) (a % 128) b)) (off := 768) (n := 128) _ _ (fun a b => ?_) fun h9 => ?_
  · refine (Ctx.oE (ctx_38 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show OB x0 x1 x2 x3 x4 x5 x6 x7 2 16 128 64 6 (0 * 128 + a.val) b.val = (fun a b => OB x0 x1 x2 x3 x4 x5 x6 x7 2 16 128 64 (a / 128) (a % 128) b) (768 + a.val) b.val
    exact congrArg₂ (fun r n => OB x0 x1 x2 x3 x4 x5 x6 x7 2 16 128 64 r n b.val) (by omega) (by omega)
  refine rowStep (e := .f32) (g := (fun a b => OB x0 x1 x2 x3 x4 x5 x6 x7 2 16 128 64 (a / 128) (a % 128) b)) (off := 640) (n := 128) _ _ (fun a b => ?_) fun h10 => ?_
  · refine (Ctx.oE (ctx_37 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show OB x0 x1 x2 x3 x4 x5 x6 x7 2 16 128 64 5 (0 * 128 + a.val) b.val = (fun a b => OB x0 x1 x2 x3 x4 x5 x6 x7 2 16 128 64 (a / 128) (a % 128) b) (640 + a.val) b.val
    exact congrArg₂ (fun r n => OB x0 x1 x2 x3 x4 x5 x6 x7 2 16 128 64 r n b.val) (by omega) (by omega)
  refine rowStep (e := .f32) (g := (fun a b => OB x0 x1 x2 x3 x4 x5 x6 x7 2 16 128 64 (a / 128) (a % 128) b)) (off := 512) (n := 128) _ _ (fun a b => ?_) fun h11 => ?_
  · refine (Ctx.oE (ctx_36 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show OB x0 x1 x2 x3 x4 x5 x6 x7 2 16 128 64 4 (0 * 128 + a.val) b.val = (fun a b => OB x0 x1 x2 x3 x4 x5 x6 x7 2 16 128 64 (a / 128) (a % 128) b) (512 + a.val) b.val
    exact congrArg₂ (fun r n => OB x0 x1 x2 x3 x4 x5 x6 x7 2 16 128 64 r n b.val) (by omega) (by omega)
  refine rowStep (e := .f32) (g := (fun a b => OB x0 x1 x2 x3 x4 x5 x6 x7 2 16 128 64 (a / 128) (a % 128) b)) (off := 384) (n := 128) _ _ (fun a b => ?_) fun h12 => ?_
  · refine (Ctx.oE (ctx_35 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show OB x0 x1 x2 x3 x4 x5 x6 x7 2 16 128 64 3 (0 * 128 + a.val) b.val = (fun a b => OB x0 x1 x2 x3 x4 x5 x6 x7 2 16 128 64 (a / 128) (a % 128) b) (384 + a.val) b.val
    exact congrArg₂ (fun r n => OB x0 x1 x2 x3 x4 x5 x6 x7 2 16 128 64 r n b.val) (by omega) (by omega)
  refine rowStep (e := .f32) (g := (fun a b => OB x0 x1 x2 x3 x4 x5 x6 x7 2 16 128 64 (a / 128) (a % 128) b)) (off := 256) (n := 128) _ _ (fun a b => ?_) fun h13 => ?_
  · refine (Ctx.oE (ctx_34 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show OB x0 x1 x2 x3 x4 x5 x6 x7 2 16 128 64 2 (0 * 128 + a.val) b.val = (fun a b => OB x0 x1 x2 x3 x4 x5 x6 x7 2 16 128 64 (a / 128) (a % 128) b) (256 + a.val) b.val
    exact congrArg₂ (fun r n => OB x0 x1 x2 x3 x4 x5 x6 x7 2 16 128 64 r n b.val) (by omega) (by omega)
  refine rowStep (e := .f32) (g := (fun a b => OB x0 x1 x2 x3 x4 x5 x6 x7 2 16 128 64 (a / 128) (a % 128) b)) (off := 128) (n := 128) _ _ (fun a b => ?_) fun h14 => ?_
  · refine (Ctx.oE (ctx_33 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show OB x0 x1 x2 x3 x4 x5 x6 x7 2 16 128 64 1 (0 * 128 + a.val) b.val = (fun a b => OB x0 x1 x2 x3 x4 x5 x6 x7 2 16 128 64 (a / 128) (a % 128) b) (128 + a.val) b.val
    exact congrArg₂ (fun r n => OB x0 x1 x2 x3 x4 x5 x6 x7 2 16 128 64 r n b.val) (by omega) (by omega)
  refine rowStep (e := .f32) (g := (fun a b => OB x0 x1 x2 x3 x4 x5 x6 x7 2 16 128 64 (a / 128) (a % 128) b)) (off := 0) (n := 128) _ _ (fun a b => ?_) fun h15 => ?_
  · refine (Ctx.oE (ctx_32 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show OB x0 x1 x2 x3 x4 x5 x6 x7 2 16 128 64 0 (0 * 128 + a.val) b.val = (fun a b => OB x0 x1 x2 x3 x4 x5 x6 x7 2 16 128 64 (a / 128) (a % 128) b) (0 + a.val) b.val
    exact congrArg₂ (fun r n => OB x0 x1 x2 x3 x4 x5 x6 x7 2 16 128 64 r n b.val) (by omega) (by omega)
  omega

/-- The largest scores of the blocks of dilation 16. -/
theorem canon_HS7_32 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg12 : Memref sig .tc .vmem S2048x128 .f32) (arg13 : Memref sig .tc .vmem S2048x128 .f32) (arg14 : Memref sig .tc .vmem S4096x128 .f32) (arg15 : Memref sig .tc .vmem S4096x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) (hi : (i 1).val = 0) :
    View.canon (kernelRun0_A.sl.HS7_32 (F := Ideal) c i arg3 harg3 arg4 harg4 arg5 harg5 arg6 harg6 arg10 harg10 arg12 arg13 arg14 arg16 x0 x1 x2 x3 x7) = fun y => (fun a b => MB x0 x1 x2 x3 x7 2 16 128 64 (a / 128) (a % 128) b) (y 0).val (y 1).val := by
  funext y
  have hy : (y 0).val < 2048 := (y 0).isLt
  unfold kernelRun0_A.sl.HS7_32
  refine rowStep (e := .f32) (g := (fun a b => MB x0 x1 x2 x3 x7 2 16 128 64 (a / 128) (a % 128) b)) (off := 1920) (n := 128) _ _ (fun a b => ?_) fun h0 => ?_
  · refine (Ctx.mE (ctx_47 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show MB x0 x1 x2 x3 x7 2 16 128 64 15 (0 * 128 + a.val) b.val = (fun a b => MB x0 x1 x2 x3 x7 2 16 128 64 (a / 128) (a % 128) b) (1920 + a.val) b.val
    exact congrArg₂ (fun r n => MB x0 x1 x2 x3 x7 2 16 128 64 r n b.val) (by omega) (by omega)
  refine rowStep (e := .f32) (g := (fun a b => MB x0 x1 x2 x3 x7 2 16 128 64 (a / 128) (a % 128) b)) (off := 1792) (n := 128) _ _ (fun a b => ?_) fun h1 => ?_
  · refine (Ctx.mE (ctx_46 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show MB x0 x1 x2 x3 x7 2 16 128 64 14 (0 * 128 + a.val) b.val = (fun a b => MB x0 x1 x2 x3 x7 2 16 128 64 (a / 128) (a % 128) b) (1792 + a.val) b.val
    exact congrArg₂ (fun r n => MB x0 x1 x2 x3 x7 2 16 128 64 r n b.val) (by omega) (by omega)
  refine rowStep (e := .f32) (g := (fun a b => MB x0 x1 x2 x3 x7 2 16 128 64 (a / 128) (a % 128) b)) (off := 1664) (n := 128) _ _ (fun a b => ?_) fun h2 => ?_
  · refine (Ctx.mE (ctx_45 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show MB x0 x1 x2 x3 x7 2 16 128 64 13 (0 * 128 + a.val) b.val = (fun a b => MB x0 x1 x2 x3 x7 2 16 128 64 (a / 128) (a % 128) b) (1664 + a.val) b.val
    exact congrArg₂ (fun r n => MB x0 x1 x2 x3 x7 2 16 128 64 r n b.val) (by omega) (by omega)
  refine rowStep (e := .f32) (g := (fun a b => MB x0 x1 x2 x3 x7 2 16 128 64 (a / 128) (a % 128) b)) (off := 1536) (n := 128) _ _ (fun a b => ?_) fun h3 => ?_
  · refine (Ctx.mE (ctx_44 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show MB x0 x1 x2 x3 x7 2 16 128 64 12 (0 * 128 + a.val) b.val = (fun a b => MB x0 x1 x2 x3 x7 2 16 128 64 (a / 128) (a % 128) b) (1536 + a.val) b.val
    exact congrArg₂ (fun r n => MB x0 x1 x2 x3 x7 2 16 128 64 r n b.val) (by omega) (by omega)
  refine rowStep (e := .f32) (g := (fun a b => MB x0 x1 x2 x3 x7 2 16 128 64 (a / 128) (a % 128) b)) (off := 1408) (n := 128) _ _ (fun a b => ?_) fun h4 => ?_
  · refine (Ctx.mE (ctx_43 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show MB x0 x1 x2 x3 x7 2 16 128 64 11 (0 * 128 + a.val) b.val = (fun a b => MB x0 x1 x2 x3 x7 2 16 128 64 (a / 128) (a % 128) b) (1408 + a.val) b.val
    exact congrArg₂ (fun r n => MB x0 x1 x2 x3 x7 2 16 128 64 r n b.val) (by omega) (by omega)
  refine rowStep (e := .f32) (g := (fun a b => MB x0 x1 x2 x3 x7 2 16 128 64 (a / 128) (a % 128) b)) (off := 1280) (n := 128) _ _ (fun a b => ?_) fun h5 => ?_
  · refine (Ctx.mE (ctx_42 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show MB x0 x1 x2 x3 x7 2 16 128 64 10 (0 * 128 + a.val) b.val = (fun a b => MB x0 x1 x2 x3 x7 2 16 128 64 (a / 128) (a % 128) b) (1280 + a.val) b.val
    exact congrArg₂ (fun r n => MB x0 x1 x2 x3 x7 2 16 128 64 r n b.val) (by omega) (by omega)
  refine rowStep (e := .f32) (g := (fun a b => MB x0 x1 x2 x3 x7 2 16 128 64 (a / 128) (a % 128) b)) (off := 1152) (n := 128) _ _ (fun a b => ?_) fun h6 => ?_
  · refine (Ctx.mE (ctx_41 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show MB x0 x1 x2 x3 x7 2 16 128 64 9 (0 * 128 + a.val) b.val = (fun a b => MB x0 x1 x2 x3 x7 2 16 128 64 (a / 128) (a % 128) b) (1152 + a.val) b.val
    exact congrArg₂ (fun r n => MB x0 x1 x2 x3 x7 2 16 128 64 r n b.val) (by omega) (by omega)
  refine rowStep (e := .f32) (g := (fun a b => MB x0 x1 x2 x3 x7 2 16 128 64 (a / 128) (a % 128) b)) (off := 1024) (n := 128) _ _ (fun a b => ?_) fun h7 => ?_
  · refine (Ctx.mE (ctx_40 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show MB x0 x1 x2 x3 x7 2 16 128 64 8 (0 * 128 + a.val) b.val = (fun a b => MB x0 x1 x2 x3 x7 2 16 128 64 (a / 128) (a % 128) b) (1024 + a.val) b.val
    exact congrArg₂ (fun r n => MB x0 x1 x2 x3 x7 2 16 128 64 r n b.val) (by omega) (by omega)
  refine rowStep (e := .f32) (g := (fun a b => MB x0 x1 x2 x3 x7 2 16 128 64 (a / 128) (a % 128) b)) (off := 896) (n := 128) _ _ (fun a b => ?_) fun h8 => ?_
  · refine (Ctx.mE (ctx_39 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show MB x0 x1 x2 x3 x7 2 16 128 64 7 (0 * 128 + a.val) b.val = (fun a b => MB x0 x1 x2 x3 x7 2 16 128 64 (a / 128) (a % 128) b) (896 + a.val) b.val
    exact congrArg₂ (fun r n => MB x0 x1 x2 x3 x7 2 16 128 64 r n b.val) (by omega) (by omega)
  refine rowStep (e := .f32) (g := (fun a b => MB x0 x1 x2 x3 x7 2 16 128 64 (a / 128) (a % 128) b)) (off := 768) (n := 128) _ _ (fun a b => ?_) fun h9 => ?_
  · refine (Ctx.mE (ctx_38 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show MB x0 x1 x2 x3 x7 2 16 128 64 6 (0 * 128 + a.val) b.val = (fun a b => MB x0 x1 x2 x3 x7 2 16 128 64 (a / 128) (a % 128) b) (768 + a.val) b.val
    exact congrArg₂ (fun r n => MB x0 x1 x2 x3 x7 2 16 128 64 r n b.val) (by omega) (by omega)
  refine rowStep (e := .f32) (g := (fun a b => MB x0 x1 x2 x3 x7 2 16 128 64 (a / 128) (a % 128) b)) (off := 640) (n := 128) _ _ (fun a b => ?_) fun h10 => ?_
  · refine (Ctx.mE (ctx_37 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show MB x0 x1 x2 x3 x7 2 16 128 64 5 (0 * 128 + a.val) b.val = (fun a b => MB x0 x1 x2 x3 x7 2 16 128 64 (a / 128) (a % 128) b) (640 + a.val) b.val
    exact congrArg₂ (fun r n => MB x0 x1 x2 x3 x7 2 16 128 64 r n b.val) (by omega) (by omega)
  refine rowStep (e := .f32) (g := (fun a b => MB x0 x1 x2 x3 x7 2 16 128 64 (a / 128) (a % 128) b)) (off := 512) (n := 128) _ _ (fun a b => ?_) fun h11 => ?_
  · refine (Ctx.mE (ctx_36 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show MB x0 x1 x2 x3 x7 2 16 128 64 4 (0 * 128 + a.val) b.val = (fun a b => MB x0 x1 x2 x3 x7 2 16 128 64 (a / 128) (a % 128) b) (512 + a.val) b.val
    exact congrArg₂ (fun r n => MB x0 x1 x2 x3 x7 2 16 128 64 r n b.val) (by omega) (by omega)
  refine rowStep (e := .f32) (g := (fun a b => MB x0 x1 x2 x3 x7 2 16 128 64 (a / 128) (a % 128) b)) (off := 384) (n := 128) _ _ (fun a b => ?_) fun h12 => ?_
  · refine (Ctx.mE (ctx_35 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show MB x0 x1 x2 x3 x7 2 16 128 64 3 (0 * 128 + a.val) b.val = (fun a b => MB x0 x1 x2 x3 x7 2 16 128 64 (a / 128) (a % 128) b) (384 + a.val) b.val
    exact congrArg₂ (fun r n => MB x0 x1 x2 x3 x7 2 16 128 64 r n b.val) (by omega) (by omega)
  refine rowStep (e := .f32) (g := (fun a b => MB x0 x1 x2 x3 x7 2 16 128 64 (a / 128) (a % 128) b)) (off := 256) (n := 128) _ _ (fun a b => ?_) fun h13 => ?_
  · refine (Ctx.mE (ctx_34 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show MB x0 x1 x2 x3 x7 2 16 128 64 2 (0 * 128 + a.val) b.val = (fun a b => MB x0 x1 x2 x3 x7 2 16 128 64 (a / 128) (a % 128) b) (256 + a.val) b.val
    exact congrArg₂ (fun r n => MB x0 x1 x2 x3 x7 2 16 128 64 r n b.val) (by omega) (by omega)
  refine rowStep (e := .f32) (g := (fun a b => MB x0 x1 x2 x3 x7 2 16 128 64 (a / 128) (a % 128) b)) (off := 128) (n := 128) _ _ (fun a b => ?_) fun h14 => ?_
  · refine (Ctx.mE (ctx_33 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show MB x0 x1 x2 x3 x7 2 16 128 64 1 (0 * 128 + a.val) b.val = (fun a b => MB x0 x1 x2 x3 x7 2 16 128 64 (a / 128) (a % 128) b) (128 + a.val) b.val
    exact congrArg₂ (fun r n => MB x0 x1 x2 x3 x7 2 16 128 64 r n b.val) (by omega) (by omega)
  refine rowStep (e := .f32) (g := (fun a b => MB x0 x1 x2 x3 x7 2 16 128 64 (a / 128) (a % 128) b)) (off := 0) (n := 128) _ _ (fun a b => ?_) fun h15 => ?_
  · refine (Ctx.mE (ctx_32 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show MB x0 x1 x2 x3 x7 2 16 128 64 0 (0 * 128 + a.val) b.val = (fun a b => MB x0 x1 x2 x3 x7 2 16 128 64 (a / 128) (a % 128) b) (0 + a.val) b.val
    exact congrArg₂ (fun r n => MB x0 x1 x2 x3 x7 2 16 128 64 r n b.val) (by omega) (by omega)
  omega

/-- The sums of weights of the blocks of dilation 16. -/
theorem canon_HS8_32 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg12 : Memref sig .tc .vmem S2048x128 .f32) (arg13 : Memref sig .tc .vmem S2048x128 .f32) (arg14 : Memref sig .tc .vmem S4096x128 .f32) (arg15 : Memref sig .tc .vmem S4096x128 .f32) (arg16 : Memref sig .tc .vmem S4096x128 .bf16) (arg17 : Memref sig .tc .vmem S4096x128 .bf16) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) (hi : (i 1).val = 0) :
    View.canon (kernelRun0_A.sl.HS8_32 (F := Ideal) c i arg3 harg3 arg4 harg4 arg5 harg5 arg6 harg6 arg7 harg7 arg8 harg8 arg9 harg9 arg10 harg10 arg12 arg13 arg14 arg15 arg16 arg17 x0 x1 x2 x3 x4 x5 x6 x7) = fun y => (fun a b => LB x0 x1 x2 x3 x7 2 16 128 64 (a / 128) (a % 128) b) (y 0).val (y 1).val := by
  funext y
  have hy : (y 0).val < 2048 := (y 0).isLt
  unfold kernelRun0_A.sl.HS8_32
  refine rowStep (e := .f32) (g := (fun a b => LB x0 x1 x2 x3 x7 2 16 128 64 (a / 128) (a % 128) b)) (off := 1920) (n := 128) _ _ (fun a b => ?_) fun h0 => ?_
  · refine (Ctx.lE (ctx_47 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show LB x0 x1 x2 x3 x7 2 16 128 64 15 (0 * 128 + a.val) b.val = (fun a b => LB x0 x1 x2 x3 x7 2 16 128 64 (a / 128) (a % 128) b) (1920 + a.val) b.val
    exact congrArg₂ (fun r n => LB x0 x1 x2 x3 x7 2 16 128 64 r n b.val) (by omega) (by omega)
  refine rowStep (e := .f32) (g := (fun a b => LB x0 x1 x2 x3 x7 2 16 128 64 (a / 128) (a % 128) b)) (off := 1792) (n := 128) _ _ (fun a b => ?_) fun h1 => ?_
  · refine (Ctx.lE (ctx_46 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show LB x0 x1 x2 x3 x7 2 16 128 64 14 (0 * 128 + a.val) b.val = (fun a b => LB x0 x1 x2 x3 x7 2 16 128 64 (a / 128) (a % 128) b) (1792 + a.val) b.val
    exact congrArg₂ (fun r n => LB x0 x1 x2 x3 x7 2 16 128 64 r n b.val) (by omega) (by omega)
  refine rowStep (e := .f32) (g := (fun a b => LB x0 x1 x2 x3 x7 2 16 128 64 (a / 128) (a % 128) b)) (off := 1664) (n := 128) _ _ (fun a b => ?_) fun h2 => ?_
  · refine (Ctx.lE (ctx_45 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show LB x0 x1 x2 x3 x7 2 16 128 64 13 (0 * 128 + a.val) b.val = (fun a b => LB x0 x1 x2 x3 x7 2 16 128 64 (a / 128) (a % 128) b) (1664 + a.val) b.val
    exact congrArg₂ (fun r n => LB x0 x1 x2 x3 x7 2 16 128 64 r n b.val) (by omega) (by omega)
  refine rowStep (e := .f32) (g := (fun a b => LB x0 x1 x2 x3 x7 2 16 128 64 (a / 128) (a % 128) b)) (off := 1536) (n := 128) _ _ (fun a b => ?_) fun h3 => ?_
  · refine (Ctx.lE (ctx_44 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show LB x0 x1 x2 x3 x7 2 16 128 64 12 (0 * 128 + a.val) b.val = (fun a b => LB x0 x1 x2 x3 x7 2 16 128 64 (a / 128) (a % 128) b) (1536 + a.val) b.val
    exact congrArg₂ (fun r n => LB x0 x1 x2 x3 x7 2 16 128 64 r n b.val) (by omega) (by omega)
  refine rowStep (e := .f32) (g := (fun a b => LB x0 x1 x2 x3 x7 2 16 128 64 (a / 128) (a % 128) b)) (off := 1408) (n := 128) _ _ (fun a b => ?_) fun h4 => ?_
  · refine (Ctx.lE (ctx_43 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show LB x0 x1 x2 x3 x7 2 16 128 64 11 (0 * 128 + a.val) b.val = (fun a b => LB x0 x1 x2 x3 x7 2 16 128 64 (a / 128) (a % 128) b) (1408 + a.val) b.val
    exact congrArg₂ (fun r n => LB x0 x1 x2 x3 x7 2 16 128 64 r n b.val) (by omega) (by omega)
  refine rowStep (e := .f32) (g := (fun a b => LB x0 x1 x2 x3 x7 2 16 128 64 (a / 128) (a % 128) b)) (off := 1280) (n := 128) _ _ (fun a b => ?_) fun h5 => ?_
  · refine (Ctx.lE (ctx_42 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show LB x0 x1 x2 x3 x7 2 16 128 64 10 (0 * 128 + a.val) b.val = (fun a b => LB x0 x1 x2 x3 x7 2 16 128 64 (a / 128) (a % 128) b) (1280 + a.val) b.val
    exact congrArg₂ (fun r n => LB x0 x1 x2 x3 x7 2 16 128 64 r n b.val) (by omega) (by omega)
  refine rowStep (e := .f32) (g := (fun a b => LB x0 x1 x2 x3 x7 2 16 128 64 (a / 128) (a % 128) b)) (off := 1152) (n := 128) _ _ (fun a b => ?_) fun h6 => ?_
  · refine (Ctx.lE (ctx_41 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show LB x0 x1 x2 x3 x7 2 16 128 64 9 (0 * 128 + a.val) b.val = (fun a b => LB x0 x1 x2 x3 x7 2 16 128 64 (a / 128) (a % 128) b) (1152 + a.val) b.val
    exact congrArg₂ (fun r n => LB x0 x1 x2 x3 x7 2 16 128 64 r n b.val) (by omega) (by omega)
  refine rowStep (e := .f32) (g := (fun a b => LB x0 x1 x2 x3 x7 2 16 128 64 (a / 128) (a % 128) b)) (off := 1024) (n := 128) _ _ (fun a b => ?_) fun h7 => ?_
  · refine (Ctx.lE (ctx_40 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show LB x0 x1 x2 x3 x7 2 16 128 64 8 (0 * 128 + a.val) b.val = (fun a b => LB x0 x1 x2 x3 x7 2 16 128 64 (a / 128) (a % 128) b) (1024 + a.val) b.val
    exact congrArg₂ (fun r n => LB x0 x1 x2 x3 x7 2 16 128 64 r n b.val) (by omega) (by omega)
  refine rowStep (e := .f32) (g := (fun a b => LB x0 x1 x2 x3 x7 2 16 128 64 (a / 128) (a % 128) b)) (off := 896) (n := 128) _ _ (fun a b => ?_) fun h8 => ?_
  · refine (Ctx.lE (ctx_39 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show LB x0 x1 x2 x3 x7 2 16 128 64 7 (0 * 128 + a.val) b.val = (fun a b => LB x0 x1 x2 x3 x7 2 16 128 64 (a / 128) (a % 128) b) (896 + a.val) b.val
    exact congrArg₂ (fun r n => LB x0 x1 x2 x3 x7 2 16 128 64 r n b.val) (by omega) (by omega)
  refine rowStep (e := .f32) (g := (fun a b => LB x0 x1 x2 x3 x7 2 16 128 64 (a / 128) (a % 128) b)) (off := 768) (n := 128) _ _ (fun a b => ?_) fun h9 => ?_
  · refine (Ctx.lE (ctx_38 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show LB x0 x1 x2 x3 x7 2 16 128 64 6 (0 * 128 + a.val) b.val = (fun a b => LB x0 x1 x2 x3 x7 2 16 128 64 (a / 128) (a % 128) b) (768 + a.val) b.val
    exact congrArg₂ (fun r n => LB x0 x1 x2 x3 x7 2 16 128 64 r n b.val) (by omega) (by omega)
  refine rowStep (e := .f32) (g := (fun a b => LB x0 x1 x2 x3 x7 2 16 128 64 (a / 128) (a % 128) b)) (off := 640) (n := 128) _ _ (fun a b => ?_) fun h10 => ?_
  · refine (Ctx.lE (ctx_37 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show LB x0 x1 x2 x3 x7 2 16 128 64 5 (0 * 128 + a.val) b.val = (fun a b => LB x0 x1 x2 x3 x7 2 16 128 64 (a / 128) (a % 128) b) (640 + a.val) b.val
    exact congrArg₂ (fun r n => LB x0 x1 x2 x3 x7 2 16 128 64 r n b.val) (by omega) (by omega)
  refine rowStep (e := .f32) (g := (fun a b => LB x0 x1 x2 x3 x7 2 16 128 64 (a / 128) (a % 128) b)) (off := 512) (n := 128) _ _ (fun a b => ?_) fun h11 => ?_
  · refine (Ctx.lE (ctx_36 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show LB x0 x1 x2 x3 x7 2 16 128 64 4 (0 * 128 + a.val) b.val = (fun a b => LB x0 x1 x2 x3 x7 2 16 128 64 (a / 128) (a % 128) b) (512 + a.val) b.val
    exact congrArg₂ (fun r n => LB x0 x1 x2 x3 x7 2 16 128 64 r n b.val) (by omega) (by omega)
  refine rowStep (e := .f32) (g := (fun a b => LB x0 x1 x2 x3 x7 2 16 128 64 (a / 128) (a % 128) b)) (off := 384) (n := 128) _ _ (fun a b => ?_) fun h12 => ?_
  · refine (Ctx.lE (ctx_35 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show LB x0 x1 x2 x3 x7 2 16 128 64 3 (0 * 128 + a.val) b.val = (fun a b => LB x0 x1 x2 x3 x7 2 16 128 64 (a / 128) (a % 128) b) (384 + a.val) b.val
    exact congrArg₂ (fun r n => LB x0 x1 x2 x3 x7 2 16 128 64 r n b.val) (by omega) (by omega)
  refine rowStep (e := .f32) (g := (fun a b => LB x0 x1 x2 x3 x7 2 16 128 64 (a / 128) (a % 128) b)) (off := 256) (n := 128) _ _ (fun a b => ?_) fun h13 => ?_
  · refine (Ctx.lE (ctx_34 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show LB x0 x1 x2 x3 x7 2 16 128 64 2 (0 * 128 + a.val) b.val = (fun a b => LB x0 x1 x2 x3 x7 2 16 128 64 (a / 128) (a % 128) b) (256 + a.val) b.val
    exact congrArg₂ (fun r n => LB x0 x1 x2 x3 x7 2 16 128 64 r n b.val) (by omega) (by omega)
  refine rowStep (e := .f32) (g := (fun a b => LB x0 x1 x2 x3 x7 2 16 128 64 (a / 128) (a % 128) b)) (off := 128) (n := 128) _ _ (fun a b => ?_) fun h14 => ?_
  · refine (Ctx.lE (ctx_33 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show LB x0 x1 x2 x3 x7 2 16 128 64 1 (0 * 128 + a.val) b.val = (fun a b => LB x0 x1 x2 x3 x7 2 16 128 64 (a / 128) (a % 128) b) (128 + a.val) b.val
    exact congrArg₂ (fun r n => LB x0 x1 x2 x3 x7 2 16 128 64 r n b.val) (by omega) (by omega)
  refine rowStep (e := .f32) (g := (fun a b => LB x0 x1 x2 x3 x7 2 16 128 64 (a / 128) (a % 128) b)) (off := 0) (n := 128) _ _ (fun a b => ?_) fun h15 => ?_
  · refine (Ctx.lE (ctx_32 c arg3 harg3 arg4 harg4 arg5 harg5 arg6 harg6 arg7 harg7 arg8 harg8 arg9 harg9 arg10 harg10 arg12 arg13 arg14 arg15 arg16 arg17 x0 x1 x2 x3 x4 x5 x6 x7) (lt := 128) 128#32 hi (by decide) (by decide) rfl ?_)
    have ha := a.isLt
    show LB x0 x1 x2 x3 x7 2 16 128 64 0 (0 * 128 + a.val) b.val = (fun a b => LB x0 x1 x2 x3 x7 2 16 128 64 (a / 128) (a % 128) b) (0 + a.val) b.val
    exact congrArg₂ (fun r n => LB x0 x1 x2 x3 x7 2 16 128 64 r n b.val) (by omega) (by omega)
  omega

end Cert.AttnIdeal.Att

end
-- ==== Proof.AttPlO.lean ====
/-
  The weighted sums of all three dilations, position by position.
-/
module

public import proofs.«01_k».proof.Proof.AttPay
public import proofs.«01_k».proof.Proof.AttCtx0
public import proofs.«01_k».proof.Proof.AttRows1
public import proofs.«01_k».proof.Proof.AttRows2

@[expose] public section

set_option maxRecDepth 16384

noncomputable section

namespace Cert.AttnIdeal.Att

open Cert.AttnIdeal Cert.AttnIdeal.Gen Idealize.ShloMosaic Idealize.ShloMosaic.TcCoe Idealize.SL.Sem
open Idealize.ShloMosaic.Pointwise
open scoped BigOperators

set_option maxHeartbeats 1000000

/-- The weighted sums as the kernel holds them at its end. -/
theorem canon_HS9_36 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg12 : Memref sig .tc .vmem S2048x128 .f32) (arg13 : Memref sig .tc .vmem S2048x128 .f32) (arg14 : Memref sig .tc .vmem S4096x128 .f32) (arg15 : Memref sig .tc .vmem S4096x128 .f32) (arg16 : Memref sig .tc .vmem S4096x128 .bf16) (arg17 : Memref sig .tc .vmem S4096x128 .bf16) (arg18 : Memref sig .tc .vmem S2048x128 .f32) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) (hi : (i 1).val = 0) :
    View.canon (kernelRun0_A.sl.HS9_36 (F := Ideal) c i arg3 harg3 arg4 harg4 arg5 harg5 arg6 harg6 arg7 harg7 arg8 harg8 arg9 harg9 arg10 harg10 arg12 arg13 arg14 arg15 arg16 arg17 arg18 x0 x1 x2 x3 x4 x5 x6 x7) = fun y => (plane (OB x0 x1 x2 x3 x4 x5 x6 x7)) (y 0).val (y 1).val (y 2).val := by
  funext y
  have hy0 : (y 0).val < 3 := (y 0).isLt
  have hy : (y 1).val < 2048 := (y 1).isLt
  unfold kernelRun0_A.sl.HS9_36 kernelRun0_A.sl.HS9_17
  refine strideStep (e := .f32) (g := (plane (OB x0 x1 x2 x3 x4 x5 x6 x7))) (P := 2) (d := 16) (r := 15) (n := 128) _ _ (by decide) (by decide) _ (fun a b => ?_) fun h0 => ?_
  · have ha := a.isLt
    pointwise [k0_pay807]
    show (kernelRun0_A.sl.v3708 (F := Ideal) c i arg3 harg3 arg4 harg4 arg5 harg5 arg6 harg6 arg7 harg7 arg8 harg8 arg9 harg9 arg10 harg10 arg12 arg13 arg14 arg15 arg16 arg17 arg18 x0 x1 x2 x3 x4 x5 x6 x7) (ix2 a b) = _
    refine (ld2 _ (canon_HS6_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => OB x0 x1 x2 x3 x4 x5 x6 x7 2 16 128 64 (a / 128) (a % 128) b) (1920 + 1 * a.val) (0 + 1 * b.val) = OB x0 x1 x2 x3 x4 x5 x6 x7 2 16 128 64 ((15 + 16 * a.val) % 16) ((15 + 16 * a.val) / 16) b.val
    show OB x0 x1 x2 x3 x4 x5 x6 x7 2 16 128 64 _ _ (0 + 1 * b.val) = _
    rw [show 0 + 1 * b.val = b.val by omega]
    exact congrArg₂ (fun r n => OB x0 x1 x2 x3 x4 x5 x6 x7 2 16 128 64 r n b.val) (by omega) (by omega)
  refine strideStep (e := .f32) (g := (plane (OB x0 x1 x2 x3 x4 x5 x6 x7))) (P := 2) (d := 16) (r := 14) (n := 128) _ _ (by decide) (by decide) _ (fun a b => ?_) fun h1 => ?_
  · have ha := a.isLt
    pointwise [k0_pay804]
    show (kernelRun0_A.sl.v3696 (F := Ideal) c i arg3 harg3 arg4 harg4 arg5 harg5 arg6 harg6 arg7 harg7 arg8 harg8 arg9 harg9 arg10 harg10 arg12 arg13 arg14 arg15 arg16 arg17 arg18 x0 x1 x2 x3 x4 x5 x6 x7) (ix2 a b) = _
    refine (ld2 _ (canon_HS6_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => OB x0 x1 x2 x3 x4 x5 x6 x7 2 16 128 64 (a / 128) (a % 128) b) (1792 + 1 * a.val) (0 + 1 * b.val) = OB x0 x1 x2 x3 x4 x5 x6 x7 2 16 128 64 ((14 + 16 * a.val) % 16) ((14 + 16 * a.val) / 16) b.val
    show OB x0 x1 x2 x3 x4 x5 x6 x7 2 16 128 64 _ _ (0 + 1 * b.val) = _
    rw [show 0 + 1 * b.val = b.val by omega]
    exact congrArg₂ (fun r n => OB x0 x1 x2 x3 x4 x5 x6 x7 2 16 128 64 r n b.val) (by omega) (by omega)
  refine strideStep (e := .f32) (g := (plane (OB x0 x1 x2 x3 x4 x5 x6 x7))) (P := 2) (d := 16) (r := 13) (n := 128) _ _ (by decide) (by decide) _ (fun a b => ?_) fun h2 => ?_
  · have ha := a.isLt
    pointwise [k0_pay801]
    show (kernelRun0_A.sl.v3684 (F := Ideal) c i arg3 harg3 arg4 harg4 arg5 harg5 arg6 harg6 arg7 harg7 arg8 harg8 arg9 harg9 arg10 harg10 arg12 arg13 arg14 arg15 arg16 arg17 arg18 x0 x1 x2 x3 x4 x5 x6 x7) (ix2 a b) = _
    refine (ld2 _ (canon_HS6_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => OB x0 x1 x2 x3 x4 x5 x6 x7 2 16 128 64 (a / 128) (a % 128) b) (1664 + 1 * a.val) (0 + 1 * b.val) = OB x0 x1 x2 x3 x4 x5 x6 x7 2 16 128 64 ((13 + 16 * a.val) % 16) ((13 + 16 * a.val) / 16) b.val
    show OB x0 x1 x2 x3 x4 x5 x6 x7 2 16 128 64 _ _ (0 + 1 * b.val) = _
    rw [show 0 + 1 * b.val = b.val by omega]
    exact congrArg₂ (fun r n => OB x0 x1 x2 x3 x4 x5 x6 x7 2 16 128 64 r n b.val) (by omega) (by omega)
  refine strideStep (e := .f32) (g := (plane (OB x0 x1 x2 x3 x4 x5 x6 x7))) (P := 2) (d := 16) (r := 12) (n := 128) _ _ (by decide) (by decide) _ (fun a b => ?_) fun h3 => ?_
  · have ha := a.isLt
    pointwise [k0_pay798]
    show (kernelRun0_A.sl.v3672 (F := Ideal) c i arg3 harg3 arg4 harg4 arg5 harg5 arg6 harg6 arg7 harg7 arg8 harg8 arg9 harg9 arg10 harg10 arg12 arg13 arg14 arg15 arg16 arg17 arg18 x0 x1 x2 x3 x4 x5 x6 x7) (ix2 a b) = _
    refine (ld2 _ (canon_HS6_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => OB x0 x1 x2 x3 x4 x5 x6 x7 2 16 128 64 (a / 128) (a % 128) b) (1536 + 1 * a.val) (0 + 1 * b.val) = OB x0 x1 x2 x3 x4 x5 x6 x7 2 16 128 64 ((12 + 16 * a.val) % 16) ((12 + 16 * a.val) / 16) b.val
    show OB x0 x1 x2 x3 x4 x5 x6 x7 2 16 128 64 _ _ (0 + 1 * b.val) = _
    rw [show 0 + 1 * b.val = b.val by omega]
    exact congrArg₂ (fun r n => OB x0 x1 x2 x3 x4 x5 x6 x7 2 16 128 64 r n b.val) (by omega) (by omega)
  refine strideStep (e := .f32) (g := (plane (OB x0 x1 x2 x3 x4 x5 x6 x7))) (P := 2) (d := 16) (r := 11) (n := 128) _ _ (by decide) (by decide) _ (fun a b => ?_) fun h4 => ?_
  · have ha := a.isLt
    pointwise [k0_pay795]
    show (kernelRun0_A.sl.v3660 (F := Ideal) c i arg3 harg3 arg4 harg4 arg5 harg5 arg6 harg6 arg7 harg7 arg8 harg8 arg9 harg9 arg10 harg10 arg12 arg13 arg14 arg15 arg16 arg17 arg18 x0 x1 x2 x3 x4 x5 x6 x7) (ix2 a b) = _
    refine (ld2 _ (canon_HS6_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => OB x0 x1 x2 x3 x4 x5 x6 x7 2 16 128 64 (a / 128) (a % 128) b) (1408 + 1 * a.val) (0 + 1 * b.val) = OB x0 x1 x2 x3 x4 x5 x6 x7 2 16 128 64 ((11 + 16 * a.val) % 16) ((11 + 16 * a.val) / 16) b.val
    show OB x0 x1 x2 x3 x4 x5 x6 x7 2 16 128 64 _ _ (0 + 1 * b.val) = _
    rw [show 0 + 1 * b.val = b.val by omega]
    exact congrArg₂ (fun r n => OB x0 x1 x2 x3 x4 x5 x6 x7 2 16 128 64 r n b.val) (by omega) (by omega)
  refine strideStep (e := .f32) (g := (plane (OB x0 x1 x2 x3 x4 x5 x6 x7))) (P := 2) (d := 16) (r := 10) (n := 128) _ _ (by decide) (by decide) _ (fun a b => ?_) fun h5 => ?_
  · have ha := a.isLt
    pointwise [k0_pay792]
    show (kernelRun0_A.sl.v3648 (F := Ideal) c i arg3 harg3 arg4 harg4 arg5 harg5 arg6 harg6 arg7 harg7 arg8 harg8 arg9 harg9 arg10 harg10 arg12 arg13 arg14 arg15 arg16 arg17 arg18 x0 x1 x2 x3 x4 x5 x6 x7) (ix2 a b) = _
    refine (ld2 _ (canon_HS6_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => OB x0 x1 x2 x3 x4 x5 x6 x7 2 16 128 64 (a / 128) (a % 128) b) (1280 + 1 * a.val) (0 + 1 * b.val) = OB x0 x1 x2 x3 x4 x5 x6 x7 2 16 128 64 ((10 + 16 * a.val) % 16) ((10 + 16 * a.val) / 16) b.val
    show OB x0 x1 x2 x3 x4 x5 x6 x7 2 16 128 64 _ _ (0 + 1 * b.val) = _
    rw [show 0 + 1 * b.val = b.val by omega]
    exact congrArg₂ (fun r n => OB x0 x1 x2 x3 x4 x5 x6 x7 2 16 128 64 r n b.val) (by omega) (by omega)
  refine strideStep (e := .f32) (g := (plane (OB x0 x1 x2 x3 x4 x5 x6 x7))) (P := 2) (d := 16) (r := 9) (n := 128) _ _ (by decide) (by decide) _ (fun a b => ?_) fun h6 => ?_
  · have ha := a.isLt
    pointwise [k0_pay789]
    show (kernelRun0_A.sl.v3636 (F := Ideal) c i arg3 harg3 arg4 harg4 arg5 harg5 arg6 harg6 arg7 harg7 arg8 harg8 arg9 harg9 arg10 harg10 arg12 arg13 arg14 arg15 arg16 arg17 arg18 x0 x1 x2 x3 x4 x5 x6 x7) (ix2 a b) = _
    refine (ld2 _ (canon_HS6_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => OB x0 x1 x2 x3 x4 x5 x6 x7 2 16 128 64 (a / 128) (a % 128) b) (1152 + 1 * a.val) (0 + 1 * b.val) = OB x0 x1 x2 x3 x4 x5 x6 x7 2 16 128 64 ((9 + 16 * a.val) % 16) ((9 + 16 * a.val) / 16) b.val
    show OB x0 x1 x2 x3 x4 x5 x6 x7 2 16 128 64 _ _ (0 + 1 * b.val) = _
    rw [show 0 + 1 * b.val = b.val by omega]
    exact congrArg₂ (fun r n => OB x0 x1 x2 x3 x4 x5 x6 x7 2 16 128 64 r n b.val) (by omega) (by omega)
  refine strideStep (e := .f32) (g := (plane (OB x0 x1 x2 x3 x4 x5 x6 x7))) (P := 2) (d := 16) (r := 8) (n := 128) _ _ (by decide) (by decide) _ (fun a b => ?_) fun h7 => ?_
  · have ha := a.isLt
    pointwise [k0_pay786]
    show (kernelRun0_A.sl.v3624 (F := Ideal) c i arg3 harg3 arg4 harg4 arg5 harg5 arg6 harg6 arg7 harg7 arg8 harg8 arg9 harg9 arg10 harg10 arg12 arg13 arg14 arg15 arg16 arg17 arg18 x0 x1 x2 x3 x4 x5 x6 x7) (ix2 a b) = _
    refine (ld2 _ (canon_HS6_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => OB x0 x1 x2 x3 x4 x5 x6 x7 2 16 128 64 (a / 128) (a % 128) b) (1024 + 1 * a.val) (0 + 1 * b.val) = OB x0 x1 x2 x3 x4 x5 x6 x7 2 16 128 64 ((8 + 16 * a.val) % 16) ((8 + 16 * a.val) / 16) b.val
    show OB x0 x1 x2 x3 x4 x5 x6 x7 2 16 128 64 _ _ (0 + 1 * b.val) = _
    rw [show 0 + 1 * b.val = b.val by omega]
    exact congrArg₂ (fun r n => OB x0 x1 x2 x3 x4 x5 x6 x7 2 16 128 64 r n b.val) (by omega) (by omega)
  refine strideStep (e := .f32) (g := (plane (OB x0 x1 x2 x3 x4 x5 x6 x7))) (P := 2) (d := 16) (r := 7) (n := 128) _ _ (by decide) (by decide) _ (fun a b => ?_) fun h8 => ?_
  · have ha := a.isLt
    pointwise [k0_pay783]
    show (kernelRun0_A.sl.v3612 (F := Ideal) c i arg3 harg3 arg4 harg4 arg5 harg5 arg6 harg6 arg7 harg7 arg8 harg8 arg9 harg9 arg10 harg10 arg12 arg13 arg14 arg15 arg16 arg17 arg18 x0 x1 x2 x3 x4 x5 x6 x7) (ix2 a b) = _
    refine (ld2 _ (canon_HS6_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => OB x0 x1 x2 x3 x4 x5 x6 x7 2 16 128 64 (a / 128) (a % 128) b) (896 + 1 * a.val) (0 + 1 * b.val) = OB x0 x1 x2 x3 x4 x5 x6 x7 2 16 128 64 ((7 + 16 * a.val) % 16) ((7 + 16 * a.val) / 16) b.val
    show OB x0 x1 x2 x3 x4 x5 x6 x7 2 16 128 64 _ _ (0 + 1 * b.val) = _
    rw [show 0 + 1 * b.val = b.val by omega]
    exact congrArg₂ (fun r n => OB x0 x1 x2 x3 x4 x5 x6 x7 2 16 128 64 r n b.val) (by omega) (by omega)
  refine strideStep (e := .f32) (g := (plane (OB x0 x1 x2 x3 x4 x5 x6 x7))) (P := 2) (d := 16) (r := 6) (n := 128) _ _ (by decide) (by decide) _ (fun a b => ?_) fun h9 => ?_
  · have ha := a.isLt
    pointwise [k0_pay780]
    show (kernelRun0_A.sl.v3600 (F := Ideal) c i arg3 harg3 arg4 harg4 arg5 harg5 arg6 harg6 arg7 harg7 arg8 harg8 arg9 harg9 arg10 harg10 arg12 arg13 arg14 arg15 arg16 arg17 arg18 x0 x1 x2 x3 x4 x5 x6 x7) (ix2 a b) = _
    refine (ld2 _ (canon_HS6_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => OB x0 x1 x2 x3 x4 x5 x6 x7 2 16 128 64 (a / 128) (a % 128) b) (768 + 1 * a.val) (0 + 1 * b.val) = OB x0 x1 x2 x3 x4 x5 x6 x7 2 16 128 64 ((6 + 16 * a.val) % 16) ((6 + 16 * a.val) / 16) b.val
    show OB x0 x1 x2 x3 x4 x5 x6 x7 2 16 128 64 _ _ (0 + 1 * b.val) = _
    rw [show 0 + 1 * b.val = b.val by omega]
    exact congrArg₂ (fun r n => OB x0 x1 x2 x3 x4 x5 x6 x7 2 16 128 64 r n b.val) (by omega) (by omega)
  refine strideStep (e := .f32) (g := (plane (OB x0 x1 x2 x3 x4 x5 x6 x7))) (P := 2) (d := 16) (r := 5) (n := 128) _ _ (by decide) (by decide) _ (fun a b => ?_) fun h10 => ?_
  · have ha := a.isLt
    pointwise [k0_pay777]
    show (kernelRun0_A.sl.v3588 (F := Ideal) c i arg3 harg3 arg4 harg4 arg5 harg5 arg6 harg6 arg7 harg7 arg8 harg8 arg9 harg9 arg10 harg10 arg12 arg13 arg14 arg15 arg16 arg17 arg18 x0 x1 x2 x3 x4 x5 x6 x7) (ix2 a b) = _
    refine (ld2 _ (canon_HS6_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => OB x0 x1 x2 x3 x4 x5 x6 x7 2 16 128 64 (a / 128) (a % 128) b) (640 + 1 * a.val) (0 + 1 * b.val) = OB x0 x1 x2 x3 x4 x5 x6 x7 2 16 128 64 ((5 + 16 * a.val) % 16) ((5 + 16 * a.val) / 16) b.val
    show OB x0 x1 x2 x3 x4 x5 x6 x7 2 16 128 64 _ _ (0 + 1 * b.val) = _
    rw [show 0 + 1 * b.val = b.val by omega]
    exact congrArg₂ (fun r n => OB x0 x1 x2 x3 x4 x5 x6 x7 2 16 128 64 r n b.val) (by omega) (by omega)
  refine strideStep (e := .f32) (g := (plane (OB x0 x1 x2 x3 x4 x5 x6 x7))) (P := 2) (d := 16) (r := 4) (n := 128) _ _ (by decide) (by decide) _ (fun a b => ?_) fun h11 => ?_
  · have ha := a.isLt
    pointwise [k0_pay774]
    show (kernelRun0_A.sl.v3576 (F := Ideal) c i arg3 harg3 arg4 harg4 arg5 harg5 arg6 harg6 arg7 harg7 arg8 harg8 arg9 harg9 arg10 harg10 arg12 arg13 arg14 arg15 arg16 arg17 arg18 x0 x1 x2 x3 x4 x5 x6 x7) (ix2 a b) = _
    refine (ld2 _ (canon_HS6_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => OB x0 x1 x2 x3 x4 x5 x6 x7 2 16 128 64 (a / 128) (a % 128) b) (512 + 1 * a.val) (0 + 1 * b.val) = OB x0 x1 x2 x3 x4 x5 x6 x7 2 16 128 64 ((4 + 16 * a.val) % 16) ((4 + 16 * a.val) / 16) b.val
    show OB x0 x1 x2 x3 x4 x5 x6 x7 2 16 128 64 _ _ (0 + 1 * b.val) = _
    rw [show 0 + 1 * b.val = b.val by omega]
    exact congrArg₂ (fun r n => OB x0 x1 x2 x3 x4 x5 x6 x7 2 16 128 64 r n b.val) (by omega) (by omega)
  refine strideStep (e := .f32) (g := (plane (OB x0 x1 x2 x3 x4 x5 x6 x7))) (P := 2) (d := 16) (r := 3) (n := 128) _ _ (by decide) (by decide) _ (fun a b => ?_) fun h12 => ?_
  · have ha := a.isLt
    pointwise [k0_pay771]
    show (kernelRun0_A.sl.v3564 (F := Ideal) c i arg3 harg3 arg4 harg4 arg5 harg5 arg6 harg6 arg7 harg7 arg8 harg8 arg9 harg9 arg10 harg10 arg12 arg13 arg14 arg15 arg16 arg17 arg18 x0 x1 x2 x3 x4 x5 x6 x7) (ix2 a b) = _
    refine (ld2 _ (canon_HS6_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => OB x0 x1 x2 x3 x4 x5 x6 x7 2 16 128 64 (a / 128) (a % 128) b) (384 + 1 * a.val) (0 + 1 * b.val) = OB x0 x1 x2 x3 x4 x5 x6 x7 2 16 128 64 ((3 + 16 * a.val) % 16) ((3 + 16 * a.val) / 16) b.val
    show OB x0 x1 x2 x3 x4 x5 x6 x7 2 16 128 64 _ _ (0 + 1 * b.val) = _
    rw [show 0 + 1 * b.val = b.val by omega]
    exact congrArg₂ (fun r n => OB x0 x1 x2 x3 x4 x5 x6 x7 2 16 128 64 r n b.val) (by omega) (by omega)
  refine strideStep (e := .f32) (g := (plane (OB x0 x1 x2 x3 x4 x5 x6 x7))) (P := 2) (d := 16) (r := 2) (n := 128) _ _ (by decide) (by decide) _ (fun a b => ?_) fun h13 => ?_
  · have ha := a.isLt
    pointwise [k0_pay768]
    show (kernelRun0_A.sl.v3552 (F := Ideal) c i arg3 harg3 arg4 harg4 arg5 harg5 arg6 harg6 arg7 harg7 arg8 harg8 arg9 harg9 arg10 harg10 arg12 arg13 arg14 arg15 arg16 arg17 arg18 x0 x1 x2 x3 x4 x5 x6 x7) (ix2 a b) = _
    refine (ld2 _ (canon_HS6_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => OB x0 x1 x2 x3 x4 x5 x6 x7 2 16 128 64 (a / 128) (a % 128) b) (256 + 1 * a.val) (0 + 1 * b.val) = OB x0 x1 x2 x3 x4 x5 x6 x7 2 16 128 64 ((2 + 16 * a.val) % 16) ((2 + 16 * a.val) / 16) b.val
    show OB x0 x1 x2 x3 x4 x5 x6 x7 2 16 128 64 _ _ (0 + 1 * b.val) = _
    rw [show 0 + 1 * b.val = b.val by omega]
    exact congrArg₂ (fun r n => OB x0 x1 x2 x3 x4 x5 x6 x7 2 16 128 64 r n b.val) (by omega) (by omega)
  refine strideStep (e := .f32) (g := (plane (OB x0 x1 x2 x3 x4 x5 x6 x7))) (P := 2) (d := 16) (r := 1) (n := 128) _ _ (by decide) (by decide) _ (fun a b => ?_) fun h14 => ?_
  · have ha := a.isLt
    pointwise [k0_pay765]
    show (kernelRun0_A.sl.v3540 (F := Ideal) c i arg3 harg3 arg4 harg4 arg5 harg5 arg6 harg6 arg7 harg7 arg8 harg8 arg9 harg9 arg10 harg10 arg12 arg13 arg14 arg15 arg16 arg17 arg18 x0 x1 x2 x3 x4 x5 x6 x7) (ix2 a b) = _
    refine (ld2 _ (canon_HS6_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => OB x0 x1 x2 x3 x4 x5 x6 x7 2 16 128 64 (a / 128) (a % 128) b) (128 + 1 * a.val) (0 + 1 * b.val) = OB x0 x1 x2 x3 x4 x5 x6 x7 2 16 128 64 ((1 + 16 * a.val) % 16) ((1 + 16 * a.val) / 16) b.val
    show OB x0 x1 x2 x3 x4 x5 x6 x7 2 16 128 64 _ _ (0 + 1 * b.val) = _
    rw [show 0 + 1 * b.val = b.val by omega]
    exact congrArg₂ (fun r n => OB x0 x1 x2 x3 x4 x5 x6 x7 2 16 128 64 r n b.val) (by omega) (by omega)
  refine strideStep (e := .f32) (g := (plane (OB x0 x1 x2 x3 x4 x5 x6 x7))) (P := 2) (d := 16) (r := 0) (n := 128) _ _ (by decide) (by decide) _ (fun a b => ?_) fun h15 => ?_
  · have ha := a.isLt
    pointwise [k0_pay762]
    show (kernelRun0_A.sl.v3528 (F := Ideal) c i arg3 harg3 arg4 harg4 arg5 harg5 arg6 harg6 arg7 harg7 arg8 harg8 arg9 harg9 arg10 harg10 arg12 arg13 arg14 arg15 arg16 arg17 arg18 x0 x1 x2 x3 x4 x5 x6 x7) (ix2 a b) = _
    refine (ld2 _ (canon_HS6_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => OB x0 x1 x2 x3 x4 x5 x6 x7 2 16 128 64 (a / 128) (a % 128) b) (0 + 1 * a.val) (0 + 1 * b.val) = OB x0 x1 x2 x3 x4 x5 x6 x7 2 16 128 64 (16 * a.val % 16) (16 * a.val / 16) b.val
    show OB x0 x1 x2 x3 x4 x5 x6 x7 2 16 128 64 _ _ (0 + 1 * b.val) = _
    rw [show 0 + 1 * b.val = b.val by omega]
    exact congrArg₂ (fun r n => OB x0 x1 x2 x3 x4 x5 x6 x7 2 16 128 64 r n b.val) (by omega) (by omega)
  refine strideStep (e := .f32) (g := (plane (OB x0 x1 x2 x3 x4 x5 x6 x7))) (P := 1) (d := 4) (r := 3) (n := 512) _ _ (by decide) (by decide) _ (fun a b => ?_) fun h16 => ?_
  · have ha := a.isLt
    pointwise [k0_pay495]
    show (kernelRun0_A.sl.v2172 (F := Ideal) c i arg3 harg3 arg4 harg4 arg5 harg5 arg6 harg6 arg7 harg7 arg8 harg8 arg9 harg9 arg10 harg10 arg13 arg16 arg17 arg18 x0 x1 x2 x3 x4 x5 x6 x7) (ix2 a b) = _
    refine (ld2 _ (canon_HS6_16 c i arg3 harg3 arg4 harg4 arg5 harg5 arg6 harg6 arg7 harg7 arg8 harg8 arg9 harg9 arg10 harg10 arg13 arg16 arg17 x0 x1 x2 x3 x4 x5 x6 x7 hi) _ _).trans ?_
    show (fun a b => OB x0 x1 x2 x3 x4 x5 x6 x7 1 4 512 256 (a / 512) (a % 512) b) (1536 + 1 * a.val) (0 + 1 * b.val) = OB x0 x1 x2 x3 x4 x5 x6 x7 1 4 512 256 ((3 + 4 * a.val) % 4) ((3 + 4 * a.val) / 4) b.val
    show OB x0 x1 x2 x3 x4 x5 x6 x7 1 4 512 256 _ _ (0 + 1 * b.val) = _
    rw [show 0 + 1 * b.val = b.val by omega]
    exact congrArg₂ (fun r n => OB x0 x1 x2 x3 x4 x5 x6 x7 1 4 512 256 r n b.val) (by omega) (by omega)
  refine strideStep (e := .f32) (g := (plane (OB x0 x1 x2 x3 x4 x5 x6 x7))) (P := 1) (d := 4) (r := 2) (n := 512) _ _ (by decide) (by decide) _ (fun a b => ?_) fun h17 => ?_
  · have ha := a.isLt
    pointwise [k0_pay492]
    show (kernelRun0_A.sl.v2160 (F := Ideal) c i arg3 harg3 arg4 harg4 arg5 harg5 arg6 harg6 arg7 harg7 arg8 harg8 arg9 harg9 arg10 harg10 arg13 arg16 arg17 arg18 x0 x1 x2 x3 x4 x5 x6 x7) (ix2 a b) = _
    refine (ld2 _ (canon_HS6_16 c i arg3 harg3 arg4 harg4 arg5 harg5 arg6 harg6 arg7 harg7 arg8 harg8 arg9 harg9 arg10 harg10 arg13 arg16 arg17 x0 x1 x2 x3 x4 x5 x6 x7 hi) _ _).trans ?_
    show (fun a b => OB x0 x1 x2 x3 x4 x5 x6 x7 1 4 512 256 (a / 512) (a % 512) b) (1024 + 1 * a.val) (0 + 1 * b.val) = OB x0 x1 x2 x3 x4 x5 x6 x7 1 4 512 256 ((2 + 4 * a.val) % 4) ((2 + 4 * a.val) / 4) b.val
    show OB x0 x1 x2 x3 x4 x5 x6 x7 1 4 512 256 _ _ (0 + 1 * b.val) = _
    rw [show 0 + 1 * b.val = b.val by omega]
    exact congrArg₂ (fun r n => OB x0 x1 x2 x3 x4 x5 x6 x7 1 4 512 256 r n b.val) (by omega) (by omega)
  refine strideStep (e := .f32) (g := (plane (OB x0 x1 x2 x3 x4 x5 x6 x7))) (P := 1) (d := 4) (r := 1) (n := 512) _ _ (by decide) (by decide) _ (fun a b => ?_) fun h18 => ?_
  · have ha := a.isLt
    pointwise [kernelRun0_A.sl.v2151]
    show (kernelRun0_A.sl.v2148 (F := Ideal) c i arg3 harg3 arg4 harg4 arg5 harg5 arg6 harg6 arg7 harg7 arg8 harg8 arg9 harg9 arg10 harg10 arg13 arg16 arg17 arg18 x0 x1 x2 x3 x4 x5 x6 x7) (ix2 a b) = _
    refine (ld2 _ (canon_HS6_16 c i arg3 harg3 arg4 harg4 arg5 harg5 arg6 harg6 arg7 harg7 arg8 harg8 arg9 harg9 arg10 harg10 arg13 arg16 arg17 x0 x1 x2 x3 x4 x5 x6 x7 hi) _ _).trans ?_
    show (fun a b => OB x0 x1 x2 x3 x4 x5 x6 x7 1 4 512 256 (a / 512) (a % 512) b) (512 + 1 * a.val) (0 + 1 * b.val) = OB x0 x1 x2 x3 x4 x5 x6 x7 1 4 512 256 ((1 + 4 * a.val) % 4) ((1 + 4 * a.val) / 4) b.val
    show OB x0 x1 x2 x3 x4 x5 x6 x7 1 4 512 256 _ _ (0 + 1 * b.val) = _
    rw [show 0 + 1 * b.val = b.val by omega]
    exact congrArg₂ (fun r n => OB x0 x1 x2 x3 x4 x5 x6 x7 1 4 512 256 r n b.val) (by omega) (by omega)
  refine strideStep (e := .f32) (g := (plane (OB x0 x1 x2 x3 x4 x5 x6 x7))) (P := 1) (d := 4) (r := 0) (n := 512) _ _ (by decide) (by decide) _ (fun a b => ?_) fun h19 => ?_
  · have ha := a.isLt
    pointwise [kernelRun0_A.sl.v2139]
    show (kernelRun0_A.sl.v2136 (F := Ideal) c i arg3 harg3 arg4 harg4 arg5 harg5 arg6 harg6 arg7 harg7 arg8 harg8 arg9 harg9 arg10 harg10 arg13 arg16 arg17 arg18 x0 x1 x2 x3 x4 x5 x6 x7) (ix2 a b) = _
    refine (ld2 _ (canon_HS6_16 c i arg3 harg3 arg4 harg4 arg5 harg5 arg6 harg6 arg7 harg7 arg8 harg8 arg9 harg9 arg10 harg10 arg13 arg16 arg17 x0 x1 x2 x3 x4 x5 x6 x7 hi) _ _).trans ?_
    show (fun a b => OB x0 x1 x2 x3 x4 x5 x6 x7 1 4 512 256 (a / 512) (a % 512) b) (0 + 1 * a.val) (0 + 1 * b.val) = OB x0 x1 x2 x3 x4 x5 x6 x7 1 4 512 256 (4 * a.val % 4) (4 * a.val / 4) b.val
    show OB x0 x1 x2 x3 x4 x5 x6 x7 1 4 512 256 _ _ (0 + 1 * b.val) = _
    rw [show 0 + 1 * b.val = b.val by omega]
    exact congrArg₂ (fun r n => OB x0 x1 x2 x3 x4 x5 x6 x7 1 4 512 256 r n b.val) (by omega) (by omega)
  refine planeStep (e := .f32) (g := (plane (OB x0 x1 x2 x3 x4 x5 x6 x7))) (P := 0) (off := 1920) (n := 128) _ _ (fun a b => ?_) fun h20 => ?_
  · refine (Ctx.oE3 (ctx_15 c arg3 harg3 arg4 harg4 arg5 harg5 arg6 harg6 arg7 harg7 arg8 harg8 arg9 harg9 arg10 harg10 arg12 arg16 arg17 x0 x1 x2 x3 x4 x5 x6 x7) (lt := 2048) 2048#32 hi (by decide) (by decide) rfl ?_)
    have ha := a.isLt
    show OB x0 x1 x2 x3 x4 x5 x6 x7 0 1 2048 1024 0 (15 * 128 + a.val) b.val = OB x0 x1 x2 x3 x4 x5 x6 x7 0 1 2048 1024 0 (1920 + a.val) b.val
    exact congrArg (fun n => OB x0 x1 x2 x3 x4 x5 x6 x7 0 1 2048 1024 0 n b.val) (by omega)
  refine planeStep (e := .f32) (g := (plane (OB x0 x1 x2 x3 x4 x5 x6 x7))) (P := 0) (off := 1792) (n := 128) _ _ (fun a b => ?_) fun h21 => ?_
  · refine (Ctx.oN3 (ctx_14 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show OB x0 x1 x2 x3 x4 x5 x6 x7 0 1 2048 1024 0 (14 * 128 + a.val) b.val = OB x0 x1 x2 x3 x4 x5 x6 x7 0 1 2048 1024 0 (1792 + a.val) b.val
    exact congrArg (fun n => OB x0 x1 x2 x3 x4 x5 x6 x7 0 1 2048 1024 0 n b.val) (by omega)
  refine planeStep (e := .f32) (g := (plane (OB x0 x1 x2 x3 x4 x5 x6 x7))) (P := 0) (off := 1664) (n := 128) _ _ (fun a b => ?_) fun h22 => ?_
  · refine (Ctx.oN3 (ctx_13 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show OB x0 x1 x2 x3 x4 x5 x6 x7 0 1 2048 1024 0 (13 * 128 + a.val) b.val = OB x0 x1 x2 x3 x4 x5 x6 x7 0 1 2048 1024 0 (1664 + a.val) b.val
    exact congrArg (fun n => OB x0 x1 x2 x3 x4 x5 x6 x7 0 1 2048 1024 0 n b.val) (by omega)
  refine planeStep (e := .f32) (g := (plane (OB x0 x1 x2 x3 x4 x5 x6 x7))) (P := 0) (off := 1536) (n := 128) _ _ (fun a b => ?_) fun h23 => ?_
  · refine (Ctx.oN3 (ctx_12 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show OB x0 x1 x2 x3 x4 x5 x6 x7 0 1 2048 1024 0 (12 * 128 + a.val) b.val = OB x0 x1 x2 x3 x4 x5 x6 x7 0 1 2048 1024 0 (1536 + a.val) b.val
    exact congrArg (fun n => OB x0 x1 x2 x3 x4 x5 x6 x7 0 1 2048 1024 0 n b.val) (by omega)
  refine planeStep (e := .f32) (g := (plane (OB x0 x1 x2 x3 x4 x5 x6 x7))) (P := 0) (off := 1408) (n := 128) _ _ (fun a b => ?_) fun h24 => ?_
  · refine (Ctx.oN3 (ctx_11 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show OB x0 x1 x2 x3 x4 x5 x6 x7 0 1 2048 1024 0 (11 * 128 + a.val) b.val = OB x0 x1 x2 x3 x4 x5 x6 x7 0 1 2048 1024 0 (1408 + a.val) b.val
    exact congrArg (fun n => OB x0 x1 x2 x3 x4 x5 x6 x7 0 1 2048 1024 0 n b.val) (by omega)
  refine planeStep (e := .f32) (g := (plane (OB x0 x1 x2 x3 x4 x5 x6 x7))) (P := 0) (off := 1280) (n := 128) _ _ (fun a b => ?_) fun h25 => ?_
  · refine (Ctx.oN3 (ctx_10 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show OB x0 x1 x2 x3 x4 x5 x6 x7 0 1 2048 1024 0 (10 * 128 + a.val) b.val = OB x0 x1 x2 x3 x4 x5 x6 x7 0 1 2048 1024 0 (1280 + a.val) b.val
    exact congrArg (fun n => OB x0 x1 x2 x3 x4 x5 x6 x7 0 1 2048 1024 0 n b.val) (by omega)
  refine planeStep (e := .f32) (g := (plane (OB x0 x1 x2 x3 x4 x5 x6 x7))) (P := 0) (off := 1152) (n := 128) _ _ (fun a b => ?_) fun h26 => ?_
  · refine (Ctx.oN3 (ctx_9 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show OB x0 x1 x2 x3 x4 x5 x6 x7 0 1 2048 1024 0 (9 * 128 + a.val) b.val = OB x0 x1 x2 x3 x4 x5 x6 x7 0 1 2048 1024 0 (1152 + a.val) b.val
    exact congrArg (fun n => OB x0 x1 x2 x3 x4 x5 x6 x7 0 1 2048 1024 0 n b.val) (by omega)
  refine planeStep (e := .f32) (g := (plane (OB x0 x1 x2 x3 x4 x5 x6 x7))) (P := 0) (off := 1024) (n := 128) _ _ (fun a b => ?_) fun h27 => ?_
  · refine (Ctx.oN3 (ctx_8 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show OB x0 x1 x2 x3 x4 x5 x6 x7 0 1 2048 1024 0 (8 * 128 + a.val) b.val = OB x0 x1 x2 x3 x4 x5 x6 x7 0 1 2048 1024 0 (1024 + a.val) b.val
    exact congrArg (fun n => OB x0 x1 x2 x3 x4 x5 x6 x7 0 1 2048 1024 0 n b.val) (by omega)
  refine planeStep (e := .f32) (g := (plane (OB x0 x1 x2 x3 x4 x5 x6 x7))) (P := 0) (off := 896) (n := 128) _ _ (fun a b => ?_) fun h28 => ?_
  · refine (Ctx.oN3 (ctx_7 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show OB x0 x1 x2 x3 x4 x5 x6 x7 0 1 2048 1024 0 (7 * 128 + a.val) b.val = OB x0 x1 x2 x3 x4 x5 x6 x7 0 1 2048 1024 0 (896 + a.val) b.val
    exact congrArg (fun n => OB x0 x1 x2 x3 x4 x5 x6 x7 0 1 2048 1024 0 n b.val) (by omega)
  refine planeStep (e := .f32) (g := (plane (OB x0 x1 x2 x3 x4 x5 x6 x7))) (P := 0) (off := 768) (n := 128) _ _ (fun a b => ?_) fun h29 => ?_
  · refine (Ctx.oN3 (ctx_6 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show OB x0 x1 x2 x3 x4 x5 x6 x7 0 1 2048 1024 0 (6 * 128 + a.val) b.val = OB x0 x1 x2 x3 x4 x5 x6 x7 0 1 2048 1024 0 (768 + a.val) b.val
    exact congrArg (fun n => OB x0 x1 x2 x3 x4 x5 x6 x7 0 1 2048 1024 0 n b.val) (by omega)
  refine planeStep (e := .f32) (g := (plane (OB x0 x1 x2 x3 x4 x5 x6 x7))) (P := 0) (off := 640) (n := 128) _ _ (fun a b => ?_) fun h30 => ?_
  · refine (Ctx.oN3 (ctx_5 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show OB x0 x1 x2 x3 x4 x5 x6 x7 0 1 2048 1024 0 (5 * 128 + a.val) b.val = OB x0 x1 x2 x3 x4 x5 x6 x7 0 1 2048 1024 0 (640 + a.val) b.val
    exact congrArg (fun n => OB x0 x1 x2 x3 x4 x5 x6 x7 0 1 2048 1024 0 n b.val) (by omega)
  refine planeStep (e := .f32) (g := (plane (OB x0 x1 x2 x3 x4 x5 x6 x7))) (P := 0) (off := 512) (n := 128) _ _ (fun a b => ?_) fun h31 => ?_
  · refine (Ctx.oN3 (ctx_4 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show OB x0 x1 x2 x3 x4 x5 x6 x7 0 1 2048 1024 0 (4 * 128 + a.val) b.val = OB x0 x1 x2 x3 x4 x5 x6 x7 0 1 2048 1024 0 (512 + a.val) b.val
    exact congrArg (fun n => OB x0 x1 x2 x3 x4 x5 x6 x7 0 1 2048 1024 0 n b.val) (by omega)
  refine planeStep (e := .f32) (g := (plane (OB x0 x1 x2 x3 x4 x5 x6 x7))) (P := 0) (off := 384) (n := 128) _ _ (fun a b => ?_) fun h32 => ?_
  · refine (Ctx.oN3 (ctx_3 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show OB x0 x1 x2 x3 x4 x5 x6 x7 0 1 2048 1024 0 (3 * 128 + a.val) b.val = OB x0 x1 x2 x3 x4 x5 x6 x7 0 1 2048 1024 0 (384 + a.val) b.val
    exact congrArg (fun n => OB x0 x1 x2 x3 x4 x5 x6 x7 0 1 2048 1024 0 n b.val) (by omega)
  refine planeStep (e := .f32) (g := (plane (OB x0 x1 x2 x3 x4 x5 x6 x7))) (P := 0) (off := 256) (n := 128) _ _ (fun a b => ?_) fun h33 => ?_
  · refine (Ctx.oN3 (ctx_2 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show OB x0 x1 x2 x3 x4 x5 x6 x7 0 1 2048 1024 0 (2 * 128 + a.val) b.val = OB x0 x1 x2 x3 x4 x5 x6 x7 0 1 2048 1024 0 (256 + a.val) b.val
    exact congrArg (fun n => OB x0 x1 x2 x3 x4 x5 x6 x7 0 1 2048 1024 0 n b.val) (by omega)
  refine planeStep (e := .f32) (g := (plane (OB x0 x1 x2 x3 x4 x5 x6 x7))) (P := 0) (off := 128) (n := 128) _ _ (fun a b => ?_) fun h34 => ?_
  · refine (Ctx.oN3 (ctx_1 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show OB x0 x1 x2 x3 x4 x5 x6 x7 0 1 2048 1024 0 (1 * 128 + a.val) b.val = OB x0 x1 x2 x3 x4 x5 x6 x7 0 1 2048 1024 0 (128 + a.val) b.val
    exact congrArg (fun n => OB x0 x1 x2 x3 x4 x5 x6 x7 0 1 2048 1024 0 n b.val) (by omega)
  refine planeStep (e := .f32) (g := (plane (OB x0 x1 x2 x3 x4 x5 x6 x7))) (P := 0) (off := 0) (n := 128) _ _ (fun a b => ?_) fun h35 => ?_
  · refine (Ctx.oE3 (ctx_0 c arg3 harg3 arg4 harg4 arg5 harg5 arg6 harg6 arg7 harg7 arg8 harg8 arg9 harg9 arg10 harg10 arg12 arg16 arg17 x0 x1 x2 x3 x4 x5 x6 x7) (lt := 2048) 2048#32 hi (by decide) (by decide) rfl ?_)
    have ha := a.isLt
    show OB x0 x1 x2 x3 x4 x5 x6 x7 0 1 2048 1024 0 (0 * 128 + a.val) b.val = OB x0 x1 x2 x3 x4 x5 x6 x7 0 1 2048 1024 0 (0 + a.val) b.val
    exact congrArg (fun n => OB x0 x1 x2 x3 x4 x5 x6 x7 0 1 2048 1024 0 n b.val) (by omega)
  exfalso
  obtain hz | hz | hz : (y 0).val = 0 ∨ (y 0).val = 1 ∨ (y 0).val = 2 := by
    clear * - hy0
    omega
  · exact cover0 hz hy h20 h21 h22 h23 h24 h25 h26 h27 h28 h29 h30 h31 h32 h33 h34 h35
  · exact cover1 hz h16 h17 h18 h19
  · exact cover2 hz h0 h1 h2 h3 h4 h5 h6 h7 h8 h9 h10 h11 h12 h13 h14 h15

end Cert.AttnIdeal.Att

end
-- ==== Proof.AttPlM.lean ====
/-
  The largest scores of all three dilations, position by position.
-/
module

public import proofs.«01_k».proof.Proof.AttPay
public import proofs.«01_k».proof.Proof.AttCtx0
public import proofs.«01_k».proof.Proof.AttRows1
public import proofs.«01_k».proof.Proof.AttRows2

@[expose] public section

set_option maxRecDepth 16384

noncomputable section

namespace Cert.AttnIdeal.Att

open Cert.AttnIdeal Cert.AttnIdeal.Gen Idealize.ShloMosaic Idealize.ShloMosaic.TcCoe Idealize.SL.Sem
open Idealize.ShloMosaic.Pointwise
open scoped BigOperators

set_option maxHeartbeats 1000000

/-- The largest scores as the kernel holds them at its end. -/
theorem canon_HS10_36 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg12 : Memref sig .tc .vmem S2048x128 .f32) (arg13 : Memref sig .tc .vmem S2048x128 .f32) (arg14 : Memref sig .tc .vmem S4096x128 .f32) (arg15 : Memref sig .tc .vmem S4096x128 .f32) (arg16 : Memref sig .tc .vmem S4096x128 .bf16) (arg17 : Memref sig .tc .vmem S4096x128 .bf16) (arg19 : Memref sig .tc .vmem S2048x128 .f32) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) (hi : (i 1).val = 0) :
    View.canon (kernelRun0_A.sl.HS10_36 (F := Ideal) c i arg3 harg3 arg4 harg4 arg5 harg5 arg6 harg6 arg10 harg10 arg12 arg13 arg14 arg16 arg19 x0 x1 x2 x3 x7) = fun y => (plane (MB x0 x1 x2 x3 x7)) (y 0).val (y 1).val (y 2).val := by
  funext y
  have hy0 : (y 0).val < 3 := (y 0).isLt
  have hy : (y 1).val < 2048 := (y 1).isLt
  unfold kernelRun0_A.sl.HS10_36 kernelRun0_A.sl.HS10_17
  refine strideStep (e := .f32) (g := (plane (MB x0 x1 x2 x3 x7))) (P := 2) (d := 16) (r := 15) (n := 128) _ _ (by decide) (by decide) _ (fun a b => ?_) fun h0 => ?_
  · have ha := a.isLt
    pointwise [k0_pay808]
    show (kernelRun0_A.sl.v3712 (F := Ideal) c i arg3 harg3 arg4 harg4 arg5 harg5 arg6 harg6 arg10 harg10 arg12 arg13 arg14 arg16 arg19 x0 x1 x2 x3 x7) (ix2 a b) = _
    refine (ld2 _ (canon_HS7_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => MB x0 x1 x2 x3 x7 2 16 128 64 (a / 128) (a % 128) b) (1920 + 1 * a.val) (0 + 1 * b.val) = MB x0 x1 x2 x3 x7 2 16 128 64 ((15 + 16 * a.val) % 16) ((15 + 16 * a.val) / 16) b.val
    show MB x0 x1 x2 x3 x7 2 16 128 64 _ _ (0 + 1 * b.val) = _
    rw [show 0 + 1 * b.val = b.val by omega]
    exact congrArg₂ (fun r n => MB x0 x1 x2 x3 x7 2 16 128 64 r n b.val) (by omega) (by omega)
  refine strideStep (e := .f32) (g := (plane (MB x0 x1 x2 x3 x7))) (P := 2) (d := 16) (r := 14) (n := 128) _ _ (by decide) (by decide) _ (fun a b => ?_) fun h1 => ?_
  · have ha := a.isLt
    pointwise [k0_pay805]
    show (kernelRun0_A.sl.v3700 (F := Ideal) c i arg3 harg3 arg4 harg4 arg5 harg5 arg6 harg6 arg10 harg10 arg12 arg13 arg14 arg16 arg19 x0 x1 x2 x3 x7) (ix2 a b) = _
    refine (ld2 _ (canon_HS7_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => MB x0 x1 x2 x3 x7 2 16 128 64 (a / 128) (a % 128) b) (1792 + 1 * a.val) (0 + 1 * b.val) = MB x0 x1 x2 x3 x7 2 16 128 64 ((14 + 16 * a.val) % 16) ((14 + 16 * a.val) / 16) b.val
    show MB x0 x1 x2 x3 x7 2 16 128 64 _ _ (0 + 1 * b.val) = _
    rw [show 0 + 1 * b.val = b.val by omega]
    exact congrArg₂ (fun r n => MB x0 x1 x2 x3 x7 2 16 128 64 r n b.val) (by omega) (by omega)
  refine strideStep (e := .f32) (g := (plane (MB x0 x1 x2 x3 x7))) (P := 2) (d := 16) (r := 13) (n := 128) _ _ (by decide) (by decide) _ (fun a b => ?_) fun h2 => ?_
  · have ha := a.isLt
    pointwise [k0_pay802]
    show (kernelRun0_A.sl.v3688 (F := Ideal) c i arg3 harg3 arg4 harg4 arg5 harg5 arg6 harg6 arg10 harg10 arg12 arg13 arg14 arg16 arg19 x0 x1 x2 x3 x7) (ix2 a b) = _
    refine (ld2 _ (canon_HS7_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => MB x0 x1 x2 x3 x7 2 16 128 64 (a / 128) (a % 128) b) (1664 + 1 * a.val) (0 + 1 * b.val) = MB x0 x1 x2 x3 x7 2 16 128 64 ((13 + 16 * a.val) % 16) ((13 + 16 * a.val) / 16) b.val
    show MB x0 x1 x2 x3 x7 2 16 128 64 _ _ (0 + 1 * b.val) = _
    rw [show 0 + 1 * b.val = b.val by omega]
    exact congrArg₂ (fun r n => MB x0 x1 x2 x3 x7 2 16 128 64 r n b.val) (by omega) (by omega)
  refine strideStep (e := .f32) (g := (plane (MB x0 x1 x2 x3 x7))) (P := 2) (d := 16) (r := 12) (n := 128) _ _ (by decide) (by decide) _ (fun a b => ?_) fun h3 => ?_
  · have ha := a.isLt
    pointwise [k0_pay799]
    show (kernelRun0_A.sl.v3676 (F := Ideal) c i arg3 harg3 arg4 harg4 arg5 harg5 arg6 harg6 arg10 harg10 arg12 arg13 arg14 arg16 arg19 x0 x1 x2 x3 x7) (ix2 a b) = _
    refine (ld2 _ (canon_HS7_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => MB x0 x1 x2 x3 x7 2 16 128 64 (a / 128) (a % 128) b) (1536 + 1 * a.val) (0 + 1 * b.val) = MB x0 x1 x2 x3 x7 2 16 128 64 ((12 + 16 * a.val) % 16) ((12 + 16 * a.val) / 16) b.val
    show MB x0 x1 x2 x3 x7 2 16 128 64 _ _ (0 + 1 * b.val) = _
    rw [show 0 + 1 * b.val = b.val by omega]
    exact congrArg₂ (fun r n => MB x0 x1 x2 x3 x7 2 16 128 64 r n b.val) (by omega) (by omega)
  refine strideStep (e := .f32) (g := (plane (MB x0 x1 x2 x3 x7))) (P := 2) (d := 16) (r := 11) (n := 128) _ _ (by decide) (by decide) _ (fun a b => ?_) fun h4 => ?_
  · have ha := a.isLt
    pointwise [k0_pay796]
    show (kernelRun0_A.sl.v3664 (F := Ideal) c i arg3 harg3 arg4 harg4 arg5 harg5 arg6 harg6 arg10 harg10 arg12 arg13 arg14 arg16 arg19 x0 x1 x2 x3 x7) (ix2 a b) = _
    refine (ld2 _ (canon_HS7_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => MB x0 x1 x2 x3 x7 2 16 128 64 (a / 128) (a % 128) b) (1408 + 1 * a.val) (0 + 1 * b.val) = MB x0 x1 x2 x3 x7 2 16 128 64 ((11 + 16 * a.val) % 16) ((11 + 16 * a.val) / 16) b.val
    show MB x0 x1 x2 x3 x7 2 16 128 64 _ _ (0 + 1 * b.val) = _
    rw [show 0 + 1 * b.val = b.val by omega]
    exact congrArg₂ (fun r n => MB x0 x1 x2 x3 x7 2 16 128 64 r n b.val) (by omega) (by omega)
  refine strideStep (e := .f32) (g := (plane (MB x0 x1 x2 x3 x7))) (P := 2) (d := 16) (r := 10) (n := 128) _ _ (by decide) (by decide) _ (fun a b => ?_) fun h5 => ?_
  · have ha := a.isLt
    pointwise [k0_pay793]
    show (kernelRun0_A.sl.v3652 (F := Ideal) c i arg3 harg3 arg4 harg4 arg5 harg5 arg6 harg6 arg10 harg10 arg12 arg13 arg14 arg16 arg19 x0 x1 x2 x3 x7) (ix2 a b) = _
    refine (ld2 _ (canon_HS7_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => MB x0 x1 x2 x3 x7 2 16 128 64 (a / 128) (a % 128) b) (1280 + 1 * a.val) (0 + 1 * b.val) = MB x0 x1 x2 x3 x7 2 16 128 64 ((10 + 16 * a.val) % 16) ((10 + 16 * a.val) / 16) b.val
    show MB x0 x1 x2 x3 x7 2 16 128 64 _ _ (0 + 1 * b.val) = _
    rw [show 0 + 1 * b.val = b.val by omega]
    exact congrArg₂ (fun r n => MB x0 x1 x2 x3 x7 2 16 128 64 r n b.val) (by omega) (by omega)
  refine strideStep (e := .f32) (g := (plane (MB x0 x1 x2 x3 x7))) (P := 2) (d := 16) (r := 9) (n := 128) _ _ (by decide) (by decide) _ (fun a b => ?_) fun h6 => ?_
  · have ha := a.isLt
    pointwise [k0_pay790]
    show (kernelRun0_A.sl.v3640 (F := Ideal) c i arg3 harg3 arg4 harg4 arg5 harg5 arg6 harg6 arg10 harg10 arg12 arg13 arg14 arg16 arg19 x0 x1 x2 x3 x7) (ix2 a b) = _
    refine (ld2 _ (canon_HS7_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => MB x0 x1 x2 x3 x7 2 16 128 64 (a / 128) (a % 128) b) (1152 + 1 * a.val) (0 + 1 * b.val) = MB x0 x1 x2 x3 x7 2 16 128 64 ((9 + 16 * a.val) % 16) ((9 + 16 * a.val) / 16) b.val
    show MB x0 x1 x2 x3 x7 2 16 128 64 _ _ (0 + 1 * b.val) = _
    rw [show 0 + 1 * b.val = b.val by omega]
    exact congrArg₂ (fun r n => MB x0 x1 x2 x3 x7 2 16 128 64 r n b.val) (by omega) (by omega)
  refine strideStep (e := .f32) (g := (plane (MB x0 x1 x2 x3 x7))) (P := 2) (d := 16) (r := 8) (n := 128) _ _ (by decide) (by decide) _ (fun a b => ?_) fun h7 => ?_
  · have ha := a.isLt
    pointwise [k0_pay787]
    show (kernelRun0_A.sl.v3628 (F := Ideal) c i arg3 harg3 arg4 harg4 arg5 harg5 arg6 harg6 arg10 harg10 arg12 arg13 arg14 arg16 arg19 x0 x1 x2 x3 x7) (ix2 a b) = _
    refine (ld2 _ (canon_HS7_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => MB x0 x1 x2 x3 x7 2 16 128 64 (a / 128) (a % 128) b) (1024 + 1 * a.val) (0 + 1 * b.val) = MB x0 x1 x2 x3 x7 2 16 128 64 ((8 + 16 * a.val) % 16) ((8 + 16 * a.val) / 16) b.val
    show MB x0 x1 x2 x3 x7 2 16 128 64 _ _ (0 + 1 * b.val) = _
    rw [show 0 + 1 * b.val = b.val by omega]
    exact congrArg₂ (fun r n => MB x0 x1 x2 x3 x7 2 16 128 64 r n b.val) (by omega) (by omega)
  refine strideStep (e := .f32) (g := (plane (MB x0 x1 x2 x3 x7))) (P := 2) (d := 16) (r := 7) (n := 128) _ _ (by decide) (by decide) _ (fun a b => ?_) fun h8 => ?_
  · have ha := a.isLt
    pointwise [k0_pay784]
    show (kernelRun0_A.sl.v3616 (F := Ideal) c i arg3 harg3 arg4 harg4 arg5 harg5 arg6 harg6 arg10 harg10 arg12 arg13 arg14 arg16 arg19 x0 x1 x2 x3 x7) (ix2 a b) = _
    refine (ld2 _ (canon_HS7_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => MB x0 x1 x2 x3 x7 2 16 128 64 (a / 128) (a % 128) b) (896 + 1 * a.val) (0 + 1 * b.val) = MB x0 x1 x2 x3 x7 2 16 128 64 ((7 + 16 * a.val) % 16) ((7 + 16 * a.val) / 16) b.val
    show MB x0 x1 x2 x3 x7 2 16 128 64 _ _ (0 + 1 * b.val) = _
    rw [show 0 + 1 * b.val = b.val by omega]
    exact congrArg₂ (fun r n => MB x0 x1 x2 x3 x7 2 16 128 64 r n b.val) (by omega) (by omega)
  refine strideStep (e := .f32) (g := (plane (MB x0 x1 x2 x3 x7))) (P := 2) (d := 16) (r := 6) (n := 128) _ _ (by decide) (by decide) _ (fun a b => ?_) fun h9 => ?_
  · have ha := a.isLt
    pointwise [k0_pay781]
    show (kernelRun0_A.sl.v3604 (F := Ideal) c i arg3 harg3 arg4 harg4 arg5 harg5 arg6 harg6 arg10 harg10 arg12 arg13 arg14 arg16 arg19 x0 x1 x2 x3 x7) (ix2 a b) = _
    refine (ld2 _ (canon_HS7_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => MB x0 x1 x2 x3 x7 2 16 128 64 (a / 128) (a % 128) b) (768 + 1 * a.val) (0 + 1 * b.val) = MB x0 x1 x2 x3 x7 2 16 128 64 ((6 + 16 * a.val) % 16) ((6 + 16 * a.val) / 16) b.val
    show MB x0 x1 x2 x3 x7 2 16 128 64 _ _ (0 + 1 * b.val) = _
    rw [show 0 + 1 * b.val = b.val by omega]
    exact congrArg₂ (fun r n => MB x0 x1 x2 x3 x7 2 16 128 64 r n b.val) (by omega) (by omega)
  refine strideStep (e := .f32) (g := (plane (MB x0 x1 x2 x3 x7))) (P := 2) (d := 16) (r := 5) (n := 128) _ _ (by decide) (by decide) _ (fun a b => ?_) fun h10 => ?_
  · have ha := a.isLt
    pointwise [k0_pay778]
    show (kernelRun0_A.sl.v3592 (F := Ideal) c i arg3 harg3 arg4 harg4 arg5 harg5 arg6 harg6 arg10 harg10 arg12 arg13 arg14 arg16 arg19 x0 x1 x2 x3 x7) (ix2 a b) = _
    refine (ld2 _ (canon_HS7_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => MB x0 x1 x2 x3 x7 2 16 128 64 (a / 128) (a % 128) b) (640 + 1 * a.val) (0 + 1 * b.val) = MB x0 x1 x2 x3 x7 2 16 128 64 ((5 + 16 * a.val) % 16) ((5 + 16 * a.val) / 16) b.val
    show MB x0 x1 x2 x3 x7 2 16 128 64 _ _ (0 + 1 * b.val) = _
    rw [show 0 + 1 * b.val = b.val by omega]
    exact congrArg₂ (fun r n => MB x0 x1 x2 x3 x7 2 16 128 64 r n b.val) (by omega) (by omega)
  refine strideStep (e := .f32) (g := (plane (MB x0 x1 x2 x3 x7))) (P := 2) (d := 16) (r := 4) (n := 128) _ _ (by decide) (by decide) _ (fun a b => ?_) fun h11 => ?_
  · have ha := a.isLt
    pointwise [k0_pay775]
    show (kernelRun0_A.sl.v3580 (F := Ideal) c i arg3 harg3 arg4 harg4 arg5 harg5 arg6 harg6 arg10 harg10 arg12 arg13 arg14 arg16 arg19 x0 x1 x2 x3 x7) (ix2 a b) = _
    refine (ld2 _ (canon_HS7_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => MB x0 x1 x2 x3 x7 2 16 128 64 (a / 128) (a % 128) b) (512 + 1 * a.val) (0 + 1 * b.val) = MB x0 x1 x2 x3 x7 2 16 128 64 ((4 + 16 * a.val) % 16) ((4 + 16 * a.val) / 16) b.val
    show MB x0 x1 x2 x3 x7 2 16 128 64 _ _ (0 + 1 * b.val) = _
    rw [show 0 + 1 * b.val = b.val by omega]
    exact congrArg₂ (fun r n => MB x0 x1 x2 x3 x7 2 16 128 64 r n b.val) (by omega) (by omega)
  refine strideStep (e := .f32) (g := (plane (MB x0 x1 x2 x3 x7))) (P := 2) (d := 16) (r := 3) (n := 128) _ _ (by decide) (by decide) _ (fun a b => ?_) fun h12 => ?_
  · have ha := a.isLt
    pointwise [k0_pay772]
    show (kernelRun0_A.sl.v3568 (F := Ideal) c i arg3 harg3 arg4 harg4 arg5 harg5 arg6 harg6 arg10 harg10 arg12 arg13 arg14 arg16 arg19 x0 x1 x2 x3 x7) (ix2 a b) = _
    refine (ld2 _ (canon_HS7_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => MB x0 x1 x2 x3 x7 2 16 128 64 (a / 128) (a % 128) b) (384 + 1 * a.val) (0 + 1 * b.val) = MB x0 x1 x2 x3 x7 2 16 128 64 ((3 + 16 * a.val) % 16) ((3 + 16 * a.val) / 16) b.val
    show MB x0 x1 x2 x3 x7 2 16 128 64 _ _ (0 + 1 * b.val) = _
    rw [show 0 + 1 * b.val = b.val by omega]
    exact congrArg₂ (fun r n => MB x0 x1 x2 x3 x7 2 16 128 64 r n b.val) (by omega) (by omega)
  refine strideStep (e := .f32) (g := (plane (MB x0 x1 x2 x3 x7))) (P := 2) (d := 16) (r := 2) (n := 128) _ _ (by decide) (by decide) _ (fun a b => ?_) fun h13 => ?_
  · have ha := a.isLt
    pointwise [k0_pay769]
    show (kernelRun0_A.sl.v3556 (F := Ideal) c i arg3 harg3 arg4 harg4 arg5 harg5 arg6 harg6 arg10 harg10 arg12 arg13 arg14 arg16 arg19 x0 x1 x2 x3 x7) (ix2 a b) = _
    refine (ld2 _ (canon_HS7_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => MB x0 x1 x2 x3 x7 2 16 128 64 (a / 128) (a % 128) b) (256 + 1 * a.val) (0 + 1 * b.val) = MB x0 x1 x2 x3 x7 2 16 128 64 ((2 + 16 * a.val) % 16) ((2 + 16 * a.val) / 16) b.val
    show MB x0 x1 x2 x3 x7 2 16 128 64 _ _ (0 + 1 * b.val) = _
    rw [show 0 + 1 * b.val = b.val by omega]
    exact congrArg₂ (fun r n => MB x0 x1 x2 x3 x7 2 16 128 64 r n b.val) (by omega) (by omega)
  refine strideStep (e := .f32) (g := (plane (MB x0 x1 x2 x3 x7))) (P := 2) (d := 16) (r := 1) (n := 128) _ _ (by decide) (by decide) _ (fun a b => ?_) fun h14 => ?_
  · have ha := a.isLt
    pointwise [k0_pay766]
    show (kernelRun0_A.sl.v3544 (F := Ideal) c i arg3 harg3 arg4 harg4 arg5 harg5 arg6 harg6 arg10 harg10 arg12 arg13 arg14 arg16 arg19 x0 x1 x2 x3 x7) (ix2 a b) = _
    refine (ld2 _ (canon_HS7_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => MB x0 x1 x2 x3 x7 2 16 128 64 (a / 128) (a % 128) b) (128 + 1 * a.val) (0 + 1 * b.val) = MB x0 x1 x2 x3 x7 2 16 128 64 ((1 + 16 * a.val) % 16) ((1 + 16 * a.val) / 16) b.val
    show MB x0 x1 x2 x3 x7 2 16 128 64 _ _ (0 + 1 * b.val) = _
    rw [show 0 + 1 * b.val = b.val by omega]
    exact congrArg₂ (fun r n => MB x0 x1 x2 x3 x7 2 16 128 64 r n b.val) (by omega) (by omega)
  refine strideStep (e := .f32) (g := (plane (MB x0 x1 x2 x3 x7))) (P := 2) (d := 16) (r := 0) (n := 128) _ _ (by decide) (by decide) _ (fun a b => ?_) fun h15 => ?_
  · have ha := a.isLt
    pointwise [k0_pay763]
    show (kernelRun0_A.sl.v3532 (F := Ideal) c i arg3 harg3 arg4 harg4 arg5 harg5 arg6 harg6 arg10 harg10 arg12 arg13 arg14 arg16 arg19 x0 x1 x2 x3 x7) (ix2 a b) = _
    refine (ld2 _ (canon_HS7_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => MB x0 x1 x2 x3 x7 2 16 128 64 (a / 128) (a % 128) b) (0 + 1 * a.val) (0 + 1 * b.val) = MB x0 x1 x2 x3 x7 2 16 128 64 (16 * a.val % 16) (16 * a.val / 16) b.val
    show MB x0 x1 x2 x3 x7 2 16 128 64 _ _ (0 + 1 * b.val) = _
    rw [show 0 + 1 * b.val = b.val by omega]
    exact congrArg₂ (fun r n => MB x0 x1 x2 x3 x7 2 16 128 64 r n b.val) (by omega) (by omega)
  refine strideStep (e := .f32) (g := (plane (MB x0 x1 x2 x3 x7))) (P := 1) (d := 4) (r := 3) (n := 512) _ _ (by decide) (by decide) _ (fun a b => ?_) fun h16 => ?_
  · have ha := a.isLt
    pointwise [k0_pay496]
    show (kernelRun0_A.sl.v2176 (F := Ideal) c i arg3 harg3 arg4 harg4 arg5 harg5 arg6 harg6 arg10 harg10 arg13 arg16 arg19 x0 x1 x2 x3 x7) (ix2 a b) = _
    refine (ld2 _ (canon_HS7_16 c i arg3 harg3 arg4 harg4 arg5 harg5 arg6 harg6 arg7 harg7 arg8 harg8 arg9 harg9 arg10 harg10 arg13 arg16 arg17 x0 x1 x2 x3 x4 x5 x6 x7 hi) _ _).trans ?_
    show (fun a b => MB x0 x1 x2 x3 x7 1 4 512 256 (a / 512) (a % 512) b) (1536 + 1 * a.val) (0 + 1 * b.val) = MB x0 x1 x2 x3 x7 1 4 512 256 ((3 + 4 * a.val) % 4) ((3 + 4 * a.val) / 4) b.val
    show MB x0 x1 x2 x3 x7 1 4 512 256 _ _ (0 + 1 * b.val) = _
    rw [show 0 + 1 * b.val = b.val by omega]
    exact congrArg₂ (fun r n => MB x0 x1 x2 x3 x7 1 4 512 256 r n b.val) (by omega) (by omega)
  refine strideStep (e := .f32) (g := (plane (MB x0 x1 x2 x3 x7))) (P := 1) (d := 4) (r := 2) (n := 512) _ _ (by decide) (by decide) _ (fun a b => ?_) fun h17 => ?_
  · have ha := a.isLt
    pointwise [k0_pay493]
    show (kernelRun0_A.sl.v2164 (F := Ideal) c i arg3 harg3 arg4 harg4 arg5 harg5 arg6 harg6 arg10 harg10 arg13 arg16 arg19 x0 x1 x2 x3 x7) (ix2 a b) = _
    refine (ld2 _ (canon_HS7_16 c i arg3 harg3 arg4 harg4 arg5 harg5 arg6 harg6 arg7 harg7 arg8 harg8 arg9 harg9 arg10 harg10 arg13 arg16 arg17 x0 x1 x2 x3 x4 x5 x6 x7 hi) _ _).trans ?_
    show (fun a b => MB x0 x1 x2 x3 x7 1 4 512 256 (a / 512) (a % 512) b) (1024 + 1 * a.val) (0 + 1 * b.val) = MB x0 x1 x2 x3 x7 1 4 512 256 ((2 + 4 * a.val) % 4) ((2 + 4 * a.val) / 4) b.val
    show MB x0 x1 x2 x3 x7 1 4 512 256 _ _ (0 + 1 * b.val) = _
    rw [show 0 + 1 * b.val = b.val by omega]
    exact congrArg₂ (fun r n => MB x0 x1 x2 x3 x7 1 4 512 256 r n b.val) (by omega) (by omega)
  refine strideStep (e := .f32) (g := (plane (MB x0 x1 x2 x3 x7))) (P := 1) (d := 4) (r := 1) (n := 512) _ _ (by decide) (by decide) _ (fun a b => ?_) fun h18 => ?_
  · have ha := a.isLt
    pointwise [kernelRun0_A.sl.v2155]
    show (kernelRun0_A.sl.v2152 (F := Ideal) c i arg3 harg3 arg4 harg4 arg5 harg5 arg6 harg6 arg10 harg10 arg13 arg16 arg19 x0 x1 x2 x3 x7) (ix2 a b) = _
    refine (ld2 _ (canon_HS7_16 c i arg3 harg3 arg4 harg4 arg5 harg5 arg6 harg6 arg7 harg7 arg8 harg8 arg9 harg9 arg10 harg10 arg13 arg16 arg17 x0 x1 x2 x3 x4 x5 x6 x7 hi) _ _).trans ?_
    show (fun a b => MB x0 x1 x2 x3 x7 1 4 512 256 (a / 512) (a % 512) b) (512 + 1 * a.val) (0 + 1 * b.val) = MB x0 x1 x2 x3 x7 1 4 512 256 ((1 + 4 * a.val) % 4) ((1 + 4 * a.val) / 4) b.val
    show MB x0 x1 x2 x3 x7 1 4 512 256 _ _ (0 + 1 * b.val) = _
    rw [show 0 + 1 * b.val = b.val by omega]
    exact congrArg₂ (fun r n => MB x0 x1 x2 x3 x7 1 4 512 256 r n b.val) (by omega) (by omega)
  refine strideStep (e := .f32) (g := (plane (MB x0 x1 x2 x3 x7))) (P := 1) (d := 4) (r := 0) (n := 512) _ _ (by decide) (by decide) _ (fun a b => ?_) fun h19 => ?_
  · have ha := a.isLt
    pointwise [kernelRun0_A.sl.v2143]
    show (kernelRun0_A.sl.v2140 (F := Ideal) c i arg3 harg3 arg4 harg4 arg5 harg5 arg6 harg6 arg10 harg10 arg13 arg16 arg19 x0 x1 x2 x3 x7) (ix2 a b) = _
    refine (ld2 _ (canon_HS7_16 c i arg3 harg3 arg4 harg4 arg5 harg5 arg6 harg6 arg7 harg7 arg8 harg8 arg9 harg9 arg10 harg10 arg13 arg16 arg17 x0 x1 x2 x3 x4 x5 x6 x7 hi) _ _).trans ?_
    show (fun a b => MB x0 x1 x2 x3 x7 1 4 512 256 (a / 512) (a % 512) b) (0 + 1 * a.val) (0 + 1 * b.val) = MB x0 x1 x2 x3 x7 1 4 512 256 (4 * a.val % 4) (4 * a.val / 4) b.val
    show MB x0 x1 x2 x3 x7 1 4 512 256 _ _ (0 + 1 * b.val) = _
    rw [show 0 + 1 * b.val = b.val by omega]
    exact congrArg₂ (fun r n => MB x0 x1 x2 x3 x7 1 4 512 256 r n b.val) (by omega) (by omega)
  refine planeStep (e := .f32) (g := (plane (MB x0 x1 x2 x3 x7))) (P := 0) (off := 1920) (n := 128) _ _ (fun a b => ?_) fun h20 => ?_
  · refine (Ctx.mE3 (ctx_15 c arg3 harg3 arg4 harg4 arg5 harg5 arg6 harg6 arg7 harg7 arg8 harg8 arg9 harg9 arg10 harg10 arg12 arg16 arg17 x0 x1 x2 x3 x4 x5 x6 x7) (lt := 2048) 2048#32 hi (by decide) (by decide) rfl ?_)
    have ha := a.isLt
    show MB x0 x1 x2 x3 x7 0 1 2048 1024 0 (15 * 128 + a.val) b.val = MB x0 x1 x2 x3 x7 0 1 2048 1024 0 (1920 + a.val) b.val
    exact congrArg (fun n => MB x0 x1 x2 x3 x7 0 1 2048 1024 0 n b.val) (by omega)
  refine planeStep (e := .f32) (g := (plane (MB x0 x1 x2 x3 x7))) (P := 0) (off := 1792) (n := 128) _ _ (fun a b => ?_) fun h21 => ?_
  · refine (Ctx.mN3 (ctx_14 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show MB x0 x1 x2 x3 x7 0 1 2048 1024 0 (14 * 128 + a.val) b.val = MB x0 x1 x2 x3 x7 0 1 2048 1024 0 (1792 + a.val) b.val
    exact congrArg (fun n => MB x0 x1 x2 x3 x7 0 1 2048 1024 0 n b.val) (by omega)
  refine planeStep (e := .f32) (g := (plane (MB x0 x1 x2 x3 x7))) (P := 0) (off := 1664) (n := 128) _ _ (fun a b => ?_) fun h22 => ?_
  · refine (Ctx.mN3 (ctx_13 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show MB x0 x1 x2 x3 x7 0 1 2048 1024 0 (13 * 128 + a.val) b.val = MB x0 x1 x2 x3 x7 0 1 2048 1024 0 (1664 + a.val) b.val
    exact congrArg (fun n => MB x0 x1 x2 x3 x7 0 1 2048 1024 0 n b.val) (by omega)
  refine planeStep (e := .f32) (g := (plane (MB x0 x1 x2 x3 x7))) (P := 0) (off := 1536) (n := 128) _ _ (fun a b => ?_) fun h23 => ?_
  · refine (Ctx.mN3 (ctx_12 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show MB x0 x1 x2 x3 x7 0 1 2048 1024 0 (12 * 128 + a.val) b.val = MB x0 x1 x2 x3 x7 0 1 2048 1024 0 (1536 + a.val) b.val
    exact congrArg (fun n => MB x0 x1 x2 x3 x7 0 1 2048 1024 0 n b.val) (by omega)
  refine planeStep (e := .f32) (g := (plane (MB x0 x1 x2 x3 x7))) (P := 0) (off := 1408) (n := 128) _ _ (fun a b => ?_) fun h24 => ?_
  · refine (Ctx.mN3 (ctx_11 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show MB x0 x1 x2 x3 x7 0 1 2048 1024 0 (11 * 128 + a.val) b.val = MB x0 x1 x2 x3 x7 0 1 2048 1024 0 (1408 + a.val) b.val
    exact congrArg (fun n => MB x0 x1 x2 x3 x7 0 1 2048 1024 0 n b.val) (by omega)
  refine planeStep (e := .f32) (g := (plane (MB x0 x1 x2 x3 x7))) (P := 0) (off := 1280) (n := 128) _ _ (fun a b => ?_) fun h25 => ?_
  · refine (Ctx.mN3 (ctx_10 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show MB x0 x1 x2 x3 x7 0 1 2048 1024 0 (10 * 128 + a.val) b.val = MB x0 x1 x2 x3 x7 0 1 2048 1024 0 (1280 + a.val) b.val
    exact congrArg (fun n => MB x0 x1 x2 x3 x7 0 1 2048 1024 0 n b.val) (by omega)
  refine planeStep (e := .f32) (g := (plane (MB x0 x1 x2 x3 x7))) (P := 0) (off := 1152) (n := 128) _ _ (fun a b => ?_) fun h26 => ?_
  · refine (Ctx.mN3 (ctx_9 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show MB x0 x1 x2 x3 x7 0 1 2048 1024 0 (9 * 128 + a.val) b.val = MB x0 x1 x2 x3 x7 0 1 2048 1024 0 (1152 + a.val) b.val
    exact congrArg (fun n => MB x0 x1 x2 x3 x7 0 1 2048 1024 0 n b.val) (by omega)
  refine planeStep (e := .f32) (g := (plane (MB x0 x1 x2 x3 x7))) (P := 0) (off := 1024) (n := 128) _ _ (fun a b => ?_) fun h27 => ?_
  · refine (Ctx.mN3 (ctx_8 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show MB x0 x1 x2 x3 x7 0 1 2048 1024 0 (8 * 128 + a.val) b.val = MB x0 x1 x2 x3 x7 0 1 2048 1024 0 (1024 + a.val) b.val
    exact congrArg (fun n => MB x0 x1 x2 x3 x7 0 1 2048 1024 0 n b.val) (by omega)
  refine planeStep (e := .f32) (g := (plane (MB x0 x1 x2 x3 x7))) (P := 0) (off := 896) (n := 128) _ _ (fun a b => ?_) fun h28 => ?_
  · refine (Ctx.mN3 (ctx_7 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show MB x0 x1 x2 x3 x7 0 1 2048 1024 0 (7 * 128 + a.val) b.val = MB x0 x1 x2 x3 x7 0 1 2048 1024 0 (896 + a.val) b.val
    exact congrArg (fun n => MB x0 x1 x2 x3 x7 0 1 2048 1024 0 n b.val) (by omega)
  refine planeStep (e := .f32) (g := (plane (MB x0 x1 x2 x3 x7))) (P := 0) (off := 768) (n := 128) _ _ (fun a b => ?_) fun h29 => ?_
  · refine (Ctx.mN3 (ctx_6 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show MB x0 x1 x2 x3 x7 0 1 2048 1024 0 (6 * 128 + a.val) b.val = MB x0 x1 x2 x3 x7 0 1 2048 1024 0 (768 + a.val) b.val
    exact congrArg (fun n => MB x0 x1 x2 x3 x7 0 1 2048 1024 0 n b.val) (by omega)
  refine planeStep (e := .f32) (g := (plane (MB x0 x1 x2 x3 x7))) (P := 0) (off := 640) (n := 128) _ _ (fun a b => ?_) fun h30 => ?_
  · refine (Ctx.mN3 (ctx_5 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show MB x0 x1 x2 x3 x7 0 1 2048 1024 0 (5 * 128 + a.val) b.val = MB x0 x1 x2 x3 x7 0 1 2048 1024 0 (640 + a.val) b.val
    exact congrArg (fun n => MB x0 x1 x2 x3 x7 0 1 2048 1024 0 n b.val) (by omega)
  refine planeStep (e := .f32) (g := (plane (MB x0 x1 x2 x3 x7))) (P := 0) (off := 512) (n := 128) _ _ (fun a b => ?_) fun h31 => ?_
  · refine (Ctx.mN3 (ctx_4 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show MB x0 x1 x2 x3 x7 0 1 2048 1024 0 (4 * 128 + a.val) b.val = MB x0 x1 x2 x3 x7 0 1 2048 1024 0 (512 + a.val) b.val
    exact congrArg (fun n => MB x0 x1 x2 x3 x7 0 1 2048 1024 0 n b.val) (by omega)
  refine planeStep (e := .f32) (g := (plane (MB x0 x1 x2 x3 x7))) (P := 0) (off := 384) (n := 128) _ _ (fun a b => ?_) fun h32 => ?_
  · refine (Ctx.mN3 (ctx_3 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show MB x0 x1 x2 x3 x7 0 1 2048 1024 0 (3 * 128 + a.val) b.val = MB x0 x1 x2 x3 x7 0 1 2048 1024 0 (384 + a.val) b.val
    exact congrArg (fun n => MB x0 x1 x2 x3 x7 0 1 2048 1024 0 n b.val) (by omega)
  refine planeStep (e := .f32) (g := (plane (MB x0 x1 x2 x3 x7))) (P := 0) (off := 256) (n := 128) _ _ (fun a b => ?_) fun h33 => ?_
  · refine (Ctx.mN3 (ctx_2 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show MB x0 x1 x2 x3 x7 0 1 2048 1024 0 (2 * 128 + a.val) b.val = MB x0 x1 x2 x3 x7 0 1 2048 1024 0 (256 + a.val) b.val
    exact congrArg (fun n => MB x0 x1 x2 x3 x7 0 1 2048 1024 0 n b.val) (by omega)
  refine planeStep (e := .f32) (g := (plane (MB x0 x1 x2 x3 x7))) (P := 0) (off := 128) (n := 128) _ _ (fun a b => ?_) fun h34 => ?_
  · refine (Ctx.mN3 (ctx_1 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show MB x0 x1 x2 x3 x7 0 1 2048 1024 0 (1 * 128 + a.val) b.val = MB x0 x1 x2 x3 x7 0 1 2048 1024 0 (128 + a.val) b.val
    exact congrArg (fun n => MB x0 x1 x2 x3 x7 0 1 2048 1024 0 n b.val) (by omega)
  refine planeStep (e := .f32) (g := (plane (MB x0 x1 x2 x3 x7))) (P := 0) (off := 0) (n := 128) _ _ (fun a b => ?_) fun h35 => ?_
  · refine (Ctx.mE3 (ctx_0 c arg3 harg3 arg4 harg4 arg5 harg5 arg6 harg6 arg7 harg7 arg8 harg8 arg9 harg9 arg10 harg10 arg12 arg16 arg17 x0 x1 x2 x3 x4 x5 x6 x7) (lt := 2048) 2048#32 hi (by decide) (by decide) rfl ?_)
    have ha := a.isLt
    show MB x0 x1 x2 x3 x7 0 1 2048 1024 0 (0 * 128 + a.val) b.val = MB x0 x1 x2 x3 x7 0 1 2048 1024 0 (0 + a.val) b.val
    exact congrArg (fun n => MB x0 x1 x2 x3 x7 0 1 2048 1024 0 n b.val) (by omega)
  exfalso
  obtain hz | hz | hz : (y 0).val = 0 ∨ (y 0).val = 1 ∨ (y 0).val = 2 := by
    clear * - hy0
    omega
  · exact cover0 hz hy h20 h21 h22 h23 h24 h25 h26 h27 h28 h29 h30 h31 h32 h33 h34 h35
  · exact cover1 hz h16 h17 h18 h19
  · exact cover2 hz h0 h1 h2 h3 h4 h5 h6 h7 h8 h9 h10 h11 h12 h13 h14 h15

end Cert.AttnIdeal.Att

end
-- ==== Proof.AttPlL.lean ====
/-
  The sums of weights of all three dilations, position by position.
-/
module

public import proofs.«01_k».proof.Proof.AttPay
public import proofs.«01_k».proof.Proof.AttCtx0
public import proofs.«01_k».proof.Proof.AttRows1
public import proofs.«01_k».proof.Proof.AttRows2

@[expose] public section

set_option maxRecDepth 16384

noncomputable section

namespace Cert.AttnIdeal.Att

open Cert.AttnIdeal Cert.AttnIdeal.Gen Idealize.ShloMosaic Idealize.ShloMosaic.TcCoe Idealize.SL.Sem
open Idealize.ShloMosaic.Pointwise
open scoped BigOperators

set_option maxHeartbeats 1000000

/-- The sums of weights as the kernel holds them at its end. -/
theorem canon_HS11_36 (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg12 : Memref sig .tc .vmem S2048x128 .f32) (arg13 : Memref sig .tc .vmem S2048x128 .f32) (arg14 : Memref sig .tc .vmem S4096x128 .f32) (arg15 : Memref sig .tc .vmem S4096x128 .f32) (arg16 : Memref sig .tc .vmem S4096x128 .bf16) (arg17 : Memref sig .tc .vmem S4096x128 .bf16) (arg20 : Memref sig .tc .vmem S2048x128 .f32) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) (hi : (i 1).val = 0) :
    View.canon (kernelRun0_A.sl.HS11_36 (F := Ideal) c i arg3 harg3 arg4 harg4 arg5 harg5 arg6 harg6 arg7 harg7 arg8 harg8 arg9 harg9 arg10 harg10 arg12 arg13 arg14 arg15 arg16 arg17 arg20 x0 x1 x2 x3 x4 x5 x6 x7) = fun y => (plane (LB x0 x1 x2 x3 x7)) (y 0).val (y 1).val (y 2).val := by
  funext y
  have hy0 : (y 0).val < 3 := (y 0).isLt
  have hy : (y 1).val < 2048 := (y 1).isLt
  unfold kernelRun0_A.sl.HS11_36 kernelRun0_A.sl.HS11_17
  refine strideStep (e := .f32) (g := (plane (LB x0 x1 x2 x3 x7))) (P := 2) (d := 16) (r := 15) (n := 128) _ _ (by decide) (by decide) _ (fun a b => ?_) fun h0 => ?_
  · have ha := a.isLt
    pointwise [k0_pay809]
    show (kernelRun0_A.sl.v3716 (F := Ideal) c i arg3 harg3 arg4 harg4 arg5 harg5 arg6 harg6 arg7 harg7 arg8 harg8 arg9 harg9 arg10 harg10 arg12 arg13 arg14 arg15 arg16 arg17 arg20 x0 x1 x2 x3 x4 x5 x6 x7) (ix2 a b) = _
    refine (ld2 _ (canon_HS8_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => LB x0 x1 x2 x3 x7 2 16 128 64 (a / 128) (a % 128) b) (1920 + 1 * a.val) (0 + 1 * b.val) = LB x0 x1 x2 x3 x7 2 16 128 64 ((15 + 16 * a.val) % 16) ((15 + 16 * a.val) / 16) b.val
    show LB x0 x1 x2 x3 x7 2 16 128 64 _ _ (0 + 1 * b.val) = _
    rw [show 0 + 1 * b.val = b.val by omega]
    exact congrArg₂ (fun r n => LB x0 x1 x2 x3 x7 2 16 128 64 r n b.val) (by omega) (by omega)
  refine strideStep (e := .f32) (g := (plane (LB x0 x1 x2 x3 x7))) (P := 2) (d := 16) (r := 14) (n := 128) _ _ (by decide) (by decide) _ (fun a b => ?_) fun h1 => ?_
  · have ha := a.isLt
    pointwise [k0_pay806]
    show (kernelRun0_A.sl.v3704 (F := Ideal) c i arg3 harg3 arg4 harg4 arg5 harg5 arg6 harg6 arg7 harg7 arg8 harg8 arg9 harg9 arg10 harg10 arg12 arg13 arg14 arg15 arg16 arg17 arg20 x0 x1 x2 x3 x4 x5 x6 x7) (ix2 a b) = _
    refine (ld2 _ (canon_HS8_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => LB x0 x1 x2 x3 x7 2 16 128 64 (a / 128) (a % 128) b) (1792 + 1 * a.val) (0 + 1 * b.val) = LB x0 x1 x2 x3 x7 2 16 128 64 ((14 + 16 * a.val) % 16) ((14 + 16 * a.val) / 16) b.val
    show LB x0 x1 x2 x3 x7 2 16 128 64 _ _ (0 + 1 * b.val) = _
    rw [show 0 + 1 * b.val = b.val by omega]
    exact congrArg₂ (fun r n => LB x0 x1 x2 x3 x7 2 16 128 64 r n b.val) (by omega) (by omega)
  refine strideStep (e := .f32) (g := (plane (LB x0 x1 x2 x3 x7))) (P := 2) (d := 16) (r := 13) (n := 128) _ _ (by decide) (by decide) _ (fun a b => ?_) fun h2 => ?_
  · have ha := a.isLt
    pointwise [k0_pay803]
    show (kernelRun0_A.sl.v3692 (F := Ideal) c i arg3 harg3 arg4 harg4 arg5 harg5 arg6 harg6 arg7 harg7 arg8 harg8 arg9 harg9 arg10 harg10 arg12 arg13 arg14 arg15 arg16 arg17 arg20 x0 x1 x2 x3 x4 x5 x6 x7) (ix2 a b) = _
    refine (ld2 _ (canon_HS8_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => LB x0 x1 x2 x3 x7 2 16 128 64 (a / 128) (a % 128) b) (1664 + 1 * a.val) (0 + 1 * b.val) = LB x0 x1 x2 x3 x7 2 16 128 64 ((13 + 16 * a.val) % 16) ((13 + 16 * a.val) / 16) b.val
    show LB x0 x1 x2 x3 x7 2 16 128 64 _ _ (0 + 1 * b.val) = _
    rw [show 0 + 1 * b.val = b.val by omega]
    exact congrArg₂ (fun r n => LB x0 x1 x2 x3 x7 2 16 128 64 r n b.val) (by omega) (by omega)
  refine strideStep (e := .f32) (g := (plane (LB x0 x1 x2 x3 x7))) (P := 2) (d := 16) (r := 12) (n := 128) _ _ (by decide) (by decide) _ (fun a b => ?_) fun h3 => ?_
  · have ha := a.isLt
    pointwise [k0_pay800]
    show (kernelRun0_A.sl.v3680 (F := Ideal) c i arg3 harg3 arg4 harg4 arg5 harg5 arg6 harg6 arg7 harg7 arg8 harg8 arg9 harg9 arg10 harg10 arg12 arg13 arg14 arg15 arg16 arg17 arg20 x0 x1 x2 x3 x4 x5 x6 x7) (ix2 a b) = _
    refine (ld2 _ (canon_HS8_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => LB x0 x1 x2 x3 x7 2 16 128 64 (a / 128) (a % 128) b) (1536 + 1 * a.val) (0 + 1 * b.val) = LB x0 x1 x2 x3 x7 2 16 128 64 ((12 + 16 * a.val) % 16) ((12 + 16 * a.val) / 16) b.val
    show LB x0 x1 x2 x3 x7 2 16 128 64 _ _ (0 + 1 * b.val) = _
    rw [show 0 + 1 * b.val = b.val by omega]
    exact congrArg₂ (fun r n => LB x0 x1 x2 x3 x7 2 16 128 64 r n b.val) (by omega) (by omega)
  refine strideStep (e := .f32) (g := (plane (LB x0 x1 x2 x3 x7))) (P := 2) (d := 16) (r := 11) (n := 128) _ _ (by decide) (by decide) _ (fun a b => ?_) fun h4 => ?_
  · have ha := a.isLt
    pointwise [k0_pay797]
    show (kernelRun0_A.sl.v3668 (F := Ideal) c i arg3 harg3 arg4 harg4 arg5 harg5 arg6 harg6 arg7 harg7 arg8 harg8 arg9 harg9 arg10 harg10 arg12 arg13 arg14 arg15 arg16 arg17 arg20 x0 x1 x2 x3 x4 x5 x6 x7) (ix2 a b) = _
    refine (ld2 _ (canon_HS8_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => LB x0 x1 x2 x3 x7 2 16 128 64 (a / 128) (a % 128) b) (1408 + 1 * a.val) (0 + 1 * b.val) = LB x0 x1 x2 x3 x7 2 16 128 64 ((11 + 16 * a.val) % 16) ((11 + 16 * a.val) / 16) b.val
    show LB x0 x1 x2 x3 x7 2 16 128 64 _ _ (0 + 1 * b.val) = _
    rw [show 0 + 1 * b.val = b.val by omega]
    exact congrArg₂ (fun r n => LB x0 x1 x2 x3 x7 2 16 128 64 r n b.val) (by omega) (by omega)
  refine strideStep (e := .f32) (g := (plane (LB x0 x1 x2 x3 x7))) (P := 2) (d := 16) (r := 10) (n := 128) _ _ (by decide) (by decide) _ (fun a b => ?_) fun h5 => ?_
  · have ha := a.isLt
    pointwise [k0_pay794]
    show (kernelRun0_A.sl.v3656 (F := Ideal) c i arg3 harg3 arg4 harg4 arg5 harg5 arg6 harg6 arg7 harg7 arg8 harg8 arg9 harg9 arg10 harg10 arg12 arg13 arg14 arg15 arg16 arg17 arg20 x0 x1 x2 x3 x4 x5 x6 x7) (ix2 a b) = _
    refine (ld2 _ (canon_HS8_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => LB x0 x1 x2 x3 x7 2 16 128 64 (a / 128) (a % 128) b) (1280 + 1 * a.val) (0 + 1 * b.val) = LB x0 x1 x2 x3 x7 2 16 128 64 ((10 + 16 * a.val) % 16) ((10 + 16 * a.val) / 16) b.val
    show LB x0 x1 x2 x3 x7 2 16 128 64 _ _ (0 + 1 * b.val) = _
    rw [show 0 + 1 * b.val = b.val by omega]
    exact congrArg₂ (fun r n => LB x0 x1 x2 x3 x7 2 16 128 64 r n b.val) (by omega) (by omega)
  refine strideStep (e := .f32) (g := (plane (LB x0 x1 x2 x3 x7))) (P := 2) (d := 16) (r := 9) (n := 128) _ _ (by decide) (by decide) _ (fun a b => ?_) fun h6 => ?_
  · have ha := a.isLt
    pointwise [k0_pay791]
    show (kernelRun0_A.sl.v3644 (F := Ideal) c i arg3 harg3 arg4 harg4 arg5 harg5 arg6 harg6 arg7 harg7 arg8 harg8 arg9 harg9 arg10 harg10 arg12 arg13 arg14 arg15 arg16 arg17 arg20 x0 x1 x2 x3 x4 x5 x6 x7) (ix2 a b) = _
    refine (ld2 _ (canon_HS8_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => LB x0 x1 x2 x3 x7 2 16 128 64 (a / 128) (a % 128) b) (1152 + 1 * a.val) (0 + 1 * b.val) = LB x0 x1 x2 x3 x7 2 16 128 64 ((9 + 16 * a.val) % 16) ((9 + 16 * a.val) / 16) b.val
    show LB x0 x1 x2 x3 x7 2 16 128 64 _ _ (0 + 1 * b.val) = _
    rw [show 0 + 1 * b.val = b.val by omega]
    exact congrArg₂ (fun r n => LB x0 x1 x2 x3 x7 2 16 128 64 r n b.val) (by omega) (by omega)
  refine strideStep (e := .f32) (g := (plane (LB x0 x1 x2 x3 x7))) (P := 2) (d := 16) (r := 8) (n := 128) _ _ (by decide) (by decide) _ (fun a b => ?_) fun h7 => ?_
  · have ha := a.isLt
    pointwise [k0_pay788]
    show (kernelRun0_A.sl.v3632 (F := Ideal) c i arg3 harg3 arg4 harg4 arg5 harg5 arg6 harg6 arg7 harg7 arg8 harg8 arg9 harg9 arg10 harg10 arg12 arg13 arg14 arg15 arg16 arg17 arg20 x0 x1 x2 x3 x4 x5 x6 x7) (ix2 a b) = _
    refine (ld2 _ (canon_HS8_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => LB x0 x1 x2 x3 x7 2 16 128 64 (a / 128) (a % 128) b) (1024 + 1 * a.val) (0 + 1 * b.val) = LB x0 x1 x2 x3 x7 2 16 128 64 ((8 + 16 * a.val) % 16) ((8 + 16 * a.val) / 16) b.val
    show LB x0 x1 x2 x3 x7 2 16 128 64 _ _ (0 + 1 * b.val) = _
    rw [show 0 + 1 * b.val = b.val by omega]
    exact congrArg₂ (fun r n => LB x0 x1 x2 x3 x7 2 16 128 64 r n b.val) (by omega) (by omega)
  refine strideStep (e := .f32) (g := (plane (LB x0 x1 x2 x3 x7))) (P := 2) (d := 16) (r := 7) (n := 128) _ _ (by decide) (by decide) _ (fun a b => ?_) fun h8 => ?_
  · have ha := a.isLt
    pointwise [k0_pay785]
    show (kernelRun0_A.sl.v3620 (F := Ideal) c i arg3 harg3 arg4 harg4 arg5 harg5 arg6 harg6 arg7 harg7 arg8 harg8 arg9 harg9 arg10 harg10 arg12 arg13 arg14 arg15 arg16 arg17 arg20 x0 x1 x2 x3 x4 x5 x6 x7) (ix2 a b) = _
    refine (ld2 _ (canon_HS8_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => LB x0 x1 x2 x3 x7 2 16 128 64 (a / 128) (a % 128) b) (896 + 1 * a.val) (0 + 1 * b.val) = LB x0 x1 x2 x3 x7 2 16 128 64 ((7 + 16 * a.val) % 16) ((7 + 16 * a.val) / 16) b.val
    show LB x0 x1 x2 x3 x7 2 16 128 64 _ _ (0 + 1 * b.val) = _
    rw [show 0 + 1 * b.val = b.val by omega]
    exact congrArg₂ (fun r n => LB x0 x1 x2 x3 x7 2 16 128 64 r n b.val) (by omega) (by omega)
  refine strideStep (e := .f32) (g := (plane (LB x0 x1 x2 x3 x7))) (P := 2) (d := 16) (r := 6) (n := 128) _ _ (by decide) (by decide) _ (fun a b => ?_) fun h9 => ?_
  · have ha := a.isLt
    pointwise [k0_pay782]
    show (kernelRun0_A.sl.v3608 (F := Ideal) c i arg3 harg3 arg4 harg4 arg5 harg5 arg6 harg6 arg7 harg7 arg8 harg8 arg9 harg9 arg10 harg10 arg12 arg13 arg14 arg15 arg16 arg17 arg20 x0 x1 x2 x3 x4 x5 x6 x7) (ix2 a b) = _
    refine (ld2 _ (canon_HS8_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => LB x0 x1 x2 x3 x7 2 16 128 64 (a / 128) (a % 128) b) (768 + 1 * a.val) (0 + 1 * b.val) = LB x0 x1 x2 x3 x7 2 16 128 64 ((6 + 16 * a.val) % 16) ((6 + 16 * a.val) / 16) b.val
    show LB x0 x1 x2 x3 x7 2 16 128 64 _ _ (0 + 1 * b.val) = _
    rw [show 0 + 1 * b.val = b.val by omega]
    exact congrArg₂ (fun r n => LB x0 x1 x2 x3 x7 2 16 128 64 r n b.val) (by omega) (by omega)
  refine strideStep (e := .f32) (g := (plane (LB x0 x1 x2 x3 x7))) (P := 2) (d := 16) (r := 5) (n := 128) _ _ (by decide) (by decide) _ (fun a b => ?_) fun h10 => ?_
  · have ha := a.isLt
    pointwise [k0_pay779]
    show (kernelRun0_A.sl.v3596 (F := Ideal) c i arg3 harg3 arg4 harg4 arg5 harg5 arg6 harg6 arg7 harg7 arg8 harg8 arg9 harg9 arg10 harg10 arg12 arg13 arg14 arg15 arg16 arg17 arg20 x0 x1 x2 x3 x4 x5 x6 x7) (ix2 a b) = _
    refine (ld2 _ (canon_HS8_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => LB x0 x1 x2 x3 x7 2 16 128 64 (a / 128) (a % 128) b) (640 + 1 * a.val) (0 + 1 * b.val) = LB x0 x1 x2 x3 x7 2 16 128 64 ((5 + 16 * a.val) % 16) ((5 + 16 * a.val) / 16) b.val
    show LB x0 x1 x2 x3 x7 2 16 128 64 _ _ (0 + 1 * b.val) = _
    rw [show 0 + 1 * b.val = b.val by omega]
    exact congrArg₂ (fun r n => LB x0 x1 x2 x3 x7 2 16 128 64 r n b.val) (by omega) (by omega)
  refine strideStep (e := .f32) (g := (plane (LB x0 x1 x2 x3 x7))) (P := 2) (d := 16) (r := 4) (n := 128) _ _ (by decide) (by decide) _ (fun a b => ?_) fun h11 => ?_
  · have ha := a.isLt
    pointwise [k0_pay776]
    show (kernelRun0_A.sl.v3584 (F := Ideal) c i arg3 harg3 arg4 harg4 arg5 harg5 arg6 harg6 arg7 harg7 arg8 harg8 arg9 harg9 arg10 harg10 arg12 arg13 arg14 arg15 arg16 arg17 arg20 x0 x1 x2 x3 x4 x5 x6 x7) (ix2 a b) = _
    refine (ld2 _ (canon_HS8_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => LB x0 x1 x2 x3 x7 2 16 128 64 (a / 128) (a % 128) b) (512 + 1 * a.val) (0 + 1 * b.val) = LB x0 x1 x2 x3 x7 2 16 128 64 ((4 + 16 * a.val) % 16) ((4 + 16 * a.val) / 16) b.val
    show LB x0 x1 x2 x3 x7 2 16 128 64 _ _ (0 + 1 * b.val) = _
    rw [show 0 + 1 * b.val = b.val by omega]
    exact congrArg₂ (fun r n => LB x0 x1 x2 x3 x7 2 16 128 64 r n b.val) (by omega) (by omega)
  refine strideStep (e := .f32) (g := (plane (LB x0 x1 x2 x3 x7))) (P := 2) (d := 16) (r := 3) (n := 128) _ _ (by decide) (by decide) _ (fun a b => ?_) fun h12 => ?_
  · have ha := a.isLt
    pointwise [k0_pay773]
    show (kernelRun0_A.sl.v3572 (F := Ideal) c i arg3 harg3 arg4 harg4 arg5 harg5 arg6 harg6 arg7 harg7 arg8 harg8 arg9 harg9 arg10 harg10 arg12 arg13 arg14 arg15 arg16 arg17 arg20 x0 x1 x2 x3 x4 x5 x6 x7) (ix2 a b) = _
    refine (ld2 _ (canon_HS8_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => LB x0 x1 x2 x3 x7 2 16 128 64 (a / 128) (a % 128) b) (384 + 1 * a.val) (0 + 1 * b.val) = LB x0 x1 x2 x3 x7 2 16 128 64 ((3 + 16 * a.val) % 16) ((3 + 16 * a.val) / 16) b.val
    show LB x0 x1 x2 x3 x7 2 16 128 64 _ _ (0 + 1 * b.val) = _
    rw [show 0 + 1 * b.val = b.val by omega]
    exact congrArg₂ (fun r n => LB x0 x1 x2 x3 x7 2 16 128 64 r n b.val) (by omega) (by omega)
  refine strideStep (e := .f32) (g := (plane (LB x0 x1 x2 x3 x7))) (P := 2) (d := 16) (r := 2) (n := 128) _ _ (by decide) (by decide) _ (fun a b => ?_) fun h13 => ?_
  · have ha := a.isLt
    pointwise [k0_pay770]
    show (kernelRun0_A.sl.v3560 (F := Ideal) c i arg3 harg3 arg4 harg4 arg5 harg5 arg6 harg6 arg7 harg7 arg8 harg8 arg9 harg9 arg10 harg10 arg12 arg13 arg14 arg15 arg16 arg17 arg20 x0 x1 x2 x3 x4 x5 x6 x7) (ix2 a b) = _
    refine (ld2 _ (canon_HS8_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => LB x0 x1 x2 x3 x7 2 16 128 64 (a / 128) (a % 128) b) (256 + 1 * a.val) (0 + 1 * b.val) = LB x0 x1 x2 x3 x7 2 16 128 64 ((2 + 16 * a.val) % 16) ((2 + 16 * a.val) / 16) b.val
    show LB x0 x1 x2 x3 x7 2 16 128 64 _ _ (0 + 1 * b.val) = _
    rw [show 0 + 1 * b.val = b.val by omega]
    exact congrArg₂ (fun r n => LB x0 x1 x2 x3 x7 2 16 128 64 r n b.val) (by omega) (by omega)
  refine strideStep (e := .f32) (g := (plane (LB x0 x1 x2 x3 x7))) (P := 2) (d := 16) (r := 1) (n := 128) _ _ (by decide) (by decide) _ (fun a b => ?_) fun h14 => ?_
  · have ha := a.isLt
    pointwise [k0_pay767]
    show (kernelRun0_A.sl.v3548 (F := Ideal) c i arg3 harg3 arg4 harg4 arg5 harg5 arg6 harg6 arg7 harg7 arg8 harg8 arg9 harg9 arg10 harg10 arg12 arg13 arg14 arg15 arg16 arg17 arg20 x0 x1 x2 x3 x4 x5 x6 x7) (ix2 a b) = _
    refine (ld2 _ (canon_HS8_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => LB x0 x1 x2 x3 x7 2 16 128 64 (a / 128) (a % 128) b) (128 + 1 * a.val) (0 + 1 * b.val) = LB x0 x1 x2 x3 x7 2 16 128 64 ((1 + 16 * a.val) % 16) ((1 + 16 * a.val) / 16) b.val
    show LB x0 x1 x2 x3 x7 2 16 128 64 _ _ (0 + 1 * b.val) = _
    rw [show 0 + 1 * b.val = b.val by omega]
    exact congrArg₂ (fun r n => LB x0 x1 x2 x3 x7 2 16 128 64 r n b.val) (by omega) (by omega)
  refine strideStep (e := .f32) (g := (plane (LB x0 x1 x2 x3 x7))) (P := 2) (d := 16) (r := 0) (n := 128) _ _ (by decide) (by decide) _ (fun a b => ?_) fun h15 => ?_
  · have ha := a.isLt
    pointwise [k0_pay764]
    show (kernelRun0_A.sl.v3536 (F := Ideal) c i arg3 harg3 arg4 harg4 arg5 harg5 arg6 harg6 arg7 harg7 arg8 harg8 arg9 harg9 arg10 harg10 arg12 arg13 arg14 arg15 arg16 arg17 arg20 x0 x1 x2 x3 x4 x5 x6 x7) (ix2 a b) = _
    refine (ld2 _ (canon_HS8_32 c i arg3 harg3 arg4 harg4 arg5 harg5 arg6 harg6 arg7 harg7 arg8 harg8 arg9 harg9 arg10 harg10 arg12 arg13 arg14 arg15 arg16 arg17 x0 x1 x2 x3 x4 x5 x6 x7 hi) _ _).trans ?_
    show (fun a b => LB x0 x1 x2 x3 x7 2 16 128 64 (a / 128) (a % 128) b) (0 + 1 * a.val) (0 + 1 * b.val) = LB x0 x1 x2 x3 x7 2 16 128 64 (16 * a.val % 16) (16 * a.val / 16) b.val
    show LB x0 x1 x2 x3 x7 2 16 128 64 _ _ (0 + 1 * b.val) = _
    rw [show 0 + 1 * b.val = b.val by omega]
    exact congrArg₂ (fun r n => LB x0 x1 x2 x3 x7 2 16 128 64 r n b.val) (by omega) (by omega)
  refine strideStep (e := .f32) (g := (plane (LB x0 x1 x2 x3 x7))) (P := 1) (d := 4) (r := 3) (n := 512) _ _ (by decide) (by decide) _ (fun a b => ?_) fun h16 => ?_
  · have ha := a.isLt
    pointwise [k0_pay497]
    show (kernelRun0_A.sl.v2180 (F := Ideal) c i arg3 harg3 arg4 harg4 arg5 harg5 arg6 harg6 arg7 harg7 arg8 harg8 arg9 harg9 arg10 harg10 arg13 arg16 arg17 arg20 x0 x1 x2 x3 x4 x5 x6 x7) (ix2 a b) = _
    refine (ld2 _ (canon_HS8_16 c i arg3 harg3 arg4 harg4 arg5 harg5 arg6 harg6 arg7 harg7 arg8 harg8 arg9 harg9 arg10 harg10 arg13 arg16 arg17 x0 x1 x2 x3 x4 x5 x6 x7 hi) _ _).trans ?_
    show (fun a b => LB x0 x1 x2 x3 x7 1 4 512 256 (a / 512) (a % 512) b) (1536 + 1 * a.val) (0 + 1 * b.val) = LB x0 x1 x2 x3 x7 1 4 512 256 ((3 + 4 * a.val) % 4) ((3 + 4 * a.val) / 4) b.val
    show LB x0 x1 x2 x3 x7 1 4 512 256 _ _ (0 + 1 * b.val) = _
    rw [show 0 + 1 * b.val = b.val by omega]
    exact congrArg₂ (fun r n => LB x0 x1 x2 x3 x7 1 4 512 256 r n b.val) (by omega) (by omega)
  refine strideStep (e := .f32) (g := (plane (LB x0 x1 x2 x3 x7))) (P := 1) (d := 4) (r := 2) (n := 512) _ _ (by decide) (by decide) _ (fun a b => ?_) fun h17 => ?_
  · have ha := a.isLt
    pointwise [k0_pay494]
    show (kernelRun0_A.sl.v2168 (F := Ideal) c i arg3 harg3 arg4 harg4 arg5 harg5 arg6 harg6 arg7 harg7 arg8 harg8 arg9 harg9 arg10 harg10 arg13 arg16 arg17 arg20 x0 x1 x2 x3 x4 x5 x6 x7) (ix2 a b) = _
    refine (ld2 _ (canon_HS8_16 c i arg3 harg3 arg4 harg4 arg5 harg5 arg6 harg6 arg7 harg7 arg8 harg8 arg9 harg9 arg10 harg10 arg13 arg16 arg17 x0 x1 x2 x3 x4 x5 x6 x7 hi) _ _).trans ?_
    show (fun a b => LB x0 x1 x2 x3 x7 1 4 512 256 (a / 512) (a % 512) b) (1024 + 1 * a.val) (0 + 1 * b.val) = LB x0 x1 x2 x3 x7 1 4 512 256 ((2 + 4 * a.val) % 4) ((2 + 4 * a.val) / 4) b.val
    show LB x0 x1 x2 x3 x7 1 4 512 256 _ _ (0 + 1 * b.val) = _
    rw [show 0 + 1 * b.val = b.val by omega]
    exact congrArg₂ (fun r n => LB x0 x1 x2 x3 x7 1 4 512 256 r n b.val) (by omega) (by omega)
  refine strideStep (e := .f32) (g := (plane (LB x0 x1 x2 x3 x7))) (P := 1) (d := 4) (r := 1) (n := 512) _ _ (by decide) (by decide) _ (fun a b => ?_) fun h18 => ?_
  · have ha := a.isLt
    pointwise [kernelRun0_A.sl.v2159]
    show (kernelRun0_A.sl.v2156 (F := Ideal) c i arg3 harg3 arg4 harg4 arg5 harg5 arg6 harg6 arg7 harg7 arg8 harg8 arg9 harg9 arg10 harg10 arg13 arg16 arg17 arg20 x0 x1 x2 x3 x4 x5 x6 x7) (ix2 a b) = _
    refine (ld2 _ (canon_HS8_16 c i arg3 harg3 arg4 harg4 arg5 harg5 arg6 harg6 arg7 harg7 arg8 harg8 arg9 harg9 arg10 harg10 arg13 arg16 arg17 x0 x1 x2 x3 x4 x5 x6 x7 hi) _ _).trans ?_
    show (fun a b => LB x0 x1 x2 x3 x7 1 4 512 256 (a / 512) (a % 512) b) (512 + 1 * a.val) (0 + 1 * b.val) = LB x0 x1 x2 x3 x7 1 4 512 256 ((1 + 4 * a.val) % 4) ((1 + 4 * a.val) / 4) b.val
    show LB x0 x1 x2 x3 x7 1 4 512 256 _ _ (0 + 1 * b.val) = _
    rw [show 0 + 1 * b.val = b.val by omega]
    exact congrArg₂ (fun r n => LB x0 x1 x2 x3 x7 1 4 512 256 r n b.val) (by omega) (by omega)
  refine strideStep (e := .f32) (g := (plane (LB x0 x1 x2 x3 x7))) (P := 1) (d := 4) (r := 0) (n := 512) _ _ (by decide) (by decide) _ (fun a b => ?_) fun h19 => ?_
  · have ha := a.isLt
    pointwise [kernelRun0_A.sl.v2147]
    show (kernelRun0_A.sl.v2144 (F := Ideal) c i arg3 harg3 arg4 harg4 arg5 harg5 arg6 harg6 arg7 harg7 arg8 harg8 arg9 harg9 arg10 harg10 arg13 arg16 arg17 arg20 x0 x1 x2 x3 x4 x5 x6 x7) (ix2 a b) = _
    refine (ld2 _ (canon_HS8_16 c i arg3 harg3 arg4 harg4 arg5 harg5 arg6 harg6 arg7 harg7 arg8 harg8 arg9 harg9 arg10 harg10 arg13 arg16 arg17 x0 x1 x2 x3 x4 x5 x6 x7 hi) _ _).trans ?_
    show (fun a b => LB x0 x1 x2 x3 x7 1 4 512 256 (a / 512) (a % 512) b) (0 + 1 * a.val) (0 + 1 * b.val) = LB x0 x1 x2 x3 x7 1 4 512 256 (4 * a.val % 4) (4 * a.val / 4) b.val
    show LB x0 x1 x2 x3 x7 1 4 512 256 _ _ (0 + 1 * b.val) = _
    rw [show 0 + 1 * b.val = b.val by omega]
    exact congrArg₂ (fun r n => LB x0 x1 x2 x3 x7 1 4 512 256 r n b.val) (by omega) (by omega)
  refine planeStep (e := .f32) (g := (plane (LB x0 x1 x2 x3 x7))) (P := 0) (off := 1920) (n := 128) _ _ (fun a b => ?_) fun h20 => ?_
  · refine (Ctx.lE3 (ctx_15 c arg3 harg3 arg4 harg4 arg5 harg5 arg6 harg6 arg7 harg7 arg8 harg8 arg9 harg9 arg10 harg10 arg12 arg16 arg17 x0 x1 x2 x3 x4 x5 x6 x7) (lt := 2048) 2048#32 hi (by decide) (by decide) rfl ?_)
    have ha := a.isLt
    show LB x0 x1 x2 x3 x7 0 1 2048 1024 0 (15 * 128 + a.val) b.val = LB x0 x1 x2 x3 x7 0 1 2048 1024 0 (1920 + a.val) b.val
    exact congrArg (fun n => LB x0 x1 x2 x3 x7 0 1 2048 1024 0 n b.val) (by omega)
  refine planeStep (e := .f32) (g := (plane (LB x0 x1 x2 x3 x7))) (P := 0) (off := 1792) (n := 128) _ _ (fun a b => ?_) fun h21 => ?_
  · refine (Ctx.lN3 (ctx_14 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show LB x0 x1 x2 x3 x7 0 1 2048 1024 0 (14 * 128 + a.val) b.val = LB x0 x1 x2 x3 x7 0 1 2048 1024 0 (1792 + a.val) b.val
    exact congrArg (fun n => LB x0 x1 x2 x3 x7 0 1 2048 1024 0 n b.val) (by omega)
  refine planeStep (e := .f32) (g := (plane (LB x0 x1 x2 x3 x7))) (P := 0) (off := 1664) (n := 128) _ _ (fun a b => ?_) fun h22 => ?_
  · refine (Ctx.lN3 (ctx_13 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show LB x0 x1 x2 x3 x7 0 1 2048 1024 0 (13 * 128 + a.val) b.val = LB x0 x1 x2 x3 x7 0 1 2048 1024 0 (1664 + a.val) b.val
    exact congrArg (fun n => LB x0 x1 x2 x3 x7 0 1 2048 1024 0 n b.val) (by omega)
  refine planeStep (e := .f32) (g := (plane (LB x0 x1 x2 x3 x7))) (P := 0) (off := 1536) (n := 128) _ _ (fun a b => ?_) fun h23 => ?_
  · refine (Ctx.lN3 (ctx_12 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show LB x0 x1 x2 x3 x7 0 1 2048 1024 0 (12 * 128 + a.val) b.val = LB x0 x1 x2 x3 x7 0 1 2048 1024 0 (1536 + a.val) b.val
    exact congrArg (fun n => LB x0 x1 x2 x3 x7 0 1 2048 1024 0 n b.val) (by omega)
  refine planeStep (e := .f32) (g := (plane (LB x0 x1 x2 x3 x7))) (P := 0) (off := 1408) (n := 128) _ _ (fun a b => ?_) fun h24 => ?_
  · refine (Ctx.lN3 (ctx_11 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show LB x0 x1 x2 x3 x7 0 1 2048 1024 0 (11 * 128 + a.val) b.val = LB x0 x1 x2 x3 x7 0 1 2048 1024 0 (1408 + a.val) b.val
    exact congrArg (fun n => LB x0 x1 x2 x3 x7 0 1 2048 1024 0 n b.val) (by omega)
  refine planeStep (e := .f32) (g := (plane (LB x0 x1 x2 x3 x7))) (P := 0) (off := 1280) (n := 128) _ _ (fun a b => ?_) fun h25 => ?_
  · refine (Ctx.lN3 (ctx_10 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show LB x0 x1 x2 x3 x7 0 1 2048 1024 0 (10 * 128 + a.val) b.val = LB x0 x1 x2 x3 x7 0 1 2048 1024 0 (1280 + a.val) b.val
    exact congrArg (fun n => LB x0 x1 x2 x3 x7 0 1 2048 1024 0 n b.val) (by omega)
  refine planeStep (e := .f32) (g := (plane (LB x0 x1 x2 x3 x7))) (P := 0) (off := 1152) (n := 128) _ _ (fun a b => ?_) fun h26 => ?_
  · refine (Ctx.lN3 (ctx_9 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show LB x0 x1 x2 x3 x7 0 1 2048 1024 0 (9 * 128 + a.val) b.val = LB x0 x1 x2 x3 x7 0 1 2048 1024 0 (1152 + a.val) b.val
    exact congrArg (fun n => LB x0 x1 x2 x3 x7 0 1 2048 1024 0 n b.val) (by omega)
  refine planeStep (e := .f32) (g := (plane (LB x0 x1 x2 x3 x7))) (P := 0) (off := 1024) (n := 128) _ _ (fun a b => ?_) fun h27 => ?_
  · refine (Ctx.lN3 (ctx_8 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show LB x0 x1 x2 x3 x7 0 1 2048 1024 0 (8 * 128 + a.val) b.val = LB x0 x1 x2 x3 x7 0 1 2048 1024 0 (1024 + a.val) b.val
    exact congrArg (fun n => LB x0 x1 x2 x3 x7 0 1 2048 1024 0 n b.val) (by omega)
  refine planeStep (e := .f32) (g := (plane (LB x0 x1 x2 x3 x7))) (P := 0) (off := 896) (n := 128) _ _ (fun a b => ?_) fun h28 => ?_
  · refine (Ctx.lN3 (ctx_7 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show LB x0 x1 x2 x3 x7 0 1 2048 1024 0 (7 * 128 + a.val) b.val = LB x0 x1 x2 x3 x7 0 1 2048 1024 0 (896 + a.val) b.val
    exact congrArg (fun n => LB x0 x1 x2 x3 x7 0 1 2048 1024 0 n b.val) (by omega)
  refine planeStep (e := .f32) (g := (plane (LB x0 x1 x2 x3 x7))) (P := 0) (off := 768) (n := 128) _ _ (fun a b => ?_) fun h29 => ?_
  · refine (Ctx.lN3 (ctx_6 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show LB x0 x1 x2 x3 x7 0 1 2048 1024 0 (6 * 128 + a.val) b.val = LB x0 x1 x2 x3 x7 0 1 2048 1024 0 (768 + a.val) b.val
    exact congrArg (fun n => LB x0 x1 x2 x3 x7 0 1 2048 1024 0 n b.val) (by omega)
  refine planeStep (e := .f32) (g := (plane (LB x0 x1 x2 x3 x7))) (P := 0) (off := 640) (n := 128) _ _ (fun a b => ?_) fun h30 => ?_
  · refine (Ctx.lN3 (ctx_5 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show LB x0 x1 x2 x3 x7 0 1 2048 1024 0 (5 * 128 + a.val) b.val = LB x0 x1 x2 x3 x7 0 1 2048 1024 0 (640 + a.val) b.val
    exact congrArg (fun n => LB x0 x1 x2 x3 x7 0 1 2048 1024 0 n b.val) (by omega)
  refine planeStep (e := .f32) (g := (plane (LB x0 x1 x2 x3 x7))) (P := 0) (off := 512) (n := 128) _ _ (fun a b => ?_) fun h31 => ?_
  · refine (Ctx.lN3 (ctx_4 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show LB x0 x1 x2 x3 x7 0 1 2048 1024 0 (4 * 128 + a.val) b.val = LB x0 x1 x2 x3 x7 0 1 2048 1024 0 (512 + a.val) b.val
    exact congrArg (fun n => LB x0 x1 x2 x3 x7 0 1 2048 1024 0 n b.val) (by omega)
  refine planeStep (e := .f32) (g := (plane (LB x0 x1 x2 x3 x7))) (P := 0) (off := 384) (n := 128) _ _ (fun a b => ?_) fun h32 => ?_
  · refine (Ctx.lN3 (ctx_3 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show LB x0 x1 x2 x3 x7 0 1 2048 1024 0 (3 * 128 + a.val) b.val = LB x0 x1 x2 x3 x7 0 1 2048 1024 0 (384 + a.val) b.val
    exact congrArg (fun n => LB x0 x1 x2 x3 x7 0 1 2048 1024 0 n b.val) (by omega)
  refine planeStep (e := .f32) (g := (plane (LB x0 x1 x2 x3 x7))) (P := 0) (off := 256) (n := 128) _ _ (fun a b => ?_) fun h33 => ?_
  · refine (Ctx.lN3 (ctx_2 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show LB x0 x1 x2 x3 x7 0 1 2048 1024 0 (2 * 128 + a.val) b.val = LB x0 x1 x2 x3 x7 0 1 2048 1024 0 (256 + a.val) b.val
    exact congrArg (fun n => LB x0 x1 x2 x3 x7 0 1 2048 1024 0 n b.val) (by omega)
  refine planeStep (e := .f32) (g := (plane (LB x0 x1 x2 x3 x7))) (P := 0) (off := 128) (n := 128) _ _ (fun a b => ?_) fun h34 => ?_
  · refine (Ctx.lN3 (ctx_1 c arg3 harg3 arg4 harg4 arg5 harg5 arg6 harg6 arg7 harg7 arg8 harg8 arg9 harg9 arg10 harg10 arg12 arg16 arg17 x0 x1 x2 x3 x4 x5 x6 x7) (lt := 2048) (by decide) (by decide) rfl ?_)
    have ha := a.isLt
    show LB x0 x1 x2 x3 x7 0 1 2048 1024 0 (1 * 128 + a.val) b.val = LB x0 x1 x2 x3 x7 0 1 2048 1024 0 (128 + a.val) b.val
    exact congrArg (fun n => LB x0 x1 x2 x3 x7 0 1 2048 1024 0 n b.val) (by omega)
  refine planeStep (e := .f32) (g := (plane (LB x0 x1 x2 x3 x7))) (P := 0) (off := 0) (n := 128) _ _ (fun a b => ?_) fun h35 => ?_
  · refine (Ctx.lE3 (ctx_0 c arg3 harg3 arg4 harg4 arg5 harg5 arg6 harg6 arg7 harg7 arg8 harg8 arg9 harg9 arg10 harg10 arg12 arg16 arg17 x0 x1 x2 x3 x4 x5 x6 x7) (lt := 2048) 2048#32 hi (by decide) (by decide) rfl ?_)
    have ha := a.isLt
    show LB x0 x1 x2 x3 x7 0 1 2048 1024 0 (0 * 128 + a.val) b.val = LB x0 x1 x2 x3 x7 0 1 2048 1024 0 (0 + a.val) b.val
    exact congrArg (fun n => LB x0 x1 x2 x3 x7 0 1 2048 1024 0 n b.val) (by omega)
  exfalso
  obtain hz | hz | hz : (y 0).val = 0 ∨ (y 0).val = 1 ∨ (y 0).val = 2 := by
    clear * - hy0
    omega
  · exact cover0 hz hy h20 h21 h22 h23 h24 h25 h26 h27 h28 h29 h30 h31 h32 h33 h34 h35
  · exact cover1 hz h16 h17 h18 h19
  · exact cover2 hz h0 h1 h2 h3 h4 h5 h6 h7 h8 h9 h10 h11 h12 h13 h14 h15

end Cert.AttnIdeal.Att

end
-- ==== Proof.AttOut.lean ====
/-
  What one call of the kernel body stores: the three dilations mixed by the weights of their largest scores.
-/
module

public import proofs.«01_k».proof.Proof.AttMath
public import proofs.«01_k».proof.Proof.AttPlO
public import proofs.«01_k».proof.Proof.AttPlM
public import proofs.«01_k».proof.Proof.AttPlL
public import proofs.«01_k».proof.Proof.Gen.AttnIdeal.Value

@[expose] public section

set_option maxRecDepth 16384

noncomputable section

namespace Cert.AttnIdeal.Att

open Cert.AttnIdeal Cert.AttnIdeal.Gen Idealize.ShloMosaic Idealize.ShloMosaic.TcCoe Idealize.SL.Sem
open Idealize.ShloMosaic.Pointwise
open scoped BigOperators

open Cert.Att (mix)

theorem mix_pay (o l m : ℕ → EReal) (o0 o1 o2 l0 l1 l2 m0 m1 m2 : FVec Ideal S1x2048x128 .f32) (a : Fin 2048) (b : Fin 128)
    (ho0 : o0 (ix3 0 a b) = o 0) (ho1 : o1 (ix3 0 a b) = o 1) (ho2 : o2 (ix3 0 a b) = o 2)
    (hl0 : l0 (ix3 0 a b) = l 0) (hl1 : l1 (ix3 0 a b) = l 1) (hl2 : l2 (ix3 0 a b) = l 2)
    (hm0 : m0 (ix3 0 a b) = m 0) (hm1 : m1 (ix3 0 a b) = m 1) (hm2 : m2 (ix3 0 a b) = m 2) :
    k0_pay1 (F := Ideal) (k0_pay814 (k0_pay810 m0 m1 m2) k0_pay811 k0_pay812 (k0_pay813 m0 m1 m2 m0) o0 l0 m1 o1 l1 m2 o2 l2) (ix3 0 a b) = mix o l m := by
  rw [mix, ← ho0, ← ho1, ← ho2, ← hl0, ← hl1, ← hl2, ← hm0, ← hm1, ← hm2]
  pointwise [k0_pay1, k0_pay814, k0_pay810, k0_pay811, k0_pay812, k0_pay813]

/-- What the body stores at position `a`, column `b`. -/
theorem out_apply (c : Dev nD) (i : grid0.Coords) (arg3 : Memref sig .tc .vmem S1x2048x128 .f32) (harg3 : arg3.IsWhole) (arg4 : Memref sig .tc .vmem S1x1024x128 .f32) (harg4 : arg4.IsWhole) (arg5 : Memref sig .tc .vmem S1x2048x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1x2048x128 .f32) (harg8 : arg8.IsWhole) (arg9 : Memref sig .tc .vmem S1x1024x128 .f32) (harg9 : arg9.IsWhole) (arg10 : Memref sig .tc .vmem S3x2x128x256 .f32) (harg10 : arg10.IsWhole) (arg11 : Memref sig .tc .vmem S1x2048x128 .bf16) (harg11 : arg11.IsWhole) (arg12 : Memref sig .tc .vmem S2048x128 .f32) (harg12 : arg12.IsWhole) (arg13 : Memref sig .tc .vmem S2048x128 .f32) (harg13 : arg13.IsWhole) (arg14 : Memref sig .tc .vmem S4096x128 .f32) (harg14 : arg14.IsWhole) (arg15 : Memref sig .tc .vmem S4096x128 .f32) (harg15 : arg15.IsWhole) (arg16 : Memref sig .tc .vmem S4096x128 .bf16) (harg16 : arg16.IsWhole) (arg17 : Memref sig .tc .vmem S4096x128 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole) (arg21 : Memref sig .tc .vmem S3x2048x128 .f32) (harg21 : arg21.IsWhole) (arg22 : Memref sig .tc .vmem S3x2048x128 .f32) (harg22 : arg22.IsWhole) (arg23 : Memref sig .tc .vmem S3x2048x128 .f32) (harg23 : arg23.IsWhole) (x0 : FVec Ideal S1x2048x128 .f32) (x1 : FVec Ideal S1x1024x128 .f32) (x2 : FVec Ideal S1x2048x128 .f32) (x3 : FVec Ideal S1x1024x128 .f32) (x4 : FVec Ideal S1x1024x128 .f32) (x5 : FVec Ideal S1x2048x128 .f32) (x6 : FVec Ideal S1x1024x128 .f32) (x7 : FVec Ideal S3x2x128x256 .f32) (hi : (i 1).val = 0) (a : Fin 2048) (b : Fin 128) :
    out0_A_8 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 (ix3 0 a b)
      = mix (fun P => plane (OB x0 x1 x2 x3 x4 x5 x6 x7) P a.val b.val) (fun P => plane (LB x0 x1 x2 x3 x7) P a.val b.val) (fun P => plane (MB x0 x1 x2 x3 x7) P a.val b.val) := by
  unfold out0_A_8
  rw [View.read_writes_eq_canon _ _ _ (cover0_A_8 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7)]
  unfold kernelRun0_A
  dsimp only
  have hz : (![0, 0, 0] : Fin 3 → ℕ) = fun _ => 0 := by funext k; fin_cases k <;> rfl
  rw [View.canon_unit_zero hz]
  have o0 : (kernelRun0_A.sl.v3734 (F := Ideal) c i arg3 harg3 arg4 harg4 arg5 harg5 arg6 harg6 arg7 harg7 arg8 harg8 arg9 harg9 arg10 harg10 arg12 arg13 arg14 arg15 arg16 arg17 arg18 arg21 x0 x1 x2 x3 x4 x5 x6 x7) (ix3 0 a b) = plane (OB x0 x1 x2 x3 x4 x5 x6 x7) 0 a.val b.val := by
    refine (ld2 _ (canon_HS9_36 c i arg3 harg3 arg4 harg4 arg5 harg5 arg6 harg6 arg7 harg7 arg8 harg8 arg9 harg9 arg10 harg10 arg12 arg13 arg14 arg15 arg16 arg17 arg18 x0 x1 x2 x3 x4 x5 x6 x7 hi) _ _).trans ?_
    show plane (OB x0 x1 x2 x3 x4 x5 x6 x7) 0 (0 + 1 * a.val) (0 + 1 * b.val) = _
    rw [Nat.one_mul, Nat.one_mul, Nat.zero_add, Nat.zero_add]
  have o1 : (kernelRun0_A.sl.v3746 (F := Ideal) c i arg3 harg3 arg4 harg4 arg5 harg5 arg6 harg6 arg7 harg7 arg8 harg8 arg9 harg9 arg10 harg10 arg12 arg13 arg14 arg15 arg16 arg17 arg18 arg21 x0 x1 x2 x3 x4 x5 x6 x7) (ix3 0 a b) = plane (OB x0 x1 x2 x3 x4 x5 x6 x7) 1 a.val b.val := by
    refine (ld2 _ (canon_HS9_36 c i arg3 harg3 arg4 harg4 arg5 harg5 arg6 harg6 arg7 harg7 arg8 harg8 arg9 harg9 arg10 harg10 arg12 arg13 arg14 arg15 arg16 arg17 arg18 x0 x1 x2 x3 x4 x5 x6 x7 hi) _ _).trans ?_
    show plane (OB x0 x1 x2 x3 x4 x5 x6 x7) 1 (0 + 1 * a.val) (0 + 1 * b.val) = _
    rw [Nat.one_mul, Nat.one_mul, Nat.zero_add, Nat.zero_add]
  have o2 : (kernelRun0_A.sl.v3758 (F := Ideal) c i arg3 harg3 arg4 harg4 arg5 harg5 arg6 harg6 arg7 harg7 arg8 harg8 arg9 harg9 arg10 harg10 arg12 arg13 arg14 arg15 arg16 arg17 arg18 arg21 x0 x1 x2 x3 x4 x5 x6 x7) (ix3 0 a b) = plane (OB x0 x1 x2 x3 x4 x5 x6 x7) 2 a.val b.val := by
    refine (ld2 _ (canon_HS9_36 c i arg3 harg3 arg4 harg4 arg5 harg5 arg6 harg6 arg7 harg7 arg8 harg8 arg9 harg9 arg10 harg10 arg12 arg13 arg14 arg15 arg16 arg17 arg18 x0 x1 x2 x3 x4 x5 x6 x7 hi) _ _).trans ?_
    show plane (OB x0 x1 x2 x3 x4 x5 x6 x7) 2 (0 + 1 * a.val) (0 + 1 * b.val) = _
    rw [Nat.one_mul, Nat.one_mul, Nat.zero_add, Nat.zero_add]
  have l0 : (kernelRun0_A.sl.v3738 (F := Ideal) c i arg3 harg3 arg4 harg4 arg5 harg5 arg6 harg6 arg7 harg7 arg8 harg8 arg9 harg9 arg10 harg10 arg12 arg13 arg14 arg15 arg16 arg17 arg20 arg23 x0 x1 x2 x3 x4 x5 x6 x7) (ix3 0 a b) = plane (LB x0 x1 x2 x3 x7) 0 a.val b.val := by
    refine (ld2 _ (canon_HS11_36 c i arg3 harg3 arg4 harg4 arg5 harg5 arg6 harg6 arg7 harg7 arg8 harg8 arg9 harg9 arg10 harg10 arg12 arg13 arg14 arg15 arg16 arg17 arg20 x0 x1 x2 x3 x4 x5 x6 x7 hi) _ _).trans ?_
    show plane (LB x0 x1 x2 x3 x7) 0 (0 + 1 * a.val) (0 + 1 * b.val) = _
    rw [Nat.one_mul, Nat.one_mul, Nat.zero_add, Nat.zero_add]
  have l1 : (kernelRun0_A.sl.v3750 (F := Ideal) c i arg3 harg3 arg4 harg4 arg5 harg5 arg6 harg6 arg7 harg7 arg8 harg8 arg9 harg9 arg10 harg10 arg12 arg13 arg14 arg15 arg16 arg17 arg20 arg23 x0 x1 x2 x3 x4 x5 x6 x7) (ix3 0 a b) = plane (LB x0 x1 x2 x3 x7) 1 a.val b.val := by
    refine (ld2 _ (canon_HS11_36 c i arg3 harg3 arg4 harg4 arg5 harg5 arg6 harg6 arg7 harg7 arg8 harg8 arg9 harg9 arg10 harg10 arg12 arg13 arg14 arg15 arg16 arg17 arg20 x0 x1 x2 x3 x4 x5 x6 x7 hi) _ _).trans ?_
    show plane (LB x0 x1 x2 x3 x7) 1 (0 + 1 * a.val) (0 + 1 * b.val) = _
    rw [Nat.one_mul, Nat.one_mul, Nat.zero_add, Nat.zero_add]
  have l2 : (kernelRun0_A.sl.v3762 (F := Ideal) c i arg3 harg3 arg4 harg4 arg5 harg5 arg6 harg6 arg7 harg7 arg8 harg8 arg9 harg9 arg10 harg10 arg12 arg13 arg14 arg15 arg16 arg17 arg20 arg23 x0 x1 x2 x3 x4 x5 x6 x7) (ix3 0 a b) = plane (LB x0 x1 x2 x3 x7) 2 a.val b.val := by
    refine (ld2 _ (canon_HS11_36 c i arg3 harg3 arg4 harg4 arg5 harg5 arg6 harg6 arg7 harg7 arg8 harg8 arg9 harg9 arg10 harg10 arg12 arg13 arg14 arg15 arg16 arg17 arg20 x0 x1 x2 x3 x4 x5 x6 x7 hi) _ _).trans ?_
    show plane (LB x0 x1 x2 x3 x7) 2 (0 + 1 * a.val) (0 + 1 * b.val) = _
    rw [Nat.one_mul, Nat.one_mul, Nat.zero_add, Nat.zero_add]
  have m0 : (kernelRun0_A.sl.v3720 (F := Ideal) c i arg3 harg3 arg4 harg4 arg5 harg5 arg6 harg6 arg10 harg10 arg12 arg13 arg14 arg16 arg19 arg22 x0 x1 x2 x3 x7) (ix3 0 a b) = plane (MB x0 x1 x2 x3 x7) 0 a.val b.val := by
    refine (ld2 _ (canon_HS10_36 c i arg3 harg3 arg4 harg4 arg5 harg5 arg6 harg6 arg7 harg7 arg8 harg8 arg9 harg9 arg10 harg10 arg12 arg13 arg14 arg15 arg16 arg17 arg19 x0 x1 x2 x3 x4 x5 x6 x7 hi) _ _).trans ?_
    show plane (MB x0 x1 x2 x3 x7) 0 (0 + 1 * a.val) (0 + 1 * b.val) = _
    rw [Nat.one_mul, Nat.one_mul, Nat.zero_add, Nat.zero_add]
  have m1 : (kernelRun0_A.sl.v3722 (F := Ideal) c i arg3 harg3 arg4 harg4 arg5 harg5 arg6 harg6 arg10 harg10 arg12 arg13 arg14 arg16 arg19 arg22 x0 x1 x2 x3 x7) (ix3 0 a b) = plane (MB x0 x1 x2 x3 x7) 1 a.val b.val := by
    refine (ld2 _ (canon_HS10_36 c i arg3 harg3 arg4 harg4 arg5 harg5 arg6 harg6 arg7 harg7 arg8 harg8 arg9 harg9 arg10 harg10 arg12 arg13 arg14 arg15 arg16 arg17 arg19 x0 x1 x2 x3 x4 x5 x6 x7 hi) _ _).trans ?_
    show plane (MB x0 x1 x2 x3 x7) 1 (0 + 1 * a.val) (0 + 1 * b.val) = _
    rw [Nat.one_mul, Nat.one_mul, Nat.zero_add, Nat.zero_add]
  have m2 : (kernelRun0_A.sl.v3725 (F := Ideal) c i arg3 harg3 arg4 harg4 arg5 harg5 arg6 harg6 arg10 harg10 arg12 arg13 arg14 arg16 arg19 arg22 x0 x1 x2 x3 x7) (ix3 0 a b) = plane (MB x0 x1 x2 x3 x7) 2 a.val b.val := by
    refine (ld2 _ (canon_HS10_36 c i arg3 harg3 arg4 harg4 arg5 harg5 arg6 harg6 arg7 harg7 arg8 harg8 arg9 harg9 arg10 harg10 arg12 arg13 arg14 arg15 arg16 arg17 arg19 x0 x1 x2 x3 x4 x5 x6 x7 hi) _ _).trans ?_
    show plane (MB x0 x1 x2 x3 x7) 2 (0 + 1 * a.val) (0 + 1 * b.val) = _
    rw [Nat.one_mul, Nat.one_mul, Nat.zero_add, Nat.zero_add]
  exact mix_pay (fun P => plane (OB x0 x1 x2 x3 x4 x5 x6 x7) P a.val b.val) (fun P => plane (LB x0 x1 x2 x3 x7) P a.val b.val) (fun P => plane (MB x0 x1 x2 x3 x7) P a.val b.val) _ _ _ _ _ _ _ _ _ a b o0 o1 o2 l0 l1 l2 m0 m1 m2

end Cert.AttnIdeal.Att

end
-- ==== Proof.AttWords.lean ====
/-
  The words of the dilated attention: which keys a pattern sees, and the relative position of a key of a window.
-/
module

public import proofs.«01_k».proof.Proof.AttMath
public import Idealize.ShloMosaic.Lib.WordCmp

@[expose] public section

noncomputable section

namespace Cert.Att

open Idealize.ShloMosaic
open scoped BigOperators

/-- Whether a pattern with dilation `d` and half window `half` sees a key at relative position `w`. -/
def seen (d half w : BitVec 32) : BitVec 1 :=
  IntOp.andi (IntOp.cmpi .eq (IntOp.remsi .host w d) 0#32) (IntOp.cmpi .sle (IntOp.absi w) half)

/-- The relative position of key `u` and query `t`. -/
def rel (u t : ℕ) : BitVec 32 := IntOp.subi (BitVec.ofNat 32 u) (BitVec.ofNat 32 t)

theorem toInt_ofNat (n : ℕ) (h : n < 4096) : (BitVec.ofNat 32 n).toInt = n := by
  have e : (BitVec.ofNat 32 n).toNat = n := by rw [BitVec.toNat_ofNat]; exact Nat.mod_eq_of_lt (by omega)
  rw [WordCmp.toInt_eq_toNat_of_lt_half (by rw [e]; omega), e]

theorem toInt_sub (x y : BitVec 32) (h1 : -8192 < x.toInt - y.toInt) (h2 : x.toInt - y.toInt < 8192) : (IntOp.subi x y).toInt = x.toInt - y.toInt := by
  show (x - y).toInt = _
  rw [BitVec.toInt_sub]
  exact Int.bmod_eq_of_le (by omega) (by omega)

theorem rel_toInt (u t : ℕ) (hu : u < 2048) (ht : t < 2048) : (rel u t).toInt = (u : ℤ) - t := by
  have eu := toInt_ofNat u (by omega)
  have et := toInt_ofNat t (by omega)
  rw [rel, toInt_sub _ _ (by omega) (by omega), eu, et]

theorem absi_toInt (w : BitVec 32) (h1 : -8192 < w.toInt) (h2 : w.toInt < 8192) : (IntOp.absi w).toInt = |w.toInt| := by
  rw [IntOp.absi]
  by_cases h : w.msb = true
  · have hn : w.toInt < 0 := by rw [BitVec.msb_eq_toInt] at h; exact of_decide_eq_true h
    rw [if_pos h, BitVec.toInt_neg, abs_of_neg hn]
    exact Int.bmod_eq_of_le (by omega) (by omega)
  · have hn : 0 ≤ w.toInt := by
      by_contra hc
      exact h (by rw [BitVec.msb_eq_toInt]; exact decide_eq_true (by omega))
    rw [if_neg h, abs_of_nonneg hn]

theorem near_iff (w : BitVec 32) (h1 : -8192 < w.toInt) (h2 : w.toInt < 8192) (n : ℕ) (hn : n < 4096) :
    IntOp.cmpi .sle (IntOp.absi w) (BitVec.ofNat 32 n) = 1#1 ↔ |w.toInt| ≤ n := by
  rw [WordCmp.cmpi_sle_eq, absi_toInt w h1 h2, toInt_ofNat n hn, WordCmp.ofBool_decide_eq_ite]
  by_cases h : |w.toInt| ≤ n
  · simp [h]
  · simp [h]

theorem and_iff (a b : BitVec 1) : IntOp.andi a b = 1#1 ↔ a = 1#1 ∧ b = 1#1 := by
  revert a b
  decide

theorem divides_iff (w : BitVec 32) (d : ℕ) (hd : d = 1 ∨ d = 4 ∨ d = 16) :
    IntOp.cmpi .eq (IntOp.remsi .host w (BitVec.ofNat 32 d)) 0#32 = 1#1 ↔ (d : ℤ) ∣ w.toInt := by
  have hc : ¬ IntOp.SDivCorner w (BitVec.ofNat 32 d) := by
    rcases hd with rfl | rfl | rfl <;> simp [IntOp.SDivCorner]
  have e : (BitVec.ofNat 32 d).toInt = d := toInt_ofNat d (by omega)
  rw [IntOp.remsi, if_neg hc, WordCmp.cmpi_eq_eq, WordCmp.ofBool_decide_eq_ite]
  have k : w.srem (BitVec.ofNat 32 d) = 0#32 ↔ (d : ℤ) ∣ w.toInt := by
    rw [← BitVec.toInt_inj, BitVec.toInt_srem, e, Int.dvd_iff_tmod_eq_zero]
    rfl
  by_cases h : (d : ℤ) ∣ w.toInt
  · rw [if_pos (k.2 h)]
    simp [h]
  · rw [if_neg fun hk => h (k.1 hk)]
    simp [h]

/-- A pattern sees the keys at a multiple of its dilation, up to half its window. -/
theorem seen_iff (d n u t : ℕ) (hd : d = 1 ∨ d = 4 ∨ d = 16) (hn : n < 4096) (hu : u < 2048) (ht : t < 2048) :
    seen (BitVec.ofNat 32 d) (BitVec.ofNat 32 n) (rel u t) = 1#1 ↔ (d : ℤ) ∣ (u : ℤ) - t ∧ |(u : ℤ) - t| ≤ n := by
  have e := rel_toInt u t hu ht
  rw [seen, and_iff, divides_iff _ d hd, near_iff _ (by omega) (by omega) n hn, e]

/-- The hop from query `i` of a block to key `j` of its window. -/
def hop (i j : ℕ) : BitVec 32 := IntOp.subi (IntOp.subi (BitVec.ofNat 32 j) 64#32) (BitVec.ofNat 32 i)

theorem hop_toInt (i j : ℕ) (hi : i < 128) (hj : j < 256) : (hop i j).toInt = (j : ℤ) - 64 - i := by
  have ej := toInt_ofNat j (by omega)
  have ei := toInt_ofNat i (by omega)
  have e64 : (64#32).toInt = 64 := by decide
  have e1 : (IntOp.subi (BitVec.ofNat 32 j) 64#32).toInt = (j : ℤ) - 64 := by
    rw [toInt_sub _ _ (by omega) (by omega), ej, e64]
  rw [hop, toInt_sub _ _ (by omega) (by omega), e1, ei]

theorem hop_near (i j : ℕ) (hi : i < 128) (hj : j < 256) :
    IntOp.cmpi .sle (IntOp.absi (hop i j)) 64#32 = 1#1 ↔ |(j : ℤ) - 64 - i| ≤ 64 := by
  have e := hop_toInt i j hi hj
  have := near_iff (hop i j) (by omega) (by omega) 64 (by omega)
  rw [e] at this
  exact this

/-- The dilated hop is the relative position. -/
theorem hop_rel (d r b i j u t : ℕ) (hw : 64 ≤ b + j) (hu : u = r + d * (b + j - 64)) (ht : t = r + d * (b + i)) :
    IntOp.muli (hop i j) (BitVec.ofNat 32 d) = rel u t := by
  obtain ⟨k, hk⟩ : ∃ k, b + j = 64 + k := ⟨b + j - 64, by omega⟩
  have hk' : b + j - 64 = k := by omega
  have e : (BitVec.ofNat 32 b) + BitVec.ofNat 32 j = 64#32 + BitVec.ofNat 32 k := by
    rw [← BitVec.ofNat_add, hk, BitVec.ofNat_add]
  subst hu ht
  rw [hk']
  show (BitVec.ofNat 32 j - 64#32 - BitVec.ofNat 32 i) * BitVec.ofNat 32 d = BitVec.ofNat 32 (r + d * k) - BitVec.ofNat 32 (r + d * (b + i))
  simp only [BitVec.ofNat_add, BitVec.ofNat_mul]
  grind

end Cert.Att

end
-- ==== Proof.AttSpec.lean ====
/-
  What the dilated attention computes: for each pattern the softmax over the keys it sees, the three weighted by the softmax of
  the logarithms of their sums.
-/
module

public import proofs.«01_k».proof.Proof.AttWords

@[expose] public section

noncomputable section

namespace Cert.Att

open Idealize.ShloMosaic
open scoped BigOperators

/-- The bias of head `h` at relative position `w`. -/
def tab (B : Fin 32 → Fin 8 → EReal) (h : Fin 8) (w : BitVec 32) : EReal := ∑ j : Fin 32, B j h * hot (bucket w) j.val

/-- The score of query `t` and key `u`. -/
def logit (A : Fin 16 → Fin 2048 → Fin 1536 → EReal) (B : Fin 32 → Fin 8 → EReal) (b : Fin 16) (h : Fin 8) (t u : Fin 2048) : EReal :=
  (∑ c : Fin 64, A b t ⟨64 * h.val + c.val, by omega⟩ * A b u ⟨512 + 64 * h.val + c.val, by omega⟩) * Ideal.ofBits .f32 0x3E000000#32 + tab B h (rel u.val t.val)

/-- The score that a pattern sees. -/
def sight (A : Fin 16 → Fin 2048 → Fin 1536 → EReal) (B : Fin 32 → Fin 8 → EReal) (d n : BitVec 32) (b : Fin 16) (h : Fin 8) (t u : Fin 2048) : EReal :=
  Scalar.select (seen d n (rel u.val t.val)) (logit A B b h t u) ⊥

/-- The three patterns. -/
def pat (A : Fin 16 → Fin 2048 → Fin 1536 → EReal) (B : Fin 32 → Fin 8 → EReal) (b : Fin 16) (h : Fin 8) (t : Fin 2048) : ℕ → Fin 2048 → EReal
  | 0 => sight A B 1#32 64#32 b h t
  | 1 => sight A B 4#32 256#32 b h t
  | _ => sight A B 16#32 1024#32 b h t

/-- The attention at batch `b`, position `t`, column `c`. -/
def spec (A : Fin 16 → Fin 2048 → Fin 1536 → EReal) (B : Fin 32 → Fin 8 → EReal) (b : Fin 16) (t : Fin 2048) (c : Fin 512) : EReal :=
  blend (fun P => att (pat A B b ⟨c.val / 64, by omega⟩ t P) fun u => A b u ⟨1024 + 64 * (c.val / 64) + c.val % 64, by omega⟩)
    fun P => lse (pat A B b ⟨c.val / 64, by omega⟩ t P)

/-- The queries, the keys and the table hold real numbers. -/
structure Real (A : Fin 16 → Fin 2048 → Fin 1536 → EReal) (B : Fin 32 → Fin 8 → EReal) : Prop where
  a : ∀ b t (c : Fin 1536), c.val < 1024 → ∃ r : ℝ, A b t c = r
  b : ∀ j h, ∃ r : ℝ, B j h = r

theorem real_sum {ι : Type} (s : Finset ι) (f : ι → EReal) (h : ∀ i, ∃ r : ℝ, f i = r) : ∃ r : ℝ, ∑ i ∈ s, f i = r := by
  choose g hg using h
  exact ⟨∑ i ∈ s, g i, by rw [coe_sum]; exact Finset.sum_congr rfl fun i _ => hg i⟩

theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem real_add {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

/-- The scale is an eighth. -/
theorem scale : Ideal.ofBits .f32 0x3E000000#32 = ((1 / 8 : ℝ) : EReal) := by
  simp [Ideal.ofBits, Ideal.ieee]
  rw [← EReal.coe_mul]
  norm_num

theorem hot_real (w : BitVec 32) (j : ℕ) : ∃ r : ℝ, hot w j = r := ⟨_, rfl⟩

theorem tab_real {A B} (R : Real A B) (h : Fin 8) (w : BitVec 32) : ∃ r : ℝ, tab B h w = r :=
  real_sum _ _ fun j => real_mul (R.b j h) (hot_real _ _)

theorem logit_real {A B} (R : Real A B) (b : Fin 16) (h : Fin 8) (t u : Fin 2048) : ∃ r : ℝ, logit A B b h t u = r :=
  real_add (real_mul (real_sum _ _ fun c => real_mul (R.a b t _ (by dsimp only; omega)) (R.a b u _ (by dsimp only; omega))) ⟨_, scale⟩) (tab_real R h _)

theorem select_one (w : BitVec 1) (hw : w = 1#1) (x y : EReal) : Scalar.select w x y = x := WordCmp.select_of_eq_one hw x y

theorem select_not (w : BitVec 1) (hw : ¬ w = 1#1) (x y : EReal) : Scalar.select w x y = y :=
  WordCmp.select_of_eq_zero (by revert w; decide) x y

theorem score_real {A B} (R : Real A B) (d n : BitVec 32) (b : Fin 16) (h : Fin 8) (t u : Fin 2048) :
    sight A B d n b h t u = ⊥ ∨ ∃ r : ℝ, sight A B d n b h t u = r := by
  by_cases hw : seen d n (rel u.val t.val) = 1#1
  · rw [sight, select_one _ hw]
    exact Or.inr (logit_real R b h t u)
  · rw [sight, select_not _ hw]
    exact Or.inl rfl

theorem score_self {A B} (R : Real A B) (d n : ℕ) (hd : d = 1 ∨ d = 4 ∨ d = 16) (hn : n < 4096) (b : Fin 16) (h : Fin 8) (t : Fin 2048) :
    sight A B (BitVec.ofNat 32 d) (BitVec.ofNat 32 n) b h t t ≠ ⊥ := by
  rw [sight, select_one _ ((seen_iff d n t.val t.val hd hn t.isLt t.isLt).2 (by simp))]
  obtain ⟨r, hr⟩ := logit_real R b h t t
  rw [hr]
  exact EReal.coe_ne_bot r

theorem pat_real {A B} (R : Real A B) (b : Fin 16) (h : Fin 8) (t : Fin 2048) (P : ℕ) (u : Fin 2048) :
    pat A B b h t P u = ⊥ ∨ ∃ r : ℝ, pat A B b h t P u = r :=
  match P with
  | 0 => score_real R _ _ b h t u
  | 1 => score_real R _ _ b h t u
  | _ + 2 => score_real R _ _ b h t u

theorem pat_self {A B} (R : Real A B) (b : Fin 16) (h : Fin 8) (t : Fin 2048) (P : ℕ) : ∃ u, pat A B b h t P u ≠ ⊥ :=
  match P with
  | 0 => ⟨t, score_self R 1 64 (by omega) (by omega) b h t⟩
  | 1 => ⟨t, score_self R 4 256 (by omega) (by omega) b h t⟩
  | _ + 2 => ⟨t, score_self R 16 1024 (by omega) (by omega) b h t⟩

end Cert.Att

end
-- ==== Proof.AttWindow.lean ====
/-
  The windows of keys that the kernel scores hold all the keys that the patterns see.
-/
module

public import proofs.«01_k».proof.Proof.AttForm
public import proofs.«01_k».proof.Proof.AttSpec

@[expose] public section

set_option maxRecDepth 16384

noncomputable section

namespace Cert.AttnIdeal.Att

open Cert.AttnIdeal Cert.AttnIdeal.Gen Idealize.ShloMosaic Idealize.ShloMosaic.TcCoe Idealize.SL.Sem
open Idealize.ShloMosaic.Pointwise
open scoped BigOperators
open Cert.Att (sight logit pat spec tab rel hop seen)

/-- A sum over the columns of one head of two. -/
theorem half_sum (q k : ℕ → EReal) (g : ℕ) (hg : g < 2) :
    ∑ c : Fin 128, (if c.val / 64 = g then q c.val else 0) * k c.val = ∑ c : Fin 64, q (64 * g + c.val) * k (64 * g + c.val) := by
  have e := Fin.sum_univ_add (a := 64) (b := 64) fun c : Fin (64 + 64) => (if c.val / 64 = g then q c.val else 0) * k c.val
  refine e.trans ?_
  have hL : ∀ c : Fin 64, (Fin.castAdd 64 c).val / 64 = 0 := fun c => by have := c.isLt; simp only [Fin.val_castAdd]; omega
  have hR : ∀ c : Fin 64, (Fin.natAdd 64 c).val / 64 = 1 := fun c => by have := c.isLt; simp only [Fin.val_natAdd]; omega
  obtain rfl | rfl : g = 0 ∨ g = 1 := by omega
  · rw [Finset.sum_eq_zero (s := Finset.univ) (f := fun c : Fin 64 => (if (Fin.natAdd 64 c).val / 64 = 0 then q (Fin.natAdd 64 c).val else 0) * k (Fin.natAdd 64 c).val) fun c _ => by
      rw [if_neg (by rw [hR c]; omega), zero_mul], add_zero]
    refine Finset.sum_congr rfl fun c _ => ?_
    rw [if_pos (hL c)]
    simp
  · rw [Finset.sum_eq_zero (s := Finset.univ) (f := fun c : Fin 64 => (if (Fin.castAdd 64 c).val / 64 = 1 then q (Fin.castAdd 64 c).val else 0) * k (Fin.castAdd 64 c).val) fun c _ => by
      rw [if_neg (by rw [hL c]; omega), zero_mul], zero_add]
    refine Finset.sum_congr rfl fun c _ => ?_
    rw [if_pos (hR c)]
    simp [Nat.add_comm]

/-- The three patterns' dilation, length and halo. -/
def Shape3 (P d lt lh : ℕ) : Prop := (P = 0 ∧ d = 1 ∧ lt = 2048 ∧ lh = 1024) ∨ (P = 1 ∧ d = 4 ∧ lt = 512 ∧ lh = 256) ∨ (P = 2 ∧ d = 16 ∧ lt = 128 ∧ lh = 64)

theorem Shape3.dil {P d lt lh : ℕ} (s : Shape3 P d lt lh) : d = 1 ∨ d = 4 ∨ d = 16 := by
  rcases s with ⟨-, rfl, -⟩ | ⟨-, rfl, -⟩ | ⟨-, rfl, -⟩ <;> simp

variable (A : Fin 16 → Fin 2048 → Fin 1536 → EReal) (B : Fin 32 → Fin 8 → EReal) (b : Fin 16) (hi : Fin 4)

/-- What the kernel's windows hold at batch `b` and pair of heads `hi`. -/
structure Holds (x0 x2 x5 : FVec Ideal S1x2048x128 .f32) (x7 : FVec Ideal S3x2x128x256 .f32) : Prop where
  q : ∀ (t : Fin 2048) (c : Fin 128), x0 (ix3 0 t c) = A b t ⟨128 * hi.val + c.val, by omega⟩
  k : ∀ (t : Fin 2048) (c : Fin 128), x2 (ix3 0 t c) = A b t ⟨512 + 128 * hi.val + c.val, by omega⟩
  v : ∀ (t : Fin 2048) (c : Fin 128), x5 (ix3 0 t c) = A b t ⟨1024 + 128 * hi.val + c.val, by omega⟩
  b : ∀ (P : Fin 3) (h : Fin 2) (i : Fin 128) (j : Fin 256), x7 (ix4 P h i j)
    = Scalar.select (IntOp.cmpi .sle (IntOp.absi (hop i.val j.val)) 64#32) (tab B ⟨2 * hi.val + h.val, by omega⟩ (IntOp.muli (hop i.val j.val) (BitVec.ofNat 32 (4 ^ P.val)))) (⊥ : EReal)

variable {A B b hi}
variable {x0 : FVec Ideal S1x2048x128 .f32} {x1 : FVec Ideal S1x1024x128 .f32} {x2 : FVec Ideal S1x2048x128 .f32} {x3 : FVec Ideal S1x1024x128 .f32}
  {x4 : FVec Ideal S1x1024x128 .f32} {x5 : FVec Ideal S1x2048x128 .f32} {x6 : FVec Ideal S1x1024x128 .f32} {x7 : FVec Ideal S3x2x128x256 .f32}

/-- The key of index `j` of the window of query `n` of residue `r`. -/
def keyOf (d r n : ℕ) (j : Fin 256) : Fin 2048 := if h : r + d * (n / 128 * 128 + j.val - 64) < 2048 then ⟨r + d * (n / 128 * 128 + j.val - 64), h⟩ else 0

/-- The indices of a window that the pattern sees. -/
def Sees (lt n : ℕ) (j : Fin 256) : Prop :=
  (64 ≤ n / 128 * 128 + j.val ∧ n / 128 * 128 + j.val < lt + 64) ∧ |(j.val : ℤ) - 64 - (n % 128 : ℕ)| ≤ 64

section
variable {P d lt lh r n : ℕ} (S : Shape3 P d lt lh) (hr : r < d) (hn : n < lt)
include S hr hn

theorem keyOf_val (j : Fin 256) (h : Sees lt n j) : (keyOf d r n j).val = r + d * (n / 128 * 128 + j.val - 64) := by
  obtain ⟨⟨h1, h2⟩, -⟩ := h
  rw [keyOf, dif_pos]
  rcases S with ⟨-, rfl, rfl, -⟩ | ⟨-, rfl, rfl, -⟩ | ⟨-, rfl, rfl, -⟩ <;> omega

theorem KK_key (j : Fin 256) (h : Sees lt n j) (c : Fin 128) :
    KK x1 x2 x3 (r + d * (lh + n / 128 * 128 + j.val - 64)) c.val = x2 (ix3 0 (keyOf d r n j) c) := by
  have hk := keyOf_val S hr hn j h
  obtain ⟨⟨h1, h2⟩, -⟩ := h
  have e : r + d * (lh + n / 128 * 128 + j.val - 64) = 1024 + (keyOf d r n j).val := by
    rw [hk]
    rcases S with ⟨-, rfl, rfl, rfl⟩ | ⟨-, rfl, rfl, rfl⟩ | ⟨-, rfl, rfl, rfl⟩ <;> omega
  have hl := (keyOf d r n j).isLt
  have hc := c.isLt
  rw [e, KK, dif_neg (by omega), dif_pos ⟨by omega, by omega, hc⟩]
  congr 2
  exact Fin.ext (by simp)

/-- Inside, the score is the reference's. -/
theorem SS_in (H : Holds A B b hi x0 x2 x5 x7) (g : ℕ) (hg : g < 2) (t : Fin 2048) (ht : t.val = r + d * n) (j : Fin 256) (h : Sees lt n j) :
    SS x0 x1 x2 x3 x7 P d lt lh g r n j
      = sight A B (BitVec.ofNat 32 d) (BitVec.ofNat 32 (64 * d)) b ⟨2 * hi.val + g, by omega⟩ t (keyOf d r n j) := by
  have hk := keyOf_val S hr hn j h
  have hP : P < 3 ∧ 4 ^ P = d := by rcases S with ⟨rfl, rfl, -⟩ | ⟨rfl, rfl, -⟩ | ⟨rfl, rfl, -⟩ <;> simp
  have hsum : (∑ c : Fin 128, (if c.val / 64 = g then QQ x0 (r + d * n) c.val else 0) * KK x1 x2 x3 (r + d * (lh + n / 128 * 128 + j.val - 64)) c.val)
      = (∑ c : Fin 64, A b t ⟨64 * (2 * hi.val + g) + c.val, by omega⟩ * A b (keyOf d r n j) ⟨512 + 64 * (2 * hi.val + g) + c.val, by omega⟩) * Ideal.ofBits .f32 0x3E000000#32 := by
    rw [half_sum (fun c => QQ x0 (r + d * n) c) (fun c => KK x1 x2 x3 (r + d * (lh + n / 128 * 128 + j.val - 64)) c) g hg, mul_comm _ (Ideal.ofBits _ _), Cert.Att.scale,
      Cert.Att.coe_mul_sum _ (by norm_num)]
    refine Finset.sum_congr rfl fun c _ => ?_
    have hc : 64 * g + c.val < 128 := by omega
    have e1 := KK_key (x1 := x1) (x2 := x2) (x3 := x3) S hr hn j h ⟨64 * g + c.val, hc⟩
    dsimp only at e1
    rw [e1, H.k, QQ, dif_pos ⟨ht ▸ t.isLt, hc⟩, H.q, Cert.Att.scale, ← mul_assoc, mul_comm ((1 / 8 : ℝ) : EReal)]
    congr 1
    · congr 1
      exact congrArg₂ (A b) (Fin.ext ht.symm) (Fin.ext (by dsimp only; ring))
    · exact congrArg (A b _) (Fin.ext (by dsimp only; ring))
  obtain ⟨⟨h1, h2⟩, h3⟩ := h
  have hm : n % 128 < 128 := Nat.mod_lt _ (by omega)
  have hrel : IntOp.muli (hop (n % 128) j.val) (BitVec.ofNat 32 d) = rel (keyOf d r n j).val t.val :=
    Cert.Att.hop_rel d r (n / 128 * 128) (n % 128) j.val _ _ h1 hk (by rw [ht]; congr 2; omega)
  have hseen : seen (BitVec.ofNat 32 d) (BitVec.ofNat 32 (64 * d)) (rel (keyOf d r n j).val t.val) = 1#1 := by
    refine (Cert.Att.seen_iff d (64 * d) _ _ S.dil (by rcases S.dil with rfl | rfl | rfl <;> omega) (keyOf d r n j).isLt t.isLt).2 ?_
    rw [hk, ht, abs_le]
    rw [abs_le] at h3
    rcases S with ⟨-, rfl, rfl, -⟩ | ⟨-, rfl, rfl, -⟩ | ⟨-, rfl, rfl, -⟩ <;> refine ⟨?_, ?_, ?_⟩ <;> omega
  have hb : BB x7 P g (n % 128) j.val = tab B ⟨2 * hi.val + g, by omega⟩ (rel (keyOf d r n j).val t.val) := by
    rw [BB, dif_pos ⟨hP.1, hg, hm, j.isLt⟩, H.b]
    refine (Cert.Att.select_one _ ((Cert.Att.hop_near _ _ hm j.isLt).2 h3) _ _).trans ?_
    exact congrArg (tab B _) ((congrArg (fun e => IntOp.muli _ (BitVec.ofNat 32 e)) hP.2).trans hrel)
  rw [SS, if_pos ⟨h1, h2⟩, hsum, hb, sight, Cert.Att.select_one _ hseen, logit]

/-- Outside, it is `⊥`. -/
theorem SS_out (H : Holds A B b hi x0 x2 x5 x7) (g : ℕ) (hg : g < 2) (j : Fin 256) (h : ¬ Sees lt n j) :
    SS x0 x1 x2 x3 x7 P d lt lh g r n j = ⊥ := by
  have hP : P < 3 := by rcases S with ⟨rfl, -⟩ | ⟨rfl, -⟩ | ⟨rfl, -⟩ <;> simp
  rw [SS]
  by_cases hv : 64 ≤ n / 128 * 128 + j.val ∧ n / 128 * 128 + j.val < lt + 64
  · have hm : n % 128 < 128 := Nat.mod_lt _ (by omega)
    rw [if_pos hv, BB, dif_pos ⟨hP, hg, hm, j.isLt⟩, H.b]
    rw [Cert.Att.select_not _ (fun hc => h ⟨hv, (Cert.Att.hop_near _ _ hm j.isLt).1 hc⟩), EReal.add_bot]
  · rw [if_neg hv]

/-- Every key that the pattern sees is in the window. -/
theorem seen_key (g : Fin 8) (t : Fin 2048) (ht : t.val = r + d * n) (u : Fin 2048)
    (hu : sight A B (BitVec.ofNat 32 d) (BitVec.ofNat 32 (64 * d)) b g t u ≠ ⊥) : ∃ j : Fin 256, Sees lt n j ∧ keyOf d r n j = u := by
  have hs : seen (BitVec.ofNat 32 d) (BitVec.ofNat 32 (64 * d)) (rel u.val t.val) = 1#1 := by
    by_contra hc
    exact hu (by rw [sight, Cert.Att.select_not _ hc])
  obtain ⟨h1, h2⟩ := (Cert.Att.seen_iff d (64 * d) _ _ S.dil (by rcases S.dil with rfl | rfl | rfl <;> omega) u.isLt t.isLt).1 hs
  rw [ht, abs_le] at h2
  rw [ht] at h1
  have hul := u.isLt
  have hj : ∃ j : ℕ, j < 256 ∧ 64 ≤ n / 128 * 128 + j ∧ n / 128 * 128 + j < lt + 64 ∧ -64 ≤ (j : ℤ) - 64 - (n % 128 : ℕ) ∧ (j : ℤ) - 64 - (n % 128 : ℕ) ≤ 64
      ∧ r + d * (n / 128 * 128 + j - 64) = u.val := by
    refine ⟨u.val / d + 64 - n / 128 * 128, ?_⟩
    rcases S with ⟨-, rfl, rfl, -⟩ | ⟨-, rfl, rfl, -⟩ | ⟨-, rfl, rfl, -⟩ <;> refine ⟨?_, ?_, ?_, ?_, ?_, ?_⟩ <;> omega
  obtain ⟨j, j1, j2, j3, j4, j5, j6⟩ := hj
  have hse : Sees lt n ⟨j, j1⟩ := ⟨⟨j2, j3⟩, abs_le.2 ⟨j4, j5⟩⟩
  exact ⟨⟨j, j1⟩, hse, Fin.ext ((keyOf_val S hr hn ⟨j, j1⟩ hse).trans j6)⟩

theorem keyOf_inj (j k : Fin 256) (hj : Sees lt n j) (hk : Sees lt n k) (h : keyOf d r n j = keyOf d r n k) : j = k := by
  have e1 := keyOf_val S hr hn j hj
  have e2 := keyOf_val S hr hn k hk
  rw [h, e2] at e1
  have h1 := hj.1.1
  have h2 := hk.1.1
  refine Fin.ext ?_
  rcases S with ⟨-, rfl, rfl, -⟩ | ⟨-, rfl, rfl, -⟩ | ⟨-, rfl, rfl, -⟩ <;> omega

variable (R : Cert.Att.Real A B) (H : Holds A B b hi x0 x2 x5 x7) (c : Fin 128) (t : Fin 2048) (ht : t.val = r + d * n)
include R H ht

theorem MB_eq : MB x0 x1 x2 x3 x7 P d lt lh r n c.val
      = Finset.univ.fold max (⊥ : EReal) (sight A B (BitVec.ofNat 32 d) (BitVec.ofNat 32 (64 * d)) b ⟨2 * hi.val + c.val / 64, by omega⟩ t) := by
  have hg : c.val / 64 < 2 := by omega
  exact Cert.Att.window_max (P := Sees lt n) (e := keyOf d r n) (fun j hj => SS_in S hr hn H _ hg t ht j hj) (fun j hj => SS_out S hr hn H _ hg j hj)
    fun u hu => seen_key S hr hn _ t ht u hu

theorem weighted_eq (w : Fin 256 → EReal) (W : Fin 2048 → EReal) (hw : ∀ j, Sees lt n j → w j = W (keyOf d r n j)) :
    ssum (SS x0 x1 x2 x3 x7 P d lt lh (c.val / 64) r n) w
      = ∑ u, Ideal.exp (sight A B (BitVec.ofNat 32 d) (BitVec.ofNat 32 (64 * d)) b ⟨2 * hi.val + c.val / 64, by omega⟩ t u
          - Finset.univ.fold max (⊥ : EReal) (sight A B (BitVec.ofNat 32 d) (BitVec.ofNat 32 (64 * d)) b ⟨2 * hi.val + c.val / 64, by omega⟩ t)) * W u := by
  have hg : c.val / 64 < 2 := by omega
  have hm := MB_eq (x1 := x1) (x3 := x3) S hr hn R H c t ht
  obtain ⟨m, -, -, em, -⟩ := Cert.Att.reals (sight A B (BitVec.ofNat 32 d) (BitVec.ofNat 32 (64 * d)) b ⟨2 * hi.val + c.val / 64, by omega⟩ t)
    (fun u => Cert.Att.score_real R _ _ _ _ _ u)
    ⟨t, Cert.Att.score_self R d (64 * d) S.dil (by rcases S.dil with rfl | rfl | rfl <;> omega) _ _ _⟩
  rw [ssum, show smax (SS x0 x1 x2 x3 x7 P d lt lh (c.val / 64) r n) = _ from hm, em]
  exact Cert.Att.window_sum (P := Sees lt n) (e := keyOf d r n) (fun j hj => SS_in S hr hn H _ hg t ht j hj) (fun j hj => SS_out S hr hn H _ hg j hj)
    (fun u hu => seen_key S hr hn _ t ht u hu) (fun j k hj hk => keyOf_inj S hr hn j k hj hk) m hw

theorem OB_eq : OB x0 x1 x2 x3 x4 x5 x6 x7 P d lt lh r n c.val
      = ∑ u, Ideal.exp (sight A B (BitVec.ofNat 32 d) (BitVec.ofNat 32 (64 * d)) b ⟨2 * hi.val + c.val / 64, by omega⟩ t u
          - Finset.univ.fold max (⊥ : EReal) (sight A B (BitVec.ofNat 32 d) (BitVec.ofNat 32 (64 * d)) b ⟨2 * hi.val + c.val / 64, by omega⟩ t))
        * A b u ⟨1024 + 128 * hi.val + c.val, by omega⟩ :=
  weighted_eq S hr hn R H c t ht _ (fun u => A b u ⟨1024 + 128 * hi.val + c.val, by omega⟩) fun j hj => (KK_key S hr hn j hj c).trans (H.v _ _)

theorem LB_eq : LB x0 x1 x2 x3 x7 P d lt lh r n c.val
      = ∑ u, Ideal.exp (sight A B (BitVec.ofNat 32 d) (BitVec.ofNat 32 (64 * d)) b ⟨2 * hi.val + c.val / 64, by omega⟩ t u
          - Finset.univ.fold max (⊥ : EReal) (sight A B (BitVec.ofNat 32 d) (BitVec.ofNat 32 (64 * d)) b ⟨2 * hi.val + c.val / 64, by omega⟩ t)) * 1 :=
  weighted_eq S hr hn R H c t ht _ (fun _ => 1) fun _ _ => rfl

end

/-- The kernel's mixture of its three planes is the specification. -/
theorem mix_planes (R : Cert.Att.Real A B) (H : Holds A B b hi x0 x2 x5 x7) (t : Fin 2048) (c : Fin 128) :
    Cert.Att.mix (fun P => plane (OB x0 x1 x2 x3 x4 x5 x6 x7) P t.val c.val) (fun P => plane (LB x0 x1 x2 x3 x7) P t.val c.val) (fun P => plane (MB x0 x1 x2 x3 x7) P t.val c.val)
      = spec A B b t ⟨128 * hi.val + c.val, by omega⟩ := by
  have key : ∀ P : ℕ, ∃ p d lt lh r n, Shape3 p d lt lh ∧ r < d ∧ n < lt ∧ t.val = r + d * n
      ∧ (∀ f : ℕ → ℕ → ℕ → ℕ → ℕ → ℕ → ℕ → EReal, plane f P t.val c.val = f p d lt lh r n c.val)
      ∧ ∀ h, pat A B b h t P = sight A B (BitVec.ofNat 32 d) (BitVec.ofNat 32 (64 * d)) b h t := fun P =>
    match P with
    | 0 => ⟨0, 1, 2048, 1024, 0, t.val, Or.inl ⟨rfl, rfl, rfl, rfl⟩, by omega, t.isLt, by omega, fun _ => rfl, fun _ => rfl⟩
    | 1 => ⟨1, 4, 512, 256, t.val % 4, t.val / 4, Or.inr (Or.inl ⟨rfl, rfl, rfl, rfl⟩), by omega, by omega, by omega, fun _ => rfl, fun _ => rfl⟩
    | _ + 2 => ⟨2, 16, 128, 64, t.val % 16, t.val / 16, Or.inr (Or.inr ⟨rfl, rfl, rfl, rfl⟩), by omega, by omega, by omega, fun _ => rfl, fun _ => rfl⟩
  have hh : (⟨(⟨128 * hi.val + c.val, by omega⟩ : Fin 512).val / 64, by dsimp only; omega⟩ : Fin 8) = ⟨2 * hi.val + c.val / 64, by omega⟩ := Fin.ext (by dsimp only; omega)
  rw [spec, hh]
  rw [← Cert.Att.mix_eq_blend _ (Cert.Att.pat_real R b _ t) (Cert.Att.pat_self R b _ t)]
  congr 1
  · funext P
    obtain ⟨p, d, lt, lh, r, n, S, hr, hn, ht, e, ep⟩ := key P
    rw [e, ep, OB_eq S hr hn R H c t ht]
    refine Finset.sum_congr rfl fun u _ => ?_
    congr 2
    exact Fin.ext (by dsimp only; omega)
  · funext P
    obtain ⟨p, d, lt, lh, r, n, S, hr, hn, ht, e, ep⟩ := key P
    rw [e, ep, LB_eq S hr hn R H c t ht]
  · funext P
    obtain ⟨p, d, lt, lh, r, n, S, hr, hn, ht, e, ep⟩ := key P
    rw [e, ep, MB_eq S hr hn R H c t ht]

end Cert.AttnIdeal.Att

end
-- ==== Proof.AttHost.lean ====
/-
  The table of biases that the dilated attention's kernel is launched with.
-/
module

public import proofs.«01_k».proof.Proof.Gen.AttnIdeal.Value
public import proofs.«01_k».proof.Proof.AttSpec
public import Idealize.ShloMosaic.Lib.StableHlo.Run
public import Idealize.ShloMosaic.Lib.Claim
public import Idealize.ShloMosaic.Lib.Pointwise
public import Idealize.ShloMosaic.Lib.Pipeline.ValueKit

@[expose] public section

set_option maxRecDepth 16384

noncomputable section

namespace Cert.AttnIdeal.Att

open Cert.AttnIdeal Cert.AttnIdeal.Gen Idealize.ShloMosaic Idealize.ShloMosaic.TcCoe Idealize.SL.Sem
open Idealize.ShloMosaic.Pointwise Idealize.ShloMosaic.StableHlo
open scoped BigOperators

/-- Key index minus query index of a block's window. -/
def kDelta : IVec S128x256 32 :=
  subi (broadcastInDim S128x256 ![0, 1] bcast_S1x256_S128x256_0_1 (broadcastInDim S1x256 ![1] bcast_S256_S1x256_1 (subi (iotaInDim S256 32 0) (broadcastInDim S256 ![] bcast_S_S256 (constantI S_ 32 64#32)))))
    (broadcastInDim S128x256 ![0, 1] bcast_S128x1_S128x256_0_1 (broadcastInDim S128x1 ![0] bcast_S128_S128x1_0 (iotaInDim S128 32 0)))

/-- The bucket of each relative position. -/
def kBucket (rel : IVec S128x256 32) : IVec S128x256 32 :=
  addi (id (select (cmpi .sgt rel (broadcastInDim S128x256 ![] bcast_S_S128x256 (constantI S_ 32 0#32))) (broadcastInDim S128x256 ![] bcast_S_S128x256 (constantI S_ 32 16#32)) (broadcastInDim S128x256 ![] bcast_S_S128x256 (constantI S_ 32 0#32))))
    (select (cmpi .slt (absi rel) (broadcastInDim S128x256 ![] bcast_S_S128x256 (constantI S_ 32 8#32))) (absi rel)
      (minsi (addi (broadcastInDim S128x256 ![] bcast_S_S128x256 (constantI S_ 32 8#32)) (fptosi 32 (mulf (Host.divf (Host.log (Host.divf (sitofp .f32 (maxsi (absi rel) (broadcastInDim S128x256 ![] bcast_S_S128x256 (constantI S_ 32 1#32)))) (broadcastInDim S128x256 ![] bcast_S_S128x256 (constant S_ .f32 0x41000000#32)))) (broadcastInDim S128x256 ![] bcast_S_S128x256 (constant S_ .f32 0x409B43D5#32))) (broadcastInDim S128x256 ![] bcast_S_S128x256 (constant S_ .f32 0x41000000#32)) : FVec Ideal S128x256 .f32)))
        (broadcastInDim S128x256 ![] bcast_S_S128x256 (constantI S_ 32 15#32))))

/-- The table looked up by one-hot rows. -/
def kBias (B : FVec Ideal S32x8 .f32) (b : IVec S128x256 32) : FVec Ideal S8x128x256 .f32 :=
  Host.dotGeneral dot_S32x8_S128x256x32_S8x128x256_0_2_1_01_n_n (some .fp32) B (uitofp .f32 (cmpi .eq (broadcastInDim S128x256x32 ![0, 1, 2] bcast_S128x256x1_S128x256x32_0_1_2 (broadcastInDim S128x256x1 ![0, 1] bcast_S128x256_S128x256x1_0_1 b)) (broadcastInDim S128x256x32 ![0, 1, 2] bcast_S1x1x32_S128x256x32_0_1_2 (broadcastInDim S1x1x32 ![2] bcast_S32_S1x1x32_2 (iotaInDim S32 32 0)))))

/-- The biases of one pattern, `⊥` beyond its window. -/
def kTab (D : IVec S128x256 32) (d : BitVec 32) (B : FVec Ideal S32x8 .f32) : FVec Ideal S8x128x256 .f32 :=
  select (broadcastInDim S8x128x256 ![0, 1, 2] bcast_S1x128x256_S8x128x256_0_1_2 (broadcastInDim S1x128x256 ![1, 2] bcast_S128x256_S1x128x256_1_2 (cmpi .sle (absi D) (broadcastInDim S128x256 ![] bcast_S_S128x256 (constantI S_ 32 64#32)))))
    (kBias B (kBucket (muli D (broadcastInDim S128x256 ![] bcast_S_S128x256 (constantI S_ 32 d)))))
    (broadcastInDim S8x128x256 ![] bcast_S_S8x128x256 (id (constant S_ .f32 0xFF800000#32)))

section
variable (W : Valuation τ sig (Elt Ideal))

abbrev part0 : List (HloOp τ sig (Elt Ideal)) := hostOps0 ++ (hostOps0_1 ++ (hostOps0_2 ++ (hostOps0_3 ++ (hostOps0_4 ++ hostOps0_5))))

set_option maxHeartbeats 4000000 in
theorem part0_tab : after part0 W (Proc.devRef .tc main_v47) = kTab kDelta 1#32 (W (Proc.devRef .tc main_arg1)) := by
  simp only [part0, List.cons_append, List.nil_append]
  after_results_simp
  rfl

theorem part0_delta : after part0 W (Proc.devRef .tc main_v8) = kDelta := by
  simp only [part0, List.cons_append, List.nil_append]
  after_results_simp
  rfl

theorem part0_arg : after part0 W (Proc.devRef .tc main_arg1) = W (Proc.devRef .tc main_arg1) := by
  simp only [part0, List.cons_append, List.nil_append]
  after_results_simp

abbrev part1 : List (HloOp τ sig (Elt Ideal)) := hostOps0_6 ++ (hostOps0_7 ++ (hostOps0_8 ++ (hostOps0_9 ++ (hostOps0_10 ++ hostOps0_11))))

set_option maxHeartbeats 4000000 in
theorem part1_tab : after part1 W (Proc.devRef .tc main_v86) = kTab (W (Proc.devRef .tc main_v8)) 4#32 (W (Proc.devRef .tc main_arg1)) := by
  simp only [part1, List.cons_append, List.nil_append]
  after_results_simp
  rfl

theorem part1_delta : after part1 W (Proc.devRef .tc main_v8) = W (Proc.devRef .tc main_v8) := by
  simp only [part1, List.cons_append, List.nil_append]
  after_results_simp

theorem part1_arg : after part1 W (Proc.devRef .tc main_arg1) = W (Proc.devRef .tc main_arg1) := by
  simp only [part1, List.cons_append, List.nil_append]
  after_results_simp

theorem part1_v47 : after part1 W (Proc.devRef .tc main_v47) = W (Proc.devRef .tc main_v47) := by
  simp only [part1, List.cons_append, List.nil_append]
  after_results_simp

abbrev part2 : List (HloOp τ sig (Elt Ideal)) := hostOps0_12 ++ (hostOps0_13 ++ (hostOps0_14 ++ (hostOps0_15 ++ (hostOps0_16 ++ hostOps0_17))))

set_option maxHeartbeats 4000000 in
theorem part2_tab : after part2 W (Proc.devRef .tc main_v125) = kTab (W (Proc.devRef .tc main_v8)) 16#32 (W (Proc.devRef .tc main_arg1)) := by
  simp only [part2, List.cons_append, List.nil_append]
  after_results_simp
  rfl

theorem part2_v47 : after part2 W (Proc.devRef .tc main_v47) = W (Proc.devRef .tc main_v47) := by
  simp only [part2, List.cons_append, List.nil_append]
  after_results_simp

theorem part2_v86 : after part2 W (Proc.devRef .tc main_v86) = W (Proc.devRef .tc main_v86) := by
  simp only [part2, List.cons_append, List.nil_append]
  after_results_simp

/-- The three tables, one after the other. -/
def kStack (x y z : FVec Ideal S8x128x256 .f32) : FVec Ideal S3x8x128x256 .f32 :=
  concatenate S3x8x128x256 0 [⟨S1x8x128x256, (broadcastInDim S1x8x128x256 ![1, 2, 3] bcast_S8x128x256_S1x8x128x256_1_2_3 x : FVec Ideal S1x8x128x256 .f32)⟩, ⟨S1x8x128x256, (broadcastInDim S1x8x128x256 ![1, 2, 3] bcast_S8x128x256_S1x8x128x256_1_2_3 y : FVec Ideal S1x8x128x256 .f32)⟩, ⟨S1x8x128x256, (broadcastInDim S1x8x128x256 ![1, 2, 3] bcast_S8x128x256_S1x8x128x256_1_2_3 z : FVec Ideal S1x8x128x256 .f32)⟩] concatenates_S1x8x128x256_S1x8x128x256_S1x8x128x256_S3x8x128x256_d0

theorem last_table : after hostOps0_18 W (Proc.devRef .tc main_v129) = kStack (W (Proc.devRef .tc main_v47)) (W (Proc.devRef .tc main_v86)) (W (Proc.devRef .tc main_v125)) := by
  simp only [hostOps0_18]
  after_results_simp
  rfl

theorem after_two (l₁ l₂ : List (HloOp τ sig (Elt Ideal))) : after (l₁ ++ l₂) W = after l₂ (after l₁ W) := by
  induction l₁ generalizing W with
  | nil => rfl
  | cons op l ih => exact ih _

end

theorem neg_inf : Ideal.ofBits FTy.f32 4286578688#32 = ⊥ := by simp [Ideal.ofBits, Ideal.ieee]

theorem kDelta_apply (i : Fin 128) (j : Fin 256) : kDelta (ix2 i j) = Cert.Att.hop i.val j.val := by
  pointwise [kDelta]
  rfl

theorem kBucket_apply (rel : IVec S128x256 32) (i : Fin 128) (j : Fin 256) : kBucket rel (ix2 i j) = Cert.Att.bucket (rel (ix2 i j)) := rfl

theorem kBias_apply (B : FVec Ideal S32x8 .f32) (b : IVec S128x256 32) (h : Fin 8) (i : Fin 128) (j : Fin 256) :
    kBias B b (ix3 h i j) = ∑ k : Fin 32, B (ix2 k h) * Cert.Att.hot (b (ix2 i j)) k.val := by
  pointwise [kBias, Cert.Att.hot]

theorem kTab_apply (D : IVec S128x256 32) (d : BitVec 32) (B : FVec Ideal S32x8 .f32) (h : Fin 8) (i : Fin 128) (j : Fin 256) :
    kTab D d B (ix3 h i j) = Scalar.select (IntOp.cmpi .sle (IntOp.absi (D (ix2 i j))) 64#32) (Cert.Att.tab (fun k h => B (ix2 k h)) h (IntOp.muli (D (ix2 i j)) d)) (⊥ : EReal) := by
  have e := kBias_apply B (kBucket (muli D (broadcastInDim S128x256 ![] bcast_S_S128x256 (constantI S_ 32 d)))) h i j
  rw [kBucket_apply] at e
  unfold kTab
  generalize kBias B (kBucket (muli D (broadcastInDim S128x256 ![] bcast_S_S128x256 (constantI S_ 32 d)))) = z at e
  pointwise
  show Scalar.select _ _ (Ideal.ofBits FTy.f32 4286578688#32) = _
  rw [neg_inf, e]
  rfl

theorem kStack_apply (x y z : FVec Ideal S8x128x256 .f32) (h : Fin 8) (i : Fin 128) (j : Fin 256) :
    kStack x y z (ix4 0 h i j) = x (ix3 h i j) ∧ kStack x y z (ix4 1 h i j) = y (ix3 h i j) ∧ kStack x y z (ix4 2 h i j) = z (ix3 h i j) := by
  refine ⟨?_, ?_, ?_⟩ <;> pointwise [kStack]

variable (m : (ℓ : Loc nD τ sig) → Buf (Elt Ideal) ℓ)

theorem V_table (c : Dev nD) : V m c main_v129 = kStack (kTab kDelta 1#32 (m (c, main_arg1))) (kTab kDelta 4#32 (m (c, main_arg1))) (kTab kDelta 16#32 (m (c, main_arg1))) := by
  have e : List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]
      = (part0 : List (HloOp τ sig (Elt Ideal))) ++ (part1 ++ (part2 ++ hostOps0_18)) := by
    simp only [part0, part1, part2, List.flatten_cons, List.flatten_nil, List.append_nil, List.append_assoc]
  unfold V
  rw [e, after_two, after_two, after_two, last_table, part2_tab, part2_v47, part2_v86, part1_tab, part1_delta, part1_arg, part1_v47, part0_tab, part0_delta, part0_arg]

theorem table_eq (c : Dev nD) (P : Fin 3) (h : Fin 8) (i : Fin 128) (j : Fin 256) :
    (show FVec Ideal S3x8x128x256 .f32 from V m c main_v129) (ix4 P h i j)
      = Scalar.select (IntOp.cmpi .sle (IntOp.absi (Cert.Att.hop i.val j.val)) 64#32)
        (Cert.Att.tab (fun k h => (show FVec Ideal S32x8 .f32 from m (c, main_arg1)) (ix2 k h)) h (IntOp.muli (Cert.Att.hop i.val j.val) (BitVec.ofNat 32 (4 ^ P.val)))) (⊥ : EReal) := by
  rw [V_table]
  obtain ⟨e0, e1, e2⟩ := kStack_apply (kTab kDelta 1#32 (m (c, main_arg1))) (kTab kDelta 4#32 (m (c, main_arg1))) (kTab kDelta 16#32 (m (c, main_arg1))) h i j
  fin_cases P
  · exact e0.trans (by rw [kTab_apply, kDelta_apply]; rfl)
  · exact e1.trans (by rw [kTab_apply, kDelta_apply]; rfl)
  · exact e2.trans (by rw [kTab_apply, kDelta_apply]; rfl)

end Cert.AttnIdeal.Att

end
-- ==== Proof.AttArr.lean ====
/-
  The array that the dilated attention's kernel leaves, in terms of the arrays it was launched with.
-/
module

public import proofs.«01_k».proof.Proof.AttOut
public import proofs.«01_k».proof.Proof.AttWindow
public import proofs.«01_k».proof.Proof.AttHost

@[expose] public section

set_option maxRecDepth 16384

noncomputable section

namespace Cert.AttnIdeal.Att

open Cert.AttnIdeal Cert.AttnIdeal.Gen Idealize.ShloMosaic Idealize.ShloMosaic.TcCoe Idealize.SL.Sem
open Idealize.ShloMosaic.Pointwise
open scoped BigOperators
open Cert.Att (spec tab hop)

variable (m : (ℓ : Loc nD τ sig) → Buf (Elt Ideal) ℓ)

abbrev aA (c : Dev nD) : FVec Ideal S16x2048x1536 .f32 := m ((c : Thread nD τ).loc main_arg0)
abbrev aB (c : Dev nD) : FVec Ideal S32x8 .f32 := m ((c : Thread nD τ).loc main_arg1)

/-- The queries, keys and values by sequence, position and column. -/
abbrev kA (c : Dev nD) (b : Fin 16) (t : Fin 2048) (p : Fin 1536) : EReal := aA m c (ix3 b t p)

/-- The table of biases by bucket and head. -/
abbrev kB (c : Dev nD) (j : Fin 32) (h : Fin 8) : EReal := aB m c (ix2 j h)

theorem idx : ∀ t : Fin cfg0.N, win0_0.index t = ![t.val / 4, 0, t.val % 4] ∧ win0_2.index t = ![t.val / 4, 0, 4 + t.val % 4]
    ∧ win0_5.index t = ![t.val / 4, 0, 8 + t.val % 4] ∧ win0_7.index t = ![0, t.val % 4, 0, 0] ∧ win0_8.index t = ![t.val / 4, 0, t.val % 4]
    ∧ (grid0.coords t 1).val = 0 :=
  (by decide +kernel : ∀ t : Fin grid0.N, _)

theorem N64 (t : Fin cfg0.N) : t.val < 64 := lt_of_lt_of_eq t.isLt N_0

/-- The sequence of a grid point. -/
def seqOf (t : Fin cfg0.N) : Fin 16 := ⟨t.val / 4, by have := N64 t; omega⟩

/-- The pair of heads of a grid point. -/
def pairOf (t : Fin cfg0.N) : Fin 4 := ⟨t.val % 4, by omega⟩

theorem V0_apply (c : Dev nD) (b : Fin 16) (t : Fin 2048) (p : Fin 1536) :
    (show FVec Ideal S16x2048x1536 .f32 from V m c main_arg0) (ix3 b t p) = kA m c b t p :=
  congrFun (V_main_arg0 m c) (ix3 b t p)

theorem iblk0_apply (c : Dev nD) (t : Fin cfg0.N) (r : Fin 2048) (d : Fin 128) :
    (show FVec Ideal S1x2048x128 .f32 from iblk m c 0 t) (ix3 0 r d) = kA m c (seqOf t) r ⟨128 * (pairOf t).val + d.val, by omega⟩ := by
  have := N64 t
  obtain ⟨i0, -⟩ := idx t
  refine Eq.trans ?_ (V0_apply m c _ _ _)
  blk_ext [iblk, i0, seqOf, pairOf]

theorem iblk2_apply (c : Dev nD) (t : Fin cfg0.N) (r : Fin 2048) (d : Fin 128) :
    (show FVec Ideal S1x2048x128 .f32 from iblk m c 2 t) (ix3 0 r d) = kA m c (seqOf t) r ⟨512 + 128 * (pairOf t).val + d.val, by omega⟩ := by
  have := N64 t
  obtain ⟨-, i0, -⟩ := idx t
  refine Eq.trans ?_ (V0_apply m c _ _ _)
  blk_ext [iblk, i0, seqOf, pairOf]

theorem iblk5_apply (c : Dev nD) (t : Fin cfg0.N) (r : Fin 2048) (d : Fin 128) :
    (show FVec Ideal S1x2048x128 .f32 from iblk m c 5 t) (ix3 0 r d) = kA m c (seqOf t) r ⟨1024 + 128 * (pairOf t).val + d.val, by omega⟩ := by
  have := N64 t
  obtain ⟨-, -, i0, -⟩ := idx t
  refine Eq.trans ?_ (V0_apply m c _ _ _)
  blk_ext [iblk, i0, seqOf, pairOf]

theorem iblk7_apply (c : Dev nD) (t : Fin cfg0.N) (P : Fin 3) (h : Fin 2) (i : Fin 128) (j : Fin 256) :
    (show FVec Ideal S3x2x128x256 .f32 from iblk m c 7 t) (ix4 P h i j)
      = Scalar.select (IntOp.cmpi .sle (IntOp.absi (hop i.val j.val)) 64#32)
        (tab (kB m c) ⟨2 * (pairOf t).val + h.val, by omega⟩ (IntOp.muli (hop i.val j.val) (BitVec.ofNat 32 (4 ^ P.val)))) (⊥ : EReal) := by
  have := N64 t
  obtain ⟨-, -, -, i0, -⟩ := idx t
  refine Eq.trans ?_ (table_eq m c P ⟨2 * (pairOf t).val + h.val, by omega⟩ i j)
  blk_ext [iblk, i0, pairOf]

theorem holds (c : Dev nD) (t : Fin cfg0.N) :
    Holds (kA m c) (kB m c) (seqOf t) (pairOf t) (iblk m c 0 t) (iblk m c 2 t) (iblk m c 5 t) (iblk m c 7 t) where
  q := iblk0_apply m c t
  k := iblk2_apply m c t
  v := iblk5_apply m c t
  b := iblk7_apply m c t

/-- The block that a grid point leaves. -/
theorem outs_apply (c : Dev nD) (R : Cert.Att.Real (kA m c) (kB m c)) (t : Fin cfg0.N) (a : Fin 2048) (d : Fin 128) :
    (show FVec Ideal S1x2048x128 .bf16 from outsAt0 m c t) (ix3 0 a d) = spec (kA m c) (kB m c) (seqOf t) a ⟨128 * (pairOf t).val + d.val, by omega⟩ := by
  refine Eq.trans ?_ (mix_planes (x1 := iblk m c 1 t) (x3 := iblk m c 3 t) (x4 := iblk m c 4 t) (x6 := iblk m c 6 t) R (holds m c t) a d)
  obtain ⟨-, -, -, -, -, e⟩ := idx t
  unfold outsAt0
  exact out_apply c (grid0.coords t) _ _ _ _ _ _ _ _ _ _ _ _ _ _ _ _ _ _ _ _ _ _ _ _ _ _ _ _ _ _ _ _ _ _ _ _ _ _ _ _ _ _ _ _ _ _ _ _ _ _ e a d

theorem lead (y : S1x2048x128.Idx) : y = ix3 0 (y 1) (y 2) := by
  have e : y 0 = (0 : Fin 1) := Fin.ext (by have : (y 0).val < 1 := (y 0).isLt; show (y 0).val = 0; omega)
  exact (eq_ix3 y).trans (congrArg (fun z => ix3 z (y 1) (y 2)) e)

/-- The result. -/
def result8 (c : Dev nD) : FVec Ideal S16x2048x512 .bf16 := fun y => spec (kA m c) (kB m c) (y 0) (y 1) (y 2)

theorem final8 (c : Dev nD) (R : Cert.Att.Real (kA m c) (kB m c)) : (dats m 0 c).arrAt 8 cfg0.N = result8 m c := by
  refine (dats m 0 c).arrAt_eq_of_covers 8 _ (by decide +kernel) fun t hf y => ?_
  obtain ⟨-, -, -, -, iw, -⟩ := idx t
  blk_simp
  rw [after0_8]
  have hN := N64 t
  have e0 : ((win0_8.blk t).view.emb y 0).val = t.val / 4 + (y 0).val := by blk_simp [iw]
  have e1 : ((win0_8.blk t).view.emb y 1).val = (y 1).val := by blk_simp [iw]
  have e2 : ((win0_8.blk t).view.emb y 2).val = 128 * (t.val % 4) + (y 2).val := by blk_simp [iw]; omega
  have hy0 : (y 0).val < 1 := (y 0).isLt
  refine Eq.trans (congrArg (show FVec Ideal S1x2048x128 .bf16 from outsAt0 m c t) (lead y)) ((outs_apply m c R t (y 1) (y 2)).trans ?_)
  unfold result8
  have f0 : seqOf t = (win0_8.blk t).view.emb y 0 := Fin.ext (by rw [e0]; show t.val / 4 = _; omega)
  have f1 : y 1 = (win0_8.blk t).view.emb y 1 := Fin.ext e1.symm
  have f2 : (⟨128 * (pairOf t).val + (y 2).val, by have := (y 2).isLt; have := (pairOf t).isLt; change (y 2).val < 128 at *; omega⟩ : Fin 512) = (win0_8.blk t).view.emb y 2 := Fin.ext (by rw [e2]; rfl)
  rw [f0, f2]
  exact congrArg (fun n => spec (kA m c) (kB m c) _ n _) f1

end Cert.AttnIdeal.Att

end
-- ==== Proof.AttPre.lean ====
/-
  The precondition of the dilated attention says that the queries, the keys and the table of biases are real numbers.
-/
module

public import proofs.«01_k».proof.Pre_finite
public import proofs.«01_k».proof.Proof.AttSpec
public import Idealize.ShloMosaic.Lib.ReduceAll
public import Idealize.ShloMosaic.Lib.Pointwise
public import Idealize.ShloMosaic.Lib.Pipeline.ValueKit

@[expose] public section

set_option maxRecDepth 16384

noncomputable section

namespace Cert.Pre_finite

open Idealize.ShloMosaic Idealize.ShloMosaic.Pointwise

/-- The side conditions of the precondition's operations. -/
theorem holdsFacts : Facts where
  slices_S16x2048x1536_S16x2048x1024_0_0_0 := by decide
  bcast_S_S16x2048x1024 := by decide
  reducesTo_S16x2048x1024_S_d0_1_2 := by decide
  h_S_ := by decide
  bcast_S_S32x8 := by decide
  reducesTo_S32x8_S_d0_1 := by decide

/-- An extended real whose magnitude is below `⊤` is a real number. -/
theorem real_of_lt (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

variable [Facts]
open Facts

instance : Subsingleton S_.Idx := ⟨fun a b => funext fun i => i.elim0⟩

theorem and_one (x y : BitVec 1) (h : IntOp.andi x y = 1#1) : x = 1#1 ∧ y = 1#1 := by
  revert x y; decide

theorem real_of_fn (A : FVec Ideal S16x2048x1536 .f32) (B : FVec Ideal S32x8 .f32) (e : fn (F := Ideal) A B = fun _ => 1#1) :
    Cert.Att.Real (fun b t p => A (ix3 b t p)) (fun j h => B (ix2 j h)) := by
  obtain ⟨h0, h1⟩ := and_one _ _ (congrFun e fun i => i.elim0)
  refine ⟨fun b t p hp => ?_, fun j h => ?_⟩
  · have k := Host.reduce_andi_all _ _ _ _ _ h0 (ix3 b t ⟨p.val, hp⟩)
    refine real_of_lt _ (Eq.trans ?_ k)
    refine congrArg (fun x => Ideal.cmp .olt (max x (-x)) (Ideal.ofBits .f32 0x7F800000#32)) ?_
    pointwise
  · have k := Host.reduce_andi_all _ _ _ _ _ h1 (ix2 j h)
    exact real_of_lt _ k

end Cert.Pre_finite

end
-- ==== Proof.AttRef.lean ====
/-
  The reference of the dilated attention, stage by stage, at an index.
-/
module

public import proofs.«01_k».proof.Proof.Gen.AttnRefIdeal.Run
public import proofs.«01_k».proof.Proof.AttMath
public import Idealize.ShloMosaic.Lib.Pointwise
public import Idealize.ShloMosaic.Lib.Pipeline.ValueKit

@[expose] public section

set_option maxRecDepth 16384

noncomputable section

namespace Cert.AttnRefIdeal.Att

open Cert.AttnRefIdeal Cert.AttnRefIdeal.Gen Idealize.ShloMosaic Idealize.ShloMosaic.TcCoe Idealize.SL.Sem
open Idealize.ShloMosaic.Pointwise
open scoped BigOperators

/-- Key position minus query position. -/
def rRel : IVec S2048x2048 32 :=
  subi (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))

/-- The bucket of each relative position. -/
def rBucket (rel : IVec S2048x2048 32) : IVec S2048x2048 32 :=
  addi (muli (broadcastInDim S2048x2048 ![] bcast_S_S2048x2048 (constantI S_ 32 16#32)) (extui 32 (cmpi .sgt rel (broadcastInDim S2048x2048 ![] bcast_S_S2048x2048 (constantI S_ 32 0#32))) natLt_1_32)) (select (cmpi .slt (absi rel) (broadcastInDim S2048x2048 ![] bcast_S_S2048x2048 (constantI S_ 32 8#32))) (absi rel) (minsi (addi (broadcastInDim S2048x2048 ![] bcast_S_S2048x2048 (constantI S_ 32 8#32)) (fptosi 32 (mulf (Host.divf (Host.log (Host.divf (sitofp .f32 (maxsi (absi rel) (broadcastInDim S2048x2048 ![] bcast_S_S2048x2048 (constantI S_ 32 1#32)))) (broadcastInDim S2048x2048 ![] bcast_S_S2048x2048 (constant S_ .f32 0x41000000#32)))) (broadcastInDim S2048x2048 ![] bcast_S_S2048x2048 (constant S_ .f32 0x409B43D5#32))) (broadcastInDim S2048x2048 ![] bcast_S_S2048x2048 (constant S_ .f32 0x41000000#32)) : FVec Ideal S2048x2048 .f32))) (broadcastInDim S2048x2048 ![] bcast_S_S2048x2048 (constantI S_ 32 15#32))))

/-- The table looked up by one-hot rows. -/
def rBias (B : FVec Ideal S32x8 .f32) (b : IVec S2048x2048 32) : FVec Ideal S8x2048x2048 .f32 :=
  Host.dotGeneral dot_S32x8_S2048x2048x32_S8x2048x2048_0_2_1_01_n_n none B (uitofp .f32 (cmpi .eq (broadcastInDim S2048x2048x32 ![0, 1, 2] bcast_S2048x2048x1_S2048x2048x32_0_1_2 (broadcastInDim S2048x2048x1 ![0, 1] bcast_S2048x2048_S2048x2048x1_0_1 b)) (broadcastInDim S2048x2048x32 ![0, 1, 2] bcast_S1x1x32_S2048x2048x32_0_1_2 (broadcastInDim S1x1x32 ![2] bcast_S32_S1x1x32_2 (iotaInDim S32 32 0)))))

def rQ (A : FVec Ideal S16x2048x1536 .f32) : FVec Ideal S16x2048x8x64 .f32 :=
  shapeCast _ (extractStridedSlice S16x2048x512 ![0, 0, 0] A slices_S16x2048x1536_S16x2048x512_0_0_0) shapeCasts_S16x2048x512_S16x2048x8x64

def rK (A : FVec Ideal S16x2048x1536 .f32) : FVec Ideal S16x2048x8x64 .f32 :=
  shapeCast _ (extractStridedSlice S16x2048x512 ![0, 0, 512] A slices_S16x2048x1536_S16x2048x512_0_0_512) shapeCasts_S16x2048x512_S16x2048x8x64

def rV (A : FVec Ideal S16x2048x1536 .f32) : FVec Ideal S16x2048x8x64 .f32 :=
  shapeCast _ (extractStridedSlice S16x2048x512 ![0, 0, 1024] A slices_S16x2048x1536_S16x2048x512_0_0_1024) shapeCasts_S16x2048x512_S16x2048x8x64

/-- The scores of all pairs. -/
def rScore (q k : FVec Ideal S16x2048x8x64 .f32) (b : FVec Ideal S8x2048x2048 .f32) : FVec Ideal S16x8x2048x2048 .f32 :=
  addf (mulf (Host.dotGeneral dot_S16x2048x8x64_S16x2048x8x64_S16x8x2048x2048_3_3_1_1_02_02 none q k) (broadcastInDim S16x8x2048x2048 ![] bcast_S_S16x8x2048x2048 (constant S_ .f32 0x3E000000#32))) (broadcastInDim S16x8x2048x2048 ![0, 1, 2, 3] bcast_S1x8x2048x2048_S16x8x2048x2048_0_1_2_3 (broadcastInDim S1x8x2048x2048 ![1, 2, 3] bcast_S8x2048x2048_S1x8x2048x2048_1_2_3 b))

/-- The scores that one pattern sees. -/
def rSeen (d half : BitVec 32) (rel : IVec S2048x2048 32) (s : FVec Ideal S16x8x2048x2048 .f32) : FVec Ideal S16x8x2048x2048 .f32 :=
  select (broadcastInDim S16x8x2048x2048 ![2, 3] bcast_S2048x2048_S16x8x2048x2048_2_3 (andi (cmpi .eq (Host.remsi rel (broadcastInDim S2048x2048 ![] bcast_S_S2048x2048 (constantI S_ 32 d))) (broadcastInDim S2048x2048 ![] bcast_S_S2048x2048 (constantI S_ 32 0#32))) (cmpi .sle (absi rel) (broadcastInDim S2048x2048 ![] bcast_S_S2048x2048 (constantI S_ 32 half))))) s (broadcastInDim S16x8x2048x2048 ![] bcast_S_S16x8x2048x2048 (constant S_ .f32 0xFF800000#32))

def rMax (s : FVec Ideal S16x8x2048x2048 .f32) : FVec Ideal S16x8x2048x1 .f32 :=
  broadcastInDim S16x8x2048x1 ![0, 1, 2] bcast_S16x8x2048_S16x8x2048x1_0_1_2 (Host.reduce FloatOps.maximumf s (constant S_ .f32 0xFF800000#32) reducesTo_S16x8x2048x2048_S16x8x2048_d3 h_S_)

def rExp (s : FVec Ideal S16x8x2048x2048 .f32) : FVec Ideal S16x8x2048x2048 .f32 :=
  Host.exp (subf s (broadcastInDim S16x8x2048x2048 ![0, 1, 2, 3] bcast_S16x8x2048x1_S16x8x2048x2048_0_1_2_3 (rMax s)))

def rSum (p : FVec Ideal S16x8x2048x2048 .f32) : FVec Ideal S16x8x2048x1 .f32 :=
  broadcastInDim S16x8x2048x1 ![0, 1, 2] bcast_S16x8x2048_S16x8x2048x1_0_1_2 (Host.reduceAdd p (constant S_ .f32 0x00000000#32) reducesTo_S16x8x2048x2048_S16x8x2048_d3 h_S_)

/-- The softmax of the scores applied to the values. -/
def rAtt (s : FVec Ideal S16x8x2048x2048 .f32) (v : FVec Ideal S16x2048x8x64 .f32) : FVec Ideal S16x8x2048x64 .f32 :=
  Host.dotGeneral dot_S16x8x2048x2048_S16x2048x8x64_S16x8x2048x64_3_1_2_3_01_02 none (Host.divf (rExp s) (broadcastInDim S16x8x2048x2048 ![0, 1, 2, 3] bcast_S16x8x2048x1_S16x8x2048x2048_0_1_2_3 (rSum (rExp s)))) v

def rLse (s : FVec Ideal S16x8x2048x2048 .f32) : FVec Ideal S16x8x2048 .f32 :=
  shapeCast _ (addf (rMax s) (Host.log (rSum (rExp s)))) shapeCasts_S16x8x2048x1_S16x8x2048

/-- The three patterns' logarithms of sums, one after the other. -/
def rStack (a b c : FVec Ideal S16x8x2048 .f32) : FVec Ideal S3x16x8x2048 .f32 :=
  concatenate S3x16x8x2048 0 [⟨S1x16x8x2048, (broadcastInDim S1x16x8x2048 ![1, 2, 3] bcast_S16x8x2048_S1x16x8x2048_1_2_3 a : FVec Ideal S1x16x8x2048 .f32)⟩, ⟨S1x16x8x2048, (broadcastInDim S1x16x8x2048 ![1, 2, 3] bcast_S16x8x2048_S1x16x8x2048_1_2_3 b : FVec Ideal S1x16x8x2048 .f32)⟩, ⟨S1x16x8x2048, (broadcastInDim S1x16x8x2048 ![1, 2, 3] bcast_S16x8x2048_S1x16x8x2048_1_2_3 c : FVec Ideal S1x16x8x2048 .f32)⟩] concatenates_S1x16x8x2048_S1x16x8x2048_S1x16x8x2048_S3x16x8x2048_d0

def rStackO (a b c : FVec Ideal S16x8x2048x64 .f32) : FVec Ideal S3x16x8x2048x64 .f32 :=
  concatenate S3x16x8x2048x64 0 [⟨S1x16x8x2048x64, (broadcastInDim S1x16x8x2048x64 ![1, 2, 3, 4] bcast_S16x8x2048x64_S1x16x8x2048x64_1_2_3_4 a : FVec Ideal S1x16x8x2048x64 .f32)⟩, ⟨S1x16x8x2048x64, (broadcastInDim S1x16x8x2048x64 ![1, 2, 3, 4] bcast_S16x8x2048x64_S1x16x8x2048x64_1_2_3_4 b : FVec Ideal S1x16x8x2048x64 .f32)⟩, ⟨S1x16x8x2048x64, (broadcastInDim S1x16x8x2048x64 ![1, 2, 3, 4] bcast_S16x8x2048x64_S1x16x8x2048x64_1_2_3_4 c : FVec Ideal S1x16x8x2048x64 .f32)⟩] concatenates_S1x16x8x2048x64_S1x16x8x2048x64_S1x16x8x2048x64_S3x16x8x2048x64_d0

def rTop (e : FVec Ideal S3x16x8x2048 .f32) : FVec Ideal S16x8x2048 .f32 :=
  maximumf (broadcastInDim S16x8x2048 ![] bcast_S_S16x8x2048 (constant S_ .f32 0xFF800000#32)) (Host.reduce FloatOps.maximumf e (constant S_ .f32 0xFF800000#32) reducesTo_S3x16x8x2048_S16x8x2048_d0 h_S_)

def rWeight (e : FVec Ideal S3x16x8x2048 .f32) : FVec Ideal S3x16x8x2048 .f32 :=
  Host.exp (subf e (broadcastInDim S3x16x8x2048 ![0, 1, 2, 3] bcast_S1x16x8x2048_S3x16x8x2048_0_1_2_3 (broadcastInDim S1x16x8x2048 ![1, 2, 3] bcast_S16x8x2048_S1x16x8x2048_1_2_3 (rTop e))))

def rTotal (w : FVec Ideal S3x16x8x2048 .f32) : FVec Ideal S16x8x2048 .f32 :=
  Host.reduceAdd w (constant S_ .f32 0x00000000#32) reducesTo_S3x16x8x2048_S16x8x2048_d0 h_S_

/-- The weighted sum of the three patterns' results. -/
def rBlend (w : FVec Ideal S3x16x8x2048 .f32) (o : FVec Ideal S3x16x8x2048x64 .f32) : FVec Ideal S16x8x2048x64 .f32 :=
  Host.reduceAdd (mulf (broadcastInDim S3x16x8x2048x64 ![0, 1, 2, 3, 4] bcast_S3x16x8x2048x1_S3x16x8x2048x64_0_1_2_3_4 (broadcastInDim S3x16x8x2048x1 ![0, 1, 2, 3] bcast_S3x16x8x2048_S3x16x8x2048x1_0_1_2_3 (Host.divf w (broadcastInDim S3x16x8x2048 ![0, 1, 2, 3] bcast_S1x16x8x2048_S3x16x8x2048_0_1_2_3 (broadcastInDim S1x16x8x2048 ![1, 2, 3] bcast_S16x8x2048_S1x16x8x2048_1_2_3 (rTotal w)))))) o) (constant S_ .f32 0x00000000#32) reducesTo_S3x16x8x2048x64_S16x8x2048x64_d0 h_S_

def rOut (x : FVec Ideal S16x8x2048x64 .f32) : FVec Ideal S16x2048x512 .bf16 :=
  truncf .bf16 (shapeCast _ (transpose S16x2048x8x64 [0, 2, 1, 3] x transposes_S16x8x2048x64_S16x2048x8x64_0_2_1_3) shapeCasts_S16x2048x8x64_S16x2048x512) bitsLt_bf16_f32

theorem neg_inf : Ideal.ofBits FTy.f32 4286578688#32 = ⊥ := by simp [Ideal.ofBits, Ideal.ieee]

theorem dropLast_apply (y : FVec Ideal S16x8x2048x1 .f32) (i : Fin 16) (h : Fin 8) (t : Fin 2048) :
    (shapeCast S16x8x2048 y shapeCasts_S16x8x2048x1_S16x8x2048) (ix3 i h t) = y (ix4 i h t 0) := by
  pointwise

theorem rRel_apply (q k : Fin 2048) : rRel (ix2 q k) = IntOp.subi (BitVec.ofNat 32 k.val) (BitVec.ofNat 32 q.val) := by
  pointwise [rRel]

theorem rBucket_apply (rel : IVec S2048x2048 32) (q k : Fin 2048) : rBucket rel (ix2 q k) = Cert.Att.bucket (rel (ix2 q k)) := by
  have e : rBucket rel (ix2 q k) = IntOp.addi (IntOp.muli 16#32 ((IntOp.cmpi .sgt (rel (ix2 q k)) 0#32).setWidth 32)) (Cert.Att.small (rel (ix2 q k))) := rfl
  rw [e, Cert.Att.bucket]
  congr 1
  generalize IntOp.cmpi .sgt (rel (ix2 q k)) 0#32 = x
  revert x
  decide

theorem rBias_apply (B : FVec Ideal S32x8 .f32) (b : IVec S2048x2048 32) (h : Fin 8) (q k : Fin 2048) :
    rBias B b (ix3 h q k) = ∑ j : Fin 32, B (ix2 j h) * Cert.Att.hot (b (ix2 q k)) j.val := by
  pointwise [rBias, Cert.Att.hot]

theorem rQ_apply (A : FVec Ideal S16x2048x1536 .f32) (b : Fin 16) (t : Fin 2048) (h : Fin 8) (c : Fin 64) :
    rQ A (ix4 b t h c) = A (ix3 b t ⟨64 * h.val + c.val, by omega⟩) := by
  pointwise [rQ]
  blk_ext

theorem rK_apply (A : FVec Ideal S16x2048x1536 .f32) (b : Fin 16) (t : Fin 2048) (h : Fin 8) (c : Fin 64) :
    rK A (ix4 b t h c) = A (ix3 b t ⟨512 + 64 * h.val + c.val, by omega⟩) := by
  pointwise [rK]
  blk_ext

theorem rV_apply (A : FVec Ideal S16x2048x1536 .f32) (b : Fin 16) (t : Fin 2048) (h : Fin 8) (c : Fin 64) :
    rV A (ix4 b t h c) = A (ix3 b t ⟨1024 + 64 * h.val + c.val, by omega⟩) := by
  pointwise [rV]
  blk_ext

theorem rScore_apply (q k : FVec Ideal S16x2048x8x64 .f32) (b : FVec Ideal S8x2048x2048 .f32) (i : Fin 16) (h : Fin 8) (t u : Fin 2048) :
    rScore q k b (ix4 i h t u) = (∑ c : Fin 64, q (ix4 i t h c) * k (ix4 i u h c)) * Ideal.ofBits .f32 0x3E000000#32 + b (ix3 h t u) := by
  pointwise [rScore]

theorem rSeen_apply (d half : BitVec 32) (rel : IVec S2048x2048 32) (s : FVec Ideal S16x8x2048x2048 .f32) (i : Fin 16) (h : Fin 8) (t u : Fin 2048) :
    rSeen d half rel s (ix4 i h t u)
      = Scalar.select (IntOp.andi (IntOp.cmpi .eq (IntOp.remsi .host (rel (ix2 t u)) d) 0#32) (IntOp.cmpi .sle (IntOp.absi (rel (ix2 t u))) half)) (s (ix4 i h t u)) (⊥ : EReal) := by
  pointwise [rSeen]
  simp only [neg_inf]

theorem rMax_apply (s : FVec Ideal S16x8x2048x2048 .f32) (i : Fin 16) (h : Fin 8) (t : Fin 2048) :
    rMax s (ix4 i h t 0) = Finset.univ.fold max (⊥ : EReal) fun u => s (ix4 i h t u) := by
  pointwise [rMax]
  simp only [neg_inf]

theorem rExp_apply (s : FVec Ideal S16x8x2048x2048 .f32) (i : Fin 16) (h : Fin 8) (t u : Fin 2048) :
    rExp s (ix4 i h t u) = Ideal.exp (s (ix4 i h t u) - Finset.univ.fold max (⊥ : EReal) fun u => s (ix4 i h t u)) := by
  rw [← rMax_apply]
  pointwise [rExp]

theorem rSum_apply (s : FVec Ideal S16x8x2048x2048 .f32) (i : Fin 16) (h : Fin 8) (t : Fin 2048) :
    rSum s (ix4 i h t 0) = ∑ u : Fin 2048, s (ix4 i h t u) := by
  pointwise [rSum]

theorem rAtt_apply (s : FVec Ideal S16x8x2048x2048 .f32) (v : FVec Ideal S16x2048x8x64 .f32) (i : Fin 16) (h : Fin 8) (t : Fin 2048) (c : Fin 64) :
    rAtt s v (ix4 i h t c) = Cert.Att.att (fun u => s (ix4 i h t u)) fun u => v (ix4 i u h c) := by
  have e : rAtt s v (ix4 i h t c) = ∑ u : Fin 2048, Ideal.div (rExp s (ix4 i h t u)) (rSum (rExp s) (ix4 i h t 0)) * v (ix4 i u h c) := by
    pointwise [rAtt]
  rw [e, Cert.Att.att, rSum_apply]
  simp only [rExp_apply]

theorem lseCast (a b : FVec Ideal S16x8x2048x1 .f32) (i : Fin 16) (h : Fin 8) (t : Fin 2048) :
    (shapeCast S16x8x2048 (addf a (Host.log b)) shapeCasts_S16x8x2048x1_S16x8x2048) (ix3 i h t) = a (ix4 i h t 0) + Ideal.log (b (ix4 i h t 0)) :=
  dropLast_apply (addf a (Host.log b)) i h t

theorem rLse_apply (s : FVec Ideal S16x8x2048x2048 .f32) (i : Fin 16) (h : Fin 8) (t : Fin 2048) :
    rLse s (ix3 i h t) = Cert.Att.lse fun u => s (ix4 i h t u) := by
  rw [rLse, lseCast, Cert.Att.lse, rSum_apply, rMax_apply]
  simp only [rExp_apply]

theorem rStack_apply (a b c : FVec Ideal S16x8x2048 .f32) (i : Fin 16) (h : Fin 8) (t : Fin 2048) :
    rStack a b c (ix4 0 i h t) = a (ix3 i h t) ∧ rStack a b c (ix4 1 i h t) = b (ix3 i h t) ∧ rStack a b c (ix4 2 i h t) = c (ix3 i h t) := by
  refine ⟨?_, ?_, ?_⟩ <;> pointwise [rStack]

theorem rStackO_apply (a b c : FVec Ideal S16x8x2048x64 .f32) (i : Fin 16) (h : Fin 8) (t : Fin 2048) (x : Fin 64) :
    rStackO a b c (ix5 0 i h t x) = a (ix4 i h t x) ∧ rStackO a b c (ix5 1 i h t x) = b (ix4 i h t x) ∧ rStackO a b c (ix5 2 i h t x) = c (ix4 i h t x) := by
  refine ⟨?_, ?_, ?_⟩ <;> pointwise [rStackO]

theorem rTop_apply (e : FVec Ideal S3x16x8x2048 .f32) (i : Fin 16) (h : Fin 8) (t : Fin 2048) :
    rTop e (ix3 i h t) = max ⊥ (Finset.univ.fold max (⊥ : EReal) fun P : Fin 3 => e (ix4 P i h t)) := by
  pointwise [rTop]
  simp only [neg_inf]

theorem rWeight_apply (e : FVec Ideal S3x16x8x2048 .f32) (P : Fin 3) (i : Fin 16) (h : Fin 8) (t : Fin 2048) :
    rWeight e (ix4 P i h t) = Ideal.exp (e (ix4 P i h t) - rTop e (ix3 i h t)) := by
  pointwise [rWeight]

theorem rTotal_apply (w : FVec Ideal S3x16x8x2048 .f32) (i : Fin 16) (h : Fin 8) (t : Fin 2048) :
    rTotal w (ix3 i h t) = ∑ P : Fin 3, w (ix4 P i h t) := by
  pointwise [rTotal]

theorem rBlend_apply (w : FVec Ideal S3x16x8x2048 .f32) (o : FVec Ideal S3x16x8x2048x64 .f32) (i : Fin 16) (h : Fin 8) (t : Fin 2048) (x : Fin 64) :
    rBlend w o (ix4 i h t x) = ∑ P : Fin 3, Ideal.div (w (ix4 P i h t)) (rTotal w (ix3 i h t)) * o (ix5 P i h t x) := by
  pointwise [rBlend]

theorem rOut_apply (x : FVec Ideal S16x8x2048x64 .f32) (i : Fin 16) (t : Fin 2048) (c : Fin 512) :
    rOut x (ix3 i t c) = x (ix4 i ⟨c.val / 64, by omega⟩ t ⟨c.val % 64, by omega⟩) := by
  pointwise [rOut]
  blk_ext

end Cert.AttnRefIdeal.Att

end
-- ==== Proof.AttRefValue.lean ====
/-
  The reference of the dilated attention computes the specification.
-/
module

public import proofs.«01_k».proof.Proof.AttRef
public import proofs.«01_k».proof.Proof.AttSpec

@[expose] public section

set_option maxRecDepth 16384

noncomputable section

namespace Cert.AttnRefIdeal.Att

open Cert.AttnRefIdeal Cert.AttnRefIdeal.Gen Idealize.ShloMosaic Idealize.ShloMosaic.TcCoe Idealize.SL.Sem
open Idealize.ShloMosaic.Pointwise Idealize.ShloMosaic.StableHlo
open Cert.AttnRefIdeal.Value
open scoped BigOperators

variable (V0 : Valuation τ sig (Elt Ideal))

abbrev vA : FVec Ideal S16x2048x1536 .f32 := V0 (Proc.devRef .tc main_arg0)
abbrev vB : FVec Ideal S32x8 .f32 := V0 (Proc.devRef .tc main_arg1)

theorem e5 : res_main_v5 V0 = rV (vA V0) := rfl
theorem e12 : res_main_v12 V0 = rRel := rfl
theorem e51 : res_main_v51 V0 = rScore (rQ (vA V0)) (rK (vA V0)) (rBias (vB V0) (rBucket (res_main_v12 V0))) := rfl
theorem e62 : res_main_v62 V0 = rSeen 1#32 64#32 (res_main_v12 V0) (res_main_v51 V0) := rfl
theorem e86 : res_main_v86 V0 = rSeen 4#32 256#32 (res_main_v12 V0) (res_main_v51 V0) := rfl
theorem e110 : res_main_v110 V0 = rSeen 16#32 1024#32 (res_main_v12 V0) (res_main_v51 V0) := rfl
theorem e64 : res_main_v64 V0 = rMax (res_main_v62 V0) := rfl
theorem e88 : res_main_v88 V0 = rMax (res_main_v86 V0) := rfl
theorem e112 : res_main_v112 V0 = rMax (res_main_v110 V0) := rfl
theorem e67 : res_main_v67 V0 = rExp (res_main_v62 V0) := by rw [rExp, ← e64]; rfl
theorem e91 : res_main_v91 V0 = rExp (res_main_v86 V0) := by rw [rExp, ← e88]; rfl
theorem e115 : res_main_v115 V0 = rExp (res_main_v110 V0) := by rw [rExp, ← e112]; rfl
theorem e69 : res_main_v69 V0 = rSum (rExp (res_main_v62 V0)) := by rw [← e67]; rfl
theorem e93 : res_main_v93 V0 = rSum (rExp (res_main_v86 V0)) := by rw [← e91]; rfl
theorem e117 : res_main_v117 V0 = rSum (rExp (res_main_v110 V0)) := by rw [← e115]; rfl
theorem e127 : res_main_v127 V0 = rStack (rLse (res_main_v62 V0)) (rLse (res_main_v86 V0)) (rLse (res_main_v110 V0)) := by
  rw [rLse, rLse, rLse, ← e64, ← e88, ← e112, ← e69, ← e93, ← e117]
  rfl
theorem e134 : res_main_v134 V0 = rWeight (res_main_v127 V0) := rfl

/-- The reference's result. -/
def result : FVec Ideal S16x2048x512 .bf16 :=
  rOut (rBlend (res_main_v134 V0) (rStackO (rAtt (res_main_v62 V0) (res_main_v5 V0)) (rAtt (res_main_v86 V0) (res_main_v5 V0)) (rAtt (res_main_v110 V0) (res_main_v5 V0))))

/-- The arguments by coordinates. -/
abbrev cA (b : Fin 16) (t : Fin 2048) (c : Fin 1536) : EReal := vA V0 (ix3 b t c)
abbrev cB (j : Fin 32) (h : Fin 8) : EReal := vB V0 (ix2 j h)

theorem logit_apply (b : Fin 16) (h : Fin 8) (t u : Fin 2048) : res_main_v51 V0 (ix4 b h t u) = Cert.Att.logit (cA V0) (cB V0) b h t u := by
  rw [e51, rScore_apply, rBias_apply, rBucket_apply, e12, rRel_apply]
  simp only [rQ_apply, rK_apply]
  rfl

theorem score_apply (d n : BitVec 32) (b : Fin 16) (h : Fin 8) (t u : Fin 2048) :
    rSeen d n (res_main_v12 V0) (res_main_v51 V0) (ix4 b h t u) = Cert.Att.sight (cA V0) (cB V0) d n b h t u := by
  rw [rSeen_apply, logit_apply, e12, rRel_apply]
  rfl

theorem pat0 (b : Fin 16) (h : Fin 8) (t : Fin 2048) : (fun u => res_main_v62 V0 (ix4 b h t u)) = Cert.Att.pat (cA V0) (cB V0) b h t 0 := by
  funext u
  rw [e62, score_apply]
  rfl
theorem pat1 (b : Fin 16) (h : Fin 8) (t : Fin 2048) : (fun u => res_main_v86 V0 (ix4 b h t u)) = Cert.Att.pat (cA V0) (cB V0) b h t 1 := by
  funext u
  rw [e86, score_apply]
  rfl
theorem pat2 (b : Fin 16) (h : Fin 8) (t : Fin 2048) : (fun u => res_main_v110 V0 (ix4 b h t u)) = Cert.Att.pat (cA V0) (cB V0) b h t 2 := by
  funext u
  rw [e110, score_apply]
  rfl

theorem fold3 (f : Fin 3 → EReal) : max ⊥ (Finset.univ.fold max (⊥ : EReal) f) = max (max (f 0) (f 1)) (f 2) := by
  have e : (Finset.univ : Finset (Fin 3)) = insert 0 (insert 1 {2}) := by decide
  rw [e, Finset.fold_insert (by decide), Finset.fold_insert (by decide), Finset.fold_singleton]
  simp [max_assoc]

theorem result_apply (b : Fin 16) (t : Fin 2048) (c : Fin 512) : result V0 (ix3 b t c) = Cert.Att.spec (cA V0) (cB V0) b t c := by
  rw [result, rOut_apply, rBlend_apply, Fin.sum_univ_three, rTotal_apply, Fin.sum_univ_three, e134]
  simp only [rWeight_apply]
  rw [rTop_apply, fold3, e127, e5]
  obtain ⟨l0, l1, l2⟩ := rStack_apply (rLse (res_main_v62 V0)) (rLse (res_main_v86 V0)) (rLse (res_main_v110 V0)) b ⟨c.val / 64, by omega⟩ t
  obtain ⟨o0, o1, o2⟩ := rStackO_apply (rAtt (res_main_v62 V0) (rV (vA V0))) (rAtt (res_main_v86 V0) (rV (vA V0))) (rAtt (res_main_v110 V0) (rV (vA V0))) b ⟨c.val / 64, by omega⟩ t ⟨c.val % 64, by omega⟩
  rw [l0, l1, l2, o0, o1, o2]
  simp only [rLse_apply, rAtt_apply, pat0, pat1, pat2, rV_apply]
  rfl

end Cert.AttnRefIdeal.Att

end
-- ==== Proof.AttClaims.lean ====
/-
  The claims of the dilated attention: the programs run, and over the extended reals the kernel's result is the
  reference's wherever the queries, the keys and the table of biases are real numbers.
-/
module

public import proofs.«01_k».proof.Defs
public import proofs.«01_k».proof.Proof.Gen.Attn.Frame
public import proofs.«01_k».proof.Proof.AttArr
public import proofs.«01_k».proof.Proof.AttPre
public import proofs.«01_k».proof.Proof.AttRefValue
public import Idealize.ShloMosaic.Adequacy
public import Idealize.ShloMosaic.Init
public import Idealize.ShloMosaic.Lib.Quiescent

@[expose] public section

noncomputable section

namespace Cert.Proof

open Idealize.ShloMosaic Idealize.SL.Sem

theorem quiescent_AttnRefIdeal : quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

theorem preserves_Attn_AttnIdeal : preserves_Attn_AttnIdeal :=
  IdealRules.named_const.statement Cert.AttnIdeal.κ "mask" .f32 0xF149F2CA#32 ⊥ rfl

theorem algebraic_AttnIdeal_AttnRefIdeal (hPre : Cert.Pre_finite.Facts) : algebraic_AttnIdeal_AttnRefIdeal_pre_finite (hPre_finite := hPre) := by
  intro m ρ m' ρ' hpre hagree
  refine ⟨_, Cert.AttnIdeal.Value.run_blocks (F := Ideal) m ρ, ?_⟩
  refine (θ_run Cert.AttnRefIdeal.defs _ _).mono (fun _ h c => ⟨(h c).1.trans ?_, (h c).2⟩) (Cert.AttnRefIdeal.Value.run (F := Ideal) m' ρ')
  have R := Cert.Pre_finite.real_of_fn _ _ (hpre c)
  rw [Cert.AttnIdeal.Att.final8 m c R]
  obtain ⟨h0, h1⟩ := hagree c
  funext j
  obtain ⟨b, t, p, rfl⟩ : ∃ (b : Fin 16) (t : Fin 2048) (p : Fin 512), j = ix3 b t p := ⟨j 0, j 1, j 2, eq_ix3 j⟩
  refine (Cert.AttnRefIdeal.Att.result_apply (StableHlo.launchContents m' c) b t p).trans ?_
  have eA : Cert.AttnRefIdeal.Att.cA (StableHlo.launchContents m' c) = Cert.AttnIdeal.Att.kA m c := by
    funext b t p
    exact congrFun h0 (ix3 b t p)
  have eB : Cert.AttnRefIdeal.Att.cB (StableHlo.launchContents m' c) = Cert.AttnIdeal.Att.kB m c := by
    funext j h
    exact congrFun h1 (ix2 j h)
  rw [eA, eB]
  rfl

end Cert.Proof

end
-- ==== Proof.Spec.lean ====
/-
  The experts' feed-forward as a formula: row `r` of expert `e` is weighed by its gate and is the down projection of the
  hidden units of its gate and up projections. Rows arrive as four planes of 256 columns.
-/
module

public import Idealize.ShloMosaic.Lib.Pointwise

@[expose] public section

noncomputable section

namespace Cert.Ffn

open Idealize.ShloMosaic Idealize.ShloMosaic.Pointwise
open scoped BigOperators

/-- The hidden unit: `silu a * b` with `silu a = a * logistic a`. -/
def unit (a b : EReal) : EReal := a * Ideal.logistic a * b

/-- Column `l` of row `r` of expert `e`, out of the four column planes. -/
def row (X : FVec Ideal ⟨3, ![4, 65536, 256]⟩ .f32) (e : Fin 16) (r : Fin 4096) (l : Fin 1024) : EReal :=
  X (ix3 ⟨l.val / 256, by omega⟩ ⟨e.val * 4096 + r.val, by omega⟩ ⟨l.val % 256, by omega⟩)

/-- The hidden units of row `r` of expert `e`. -/
def hidden (X : FVec Ideal ⟨3, ![4, 65536, 256]⟩ .f32) (WG WU : FVec Ideal ⟨3, ![16, 1024, 2816]⟩ .f32)
    (e : Fin 16) (r : Fin 4096) (f : Fin 2816) : EReal :=
  unit (∑ l : Fin 1024, row X e r l * WG (ix3 e l f)) (∑ l : Fin 1024, row X e r l * WU (ix3 e l f))

/-- The gated output of the experts. -/
def out (X : FVec Ideal ⟨3, ![4, 65536, 256]⟩ .f32) (G : FVec Ideal ⟨3, ![16, 32, 128]⟩ .f32)
    (WG WU : FVec Ideal ⟨3, ![16, 1024, 2816]⟩ .f32) (WD : FVec Ideal ⟨3, ![16, 2816, 1024]⟩ .f32)
    (e : Fin 16) (r : Fin 4096) (d : Fin 1024) : EReal :=
  (∑ f : Fin 2816, hidden X WG WU e r f * WD (ix3 e f d)) * G (ix3 e ⟨r.val / 128, by omega⟩ ⟨r.val % 128, by omega⟩)

end Cert.Ffn

end
-- ==== Proof.Step.lean ====
/-
  What one grid step of the expert feed-forward kernel computes, read at an index over the extended reals: the rows'
  four column planes laid side by side, the accumulator's step (one 256-wide slice of the hidden axis), the gate row
  spread over the rows it weighs.
-/
module

public import proofs.«01_k».proof.Proof.Gen.KernelIdeal.Frame
public import proofs.«01_k».proof.Proof.Spec

@[expose] public section

set_option maxRecDepth 16384

noncomputable section

namespace Cert.KernelIdeal.Ffn

open Cert.KernelIdeal Cert.KernelIdeal.Gen Idealize.ShloMosaic Idealize.ShloMosaic.TcCoe Idealize.SL.Sem
open Idealize.ShloMosaic.Pointwise
open scoped BigOperators
open Cert.Ffn (unit)

/-- The step's payload at an index: the accumulator plus the hidden slice times its rows of the down projection. -/
theorem pay6_apply (x : FVec Ideal S2048x1024 .bf16) (wg wu : FVec Ideal S1x1024x256 .f32)
    (acc : FVec Ideal S2048x1024 .f32) (wd : FVec Ideal S1x256x1024 .f32) (r : Fin 2048) (d : Fin 1024) :
    k0_pay6 (F := Ideal) x wg wu acc wd (ix2 r d) = acc (ix2 r d) + ∑ k : Fin 256,
      unit (∑ l : Fin 1024, x (ix2 r l) * wg (ix3 0 l k)) (∑ l : Fin 1024, x (ix2 r l) * wu (ix3 0 l k)) * wd (ix3 0 k d) := by
  pointwise [k0_pay6, unit]

end Cert.KernelIdeal.Ffn

end
-- ==== Proof.Cases.lean ====
/-
  What the three kinds of grid step leave in the two carried buffers and in the output block: the first step of a row
  tile lays the rows' four planes side by side and starts the accumulator, a middle step adds one slice of the hidden
  axis, the last step adds its slice and writes the accumulator times the gate of each row.
-/
module

public import proofs.«01_k».proof.Proof.Step
public import Idealize.ShloMosaic.Lib.Pipeline.Value
public import Idealize.ShloMosaic.Lib.Pipeline.ValueKit

@[expose] public section

set_option maxRecDepth 16384

noncomputable section

namespace Cert.KernelIdeal.Ffn

open Cert.KernelIdeal Cert.KernelIdeal.Gen Idealize.ShloMosaic Idealize.ShloMosaic.TcCoe Idealize.SL.Sem
open Idealize.ShloMosaic.Pointwise
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

/-- A load of a whole buffer after several stores reads what the stores left. -/
theorem readCov_whole {sig : RefSig} {κ : Kind} {sp : Space} (v : View sig κ sp S2048x1024 .bf16)
    (L : List (View.Piece (Elt Ideal) S2048x1024 .bf16)) (inb) :
    v.readCov L (Rect.unit ![0, 0] S2048x1024.size inb).toLoadRect = View.canon L := by
  rw [View.readCov_eq_canon']
  exact View.ld_unit_zero (S := S2048x1024) hz2 inb (View.canon L)

variable (c : Dev nD) (i : grid0.Coords) (a3 : Memref sig .tc .vmem S4x2048x256 .f32) (h3 : a3.IsWhole)
  (a4 : Memref sig .tc .vmem S1x16x128 .f32) (h4 : a4.IsWhole) (a5 : Memref sig .tc .vmem S1x1024x256 .f32) (h5 : a5.IsWhole)
  (a6 : Memref sig .tc .vmem S1x1024x256 .f32) (h6 : a6.IsWhole) (a7 : Memref sig .tc .vmem S1x256x1024 .f32) (h7 : a7.IsWhole)
  (a8 : Memref sig .tc .vmem S1x2048x1024 .bf16) (h8 : a8.IsWhole) (a9 : Memref sig .tc .vmem S2048x1024 .bf16) (h9 : a9.IsWhole)
  (a10 : Memref sig .tc .vmem S2048x1024 .f32) (h10 : a10.IsWhole)
  (x0 : Vec Ideal S4x2048x256 .f32) (x1 : Vec Ideal S1x16x128 .f32) (x2 : Vec Ideal S1x1024x256 .f32)
  (x3 : Vec Ideal S1x1024x256 .f32) (x4 : Vec Ideal S1x256x1024 .f32)
  (xs0 : Vec Ideal S2048x1024 .bf16) (xs1 : Vec Ideal S2048x1024 .f32)

/-- A middle step's accumulator. -/
theorem sout_B_1 (hc0 : ¬cond0_0 i) (hc1 : ¬cond0_1 i) :
    sout0_B_1 c i a3 h3 a4 h4 a5 h5 a6 h6 a7 h7 a8 h8 a9 h9 a10 h10 hc0 hc1 x0 x1 x2 x3 x4 xs0 xs1
      = k0_pay6 (F := Ideal) xs0 x2 x3 xs1 x4 := by
  unfold sout0_B_1
  rw [View.read_writes_eq_canon _ _ _ (scover0_B_1 c i a3 h3 a4 h4 a5 h5 a6 h6 a7 h7 a8 h8 a9 h9 a10 h10 hc0 hc1 x0 x1 x2 x3 x4 xs0 xs1)]
  unfold kernelRun0_B
  dsimp only
  sl_unfold_words
  rw [View.canon_unit_zero hz2]
  simp only [View.readAt_eq_ld, h5.read_unread, h6.read_unread, h7.read_unread, h9.read_unread, h10.read_unread,
    View.ld_unit_zero (S := S2048x1024) hz2, View.ld_unit_zero (S := S1x1024x256) hz3, View.ld_unit_zero (S := S1x256x1024) hz3]

/-- The last step's accumulator. -/
theorem sout_C_1 (hc0 : ¬cond0_0 i) (hc1 : cond0_1 i) :
    sout0_C_1 c i a3 h3 a4 h4 a5 h5 a6 h6 a7 h7 a8 h8 a9 h9 a10 h10 hc0 hc1 x0 x1 x2 x3 x4 xs0 xs1
      = k0_pay6 (F := Ideal) xs0 x2 x3 xs1 x4 := by
  unfold sout0_C_1
  rw [View.read_writes_eq_canon _ _ _ (scover0_C_1 c i a3 h3 a4 h4 a5 h5 a6 h6 a7 h7 a8 h8 a9 h9 a10 h10 hc0 hc1 x0 x1 x2 x3 x4 xs0 xs1)]
  unfold kernelRun0_C
  dsimp only
  sl_unfold_words
  rw [View.canon_unit_zero hz2]
  simp only [View.readAt_eq_ld, h5.read_unread, h6.read_unread, h7.read_unread, h9.read_unread, h10.read_unread,
    View.ld_unit_zero (S := S2048x1024) hz2, View.ld_unit_zero (S := S1x1024x256) hz3, View.ld_unit_zero (S := S1x256x1024) hz3]

/-- The rows of the tile, their four column planes side by side. -/
def rows (x0 : Vec Ideal S4x2048x256 .f32) : Vec Ideal S2048x1024 .bf16 :=
  fun j => x0 (ix3 (n0 := 4) (n1 := 2048) (n2 := 256) ⟨(j 1).val / 256, by have : (j 1).val < 1024 := (j 1).isLt; omega⟩ (j 0)
    ⟨(j 1).val % 256, Nat.mod_lt _ (by norm_num)⟩)

/-- The first step's row buffer. -/
theorem sout_A_0 (hc0 : cond0_0 i) (hc1 : ¬cond0_1 i) :
    sout0_A_0 c i a3 h3 a4 h4 a5 h5 a6 h6 a7 h7 a8 h8 a9 h9 a10 h10 hc0 hc1 x0 x1 x2 x3 x4 = rows x0 := by
  unfold sout0_A_0
  rw [View.read_writes_eq_canon _ _ _ (scover0_A_0 c i a3 h3 a4 h4 a5 h5 a6 h6 a7 h7 a8 h8 a9 h9 a10 h10 hc0 hc1 x0 x1 x2 x3 x4)]
  unfold kernelRun0_A
  dsimp only
  sl_unfold_words
  simp only [View.readAt_eq_ld, h3.read_unread]
  funext y
  canon_tiles x h
  all_goals (pointwise [k0_pay2, k0_pay3, k0_pay4, k0_pay5, rows])
  all_goals blk_ext

/-- The first step's accumulator: the step from zero over the rows just laid out. -/
theorem sout_A_1 (hc0 : cond0_0 i) (hc1 : ¬cond0_1 i) :
    sout0_A_1 c i a3 h3 a4 h4 a5 h5 a6 h6 a7 h7 a8 h8 a9 h9 a10 h10 hc0 hc1 x0 x1 x2 x3 x4
      = k0_pay6 (F := Ideal) (rows x0) x2 x3 (k0_pay1 (F := Ideal)) x4 := by
  rw [← sout_A_0 c i a3 h3 a4 h4 a5 h5 a6 h6 a7 h7 a8 h8 a9 h9 a10 h10 x0 x1 x2 x3 x4 hc0 hc1]
  unfold sout0_A_1 sout0_A_0
  rw [View.read_writes_eq_canon _ _ _ (scover0_A_0 c i a3 h3 a4 h4 a5 h5 a6 h6 a7 h7 a8 h8 a9 h9 a10 h10 hc0 hc1 x0 x1 x2 x3 x4),
    View.read_writes_eq_canon _ _ _ (scover0_A_1 c i a3 h3 a4 h4 a5 h5 a6 h6 a7 h7 a8 h8 a9 h9 a10 h10 hc0 hc1 x0 x1 x2 x3 x4)]
  unfold kernelRun0_A
  dsimp only
  sl_unfold_words
  rw [View.canon_cons_unit_zero hz2]
  simp only [View.readAt_eq_ld, h3.read_unread, h5.read_unread, h6.read_unread, h7.read_unread,
    View.readCov_unit_zero (S := S2048x1024) _ hz2,
    View.ld_unit_zero (S := S2048x1024) hz2, View.ld_unit_zero (S := S1x1024x256) hz3, View.ld_unit_zero (S := S1x256x1024) hz3]
  exact congrArg (fun v => k0_pay6 (F := Ideal) v x2 x3 (k0_pay1 (F := Ideal)) x4) (readCov_whole a9.view _ _)

/-- The output block: the finished accumulator times the gate of its row. -/
def gated (x1 : Vec Ideal S1x16x128 .f32) (acc : Vec Ideal S2048x1024 .f32) : Vec Ideal S1x2048x1024 .bf16 :=
  fun j => (show EReal from acc (ix2 (n0 := 2048) (n1 := 1024) (j 1) (j 2)))
    * (show EReal from x1 (ix3 (n0 := 1) (n1 := 16) (n2 := 128) 0 ⟨(j 1).val / 128, by have : (j 1).val < 2048 := (j 1).isLt; omega⟩
        ⟨(j 1).val % 128, Nat.mod_lt _ (by norm_num)⟩))

theorem out_C_5 (hc0 : ¬cond0_0 i) (hc1 : cond0_1 i) :
    out0_C_5 c i a3 h3 a4 h4 a5 h5 a6 h6 a7 h7 a8 h8 a9 h9 a10 h10 hc0 hc1 x0 x1 x2 x3 x4 xs0 xs1
      = gated x1 (k0_pay6 (F := Ideal) xs0 x2 x3 xs1 x4) := by
  unfold out0_C_5
  rw [View.read_writes_eq_canon _ _ _ (cover0_C_5 c i a3 h3 a4 h4 a5 h5 a6 h6 a7 h7 a8 h8 a9 h9 a10 h10 hc0 hc1 x0 x1 x2 x3 x4 xs0 xs1)]
  unfold kernelRun0_C
  dsimp only
  sl_unfold_words
  simp only [View.readAt_eq_ld, h4.read_unread, h5.read_unread, h6.read_unread, h7.read_unread, h9.read_unread, h10.read_unread,
    View.ld_unit_zero (S := S2048x1024) hz2, View.ld_unit_zero (S := S1x1024x256) hz3, View.ld_unit_zero (S := S1x256x1024) hz3]
  generalize k0_pay6 (F := Ideal) xs0 x2 x3 xs1 x4 = acc
  simp only [View.readCov_eq_canon', View.canon_unit_zero (S := S2048x1024) hz2]
  funext y
  canon_tiles x h
  all_goals (open_payloads; pointwise [gated]; simp only [dite_eq_ite, ite_self]; refine Ideal.mul_congr ?_ ?_ <;> blk_ext)

end Cert.KernelIdeal.Ffn

end
-- ==== Proof.Fold.lean ====
/-
  The two carried buffers over the grid: the row buffer holds the tile's rows from the tile's first step on, and the
  accumulator after the tile's last step holds the sum of the eleven hidden slices. Then the result array: block by
  block the gated sum, which is the formula of `Spec`.
-/
module

public import proofs.«01_k».proof.Proof.Cases
public import proofs.«01_k».proof.Proof.Gen.KernelIdeal.Value

@[expose] public section

set_option maxRecDepth 16384

noncomputable section

namespace Cert.KernelIdeal.Ffn

open Cert.KernelIdeal Cert.KernelIdeal.Gen Idealize.ShloMosaic Idealize.ShloMosaic.TcCoe Idealize.SL.Sem
open Idealize.ShloMosaic.Pipeline (Dat)
open Idealize.ShloMosaic.Pointwise
open scoped BigOperators

variable (m : (ℓ : Loc nD τ sig) → Buf (Elt Ideal) ℓ)

/-- The index maps in closed form: tile `t / 11` of the rows, slice `t % 11` of the hidden axis. -/
theorem idx : ∀ t : Fin cfg0.N, win0_0.index t = ![0, t.val / 11, 0]
    ∧ win0_1.index t = ![t.val / 22, t.val / 11 % 2, 0]
    ∧ win0_2.index t = ![t.val / 22, 0, t.val % 11] ∧ win0_3.index t = ![t.val / 22, 0, t.val % 11]
    ∧ win0_4.index t = ![t.val / 22, t.val % 11, 0] ∧ win0_5.index t = ![t.val / 22, t.val / 11 % 2, 0] :=
  (by decide +kernel : ∀ t : Fin grid0.N, _)

/-- The rows' window stands still within a tile. -/
theorem iblk0_prev (c : Dev nD) (n : ℕ) (h : n + 1 < cfg0.N) (hn : ¬(n + 1) % 11 = 0) :
    iblk m c 0 ⟨n + 1, h⟩ = iblk m c 0 ⟨n, Nat.lt_of_succ_lt h⟩ := by
  have e : (n + 1) / 11 = n / 11 := by omega
  have h1 := (idx ⟨n + 1, h⟩).1
  have h2 := (idx ⟨n, Nat.lt_of_succ_lt h⟩).1
  funext y
  blk_ext [iblk, V, h1, h2]

/-- The row buffer after every step. -/
theorem rows_eq (c : Dev nD) : ∀ (n : ℕ) (h : n < cfg0.N), (outsAt0 m c n h).2.1 = rows (iblk m c 0 ⟨n, h⟩)
  | 0, h => by
    rw [outsAt0_A m c ⟨0, h⟩ rfl (by norm_num)]
    dsimp only
    rw [sout_A_0]
  | n + 1, h => by
    by_cases h0 : (n + 1) % 11 = 0
    · rw [outsAt0_A m c ⟨n + 1, h⟩ h0 (by dsimp only; omega)]
      dsimp only
      rw [sout_A_0]
    · have ih := rows_eq c n (Nat.lt_of_succ_lt h)
      rw [iblk0_prev m c n h h0, ← ih]
      by_cases h1 : (n + 1) % 11 = 10
      · rw [outsAt0_C m c ⟨n + 1, h⟩ h0 h1]; dsimp only; unfold sout0_C_0; rfl
      · rw [outsAt0_B m c ⟨n + 1, h⟩ h0 h1]; dsimp only; unfold sout0_B_0; rfl

/-- One step's contribution to the accumulator. -/
def part (c : Dev nD) (t : Fin cfg0.N) (j : S2048x1024.Idx) : EReal :=
  ∑ k : Fin 256, Cert.Ffn.unit
      (∑ l : Fin 1024, (show FVec Ideal S2048x1024 .bf16 from rows (iblk m c 0 t)) (ix2 (j 0) l)
        * (show FVec Ideal S1x1024x256 .f32 from iblk m c 2 t) (ix3 0 l k))
      (∑ l : Fin 1024, (show FVec Ideal S2048x1024 .bf16 from rows (iblk m c 0 t)) (ix2 (j 0) l)
        * (show FVec Ideal S1x1024x256 .f32 from iblk m c 3 t) (ix3 0 l k))
    * (show FVec Ideal S1x256x1024 .f32 from iblk m c 4 t) (ix3 0 k (j 1))

theorem pay6_part (c : Dev nD) (t : Fin cfg0.N) (acc : FVec Ideal S2048x1024 .f32) (j : S2048x1024.Idx) :
    k0_pay6 (F := Ideal) (rows (iblk m c 0 t)) (iblk m c 2 t) (iblk m c 3 t) acc (iblk m c 4 t) j = acc j + part m c t j := by
  idx_vars j
  exact pay6_apply _ _ _ _ _ _ _

theorem acc_A (c : Dev nD) (t : Fin cfg0.N) (h : t.val % 11 = 0) (j : S2048x1024.Idx) :
    (outsAt0 m c t.val t.isLt).2.2 j = (0 : EReal) + part m c t j := by
  rw [outsAt0_A m c t h (by omega)]
  dsimp only
  rw [sout_A_1]
  refine (pay6_part m c t _ j).trans ?_
  refine congrArg (· + part m c t j) ?_
  pointwise [k0_pay1]

theorem prev_rows (c : Dev nD) (t : Fin cfg0.N) (h : ¬t.val % 11 = 0) :
    (outsAt0 m c (t.val - 1) (Nat.lt_of_le_of_lt (Nat.sub_le _ _) t.isLt)).2.1 = rows (iblk m c 0 t) := by
  obtain ⟨n, hn⟩ := t
  cases n with
  | zero => exact absurd rfl h
  | succ n => rw [iblk0_prev m c n hn h]; exact rows_eq m c n _

theorem acc_B (c : Dev nD) (t : Fin cfg0.N) (h : ¬t.val % 11 = 0) (j : S2048x1024.Idx) :
    (outsAt0 m c t.val t.isLt).2.2 j
      = (show EReal from (outsAt0 m c (t.val - 1) (Nat.lt_of_le_of_lt (Nat.sub_le _ _) t.isLt)).2.2 j) + part m c t j := by
  by_cases h1 : t.val % 11 = 10
  · rw [outsAt0_C m c t h h1]
    dsimp only
    rw [sout_C_1, prev_rows m c t h]
    exact pay6_part m c t _ j
  · rw [outsAt0_B m c t h h1]
    dsimp only
    rw [sout_B_1, prev_rows m c t h]
    exact pay6_part m c t _ j

/-- The accumulator after a tile's last step. -/
theorem acc_last (c : Dev nD) (t : Fin cfg0.N) (h : t.val % 11 = 10) (j : S2048x1024.Idx) :
    (outsAt0 m c t.val t.isLt).2.2 j
      = (0 : EReal) + ∑ s : Fin 11, part m c ⟨11 * (t.val / 11) + s.val, Pipeline.run_point_lt_of_flush t h s⟩ j :=
  Pipeline.eq_sum_fin_of_reset_step_apply_of_flush (M := EReal) (fun n h => (outsAt0 m c n h).2.2) 11 (fun _ => 0)
    (part m c) (acc_A m c) (acc_B m c) t h j

/-- The output block a tile's last step leaves. -/
theorem block_last (c : Dev nD) (t : Fin cfg0.N) (h : t.val % 11 = 10) :
    (outsAt0 m c t.val t.isLt).1 = gated (iblk m c 1 t) ((outsAt0 m c t.val t.isLt).2.2) := by
  rw [outsAt0_C m c t (by omega) h]
  dsimp only
  rw [out_C_5, sout_C_1]

/-- The argument arrays, typed. -/
abbrev aX (c : Dev nD) : FVec Ideal S4x65536x256 .f32 := m ((c : Thread nD τ).loc main_arg0)
abbrev aG (c : Dev nD) : FVec Ideal S16x32x128 .f32 := m ((c : Thread nD τ).loc main_arg1)
abbrev aWG (c : Dev nD) : FVec Ideal S16x1024x2816 .f32 := m ((c : Thread nD τ).loc main_arg2)
abbrev aWU (c : Dev nD) : FVec Ideal S16x1024x2816 .f32 := m ((c : Thread nD τ).loc main_arg3)
abbrev aWD (c : Dev nD) : FVec Ideal S16x2816x1024 .f32 := m ((c : Thread nD τ).loc main_arg4)

/-- The formula over the arguments, as contents of the result array. -/
def result (c : Dev nD) : FVec Ideal S16x4096x1024 .bf16 :=
  fun j => Cert.Ffn.out (aX m c) (aG m c) (aWG m c) (aWU m c) (aWD m c) (j 0) (j 1) (j 2)

/-- The slices of a tile make up the whole hidden axis. -/
theorem sum_parts (c : Dev nD) (t : Fin cfg0.N) (h : t.val % 11 = 10) (r : Fin 2048) (d : Fin 1024) (e : Fin 16) (R : Fin 4096)
    (he : e.val = t.val / 22) (hR : R.val = t.val / 11 % 2 * 2048 + r.val) :
    ∑ s : Fin 11, part m c ⟨11 * (t.val / 11) + s.val, Pipeline.run_point_lt_of_flush t h s⟩ (ix2 r d)
      = ∑ f : Fin 2816, Cert.Ffn.hidden (aX m c) (aWG m c) (aWU m c) e R f * aWD m c (ix3 e f d) := by
  have hN : t.val < 352 := lt_of_lt_of_eq t.isLt N_0
  refine Fin.sum_mul_add_congr fun s k hl => ?_
  obtain ⟨i0, i1, i2, i3, i4, i5⟩ := idx ⟨11 * (t.val / 11) + s.val, Pipeline.run_point_lt_of_flush t h s⟩
  dsimp only [part, Cert.Ffn.hidden]
  refine congrArg₂ (· * ·) (congrArg₂ Cert.Ffn.unit ?_ ?_) ?_
  · refine Finset.sum_congr rfl fun l _ => congrArg₂ (· * ·) ?_ ?_
    · dsimp only [rows, Cert.Ffn.row]
      blk_ext [iblk, V, i0]
    · blk_ext [iblk, V, i2]
  · refine Finset.sum_congr rfl fun l _ => congrArg₂ (· * ·) ?_ ?_
    · dsimp only [rows, Cert.Ffn.row]
      blk_ext [iblk, V, i0]
    · blk_ext [iblk, V, i3]
  · blk_ext [iblk, V, i4]

/-- The result array after the run. -/
theorem final (c : Dev nD) : (dats m 0 c).arrAt 5 cfg0.N = result m c := by
  refine (dats m 0 c).arrAt_eq_of_covers 5 _ (by decide +kernel) fun t hf y => ?_
  have h : t.val % 11 = 10 := (flush0_5 t).mp hf
  obtain ⟨i0, i1, i2, i3, i4, i5⟩ := idx t
  blk_simp
  rw [after0_5, block_last m c t h]
  have hN : t.val < 352 := lt_of_lt_of_eq t.isLt N_0
  have hy1 : (y 1).val < 2048 := (y 1).isLt
  have hy2 : (y 2).val < 1024 := (y 2).isLt
  have hy0 : (y 0).val < 1 := (y 0).isLt
  have e0 : ((win0_5.blk t).view.emb y 0).val = t.val / 22 := by blk_simp [i5]
  have e1 : ((win0_5.blk t).view.emb y 1).val = t.val / 11 % 2 * 2048 + (y 1).val := by blk_simp [i5]
  have e2 : ((win0_5.blk t).view.emb y 2).val = (y 2).val := by blk_simp [i5]
  have hg : gated (iblk m c 1 t) (outsAt0 m c t.val t.isLt).2.2 y
      = (show EReal from (outsAt0 m c t.val t.isLt).2.2 (ix2 ⟨(y 1).val, hy1⟩ ⟨(y 2).val, hy2⟩))
        * (show FVec Ideal S1x16x128 .f32 from iblk m c 1 t) (ix3 0 ⟨(y 1).val / 128, by omega⟩ ⟨(y 1).val % 128, by omega⟩) := rfl
  refine hg.trans ?_
  rw [acc_last m c t h, zero_add]
  refine congrArg₂ (· * ·) ((sum_parts m c t h _ _ ((win0_5.blk t).view.emb y 0) ((win0_5.blk t).view.emb y 1) e0 e1).trans ?_) ?_
  · refine Finset.sum_congr rfl fun f _ => congrArg₂ (· * ·) rfl (congrArg (aWD m c) ?_)
    exact (ix3_inj ..).2 ⟨rfl, rfl, Fin.ext e2.symm⟩
  · blk_ext [iblk, V, i1, e0, e1]

end Cert.KernelIdeal.Ffn

end
-- ==== Proof.RefValue.lean ====
/-
  The reference's result at an index: the formula of `Spec`, the gate on the other side of the product and silu written
  with a division.
-/
module

public import proofs.«01_k».proof.Proof.Spec
public import proofs.«01_k».proof.Proof.Gen.ReferenceIdeal.Run
public import Idealize.ShloMosaic.Lib.Pipeline.ValueKit

@[expose] public section

set_option maxRecDepth 16384

noncomputable section

namespace Cert.ReferenceIdeal.Ffn

open Cert.ReferenceIdeal Cert.ReferenceIdeal.Gen Idealize.ShloMosaic Idealize.ShloMosaic.TcCoe Idealize.SL.Sem
open Idealize.ShloMosaic.Pointwise
open scoped BigOperators

variable (m : (ℓ : Loc nD τ sig) → Buf (Elt Ideal) ℓ)

/-- The gathered rows, the planes concatenated. -/
def rX (X : FVec Ideal S4x65536x256 .f32) : FVec Ideal S16x4096x1024 .f32 :=
  shapeCast _ ((concatenate S65536x1024 1 [
    ⟨S65536x256, (shapeCast _ (extractStridedSlice S1x65536x256 ![0, 0, 0] X slices_S4x65536x256_S1x65536x256_0_0_0) shapeCasts_S1x65536x256_S65536x256 : FVec Ideal S65536x256 .f32)⟩,
    ⟨S65536x256, (shapeCast _ (extractStridedSlice S1x65536x256 ![1, 0, 0] X slices_S4x65536x256_S1x65536x256_1_0_0) shapeCasts_S1x65536x256_S65536x256 : FVec Ideal S65536x256 .f32)⟩,
    ⟨S65536x256, (shapeCast _ (extractStridedSlice S1x65536x256 ![2, 0, 0] X slices_S4x65536x256_S1x65536x256_2_0_0) shapeCasts_S1x65536x256_S65536x256 : FVec Ideal S65536x256 .f32)⟩,
    ⟨S65536x256, (shapeCast _ (extractStridedSlice S1x65536x256 ![3, 0, 0] X slices_S4x65536x256_S1x65536x256_3_0_0) shapeCasts_S1x65536x256_S65536x256 : FVec Ideal S65536x256 .f32)⟩]
    concatenates_S65536x256_S65536x256_S65536x256_S65536x256_S65536x1024_d1 : FVec Ideal S65536x1024 .f32)) shapeCasts_S65536x1024_S16x4096x1024

/-- An up projection. -/
def rUp (x : FVec Ideal S16x4096x1024 .f32) (w : FVec Ideal S16x1024x2816 .f32) : FVec Ideal S16x4096x2816 .f32 :=
  Host.dotGeneral dot_S16x4096x1024_S16x1024x2816_S16x4096x2816_2_1_1_2_0_0 none x w

/-- The hidden units. -/
def rUnit (a b : FVec Ideal S16x4096x2816 .f32) : FVec Ideal S16x4096x2816 .f32 :=
  mulf (mulf a (Host.divf (broadcastInDim S16x4096x2816 ![] bcast_S_S16x4096x2816 (constant S_ .f32 0x3F800000#32))
    (addf (broadcastInDim S16x4096x2816 ![] bcast_S_S16x4096x2816 (constant S_ .f32 0x3F800000#32)) (Host.exp (Host.negf a))))) b

/-- The gated down projection. -/
def rOut (g : FVec Ideal S16x32x128 .f32) (h : FVec Ideal S16x4096x2816 .f32) (w : FVec Ideal S16x2816x1024 .f32) :
    FVec Ideal S16x4096x1024 .bf16 :=
  truncf .bf16 (mulf (broadcastInDim S16x4096x1024 ![0, 1, 2] bcast_S16x4096x1_S16x4096x1024_0_1_2 (broadcastInDim S16x4096x1 ![0, 1]
    bcast_S16x4096_S16x4096x1_0_1 (shapeCast _ g shapeCasts_S16x32x128_S16x4096)))
    (Host.dotGeneral dot_S16x4096x2816_S16x2816x1024_S16x4096x1024_2_1_1_2_0_0 none h w)) bitsLt_bf16_f32

theorem rX_apply (X : FVec Ideal S4x65536x256 .f32) (e : Fin 16) (r : Fin 4096) (l : Fin 1024) :
    rX X (ix3 e r l) = Cert.Ffn.row X e r l := by
  pointwise [rX, Cert.Ffn.row]
  split
  · blk_ext
  split
  · blk_ext
  split <;> blk_ext

theorem rUp_apply (x : FVec Ideal S16x4096x1024 .f32) (w : FVec Ideal S16x1024x2816 .f32) (e : Fin 16) (r : Fin 4096) (f : Fin 2816) :
    rUp x w (ix3 e r f) = ∑ l : Fin 1024, x (ix3 e r l) * w (ix3 e l f) := by
  pointwise [rUp]

theorem rUnit_apply (a b : FVec Ideal S16x4096x2816 .f32) (e : Fin 16) (r : Fin 4096) (f : Fin 2816) :
    rUnit a b (ix3 e r f) = Cert.Ffn.unit (a (ix3 e r f)) (b (ix3 e r f)) := by
  pointwise [rUnit, Cert.Ffn.unit, Ideal.logistic]

theorem rOut_apply (g : FVec Ideal S16x32x128 .f32) (h : FVec Ideal S16x4096x2816 .f32) (w : FVec Ideal S16x2816x1024 .f32)
    (e : Fin 16) (r : Fin 4096) (d : Fin 1024) :
    rOut g h w (ix3 e r d) = (∑ f : Fin 2816, h (ix3 e r f) * w (ix3 e f d)) * g (ix3 e ⟨r.val / 128, by omega⟩ ⟨r.val % 128, by omega⟩) := by
  pointwise [rOut]
  exact mul_comm _ _

/-- The reference's printed term is these stages. -/
theorem res_eq (c : Dev nD) : Value.res_main_v19 m c
    = rOut (m ((c : Thread nD τ).loc main_arg1))
        (rUnit (rUp (rX (m ((c : Thread nD τ).loc main_arg0))) (m ((c : Thread nD τ).loc main_arg2)))
          (rUp (rX (m ((c : Thread nD τ).loc main_arg0))) (m ((c : Thread nD τ).loc main_arg3))))
        (m ((c : Thread nD τ).loc main_arg4)) := rfl

/-- The reference's result at an index. -/
theorem res_apply (c : Dev nD) (e : Fin 16) (r : Fin 4096) (d : Fin 1024) :
    Value.res_main_v19 m c (ix3 e r d)
      = Cert.Ffn.out (m ((c : Thread nD τ).loc main_arg0)) (m ((c : Thread nD τ).loc main_arg1)) (m ((c : Thread nD τ).loc main_arg2))
        (m ((c : Thread nD τ).loc main_arg3)) (m ((c : Thread nD τ).loc main_arg4)) e r d := by
  rw [res_eq]
  refine (rOut_apply _ _ _ e r d).trans (congrArg₂ (· * ·) (Finset.sum_congr rfl fun f _ => congrArg₂ (· * ·) ?_ rfl) rfl)
  refine (rUnit_apply _ _ e r f).trans (congrArg₂ Cert.Ffn.unit ?_ ?_)
  all_goals exact (rUp_apply _ _ e r f).trans (Finset.sum_congr rfl fun l _ => congrArg₂ (· * ·) (rX_apply _ e r l) rfl)

end Cert.ReferenceIdeal.Ffn

end
-- ==== Proof.lean ====
/-
  The claims of the experts' feed-forward, of the input projection and of the dilated attention: every program runs to the
  end and keeps its arguments, each idealization changes no more than it states, and over the extended reals each result
  array of a kernel is its reference's. The attention's are proved in `Proof/AttClaims.lean`. Of the feed-forward `Proof/Spec.lean` is the formula, `Proof/Fold.lean` the kernel's array and
  `Proof/RefValue.lean` the reference's; of the projection they are `Proof/InSpec.lean`, `Proof/InFinal.lean` and
  `Proof/InRefValue.lean`.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.InProj.Frame
public import proofs.«01_k».proof.Proof.InFinal
public import proofs.«01_k».proof.Proof.InRefValue
public import proofs.«01_k».proof.Proof.AttClaims
public import Idealize.ShloMosaic.Adequacy
public import Idealize.ShloMosaic.Init
public import Idealize.ShloMosaic.Lib.Quiescent
public import proofs.«01_k».proof.Proof.Fold
public import proofs.«01_k».proof.Proof.RefValue

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  rw [(h c).1, Cert.KernelIdeal.Ffn.final m c]
  obtain ⟨h0, h1, h2, h3, h4⟩ := hagree c
  funext j
  obtain ⟨e, r, d, rfl⟩ : ∃ (e : Fin 16) (r : Fin 4096) (d : Fin 1024), j = ix3 e r d := ⟨j 0, j 1, j 2, eq_ix3 j⟩
  refine (Cert.ReferenceIdeal.Ffn.res_apply m' c e r d).trans ?_
  simp only [h0, h1, h2, h3, h4]
  rfl

theorem quiescent_InProjRefIdeal : quiescent_InProjRefIdeal := fun m ρ _ =>
  (θ_run Cert.InProjRefIdeal.defs _ _).mono (fun r h => ⟨fun c => (h c).2.2.2.2.2.2.2, sem_eq_zero_of_no_sems (by decide) r.2⟩)
    (Cert.InProjRefIdeal.Value.run (F := Ideal) m ρ)

theorem algebraic_InProjIdeal_InProjRefIdeal : algebraic_InProjIdeal_InProjRefIdeal := by
  intro m ρ m' ρ' _ hagree
  refine ⟨_, _, _, _, _, _, _, Cert.InProjIdeal.Value.run_blocks (F := Ideal) m ρ, ?_⟩
  refine (θ_run Cert.InProjRefIdeal.defs _ _).mono (fun _ h c => ?_) (Cert.InProjRefIdeal.Value.run (F := Ideal) m' ρ')
  obtain ⟨r0, r1, r2, r3, r4, r5, r6, rest⟩ := h c
  obtain ⟨h0, h1, h2, h3⟩ := hagree c
  refine ⟨r0.trans ?_, r1.trans ?_, r2.trans ?_, r3.trans ?_, r4.trans ?_, r5.trans ?_, r6.trans ?_, rest⟩
  · rw [Cert.InProjIdeal.Inp.final9 m c]
    funext j
    obtain ⟨R, k, rfl⟩ : ∃ R k, j = ix2 R k := ⟨j 0, j 1, eq_ix2 j⟩
    refine (Cert.InProjRefIdeal.Inp.q_apply (Cert.InProjRefIdeal.Inp.bX m' c) (Cert.InProjRefIdeal.Inp.bG m' c) (Cert.InProjRefIdeal.Inp.bW m' c) (Cert.InProjRefIdeal.Inp.bC m' c) R k).trans ?_
    dsimp only [Cert.InProjRefIdeal.Inp.bX, Cert.InProjRefIdeal.Inp.bG, Cert.InProjRefIdeal.Inp.bW, Cert.InProjRefIdeal.Inp.bC]
    rw [h0, h1, h2, h3]
    rfl
  · rw [Cert.InProjIdeal.Inp.final10 m c]
    funext j
    obtain ⟨R, k, rfl⟩ : ∃ R k, j = ix2 R k := ⟨j 0, j 1, eq_ix2 j⟩
    refine (Cert.InProjRefIdeal.Inp.k_apply (Cert.InProjRefIdeal.Inp.bX m' c) (Cert.InProjRefIdeal.Inp.bG m' c) (Cert.InProjRefIdeal.Inp.bW m' c) (Cert.InProjRefIdeal.Inp.bC m' c) R k).trans ?_
    dsimp only [Cert.InProjRefIdeal.Inp.bX, Cert.InProjRefIdeal.Inp.bG, Cert.InProjRefIdeal.Inp.bW, Cert.InProjRefIdeal.Inp.bC]
    rw [h0, h1, h2, h3]
    rfl
  · rw [Cert.InProjIdeal.Inp.final11 m c]
    funext j
    obtain ⟨R, k, rfl⟩ : ∃ R k, j = ix2 R k := ⟨j 0, j 1, eq_ix2 j⟩
    refine (Cert.InProjRefIdeal.Inp.v_apply (Cert.InProjRefIdeal.Inp.bX m' c) (Cert.InProjRefIdeal.Inp.bG m' c) (Cert.InProjRefIdeal.Inp.bW m' c) (Cert.InProjRefIdeal.Inp.bC m' c) R k).trans ?_
    dsimp only [Cert.InProjRefIdeal.Inp.bX, Cert.InProjRefIdeal.Inp.bG, Cert.InProjRefIdeal.Inp.bW, Cert.InProjRefIdeal.Inp.bC]
    rw [h0, h1, h2, h3]
    rfl
  · rw [Cert.InProjIdeal.Inp.final12 m c]
    funext j
    obtain ⟨g, k, l, rfl⟩ : ∃ g k l, j = ix3 g k l := ⟨j 0, j 1, j 2, eq_ix3 j⟩
    refine (Cert.InProjRefIdeal.Inp.kt_apply (Cert.InProjRefIdeal.Inp.bX m' c) (Cert.InProjRefIdeal.Inp.bG m' c) (Cert.InProjRefIdeal.Inp.bW m' c) (Cert.InProjRefIdeal.Inp.bC m' c) g k l).trans ?_
    dsimp only [Cert.InProjRefIdeal.Inp.bX, Cert.InProjRefIdeal.Inp.bG, Cert.InProjRefIdeal.Inp.bW, Cert.InProjRefIdeal.Inp.bC]
    rw [h0, h1, h2, h3]
    rfl
  · rw [Cert.InProjIdeal.Inp.final13 m c]
    funext j
    obtain ⟨R, k, rfl⟩ : ∃ R k, j = ix2 R k := ⟨j 0, j 1, eq_ix2 j⟩
    refine (Cert.InProjRefIdeal.Inp.z_apply (Cert.InProjRefIdeal.Inp.bX m' c) (Cert.InProjRefIdeal.Inp.bG m' c) (Cert.InProjRefIdeal.Inp.bW m' c) R k).trans ?_
    dsimp only [Cert.InProjRefIdeal.Inp.bX, Cert.InProjRefIdeal.Inp.bG, Cert.InProjRefIdeal.Inp.bW, Cert.InProjRefIdeal.Inp.bC]
    rw [h0, h1, h2]
    rfl
  · rw [Cert.InProjIdeal.Inp.final14 m c]
    funext j
    obtain ⟨R, k, rfl⟩ : ∃ R k, j = ix2 R k := ⟨j 0, j 1, eq_ix2 j⟩
    refine (Cert.InProjRefIdeal.Inp.ba_apply (Cert.InProjRefIdeal.Inp.bX m' c) (Cert.InProjRefIdeal.Inp.bG m' c) (Cert.InProjRefIdeal.Inp.bW m' c) R k).trans ?_
    dsimp only [Cert.InProjRefIdeal.Inp.bX, Cert.InProjRefIdeal.Inp.bG, Cert.InProjRefIdeal.Inp.bW, Cert.InProjRefIdeal.Inp.bC]
    rw [h0, h1, h2]
    rfl
  · rw [Cert.InProjIdeal.Inp.final15 m c]
    funext j
    obtain ⟨R, k, rfl⟩ : ∃ R k, j = ix2 R k := ⟨j 0, j 1, eq_ix2 j⟩
    refine (Cert.InProjRefIdeal.Inp.att_apply (Cert.InProjRefIdeal.Inp.bX m' c) (Cert.InProjRefIdeal.Inp.bG m' c) (Cert.InProjRefIdeal.Inp.bW m' c) R k).trans ?_
    dsimp only [Cert.InProjRefIdeal.Inp.bX, Cert.InProjRefIdeal.Inp.bG, Cert.InProjRefIdeal.Inp.bW, Cert.InProjRefIdeal.Inp.bC]
    rw [h0, h1, h2]
    rfl

theorem claim : Cert.Claim := ⟨Cert.Kernel.Gen.facts, Cert.KernelIdeal.Gen.facts, Cert.ReferenceIdeal.Gen.facts,
  Cert.InProj.Gen.facts, Cert.InProjIdeal.Gen.facts, Cert.InProjRefIdeal.Gen.facts,
  Cert.Attn.Gen.facts, Cert.AttnIdeal.Gen.facts, Cert.AttnRefIdeal.Gen.facts, Cert.Pre_finite.holdsFacts,
  fun m ρ _ => Cert.Kernel.Gen.frame m ρ, fun m ρ _ => Cert.KernelIdeal.Gen.frame m ρ, quiescent_ReferenceIdeal,
  fun m ρ _ => Cert.InProj.Gen.frame m ρ, fun m ρ _ => Cert.InProjIdeal.Gen.frame m ρ, quiescent_InProjRefIdeal,
  fun m ρ _ => Cert.Attn.Gen.frame m ρ, fun m ρ _ => Cert.AttnIdeal.Gen.frame m ρ, fun m ρ _ => Cert.AttnIdeal.Gen.frame m ρ,
  quiescent_AttnRefIdeal, fun m ρ _ => quiescent_AttnRefIdeal m ρ trivial,
  (trivial : preserves_Kernel_KernelIdeal), algebraic_KernelIdeal_ReferenceIdeal,
  (trivial : preserves_InProj_InProjIdeal), algebraic_InProjIdeal_InProjRefIdeal,
  preserves_Attn_AttnIdeal, algebraic_AttnIdeal_AttnRefIdeal Cert.Pre_finite.holdsFacts⟩

end Cert.Proof

end
